-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_site_per_cell [hPre_one_site_per_cell : Cert.Pre_one_site_per_cell.Facts] (m : (ℓ : Loc Cert.KernelIdeal.nD Cert.KernelIdeal.τ Cert.KernelIdeal.sig) → Buf (Elt Ideal) ℓ) : Prop :=
  ∀ c : Dev Cert.KernelIdeal.nD,
    (Cert.Pre_one_site_per_cell.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_one_site_per_cell.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_site_per_cell [hPre_one_site_per_cell : Cert.Pre_one_site_per_cell.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_site_per_cell.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_one_site_per_cell.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_site_per_cell [hKernelIdeal : Cert.KernelIdeal.Facts] [hPre_one_site_per_cell : Cert.Pre_one_site_per_cell.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_site_per_cell m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_site_per_cell [hReferenceIdeal : Cert.ReferenceIdeal.Facts] [hPre_one_site_per_cell : Cert.Pre_one_site_per_cell.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_site_per_cell m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_site_per_cell [hKernelIdeal : Cert.KernelIdeal.Facts] [hReferenceIdeal : Cert.ReferenceIdeal.Facts] [hPre_one_site_per_cell : Cert.Pre_one_site_per_cell.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_site_per_cell m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_site_per_cell : Cert.Pre_one_site_per_cell.Facts),
    quiescent_Kernel (hKernel := hKernel)
    ∧ quiescent_KernelIdeal (hKernelIdeal := hKernelIdeal)
    ∧ quiescent_KernelIdeal_pre_one_site_per_cell (hKernelIdeal := hKernelIdeal) (hPre_one_site_per_cell := hPre_one_site_per_cell)
    ∧ quiescent_ReferenceIdeal (hReferenceIdeal := hReferenceIdeal)
    ∧ quiescent_ReferenceIdeal_pre_one_site_per_cell (hReferenceIdeal := hReferenceIdeal) (hPre_one_site_per_cell := hPre_one_site_per_cell)
    ∧ preserves_Kernel_KernelIdeal
    ∧ algebraic_KernelIdeal_ReferenceIdeal_pre_one_site_per_cell (hKernelIdeal := hKernelIdeal) (hReferenceIdeal := hReferenceIdeal) (hPre_one_site_per_cell := hPre_one_site_per_cell)
-- ==== Pre_one_site_per_cell.lean ====
abbrev S262144x2 : Shape := ⟨2, ![262144, 2]⟩
abbrev S20481 : Shape := ⟨1, ![20481]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S20480 : Shape := ⟨1, ![20480]⟩
abbrev S4096x5 : Shape := ⟨2, ![4096, 5]⟩

class Facts : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S20481_S20480_1 : S20481.Slices ![1] S20480
  shapeCasts_S20480_S4096x5 : S20480.ShapeCasts S4096x5
  slices_S4096x5_S4096x2_0_0 : S4096x5.Slices ![0, 0] S4096x2
  bcast_S_S4096x2 : S_.BroadcastsInDim S4096x2 (![] : Fin 0 → Fin S4096x2.rank)
  bcast_S_S262144x2 : S_.BroadcastsInDim S262144x2 (![] : Fin 0 → Fin S262144x2.rank)

variable [Facts]

def fn_where {F : FTy → Type} [FloatOps F] (arg0 : IVec S4096 1) (arg1 : IVec S4096 32) (arg2 : IVec S4096 32) : IVec S4096 32 :=
  let v0 : IVec S4096 32 := select arg0 arg1 arg2
  v0

def fn_floor_divide {F : FTy → Type} [FloatOps F] (arg0 : IVec S4096 32) (arg1 : IVec S_ 32) : IVec S4096 32 :=
  let v0 : IVec S_ 32 := id arg1
  let v1 : IVec S4096 32 := broadcastInDim S4096 ![] bcast_S_S4096 v0
  let v2 : IVec S4096 32 := Host.divsi arg0 v1
  let v3 : IVec S4096 32 := signi arg0
  let v4 : IVec S_ 32 := signi v0
  let v5 : IVec S4096 32 := broadcastInDim S4096 ![] bcast_S_S4096 v4
  let v6 : IVec S4096 1 := cmpi .ne v3 v5
  let v7 : IVec S4096 32 := broadcastInDim S4096 ![] bcast_S_S4096 v0
  let v8 : IVec S4096 32 := Host.remsi arg0 v7
  let c : IVec S_ 32 := constantI S_ 32 0#32
  let v9 : IVec S4096 32 := broadcastInDim S4096 ![] bcast_S_S4096 c
  let v10 : IVec S4096 1 := cmpi .ne v8 v9
  let v11 : IVec S4096 1 := andi v6 v10
  let c_0 : IVec S_ 32 := constantI S_ 32 1#32
  let v12 : IVec S4096 32 := broadcastInDim S4096 ![] bcast_S_S4096 c_0
  let v13 : IVec S4096 32 := subi v2 v12
  let v14 : IVec S4096 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4096 32) (arg1 : IVec S_ 32) : IVec S4096 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S4096 32 := broadcastInDim S4096 ![] bcast_S_S4096 v2
  let v4 : IVec S4096 32 := Host.remsi arg0 v3
  let c_1 : IVec S_ 32 := constantI S_ 32 0#32
  let v5 : IVec S4096 32 := broadcastInDim S4096 ![] bcast_S_S4096 c_1
  let v6 : IVec S4096 1 := cmpi .ne v4 v5
  let c_2 : IVec S_ 32 := constantI S_ 32 0#32
  let v7 : IVec S4096 32 := broadcastInDim S4096 ![] bcast_S_S4096 c_2
  let v8 : IVec S4096 1 := cmpi .slt v4 v7
  let c_3 : IVec S_ 32 := constantI S_ 32 0#32
  let v9 : IVec S_ 1 := cmpi .slt v2 c_3
  let v10 : IVec S4096 1 := broadcastInDim S4096 ![] bcast_S_S4096 v9
  let v11 : IVec S4096 1 := cmpi .ne v8 v10
  let v12 : IVec S4096 1 := andi v11 v6
  let v13 : IVec S4096 32 := broadcastInDim S4096 ![] bcast_S_S4096 v2
  let v14 : IVec S4096 32 := addi v4 v13
  let v15 : IVec S4096 32 := select v12 v14 v4
  v15

def fn_part1 {F : FTy → Type} [FloatOps F] (main_v6 : FVec F S4096x2 .f32) (main_v11 : FVec F S4096x2 .f32) (main_v16 : IVec S262144x2 1) (main_v17 : IVec S4096x2 1) (main_cst_3 : FVec F S_ .f32) : IVec S262144x2 1 × IVec S4096x2 1 :=
  let main_v18 : FVec F S4096x2 .f32 := broadcastInDim S4096x2 ![] bcast_S_S4096x2 main_cst_3
  let main_v19 : FVec F S4096x2 .f32 := addf main_v6 main_v18
  let main_v20 : IVec S4096x2 1 := cmpf .ole main_v11 main_v19
  let main_v21 : IVec S4096x2 1 := andi main_v17 main_v20
  (main_v16, main_v21)

def fn {F : FTy → Type} [FloatOps F] (main_arg0 : FVec F S262144x2 .f32) (main_arg1 : FVec F S20481 .f32) : IVec S262144x2 1 × IVec S4096x2 1 :=
  let main_v0 : IVec S4096 32 := iotaInDim S4096 32 0
  let main_c : IVec S_ 32 := constantI S_ 32 64#32
  let main_v1 : IVec S4096 32 := fn_floor_divide (F := F) main_v0 main_c
  let main_c_0 : IVec S_ 32 := constantI S_ 32 64#32
  let main_v2 : IVec S4096 32 := fn_remainder (F := F) main_v0 main_c_0
  let main_v3 : IVec S4096x1 32 := broadcastInDim S4096x1 ![0] bcast_S4096_S4096x1_0 main_v1
  let main_v4 : IVec S4096x1 32 := broadcastInDim S4096x1 ![0] bcast_S4096_S4096x1_0 main_v2
  let main_v5 : IVec S4096x2 32 := (fun a b => concatenate S4096x2 1 [⟨S4096x1, a⟩, ⟨S4096x1, b⟩] concatenates_S4096x1_S4096x1_S4096x2_d1) main_v3 main_v4
  let main_v6 : FVec F S4096x2 .f32 := sitofp .f32 main_v5
  let main_v7 : FVec F S20480 .f32 := (extractStridedSlice S20480 ![1] · slices_S20481_S20480_1) main_arg1
  let main_v8 : FVec F S4096x5 .f32 := shapeCast S4096x5 main_v7 shapeCasts_S20480_S4096x5
  let main_v9 : FVec F S4096x2 .f32 := (extractStridedSlice S4096x2 ![0, 0] · slices_S4096x5_S4096x2_0_0) main_v8
  let main_cst : FVec F S_ .f32 := constant S_ .f32 0x42800000#32
  let main_v10 : FVec F S4096x2 .f32 := broadcastInDim S4096x2 ![] bcast_S_S4096x2 main_cst
  let main_v11 : FVec F S4096x2 .f32 := mulf main_v9 main_v10
  let main_cst_1 : FVec F S_ .f32 := constant S_ .f32 0x00000000#32
  let main_v12 : FVec F S262144x2 .f32 := broadcastInDim S262144x2 ![] bcast_S_S262144x2 main_cst_1
  let main_v13 : IVec S262144x2 1 := cmpf .oge main_arg0 main_v12
  let main_cst_2 : FVec F S_ .f32 := constant S_ .f32 0x3F800000#32
  let main_v14 : FVec F S262144x2 .f32 := broadcastInDim S262144x2 ![] bcast_S_S262144x2 main_cst_2
  let main_v15 : IVec S262144x2 1 := cmpf .ole main_arg0 main_v14
  let main_v16 : IVec S262144x2 1 := andi main_v13 main_v15
  let main_v17 : IVec S4096x2 1 := cmpf .oge main_v11 main_v6
  let main_cst_3 : FVec F S_ .f32 := constant S_ .f32 0x3F800000#32
  fn_part1 (F := F) main_v6 main_v11 main_v16 main_v17 main_cst_3
-- ==== Kernel.lean ====
abbrev S262144x2 : Shape := ⟨2, ![262144, 2]⟩
abbrev S20481 : Shape := ⟨1, ![20481]⟩
abbrev S2048x128x2 : Shape := ⟨3, ![2048, 128, 2]⟩
abbrev S2048x2x128 : Shape := ⟨3, ![2048, 2, 128]⟩
abbrev S524288 : Shape := ⟨1, ![524288]⟩
abbrev S1048576 : Shape := ⟨1, ![1048576]⟩
abbrev S20488 : Shape := ⟨1, ![20488]⟩
abbrev S4096 : Shape := ⟨1, ![4096]⟩
abbrev S8192 : Shape := ⟨1, ![8192]⟩
abbrev S_ : Shape := ⟨0, ![]⟩
abbrev S16 : Shape := ⟨1, ![16]⟩
abbrev S19508 : Shape := ⟨1, ![19508]⟩
abbrev S2048x4x128 : Shape := ⟨3, ![2048, 4, 128]⟩
abbrev S2048x3x128 : Shape := ⟨3, ![2048, 3, 128]⟩
abbrev S2048x128x3 : Shape := ⟨3, ![2048, 128, 3]⟩
abbrev S262144x3 : Shape := ⟨2, ![262144, 3]⟩

abbrev nBuf : Table → Nat
  | .hbm => 10
  | .local .scVector .vmem => 3
  | _ => 0

abbrev bufTy : (tb : Table) → Fin (nBuf tb) → BufTy
  | .hbm, ⟨0, _⟩ => ⟨S262144x2, .f32⟩
  | .hbm, ⟨1, _⟩ => ⟨S20481, .f32⟩
  | .hbm, ⟨2, _⟩ => ⟨S2048x128x2, .f32⟩
  | .hbm, ⟨3, _⟩ => ⟨S2048x2x128, .f32⟩
  | .hbm, ⟨4, _⟩ => ⟨S524288, .f32⟩
  | .hbm, ⟨5, _⟩ => ⟨S1048576, .f32⟩
  | .hbm, ⟨6, _⟩ => ⟨S2048x4x128, .f32⟩
  | .hbm, ⟨7, _⟩ => ⟨S2048x3x128, .f32⟩
  | .hbm, ⟨8, _⟩ => ⟨S2048x128x3, .f32⟩
  | .hbm, ⟨9, _⟩ => ⟨S262144x3, .f32⟩
  | .local .scVector .vmem, ⟨0, _⟩ => ⟨S20488, .f32⟩
  | .local .scVector .vmem, ⟨1, _⟩ => ⟨S4096, .f32⟩
  | .local .scVector .vmem, ⟨2, _⟩ => ⟨S8192, .f32⟩
  | _, _ => ⟨S262144x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v2_scv : Ref sig .scVector := ⟨.hbm, 4, rfl⟩
abbrev main_arg1_scv : Ref sig .scVector := ⟨.hbm, 1, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v2 : BitVec 32 := Scalar.addi c0_i32_0 c4_i32
  let c1_i32 : BitVec 32 := 1#32
  ⟨c0_i32_0, v2, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v4 : BitVec 32 := Scalar.muli v1 c16384_i32
  let c0_i32_0 : BitVec 32 := 0#32
  let c1_i32 : BitVec 32 := 1#32
  let arg8 : BitVec 32 := Scf.iv c0_i32_0 c1_i32 k0_t1
  let c4096_i32 : BitVec 32 := 4096#32
  let v5 : BitVec 32 := Scalar.muli arg8 c4096_i32
  let v6 : BitVec 32 := Scalar.addi v4 v5
  ![v6.toNat]
@[reducible] def k0_t2_loop : Scf.Loop 32 :=
  let c0_i32_3 : BitVec 32 := 0#32
  let c16_i32 : BitVec 32 := 16#32
  let v7 : BitVec 32 := Scalar.addi c0_i32_3 c16_i32
  let c1_i32_4 : BitVec 32 := 1#32
  ⟨c0_i32_3, v7, c1_i32_4⟩
def k0_off2 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c0_i32_7 : BitVec 32 := 0#32
  let v14 : BitVec 32 := Scalar.addi v12 c0_i32_7
  let v15 : Index := Scalar.indexCast v14
  ![v15.toNat]
def k0_off3 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c128_i32 : BitVec 32 := 128#32
  let v17 : BitVec 32 := Scalar.addi v12 c128_i32
  let c0_i32_8 : BitVec 32 := 0#32
  let v18 : BitVec 32 := Scalar.addi v17 c0_i32_8
  let v19 : Index := Scalar.indexCast v18
  ![v19.toNat]

def k0_chk2 (v63 : IVec S16 32) : Prop :=
  (∀ a x, ((![v63] : Fin 1 → IVec S16 32) a x).toNat < S19508.size a) ∧
  (∀ a x, ((![v63] : Fin 1 → IVec S16 32) a x).toNat < S19508.size a) ∧
  (∀ a x, ((![v63] : Fin 1 → IVec S16 32) a x).toNat < S19508.size a) ∧
  (∀ a x, ((![v63] : Fin 1 → IVec S16 32) a x).toNat < S19508.size a)
theorem k0_idx2_inb : ∀ (v63 : IVec S16 32) (k0_hw2 : k0_chk2 v63), ∀ a x, ((![v63] : Fin 1 → IVec S16 32) a x).toNat < S19508.size a := fun v63 k0_hw2 => k0_hw2.1
theorem k0_idx10_inb : ∀ (v63 : IVec S16 32) (k0_hw2 : k0_chk2 v63), ∀ a x, ((![v63] : Fin 1 → IVec S16 32) a x).toNat < S19508.size a := fun v63 k0_hw2 => k0_hw2.2.1
theorem k0_idx18_inb : ∀ (v63 : IVec S16 32) (k0_hw2 : k0_chk2 v63), ∀ a x, ((![v63] : Fin 1 → IVec S16 32) a x).toNat < S19508.size a := fun v63 k0_hw2 => k0_hw2.2.2.1
theorem k0_idx26_inb : ∀ (v63 : IVec S16 32) (k0_hw2 : k0_chk2 v63), ∀ a x, ((![v63] : Fin 1 → IVec S16 32) a x).toNat < S19508.size a := fun v63 k0_hw2 => k0_hw2.2.2.2

def k0_chk3 (v71 : IVec S16 32) : Prop :=
  (∀ a x, ((![v71] : Fin 1 → IVec S16 32) a x).toNat < S19508.size a) ∧
  (∀ a x, ((![v71] : Fin 1 → IVec S16 32) a x).toNat < S19508.size a) ∧
  (∀ a x, ((![v71] : Fin 1 → IVec S16 32) a x).toNat < S19508.size a) ∧
  (∀ a x, ((![v71] : Fin 1 → IVec S16 32) a x).toNat < S19508.size a)
theorem k0_idx3_inb : ∀ (v71 : IVec S16 32) (k0_hw3 : k0_chk3 v71), ∀ a x, ((![v71] : Fin 1 → IVec S16 32) a x).toNat < S19508.size a := fun v71 k0_hw3 => k0_hw3.1
theorem k0_idx11_inb : ∀ (v71 : IVec S16 32) (k0_hw3 : k0_chk3 v71), ∀ a x, ((![v71] : Fin 1 → IVec S16 32) a x).toNat < S19508.size a := fun v71 k0_hw3 => k0_hw3.2.1
theorem k0_idx19_inb : ∀ (v71 : IVec S16 32) (k0_hw3 : k0_chk3 v71), ∀ a x, ((![v71] : Fin 1 → IVec S16 32) a x).toNat < S19508.size a := fun v71 k0_hw3 => k0_hw3.2.2.1
theorem k0_idx27_inb : ∀ (v71 : IVec S16 32) (k0_hw3 : k0_chk3 v71), ∀ a x, ((![v71] : Fin 1 → IVec S16 32) a x).toNat < S19508.size a := fun v71 k0_hw3 => k0_hw3.2.2.2

def k0_chk4 (v73 : IVec S16 32) : Prop :=
  (∀ a x, ((![v73] : Fin 1 → IVec S16 32) a x).toNat < S19508.size a) ∧
  (∀ a x, ((![v73] : Fin 1 → IVec S16 32) a x).toNat < S19508.size a) ∧
  (∀ a x, ((![v73] : Fin 1 → IVec S16 32) a x).toNat < S19508.size a) ∧
  (∀ a x, ((![v73] : Fin 1 → IVec S16 32) a x).toNat < S19508.size a)
theorem k0_idx4_inb : ∀ (v73 : IVec S16 32) (k0_hw4 : k0_chk4 v73), ∀ a x, ((![v73] : Fin 1 → IVec S16 32) a x).toNat < S19508.size a := fun v73 k0_hw4 => k0_hw4.1
theorem k0_idx12_inb : ∀ (v73 : IVec S16 32) (k0_hw4 : k0_chk4 v73), ∀ a x, ((![v73] : Fin 1 → IVec S16 32) a x).toNat < S19508.size a := fun v73 k0_hw4 => k0_hw4.2.1
theorem k0_idx20_inb : ∀ (v73 : IVec S16 32) (k0_hw4 : k0_chk4 v73), ∀ a x, ((![v73] : Fin 1 → IVec S16 32) a x).toNat < S19508.size a := fun v73 k0_hw4 => k0_hw4.2.2.1
theorem k0_idx28_inb : ∀ (v73 : IVec S16 32) (k0_hw4 : k0_chk4 v73), ∀ a x, ((![v73] : Fin 1 → IVec S16 32) a x).toNat < S19508.size a := fun v73 k0_hw4 => k0_hw4.2.2.2

def k0_chk5 (v65 : IVec S16 32) : Prop :=
  (∀ a x, ((![v65] : Fin 1 → IVec S16 32) a x).toNat < S19508.size a) ∧
  (∀ a x, ((![v65] : Fin 1 → IVec S16 32) a x).toNat < S19508.size a) ∧
  (∀ a x, ((![v65] : Fin 1 → IVec S16 32) a x).toNat < S19508.size a) ∧
  (∀ a x, ((![v65] : Fin 1 → IVec S16 32) a x).toNat < S19508.size a)
theorem k0_idx5_inb : ∀ (v65 : IVec S16 32) (k0_hw5 : k0_chk5 v65), ∀ a x, ((![v65] : Fin 1 → IVec S16 32) a x).toNat < S19508.size a := fun v65 k0_hw5 => k0_hw5.1
theorem k0_idx13_inb : ∀ (v65 : IVec S16 32) (k0_hw5 : k0_chk5 v65), ∀ a x, ((![v65] : Fin 1 → IVec S16 32) a x).toNat < S19508.size a := fun v65 k0_hw5 => k0_hw5.2.1
theorem k0_idx21_inb : ∀ (v65 : IVec S16 32) (k0_hw5 : k0_chk5 v65), ∀ a x, ((![v65] : Fin 1 → IVec S16 32) a x).toNat < S19508.size a := fun v65 k0_hw5 => k0_hw5.2.2.1
theorem k0_idx29_inb : ∀ (v65 : IVec S16 32) (k0_hw5 : k0_chk5 v65), ∀ a x, ((![v65] : Fin 1 → IVec S16 32) a x).toNat < S19508.size a := fun v65 k0_hw5 => k0_hw5.2.2.2

def k0_chk6 (v67 : IVec S16 32) : Prop :=
  (∀ a x, ((![v67] : Fin 1 → IVec S16 32) a x).toNat < S19508.size a) ∧
  (∀ a x, ((![v67] : Fin 1 → IVec S16 32) a x).toNat < S19508.size a) ∧
  (∀ a x, ((![v67] : Fin 1 → IVec S16 32) a x).toNat < S19508.size a) ∧
  (∀ a x, ((![v67] : Fin 1 → IVec S16 32) a x).toNat < S19508.size a)
theorem k0_idx6_inb : ∀ (v67 : IVec S16 32) (k0_hw6 : k0_chk6 v67), ∀ a x, ((![v67] : Fin 1 → IVec S16 32) a x).toNat < S19508.size a := fun v67 k0_hw6 => k0_hw6.1
theorem k0_idx14_inb : ∀ (v67 : IVec S16 32) (k0_hw6 : k0_chk6 v67), ∀ a x, ((![v67] : Fin 1 → IVec S16 32) a x).toNat < S19508.size a := fun v67 k0_hw6 => k0_hw6.2.1
theorem k0_idx22_inb : ∀ (v67 : IVec S16 32) (k0_hw6 : k0_chk6 v67), ∀ a x, ((![v67] : Fin 1 → IVec S16 32) a x).toNat < S19508.size a := fun v67 k0_hw6 => k0_hw6.2.2.1
theorem k0_idx30_inb : ∀ (v67 : IVec S16 32) (k0_hw6 : k0_chk6 v67), ∀ a x, ((![v67] : Fin 1 → IVec S16 32) a x).toNat < S19508.size a := fun v67 k0_hw6 => k0_hw6.2.2.2

def k0_chk7 (v59 : IVec S16 32) : Prop :=
  (∀ a x, ((![v59] : Fin 1 → IVec S16 32) a x).toNat < S19508.size a) ∧
  (∀ a x, ((![v59] : Fin 1 → IVec S16 32) a x).toNat < S19508.size a) ∧
  (∀ a x, ((![v59] : Fin 1 → IVec S16 32) a x).toNat < S19508.size a) ∧
  (∀ a x, ((![v59] : Fin 1 → IVec S16 32) a x).toNat < S19508.size a)
theorem k0_idx7_inb : ∀ (v59 : IVec S16 32) (k0_hw7 : k0_chk7 v59), ∀ a x, ((![v59] : Fin 1 → IVec S16 32) a x).toNat < S19508.size a := fun v59 k0_hw7 => k0_hw7.1
theorem k0_idx15_inb : ∀ (v59 : IVec S16 32) (k0_hw7 : k0_chk7 v59), ∀ a x, ((![v59] : Fin 1 → IVec S16 32) a x).toNat < S19508.size a := fun v59 k0_hw7 => k0_hw7.2.1
theorem k0_idx23_inb : ∀ (v59 : IVec S16 32) (k0_hw7 : k0_chk7 v59), ∀ a x, ((![v59] : Fin 1 → IVec S16 32) a x).toNat < S19508.size a := fun v59 k0_hw7 => k0_hw7.2.2.1
theorem k0_idx31_inb : ∀ (v59 : IVec S16 32) (k0_hw7 : k0_chk7 v59), ∀ a x, ((![v59] : Fin 1 → IVec S16 32) a x).toNat < S19508.size a := fun v59 k0_hw7 => k0_hw7.2.2.2

def k0_chk1 (v61 : IVec S16 32) : Prop :=
  (∀ a x, ((![v61] : Fin 1 → IVec S16 32) a x).toNat < S19508.size a) ∧
  (∀ a x, ((![v61] : Fin 1 → IVec S16 32) a x).toNat < S19508.size a) ∧
  (∀ a x, ((![v61] : Fin 1 → IVec S16 32) a x).toNat < S19508.size a) ∧
  (∀ a x, ((![v61] : Fin 1 → IVec S16 32) a x).toNat < S19508.size a) ∧
  (∀ a x, ((![v61] : Fin 1 → IVec S16 32) a x).toNat < S19508.size a) ∧
  (∀ a x, ((![v61] : Fin 1 → IVec S16 32) a x).toNat < S19508.size a) ∧
  (∀ a x, ((![v61] : Fin 1 → IVec S16 32) a x).toNat < S19508.size a) ∧
  (∀ a x, ((![v61] : Fin 1 → IVec S16 32) a x).toNat < S19508.size a)
theorem k0_idx1_inb : ∀ (v61 : IVec S16 32) (k0_hw1 : k0_chk1 v61), ∀ a x, ((![v61] : Fin 1 → IVec S16 32) a x).toNat < S19508.size a := fun v61 k0_hw1 => k0_hw1.1
theorem k0_idx8_inb : ∀ (v61 : IVec S16 32) (k0_hw1 : k0_chk1 v61), ∀ a x, ((![v61] : Fin 1 → IVec S16 32) a x).toNat < S19508.size a := fun v61 k0_hw1 => k0_hw1.2.1
theorem k0_idx9_inb : ∀ (v61 : IVec S16 32) (k0_hw1 : k0_chk1 v61), ∀ a x, ((![v61] : Fin 1 → IVec S16 32) a x).toNat < S19508.size a := fun v61 k0_hw1 => k0_hw1.2.2.1
theorem k0_idx16_inb : ∀ (v61 : IVec S16 32) (k0_hw1 : k0_chk1 v61), ∀ a x, ((![v61] : Fin 1 → IVec S16 32) a x).toNat < S19508.size a := fun v61 k0_hw1 => k0_hw1.2.2.2.1
theorem k0_idx17_inb : ∀ (v61 : IVec S16 32) (k0_hw1 : k0_chk1 v61), ∀ a x, ((![v61] : Fin 1 → IVec S16 32) a x).toNat < S19508.size a := fun v61 k0_hw1 => k0_hw1.2.2.2.2.1
theorem k0_idx24_inb : ∀ (v61 : IVec S16 32) (k0_hw1 : k0_chk1 v61), ∀ a x, ((![v61] : Fin 1 → IVec S16 32) a x).toNat < S19508.size a := fun v61 k0_hw1 => k0_hw1.2.2.2.2.2.1
theorem k0_idx25_inb : ∀ (v61 : IVec S16 32) (k0_hw1 : k0_chk1 v61), ∀ a x, ((![v61] : Fin 1 → IVec S16 32) a x).toNat < S19508.size a := fun v61 k0_hw1 => k0_hw1.2.2.2.2.2.2.1
theorem k0_idx32_inb : ∀ (v61 : IVec S16 32) (k0_hw1 : k0_chk1 v61), ∀ a x, ((![v61] : Fin 1 → IVec S16 32) a x).toNat < S19508.size a := fun v61 k0_hw1 => k0_hw1.2.2.2.2.2.2.2

def k0_chk8 (v286 : IVec S16 32) : Prop :=
  (∀ a x, ((![v286] : Fin 1 → IVec S16 32) a x).toNat < S20488.size a)
theorem k0_idx33_inb : ∀ (v286 : IVec S16 32) (k0_hw8 : k0_chk8 v286), ∀ a x, ((![v286] : Fin 1 → IVec S16 32) a x).toNat < S20488.size a := fun v286 k0_hw8 => k0_hw8

def k0_chk9 (v289 : IVec S16 32) : Prop :=
  (∀ a x, ((![v289] : Fin 1 → IVec S16 32) a x).toNat < S20488.size a)
theorem k0_idx34_inb : ∀ (v289 : IVec S16 32) (k0_hw9 : k0_chk9 v289), ∀ a x, ((![v289] : Fin 1 → IVec S16 32) a x).toNat < S20488.size a := fun v289 k0_hw9 => k0_hw9

def k0_chk10 (v292 : IVec S16 32) : Prop :=
  (∀ a x, ((![v292] : Fin 1 → IVec S16 32) a x).toNat < S20488.size a)
theorem k0_idx35_inb : ∀ (v292 : IVec S16 32) (k0_hw10 : k0_chk10 v292), ∀ a x, ((![v292] : Fin 1 → IVec S16 32) a x).toNat < S20488.size a := fun v292 k0_hw10 => k0_hw10
def k0_off4 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let c0_i32_57 : BitVec 32 := 0#32
  let v294 : BitVec 32 := Scalar.addi v13 c0_i32_57
  let v295 : Index := Scalar.indexCast v294
  ![v295.toNat]
def k0_off5 (k0_t2 : Fin k0_t2_loop.trips) (c128_i32_58 : BitVec 32) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let v297 : BitVec 32 := Scalar.addi v13 c128_i32_58
  let c0_i32_59 : BitVec 32 := 0#32
  let v298 : BitVec 32 := Scalar.addi v297 c0_i32_59
  let v299 : Index := Scalar.indexCast v298
  ![v299.toNat]
def k0_off6 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c16_i32_62 : BitVec 32 := 16#32
  let v305 : BitVec 32 := Scalar.addi v12 c16_i32_62
  let v306 : Index := Scalar.indexCast v305
  ![v306.toNat]
def k0_off7 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c128_i32_63 : BitVec 32 := 128#32
  let v308 : BitVec 32 := Scalar.addi v12 c128_i32_63
  let c16_i32_64 : BitVec 32 := 16#32
  let v309 : BitVec 32 := Scalar.addi v308 c16_i32_64
  let v310 : Index := Scalar.indexCast v309
  ![v310.toNat]

def k0_chk12 (v354 : IVec S16 32) : Prop :=
  (∀ a x, ((![v354] : Fin 1 → IVec S16 32) a x).toNat < S19508.size a) ∧
  (∀ a x, ((![v354] : Fin 1 → IVec S16 32) a x).toNat < S19508.size a) ∧
  (∀ a x, ((![v354] : Fin 1 → IVec S16 32) a x).toNat < S19508.size a) ∧
  (∀ a x, ((![v354] : Fin 1 → IVec S16 32) a x).toNat < S19508.size a)
theorem k0_idx37_inb : ∀ (v354 : IVec S16 32) (k0_hw12 : k0_chk12 v354), ∀ a x, ((![v354] : Fin 1 → IVec S16 32) a x).toNat < S19508.size a := fun v354 k0_hw12 => k0_hw12.1
theorem k0_idx45_inb : ∀ (v354 : IVec S16 32) (k0_hw12 : k0_chk12 v354), ∀ a x, ((![v354] : Fin 1 → IVec S16 32) a x).toNat < S19508.size a := fun v354 k0_hw12 => k0_hw12.2.1
theorem k0_idx53_inb : ∀ (v354 : IVec S16 32) (k0_hw12 : k0_chk12 v354), ∀ a x, ((![v354] : Fin 1 → IVec S16 32) a x).toNat < S19508.size a := fun v354 k0_hw12 => k0_hw12.2.2.1
theorem k0_idx61_inb : ∀ (v354 : IVec S16 32) (k0_hw12 : k0_chk12 v354), ∀ a x, ((![v354] : Fin 1 → IVec S16 32) a x).toNat < S19508.size a := fun v354 k0_hw12 => k0_hw12.2.2.2

def k0_chk13 (v362 : IVec S16 32) : Prop :=
  (∀ a x, ((![v362] : Fin 1 → IVec S16 32) a x).toNat < S19508.size a) ∧
  (∀ a x, ((![v362] : Fin 1 → IVec S16 32) a x).toNat < S19508.size a) ∧
  (∀ a x, ((![v362] : Fin 1 → IVec S16 32) a x).toNat < S19508.size a) ∧
  (∀ a x, ((![v362] : Fin 1 → IVec S16 32) a x).toNat < S19508.size a)
theorem k0_idx38_inb : ∀ (v362 : IVec S16 32) (k0_hw13 : k0_chk13 v362), ∀ a x, ((![v362] : Fin 1 → IVec S16 32) a x).toNat < S19508.size a := fun v362 k0_hw13 => k0_hw13.1
theorem k0_idx46_inb : ∀ (v362 : IVec S16 32) (k0_hw13 : k0_chk13 v362), ∀ a x, ((![v362] : Fin 1 → IVec S16 32) a x).toNat < S19508.size a := fun v362 k0_hw13 => k0_hw13.2.1
theorem k0_idx54_inb : ∀ (v362 : IVec S16 32) (k0_hw13 : k0_chk13 v362), ∀ a x, ((![v362] : Fin 1 → IVec S16 32) a x).toNat < S19508.size a := fun v362 k0_hw13 => k0_hw13.2.2.1
theorem k0_idx62_inb : ∀ (v362 : IVec S16 32) (k0_hw13 : k0_chk13 v362), ∀ a x, ((![v362] : Fin 1 → IVec S16 32) a x).toNat < S19508.size a := fun v362 k0_hw13 => k0_hw13.2.2.2

def k0_chk14 (v364 : IVec S16 32) : Prop :=
  (∀ a x, ((![v364] : Fin 1 → IVec S16 32) a x).toNat < S19508.size a) ∧
  (∀ a x, ((![v364] : Fin 1 → IVec S16 32) a x).toNat < S19508.size a) ∧
  (∀ a x, ((![v364] : Fin 1 → IVec S16 32) a x).toNat < S19508.size a) ∧
  (∀ a x, ((![v364] : Fin 1 → IVec S16 32) a x).toNat < S19508.size a)
theorem k0_idx39_inb : ∀ (v364 : IVec S16 32) (k0_hw14 : k0_chk14 v364), ∀ a x, ((![v364] : Fin 1 → IVec S16 32) a x).toNat < S19508.size a := fun v364 k0_hw14 => k0_hw14.1
theorem k0_idx47_inb : ∀ (v364 : IVec S16 32) (k0_hw14 : k0_chk14 v364), ∀ a x, ((![v364] : Fin 1 → IVec S16 32) a x).toNat < S19508.size a := fun v364 k0_hw14 => k0_hw14.2.1
theorem k0_idx55_inb : ∀ (v364 : IVec S16 32) (k0_hw14 : k0_chk14 v364), ∀ a x, ((![v364] : Fin 1 → IVec S16 32) a x).toNat < S19508.size a := fun v364 k0_hw14 => k0_hw14.2.2.1
theorem k0_idx63_inb : ∀ (v364 : IVec S16 32) (k0_hw14 : k0_chk14 v364), ∀ a x, ((![v364] : Fin 1 → IVec S16 32) a x).toNat < S19508.size a := fun v364 k0_hw14 => k0_hw14.2.2.2

def k0_chk15 (v356 : IVec S16 32) : Prop :=
  (∀ a x, ((![v356] : Fin 1 → IVec S16 32) a x).toNat < S19508.size a) ∧
  (∀ a x, ((![v356] : Fin 1 → IVec S16 32) a x).toNat < S19508.size a) ∧
  (∀ a x, ((![v356] : Fin 1 → IVec S16 32) a x).toNat < S19508.size a) ∧
  (∀ a x, ((![v356] : Fin 1 → IVec S16 32) a x).toNat < S19508.size a)
theorem k0_idx40_inb : ∀ (v356 : IVec S16 32) (k0_hw15 : k0_chk15 v356), ∀ a x, ((![v356] : Fin 1 → IVec S16 32) a x).toNat < S19508.size a := fun v356 k0_hw15 => k0_hw15.1
theorem k0_idx48_inb : ∀ (v356 : IVec S16 32) (k0_hw15 : k0_chk15 v356), ∀ a x, ((![v356] : Fin 1 → IVec S16 32) a x).toNat < S19508.size a := fun v356 k0_hw15 => k0_hw15.2.1
theorem k0_idx56_inb : ∀ (v356 : IVec S16 32) (k0_hw15 : k0_chk15 v356), ∀ a x, ((![v356] : Fin 1 → IVec S16 32) a x).toNat < S19508.size a := fun v356 k0_hw15 => k0_hw15.2.2.1
theorem k0_idx64_inb : ∀ (v356 : IVec S16 32) (k0_hw15 : k0_chk15 v356), ∀ a x, ((![v356] : Fin 1 → IVec S16 32) a x).toNat < S19508.size a := fun v356 k0_hw15 => k0_hw15.2.2.2

def k0_chk16 (v358 : IVec S16 32) : Prop :=
  (∀ a x, ((![v358] : Fin 1 → IVec S16 32) a x).toNat < S19508.size a) ∧
  (∀ a x, ((![v358] : Fin 1 → IVec S16 32) a x).toNat < S19508.size a) ∧
  (∀ a x, ((![v358] : Fin 1 → IVec S16 32) a x).toNat < S19508.size a) ∧
  (∀ a x, ((![v358] : Fin 1 → IVec S16 32) a x).toNat < S19508.size a)
theorem k0_idx41_inb : ∀ (v358 : IVec S16 32) (k0_hw16 : k0_chk16 v358), ∀ a x, ((![v358] : Fin 1 → IVec S16 32) a x).toNat < S19508.size a := fun v358 k0_hw16 => k0_hw16.1
theorem k0_idx49_inb : ∀ (v358 : IVec S16 32) (k0_hw16 : k0_chk16 v358), ∀ a x, ((![v358] : Fin 1 → IVec S16 32) a x).toNat < S19508.size a := fun v358 k0_hw16 => k0_hw16.2.1
theorem k0_idx57_inb : ∀ (v358 : IVec S16 32) (k0_hw16 : k0_chk16 v358), ∀ a x, ((![v358] : Fin 1 → IVec S16 32) a x).toNat < S19508.size a := fun v358 k0_hw16 => k0_hw16.2.2.1
theorem k0_idx65_inb : ∀ (v358 : IVec S16 32) (k0_hw16 : k0_chk16 v358), ∀ a x, ((![v358] : Fin 1 → IVec S16 32) a x).toNat < S19508.size a := fun v358 k0_hw16 => k0_hw16.2.2.2

def k0_chk17 (v350 : IVec S16 32) : Prop :=
  (∀ a x, ((![v350] : Fin 1 → IVec S16 32) a x).toNat < S19508.size a) ∧
  (∀ a x, ((![v350] : Fin 1 → IVec S16 32) a x).toNat < S19508.size a) ∧
  (∀ a x, ((![v350] : Fin 1 → IVec S16 32) a x).toNat < S19508.size a) ∧
  (∀ a x, ((![v350] : Fin 1 → IVec S16 32) a x).toNat < S19508.size a)
theorem k0_idx42_inb : ∀ (v350 : IVec S16 32) (k0_hw17 : k0_chk17 v350), ∀ a x, ((![v350] : Fin 1 → IVec S16 32) a x).toNat < S19508.size a := fun v350 k0_hw17 => k0_hw17.1
theorem k0_idx50_inb : ∀ (v350 : IVec S16 32) (k0_hw17 : k0_chk17 v350), ∀ a x, ((![v350] : Fin 1 → IVec S16 32) a x).toNat < S19508.size a := fun v350 k0_hw17 => k0_hw17.2.1
theorem k0_idx58_inb : ∀ (v350 : IVec S16 32) (k0_hw17 : k0_chk17 v350), ∀ a x, ((![v350] : Fin 1 → IVec S16 32) a x).toNat < S19508.size a := fun v350 k0_hw17 => k0_hw17.2.2.1
theorem k0_idx66_inb : ∀ (v350 : IVec S16 32) (k0_hw17 : k0_chk17 v350), ∀ a x, ((![v350] : Fin 1 → IVec S16 32) a x).toNat < S19508.size a := fun v350 k0_hw17 => k0_hw17.2.2.2

def k0_chk11 (v352 : IVec S16 32) : Prop :=
  (∀ a x, ((![v352] : Fin 1 → IVec S16 32) a x).toNat < S19508.size a) ∧
  (∀ a x, ((![v352] : Fin 1 → IVec S16 32) a x).toNat < S19508.size a) ∧
  (∀ a x, ((![v352] : Fin 1 → IVec S16 32) a x).toNat < S19508.size a) ∧
  (∀ a x, ((![v352] : Fin 1 → IVec S16 32) a x).toNat < S19508.size a) ∧
  (∀ a x, ((![v352] : Fin 1 → IVec S16 32) a x).toNat < S19508.size a) ∧
  (∀ a x, ((![v352] : Fin 1 → IVec S16 32) a x).toNat < S19508.size a) ∧
  (∀ a x, ((![v352] : Fin 1 → IVec S16 32) a x).toNat < S19508.size a) ∧
  (∀ a x, ((![v352] : Fin 1 → IVec S16 32) a x).toNat < S19508.size a)
theorem k0_idx36_inb : ∀ (v352 : IVec S16 32) (k0_hw11 : k0_chk11 v352), ∀ a x, ((![v352] : Fin 1 → IVec S16 32) a x).toNat < S19508.size a := fun v352 k0_hw11 => k0_hw11.1
theorem k0_idx43_inb : ∀ (v352 : IVec S16 32) (k0_hw11 : k0_chk11 v352), ∀ a x, ((![v352] : Fin 1 → IVec S16 32) a x).toNat < S19508.size a := fun v352 k0_hw11 => k0_hw11.2.1
theorem k0_idx44_inb : ∀ (v352 : IVec S16 32) (k0_hw11 : k0_chk11 v352), ∀ a x, ((![v352] : Fin 1 → IVec S16 32) a x).toNat < S19508.size a := fun v352 k0_hw11 => k0_hw11.2.2.1
theorem k0_idx51_inb : ∀ (v352 : IVec S16 32) (k0_hw11 : k0_chk11 v352), ∀ a x, ((![v352] : Fin 1 → IVec S16 32) a x).toNat < S19508.size a := fun v352 k0_hw11 => k0_hw11.2.2.2.1
theorem k0_idx52_inb : ∀ (v352 : IVec S16 32) (k0_hw11 : k0_chk11 v352), ∀ a x, ((![v352] : Fin 1 → IVec S16 32) a x).toNat < S19508.size a := fun v352 k0_hw11 => k0_hw11.2.2.2.2.1
theorem k0_idx59_inb : ∀ (v352 : IVec S16 32) (k0_hw11 : k0_chk11 v352), ∀ a x, ((![v352] : Fin 1 → IVec S16 32) a x).toNat < S19508.size a := fun v352 k0_hw11 => k0_hw11.2.2.2.2.2.1
theorem k0_idx60_inb : ∀ (v352 : IVec S16 32) (k0_hw11 : k0_chk11 v352), ∀ a x, ((![v352] : Fin 1 → IVec S16 32) a x).toNat < S19508.size a := fun v352 k0_hw11 => k0_hw11.2.2.2.2.2.2.1
theorem k0_idx67_inb : ∀ (v352 : IVec S16 32) (k0_hw11 : k0_chk11 v352), ∀ a x, ((![v352] : Fin 1 → IVec S16 32) a x).toNat < S19508.size a := fun v352 k0_hw11 => k0_hw11.2.2.2.2.2.2.2

def k0_chk18 (v577 : IVec S16 32) : Prop :=
  (∀ a x, ((![v577] : Fin 1 → IVec S16 32) a x).toNat < S20488.size a)
theorem k0_idx68_inb : ∀ (v577 : IVec S16 32) (k0_hw18 : k0_chk18 v577), ∀ a x, ((![v577] : Fin 1 → IVec S16 32) a x).toNat < S20488.size a := fun v577 k0_hw18 => k0_hw18

def k0_chk19 (v580 : IVec S16 32) : Prop :=
  (∀ a x, ((![v580] : Fin 1 → IVec S16 32) a x).toNat < S20488.size a)
theorem k0_idx69_inb : ∀ (v580 : IVec S16 32) (k0_hw19 : k0_chk19 v580), ∀ a x, ((![v580] : Fin 1 → IVec S16 32) a x).toNat < S20488.size a := fun v580 k0_hw19 => k0_hw19

def k0_chk20 (v583 : IVec S16 32) : Prop :=
  (∀ a x, ((![v583] : Fin 1 → IVec S16 32) a x).toNat < S20488.size a)
theorem k0_idx70_inb : ∀ (v583 : IVec S16 32) (k0_hw20 : k0_chk20 v583), ∀ a x, ((![v583] : Fin 1 → IVec S16 32) a x).toNat < S20488.size a := fun v583 k0_hw20 => k0_hw20
def k0_off8 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let c16_i32_141 : BitVec 32 := 16#32
  let v585 : BitVec 32 := Scalar.addi v13 c16_i32_141
  let v586 : Index := Scalar.indexCast v585
  ![v586.toNat]
def k0_off9 (k0_t2 : Fin k0_t2_loop.trips) (c128_i32_142 : BitVec 32) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let v588 : BitVec 32 := Scalar.addi v13 c128_i32_142
  let c16_i32_143 : BitVec 32 := 16#32
  let v589 : BitVec 32 := Scalar.addi v588 c16_i32_143
  let v590 : Index := Scalar.indexCast v589
  ![v590.toNat]
def k0_off10 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c32_i32 : BitVec 32 := 32#32
  let v596 : BitVec 32 := Scalar.addi v12 c32_i32
  let v597 : Index := Scalar.indexCast v596
  ![v597.toNat]
def k0_off11 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c128_i32_146 : BitVec 32 := 128#32
  let v599 : BitVec 32 := Scalar.addi v12 c128_i32_146
  let c32_i32_147 : BitVec 32 := 32#32
  let v600 : BitVec 32 := Scalar.addi v599 c32_i32_147
  let v601 : Index := Scalar.indexCast v600
  ![v601.toNat]

def k0_chk22 (v645 : IVec S16 32) : Prop :=
  (∀ a x, ((![v645] : Fin 1 → IVec S16 32) a x).toNat < S19508.size a) ∧
  (∀ a x, ((![v645] : Fin 1 → IVec S16 32) a x).toNat < S19508.size a) ∧
  (∀ a x, ((![v645] : Fin 1 → IVec S16 32) a x).toNat < S19508.size a) ∧
  (∀ a x, ((![v645] : Fin 1 → IVec S16 32) a x).toNat < S19508.size a)
theorem k0_idx72_inb : ∀ (v645 : IVec S16 32) (k0_hw22 : k0_chk22 v645), ∀ a x, ((![v645] : Fin 1 → IVec S16 32) a x).toNat < S19508.size a := fun v645 k0_hw22 => k0_hw22.1
theorem k0_idx80_inb : ∀ (v645 : IVec S16 32) (k0_hw22 : k0_chk22 v645), ∀ a x, ((![v645] : Fin 1 → IVec S16 32) a x).toNat < S19508.size a := fun v645 k0_hw22 => k0_hw22.2.1
theorem k0_idx88_inb : ∀ (v645 : IVec S16 32) (k0_hw22 : k0_chk22 v645), ∀ a x, ((![v645] : Fin 1 → IVec S16 32) a x).toNat < S19508.size a := fun v645 k0_hw22 => k0_hw22.2.2.1
theorem k0_idx96_inb : ∀ (v645 : IVec S16 32) (k0_hw22 : k0_chk22 v645), ∀ a x, ((![v645] : Fin 1 → IVec S16 32) a x).toNat < S19508.size a := fun v645 k0_hw22 => k0_hw22.2.2.2

def k0_chk23 (v653 : IVec S16 32) : Prop :=
  (∀ a x, ((![v653] : Fin 1 → IVec S16 32) a x).toNat < S19508.size a) ∧
  (∀ a x, ((![v653] : Fin 1 → IVec S16 32) a x).toNat < S19508.size a) ∧
  (∀ a x, ((![v653] : Fin 1 → IVec S16 32) a x).toNat < S19508.size a) ∧
  (∀ a x, ((![v653] : Fin 1 → IVec S16 32) a x).toNat < S19508.size a)
theorem k0_idx73_inb : ∀ (v653 : IVec S16 32) (k0_hw23 : k0_chk23 v653), ∀ a x, ((![v653] : Fin 1 → IVec S16 32) a x).toNat < S19508.size a := fun v653 k0_hw23 => k0_hw23.1
theorem k0_idx81_inb : ∀ (v653 : IVec S16 32) (k0_hw23 : k0_chk23 v653), ∀ a x, ((![v653] : Fin 1 → IVec S16 32) a x).toNat < S19508.size a := fun v653 k0_hw23 => k0_hw23.2.1
theorem k0_idx89_inb : ∀ (v653 : IVec S16 32) (k0_hw23 : k0_chk23 v653), ∀ a x, ((![v653] : Fin 1 → IVec S16 32) a x).toNat < S19508.size a := fun v653 k0_hw23 => k0_hw23.2.2.1
theorem k0_idx97_inb : ∀ (v653 : IVec S16 32) (k0_hw23 : k0_chk23 v653), ∀ a x, ((![v653] : Fin 1 → IVec S16 32) a x).toNat < S19508.size a := fun v653 k0_hw23 => k0_hw23.2.2.2

def k0_chk24 (v655 : IVec S16 32) : Prop :=
  (∀ a x, ((![v655] : Fin 1 → IVec S16 32) a x).toNat < S19508.size a) ∧
  (∀ a x, ((![v655] : Fin 1 → IVec S16 32) a x).toNat < S19508.size a) ∧
  (∀ a x, ((![v655] : Fin 1 → IVec S16 32) a x).toNat < S19508.size a) ∧
  (∀ a x, ((![v655] : Fin 1 → IVec S16 32) a x).toNat < S19508.size a)
theorem k0_idx74_inb : ∀ (v655 : IVec S16 32) (k0_hw24 : k0_chk24 v655), ∀ a x, ((![v655] : Fin 1 → IVec S16 32) a x).toNat < S19508.size a := fun v655 k0_hw24 => k0_hw24.1
theorem k0_idx82_inb : ∀ (v655 : IVec S16 32) (k0_hw24 : k0_chk24 v655), ∀ a x, ((![v655] : Fin 1 → IVec S16 32) a x).toNat < S19508.size a := fun v655 k0_hw24 => k0_hw24.2.1
theorem k0_idx90_inb : ∀ (v655 : IVec S16 32) (k0_hw24 : k0_chk24 v655), ∀ a x, ((![v655] : Fin 1 → IVec S16 32) a x).toNat < S19508.size a := fun v655 k0_hw24 => k0_hw24.2.2.1
theorem k0_idx98_inb : ∀ (v655 : IVec S16 32) (k0_hw24 : k0_chk24 v655), ∀ a x, ((![v655] : Fin 1 → IVec S16 32) a x).toNat < S19508.size a := fun v655 k0_hw24 => k0_hw24.2.2.2

def k0_chk25 (v647 : IVec S16 32) : Prop :=
  (∀ a x, ((![v647] : Fin 1 → IVec S16 32) a x).toNat < S19508.size a) ∧
  (∀ a x, ((![v647] : Fin 1 → IVec S16 32) a x).toNat < S19508.size a) ∧
  (∀ a x, ((![v647] : Fin 1 → IVec S16 32) a x).toNat < S19508.size a) ∧
  (∀ a x, ((![v647] : Fin 1 → IVec S16 32) a x).toNat < S19508.size a)
theorem k0_idx75_inb : ∀ (v647 : IVec S16 32) (k0_hw25 : k0_chk25 v647), ∀ a x, ((![v647] : Fin 1 → IVec S16 32) a x).toNat < S19508.size a := fun v647 k0_hw25 => k0_hw25.1
theorem k0_idx83_inb : ∀ (v647 : IVec S16 32) (k0_hw25 : k0_chk25 v647), ∀ a x, ((![v647] : Fin 1 → IVec S16 32) a x).toNat < S19508.size a := fun v647 k0_hw25 => k0_hw25.2.1
theorem k0_idx91_inb : ∀ (v647 : IVec S16 32) (k0_hw25 : k0_chk25 v647), ∀ a x, ((![v647] : Fin 1 → IVec S16 32) a x).toNat < S19508.size a := fun v647 k0_hw25 => k0_hw25.2.2.1
theorem k0_idx99_inb : ∀ (v647 : IVec S16 32) (k0_hw25 : k0_chk25 v647), ∀ a x, ((![v647] : Fin 1 → IVec S16 32) a x).toNat < S19508.size a := fun v647 k0_hw25 => k0_hw25.2.2.2

def k0_chk26 (v649 : IVec S16 32) : Prop :=
  (∀ a x, ((![v649] : Fin 1 → IVec S16 32) a x).toNat < S19508.size a) ∧
  (∀ a x, ((![v649] : Fin 1 → IVec S16 32) a x).toNat < S19508.size a) ∧
  (∀ a x, ((![v649] : Fin 1 → IVec S16 32) a x).toNat < S19508.size a) ∧
  (∀ a x, ((![v649] : Fin 1 → IVec S16 32) a x).toNat < S19508.size a)
theorem k0_idx76_inb : ∀ (v649 : IVec S16 32) (k0_hw26 : k0_chk26 v649), ∀ a x, ((![v649] : Fin 1 → IVec S16 32) a x).toNat < S19508.size a := fun v649 k0_hw26 => k0_hw26.1
theorem k0_idx84_inb : ∀ (v649 : IVec S16 32) (k0_hw26 : k0_chk26 v649), ∀ a x, ((![v649] : Fin 1 → IVec S16 32) a x).toNat < S19508.size a := fun v649 k0_hw26 => k0_hw26.2.1
theorem k0_idx92_inb : ∀ (v649 : IVec S16 32) (k0_hw26 : k0_chk26 v649), ∀ a x, ((![v649] : Fin 1 → IVec S16 32) a x).toNat < S19508.size a := fun v649 k0_hw26 => k0_hw26.2.2.1
theorem k0_idx100_inb : ∀ (v649 : IVec S16 32) (k0_hw26 : k0_chk26 v649), ∀ a x, ((![v649] : Fin 1 → IVec S16 32) a x).toNat < S19508.size a := fun v649 k0_hw26 => k0_hw26.2.2.2

def k0_chk27 (v641 : IVec S16 32) : Prop :=
  (∀ a x, ((![v641] : Fin 1 → IVec S16 32) a x).toNat < S19508.size a) ∧
  (∀ a x, ((![v641] : Fin 1 → IVec S16 32) a x).toNat < S19508.size a) ∧
  (∀ a x, ((![v641] : Fin 1 → IVec S16 32) a x).toNat < S19508.size a) ∧
  (∀ a x, ((![v641] : Fin 1 → IVec S16 32) a x).toNat < S19508.size a)
theorem k0_idx77_inb : ∀ (v641 : IVec S16 32) (k0_hw27 : k0_chk27 v641), ∀ a x, ((![v641] : Fin 1 → IVec S16 32) a x).toNat < S19508.size a := fun v641 k0_hw27 => k0_hw27.1
theorem k0_idx85_inb : ∀ (v641 : IVec S16 32) (k0_hw27 : k0_chk27 v641), ∀ a x, ((![v641] : Fin 1 → IVec S16 32) a x).toNat < S19508.size a := fun v641 k0_hw27 => k0_hw27.2.1
theorem k0_idx93_inb : ∀ (v641 : IVec S16 32) (k0_hw27 : k0_chk27 v641), ∀ a x, ((![v641] : Fin 1 → IVec S16 32) a x).toNat < S19508.size a := fun v641 k0_hw27 => k0_hw27.2.2.1
theorem k0_idx101_inb : ∀ (v641 : IVec S16 32) (k0_hw27 : k0_chk27 v641), ∀ a x, ((![v641] : Fin 1 → IVec S16 32) a x).toNat < S19508.size a := fun v641 k0_hw27 => k0_hw27.2.2.2

def k0_chk21 (v643 : IVec S16 32) : Prop :=
  (∀ a x, ((![v643] : Fin 1 → IVec S16 32) a x).toNat < S19508.size a) ∧
  (∀ a x, ((![v643] : Fin 1 → IVec S16 32) a x).toNat < S19508.size a) ∧
  (∀ a x, ((![v643] : Fin 1 → IVec S16 32) a x).toNat < S19508.size a) ∧
  (∀ a x, ((![v643] : Fin 1 → IVec S16 32) a x).toNat < S19508.size a) ∧
  (∀ a x, ((![v643] : Fin 1 → IVec S16 32) a x).toNat < S19508.size a) ∧
  (∀ a x, ((![v643] : Fin 1 → IVec S16 32) a x).toNat < S19508.size a) ∧
  (∀ a x, ((![v643] : Fin 1 → IVec S16 32) a x).toNat < S19508.size a) ∧
  (∀ a x, ((![v643] : Fin 1 → IVec S16 32) a x).toNat < S19508.size a)
theorem k0_idx71_inb : ∀ (v643 : IVec S16 32) (k0_hw21 : k0_chk21 v643), ∀ a x, ((![v643] : Fin 1 → IVec S16 32) a x).toNat < S19508.size a := fun v643 k0_hw21 => k0_hw21.1
theorem k0_idx78_inb : ∀ (v643 : IVec S16 32) (k0_hw21 : k0_chk21 v643), ∀ a x, ((![v643] : Fin 1 → IVec S16 32) a x).toNat < S19508.size a := fun v643 k0_hw21 => k0_hw21.2.1
theorem k0_idx79_inb : ∀ (v643 : IVec S16 32) (k0_hw21 : k0_chk21 v643), ∀ a x, ((![v643] : Fin 1 → IVec S16 32) a x).toNat < S19508.size a := fun v643 k0_hw21 => k0_hw21.2.2.1
theorem k0_idx86_inb : ∀ (v643 : IVec S16 32) (k0_hw21 : k0_chk21 v643), ∀ a x, ((![v643] : Fin 1 → IVec S16 32) a x).toNat < S19508.size a := fun v643 k0_hw21 => k0_hw21.2.2.2.1
theorem k0_idx87_inb : ∀ (v643 : IVec S16 32) (k0_hw21 : k0_chk21 v643), ∀ a x, ((![v643] : Fin 1 → IVec S16 32) a x).toNat < S19508.size a := fun v643 k0_hw21 => k0_hw21.2.2.2.2.1
theorem k0_idx94_inb : ∀ (v643 : IVec S16 32) (k0_hw21 : k0_chk21 v643), ∀ a x, ((![v643] : Fin 1 → IVec S16 32) a x).toNat < S19508.size a := fun v643 k0_hw21 => k0_hw21.2.2.2.2.2.1
theorem k0_idx95_inb : ∀ (v643 : IVec S16 32) (k0_hw21 : k0_chk21 v643), ∀ a x, ((![v643] : Fin 1 → IVec S16 32) a x).toNat < S19508.size a := fun v643 k0_hw21 => k0_hw21.2.2.2.2.2.2.1
theorem k0_idx102_inb : ∀ (v643 : IVec S16 32) (k0_hw21 : k0_chk21 v643), ∀ a x, ((![v643] : Fin 1 → IVec S16 32) a x).toNat < S19508.size a := fun v643 k0_hw21 => k0_hw21.2.2.2.2.2.2.2

def k0_chk28 (v868 : IVec S16 32) : Prop :=
  (∀ a x, ((![v868] : Fin 1 → IVec S16 32) a x).toNat < S20488.size a)
theorem k0_idx103_inb : ∀ (v868 : IVec S16 32) (k0_hw28 : k0_chk28 v868), ∀ a x, ((![v868] : Fin 1 → IVec S16 32) a x).toNat < S20488.size a := fun v868 k0_hw28 => k0_hw28

def k0_chk29 (v871 : IVec S16 32) : Prop :=
  (∀ a x, ((![v871] : Fin 1 → IVec S16 32) a x).toNat < S20488.size a)
theorem k0_idx104_inb : ∀ (v871 : IVec S16 32) (k0_hw29 : k0_chk29 v871), ∀ a x, ((![v871] : Fin 1 → IVec S16 32) a x).toNat < S20488.size a := fun v871 k0_hw29 => k0_hw29

def k0_chk30 (v874 : IVec S16 32) : Prop :=
  (∀ a x, ((![v874] : Fin 1 → IVec S16 32) a x).toNat < S20488.size a)
theorem k0_idx105_inb : ∀ (v874 : IVec S16 32) (k0_hw30 : k0_chk30 v874), ∀ a x, ((![v874] : Fin 1 → IVec S16 32) a x).toNat < S20488.size a := fun v874 k0_hw30 => k0_hw30
def k0_off12 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let c32_i32_224 : BitVec 32 := 32#32
  let v876 : BitVec 32 := Scalar.addi v13 c32_i32_224
  let v877 : Index := Scalar.indexCast v876
  ![v877.toNat]
def k0_off13 (k0_t2 : Fin k0_t2_loop.trips) (c128_i32_225 : BitVec 32) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let v879 : BitVec 32 := Scalar.addi v13 c128_i32_225
  let c32_i32_226 : BitVec 32 := 32#32
  let v880 : BitVec 32 := Scalar.addi v879 c32_i32_226
  let v881 : Index := Scalar.indexCast v880
  ![v881.toNat]
def k0_off14 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c48_i32 : BitVec 32 := 48#32
  let v887 : BitVec 32 := Scalar.addi v12 c48_i32
  let v888 : Index := Scalar.indexCast v887
  ![v888.toNat]
def k0_off15 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c128_i32_229 : BitVec 32 := 128#32
  let v890 : BitVec 32 := Scalar.addi v12 c128_i32_229
  let c48_i32_230 : BitVec 32 := 48#32
  let v891 : BitVec 32 := Scalar.addi v890 c48_i32_230
  let v892 : Index := Scalar.indexCast v891
  ![v892.toNat]

def k0_chk32 (v936 : IVec S16 32) : Prop :=
  (∀ a x, ((![v936] : Fin 1 → IVec S16 32) a x).toNat < S19508.size a) ∧
  (∀ a x, ((![v936] : Fin 1 → IVec S16 32) a x).toNat < S19508.size a) ∧
  (∀ a x, ((![v936] : Fin 1 → IVec S16 32) a x).toNat < S19508.size a) ∧
  (∀ a x, ((![v936] : Fin 1 → IVec S16 32) a x).toNat < S19508.size a)
theorem k0_idx107_inb : ∀ (v936 : IVec S16 32) (k0_hw32 : k0_chk32 v936), ∀ a x, ((![v936] : Fin 1 → IVec S16 32) a x).toNat < S19508.size a := fun v936 k0_hw32 => k0_hw32.1
theorem k0_idx115_inb : ∀ (v936 : IVec S16 32) (k0_hw32 : k0_chk32 v936), ∀ a x, ((![v936] : Fin 1 → IVec S16 32) a x).toNat < S19508.size a := fun v936 k0_hw32 => k0_hw32.2.1
theorem k0_idx123_inb : ∀ (v936 : IVec S16 32) (k0_hw32 : k0_chk32 v936), ∀ a x, ((![v936] : Fin 1 → IVec S16 32) a x).toNat < S19508.size a := fun v936 k0_hw32 => k0_hw32.2.2.1
theorem k0_idx131_inb : ∀ (v936 : IVec S16 32) (k0_hw32 : k0_chk32 v936), ∀ a x, ((![v936] : Fin 1 → IVec S16 32) a x).toNat < S19508.size a := fun v936 k0_hw32 => k0_hw32.2.2.2

def k0_chk33 (v944 : IVec S16 32) : Prop :=
  (∀ a x, ((![v944] : Fin 1 → IVec S16 32) a x).toNat < S19508.size a) ∧
  (∀ a x, ((![v944] : Fin 1 → IVec S16 32) a x).toNat < S19508.size a) ∧
  (∀ a x, ((![v944] : Fin 1 → IVec S16 32) a x).toNat < S19508.size a) ∧
  (∀ a x, ((![v944] : Fin 1 → IVec S16 32) a x).toNat < S19508.size a)
theorem k0_idx108_inb : ∀ (v944 : IVec S16 32) (k0_hw33 : k0_chk33 v944), ∀ a x, ((![v944] : Fin 1 → IVec S16 32) a x).toNat < S19508.size a := fun v944 k0_hw33 => k0_hw33.1
theorem k0_idx116_inb : ∀ (v944 : IVec S16 32) (k0_hw33 : k0_chk33 v944), ∀ a x, ((![v944] : Fin 1 → IVec S16 32) a x).toNat < S19508.size a := fun v944 k0_hw33 => k0_hw33.2.1
theorem k0_idx124_inb : ∀ (v944 : IVec S16 32) (k0_hw33 : k0_chk33 v944), ∀ a x, ((![v944] : Fin 1 → IVec S16 32) a x).toNat < S19508.size a := fun v944 k0_hw33 => k0_hw33.2.2.1
theorem k0_idx132_inb : ∀ (v944 : IVec S16 32) (k0_hw33 : k0_chk33 v944), ∀ a x, ((![v944] : Fin 1 → IVec S16 32) a x).toNat < S19508.size a := fun v944 k0_hw33 => k0_hw33.2.2.2

def k0_chk34 (v946 : IVec S16 32) : Prop :=
  (∀ a x, ((![v946] : Fin 1 → IVec S16 32) a x).toNat < S19508.size a) ∧
  (∀ a x, ((![v946] : Fin 1 → IVec S16 32) a x).toNat < S19508.size a) ∧
  (∀ a x, ((![v946] : Fin 1 → IVec S16 32) a x).toNat < S19508.size a) ∧
  (∀ a x, ((![v946] : Fin 1 → IVec S16 32) a x).toNat < S19508.size a)
theorem k0_idx109_inb : ∀ (v946 : IVec S16 32) (k0_hw34 : k0_chk34 v946), ∀ a x, ((![v946] : Fin 1 → IVec S16 32) a x).toNat < S19508.size a := fun v946 k0_hw34 => k0_hw34.1
theorem k0_idx117_inb : ∀ (v946 : IVec S16 32) (k0_hw34 : k0_chk34 v946), ∀ a x, ((![v946] : Fin 1 → IVec S16 32) a x).toNat < S19508.size a := fun v946 k0_hw34 => k0_hw34.2.1
theorem k0_idx125_inb : ∀ (v946 : IVec S16 32) (k0_hw34 : k0_chk34 v946), ∀ a x, ((![v946] : Fin 1 → IVec S16 32) a x).toNat < S19508.size a := fun v946 k0_hw34 => k0_hw34.2.2.1
theorem k0_idx133_inb : ∀ (v946 : IVec S16 32) (k0_hw34 : k0_chk34 v946), ∀ a x, ((![v946] : Fin 1 → IVec S16 32) a x).toNat < S19508.size a := fun v946 k0_hw34 => k0_hw34.2.2.2

def k0_chk35 (v938 : IVec S16 32) : Prop :=
  (∀ a x, ((![v938] : Fin 1 → IVec S16 32) a x).toNat < S19508.size a) ∧
  (∀ a x, ((![v938] : Fin 1 → IVec S16 32) a x).toNat < S19508.size a) ∧
  (∀ a x, ((![v938] : Fin 1 → IVec S16 32) a x).toNat < S19508.size a) ∧
  (∀ a x, ((![v938] : Fin 1 → IVec S16 32) a x).toNat < S19508.size a)
theorem k0_idx110_inb : ∀ (v938 : IVec S16 32) (k0_hw35 : k0_chk35 v938), ∀ a x, ((![v938] : Fin 1 → IVec S16 32) a x).toNat < S19508.size a := fun v938 k0_hw35 => k0_hw35.1
theorem k0_idx118_inb : ∀ (v938 : IVec S16 32) (k0_hw35 : k0_chk35 v938), ∀ a x, ((![v938] : Fin 1 → IVec S16 32) a x).toNat < S19508.size a := fun v938 k0_hw35 => k0_hw35.2.1
theorem k0_idx126_inb : ∀ (v938 : IVec S16 32) (k0_hw35 : k0_chk35 v938), ∀ a x, ((![v938] : Fin 1 → IVec S16 32) a x).toNat < S19508.size a := fun v938 k0_hw35 => k0_hw35.2.2.1
theorem k0_idx134_inb : ∀ (v938 : IVec S16 32) (k0_hw35 : k0_chk35 v938), ∀ a x, ((![v938] : Fin 1 → IVec S16 32) a x).toNat < S19508.size a := fun v938 k0_hw35 => k0_hw35.2.2.2

def k0_chk36 (v940 : IVec S16 32) : Prop :=
  (∀ a x, ((![v940] : Fin 1 → IVec S16 32) a x).toNat < S19508.size a) ∧
  (∀ a x, ((![v940] : Fin 1 → IVec S16 32) a x).toNat < S19508.size a) ∧
  (∀ a x, ((![v940] : Fin 1 → IVec S16 32) a x).toNat < S19508.size a) ∧
  (∀ a x, ((![v940] : Fin 1 → IVec S16 32) a x).toNat < S19508.size a)
theorem k0_idx111_inb : ∀ (v940 : IVec S16 32) (k0_hw36 : k0_chk36 v940), ∀ a x, ((![v940] : Fin 1 → IVec S16 32) a x).toNat < S19508.size a := fun v940 k0_hw36 => k0_hw36.1
theorem k0_idx119_inb : ∀ (v940 : IVec S16 32) (k0_hw36 : k0_chk36 v940), ∀ a x, ((![v940] : Fin 1 → IVec S16 32) a x).toNat < S19508.size a := fun v940 k0_hw36 => k0_hw36.2.1
theorem k0_idx127_inb : ∀ (v940 : IVec S16 32) (k0_hw36 : k0_chk36 v940), ∀ a x, ((![v940] : Fin 1 → IVec S16 32) a x).toNat < S19508.size a := fun v940 k0_hw36 => k0_hw36.2.2.1
theorem k0_idx135_inb : ∀ (v940 : IVec S16 32) (k0_hw36 : k0_chk36 v940), ∀ a x, ((![v940] : Fin 1 → IVec S16 32) a x).toNat < S19508.size a := fun v940 k0_hw36 => k0_hw36.2.2.2

def k0_chk37 (v932 : IVec S16 32) : Prop :=
  (∀ a x, ((![v932] : Fin 1 → IVec S16 32) a x).toNat < S19508.size a) ∧
  (∀ a x, ((![v932] : Fin 1 → IVec S16 32) a x).toNat < S19508.size a) ∧
  (∀ a x, ((![v932] : Fin 1 → IVec S16 32) a x).toNat < S19508.size a) ∧
  (∀ a x, ((![v932] : Fin 1 → IVec S16 32) a x).toNat < S19508.size a)
theorem k0_idx112_inb : ∀ (v932 : IVec S16 32) (k0_hw37 : k0_chk37 v932), ∀ a x, ((![v932] : Fin 1 → IVec S16 32) a x).toNat < S19508.size a := fun v932 k0_hw37 => k0_hw37.1
theorem k0_idx120_inb : ∀ (v932 : IVec S16 32) (k0_hw37 : k0_chk37 v932), ∀ a x, ((![v932] : Fin 1 → IVec S16 32) a x).toNat < S19508.size a := fun v932 k0_hw37 => k0_hw37.2.1
theorem k0_idx128_inb : ∀ (v932 : IVec S16 32) (k0_hw37 : k0_chk37 v932), ∀ a x, ((![v932] : Fin 1 → IVec S16 32) a x).toNat < S19508.size a := fun v932 k0_hw37 => k0_hw37.2.2.1
theorem k0_idx136_inb : ∀ (v932 : IVec S16 32) (k0_hw37 : k0_chk37 v932), ∀ a x, ((![v932] : Fin 1 → IVec S16 32) a x).toNat < S19508.size a := fun v932 k0_hw37 => k0_hw37.2.2.2

def k0_chk31 (v934 : IVec S16 32) : Prop :=
  (∀ a x, ((![v934] : Fin 1 → IVec S16 32) a x).toNat < S19508.size a) ∧
  (∀ a x, ((![v934] : Fin 1 → IVec S16 32) a x).toNat < S19508.size a) ∧
  (∀ a x, ((![v934] : Fin 1 → IVec S16 32) a x).toNat < S19508.size a) ∧
  (∀ a x, ((![v934] : Fin 1 → IVec S16 32) a x).toNat < S19508.size a) ∧
  (∀ a x, ((![v934] : Fin 1 → IVec S16 32) a x).toNat < S19508.size a) ∧
  (∀ a x, ((![v934] : Fin 1 → IVec S16 32) a x).toNat < S19508.size a) ∧
  (∀ a x, ((![v934] : Fin 1 → IVec S16 32) a x).toNat < S19508.size a) ∧
  (∀ a x, ((![v934] : Fin 1 → IVec S16 32) a x).toNat < S19508.size a)
theorem k0_idx106_inb : ∀ (v934 : IVec S16 32) (k0_hw31 : k0_chk31 v934), ∀ a x, ((![v934] : Fin 1 → IVec S16 32) a x).toNat < S19508.size a := fun v934 k0_hw31 => k0_hw31.1
theorem k0_idx113_inb : ∀ (v934 : IVec S16 32) (k0_hw31 : k0_chk31 v934), ∀ a x, ((![v934] : Fin 1 → IVec S16 32) a x).toNat < S19508.size a := fun v934 k0_hw31 => k0_hw31.2.1
theorem k0_idx114_inb : ∀ (v934 : IVec S16 32) (k0_hw31 : k0_chk31 v934), ∀ a x, ((![v934] : Fin 1 → IVec S16 32) a x).toNat < S19508.size a := fun v934 k0_hw31 => k0_hw31.2.2.1
theorem k0_idx121_inb : ∀ (v934 : IVec S16 32) (k0_hw31 : k0_chk31 v934), ∀ a x, ((![v934] : Fin 1 → IVec S16 32) a x).toNat < S19508.size a := fun v934 k0_hw31 => k0_hw31.2.2.2.1
theorem k0_idx122_inb : ∀ (v934 : IVec S16 32) (k0_hw31 : k0_chk31 v934), ∀ a x, ((![v934] : Fin 1 → IVec S16 32) a x).toNat < S19508.size a := fun v934 k0_hw31 => k0_hw31.2.2.2.2.1
theorem k0_idx129_inb : ∀ (v934 : IVec S16 32) (k0_hw31 : k0_chk31 v934), ∀ a x, ((![v934] : Fin 1 → IVec S16 32) a x).toNat < S19508.size a := fun v934 k0_hw31 => k0_hw31.2.2.2.2.2.1
theorem k0_idx130_inb : ∀ (v934 : IVec S16 32) (k0_hw31 : k0_chk31 v934), ∀ a x, ((![v934] : Fin 1 → IVec S16 32) a x).toNat < S19508.size a := fun v934 k0_hw31 => k0_hw31.2.2.2.2.2.2.1
theorem k0_idx137_inb : ∀ (v934 : IVec S16 32) (k0_hw31 : k0_chk31 v934), ∀ a x, ((![v934] : Fin 1 → IVec S16 32) a x).toNat < S19508.size a := fun v934 k0_hw31 => k0_hw31.2.2.2.2.2.2.2

def k0_chk38 (v1159 : IVec S16 32) : Prop :=
  (∀ a x, ((![v1159] : Fin 1 → IVec S16 32) a x).toNat < S20488.size a)
theorem k0_idx138_inb : ∀ (v1159 : IVec S16 32) (k0_hw38 : k0_chk38 v1159), ∀ a x, ((![v1159] : Fin 1 → IVec S16 32) a x).toNat < S20488.size a := fun v1159 k0_hw38 => k0_hw38

def k0_chk39 (v1162 : IVec S16 32) : Prop :=
  (∀ a x, ((![v1162] : Fin 1 → IVec S16 32) a x).toNat < S20488.size a)
theorem k0_idx139_inb : ∀ (v1162 : IVec S16 32) (k0_hw39 : k0_chk39 v1162), ∀ a x, ((![v1162] : Fin 1 → IVec S16 32) a x).toNat < S20488.size a := fun v1162 k0_hw39 => k0_hw39

def k0_chk40 (v1165 : IVec S16 32) : Prop :=
  (∀ a x, ((![v1165] : Fin 1 → IVec S16 32) a x).toNat < S20488.size a)
theorem k0_idx140_inb : ∀ (v1165 : IVec S16 32) (k0_hw40 : k0_chk40 v1165), ∀ a x, ((![v1165] : Fin 1 → IVec S16 32) a x).toNat < S20488.size a := fun v1165 k0_hw40 => k0_hw40
def k0_off16 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let c48_i32_307 : BitVec 32 := 48#32
  let v1167 : BitVec 32 := Scalar.addi v13 c48_i32_307
  let v1168 : Index := Scalar.indexCast v1167
  ![v1168.toNat]
def k0_off17 (k0_t2 : Fin k0_t2_loop.trips) (c128_i32_308 : BitVec 32) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let v1170 : BitVec 32 := Scalar.addi v13 c128_i32_308
  let c48_i32_309 : BitVec 32 := 48#32
  let v1171 : BitVec 32 := Scalar.addi v1170 c48_i32_309
  let v1172 : Index := Scalar.indexCast v1171
  ![v1172.toNat]
def k0_off18 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c64_i32_312 : BitVec 32 := 64#32
  let v1178 : BitVec 32 := Scalar.addi v12 c64_i32_312
  let v1179 : Index := Scalar.indexCast v1178
  ![v1179.toNat]
def k0_off19 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c128_i32_313 : BitVec 32 := 128#32
  let v1181 : BitVec 32 := Scalar.addi v12 c128_i32_313
  let c64_i32_314 : BitVec 32 := 64#32
  let v1182 : BitVec 32 := Scalar.addi v1181 c64_i32_314
  let v1183 : Index := Scalar.indexCast v1182
  ![v1183.toNat]

def k0_chk42 (v1227 : IVec S16 32) : Prop :=
  (∀ a x, ((![v1227] : Fin 1 → IVec S16 32) a x).toNat < S19508.size a) ∧
  (∀ a x, ((![v1227] : Fin 1 → IVec S16 32) a x).toNat < S19508.size a) ∧
  (∀ a x, ((![v1227] : Fin 1 → IVec S16 32) a x).toNat < S19508.size a) ∧
  (∀ a x, ((![v1227] : Fin 1 → IVec S16 32) a x).toNat < S19508.size a)
theorem k0_idx142_inb : ∀ (v1227 : IVec S16 32) (k0_hw42 : k0_chk42 v1227), ∀ a x, ((![v1227] : Fin 1 → IVec S16 32) a x).toNat < S19508.size a := fun v1227 k0_hw42 => k0_hw42.1
theorem k0_idx150_inb : ∀ (v1227 : IVec S16 32) (k0_hw42 : k0_chk42 v1227), ∀ a x, ((![v1227] : Fin 1 → IVec S16 32) a x).toNat < S19508.size a := fun v1227 k0_hw42 => k0_hw42.2.1
theorem k0_idx158_inb : ∀ (v1227 : IVec S16 32) (k0_hw42 : k0_chk42 v1227), ∀ a x, ((![v1227] : Fin 1 → IVec S16 32) a x).toNat < S19508.size a := fun v1227 k0_hw42 => k0_hw42.2.2.1
theorem k0_idx166_inb : ∀ (v1227 : IVec S16 32) (k0_hw42 : k0_chk42 v1227), ∀ a x, ((![v1227] : Fin 1 → IVec S16 32) a x).toNat < S19508.size a := fun v1227 k0_hw42 => k0_hw42.2.2.2

def k0_chk43 (v1235 : IVec S16 32) : Prop :=
  (∀ a x, ((![v1235] : Fin 1 → IVec S16 32) a x).toNat < S19508.size a) ∧
  (∀ a x, ((![v1235] : Fin 1 → IVec S16 32) a x).toNat < S19508.size a) ∧
  (∀ a x, ((![v1235] : Fin 1 → IVec S16 32) a x).toNat < S19508.size a) ∧
  (∀ a x, ((![v1235] : Fin 1 → IVec S16 32) a x).toNat < S19508.size a)
theorem k0_idx143_inb : ∀ (v1235 : IVec S16 32) (k0_hw43 : k0_chk43 v1235), ∀ a x, ((![v1235] : Fin 1 → IVec S16 32) a x).toNat < S19508.size a := fun v1235 k0_hw43 => k0_hw43.1
theorem k0_idx151_inb : ∀ (v1235 : IVec S16 32) (k0_hw43 : k0_chk43 v1235), ∀ a x, ((![v1235] : Fin 1 → IVec S16 32) a x).toNat < S19508.size a := fun v1235 k0_hw43 => k0_hw43.2.1
theorem k0_idx159_inb : ∀ (v1235 : IVec S16 32) (k0_hw43 : k0_chk43 v1235), ∀ a x, ((![v1235] : Fin 1 → IVec S16 32) a x).toNat < S19508.size a := fun v1235 k0_hw43 => k0_hw43.2.2.1
theorem k0_idx167_inb : ∀ (v1235 : IVec S16 32) (k0_hw43 : k0_chk43 v1235), ∀ a x, ((![v1235] : Fin 1 → IVec S16 32) a x).toNat < S19508.size a := fun v1235 k0_hw43 => k0_hw43.2.2.2

def k0_chk44 (v1237 : IVec S16 32) : Prop :=
  (∀ a x, ((![v1237] : Fin 1 → IVec S16 32) a x).toNat < S19508.size a) ∧
  (∀ a x, ((![v1237] : Fin 1 → IVec S16 32) a x).toNat < S19508.size a) ∧
  (∀ a x, ((![v1237] : Fin 1 → IVec S16 32) a x).toNat < S19508.size a) ∧
  (∀ a x, ((![v1237] : Fin 1 → IVec S16 32) a x).toNat < S19508.size a)
theorem k0_idx144_inb : ∀ (v1237 : IVec S16 32) (k0_hw44 : k0_chk44 v1237), ∀ a x, ((![v1237] : Fin 1 → IVec S16 32) a x).toNat < S19508.size a := fun v1237 k0_hw44 => k0_hw44.1
theorem k0_idx152_inb : ∀ (v1237 : IVec S16 32) (k0_hw44 : k0_chk44 v1237), ∀ a x, ((![v1237] : Fin 1 → IVec S16 32) a x).toNat < S19508.size a := fun v1237 k0_hw44 => k0_hw44.2.1
theorem k0_idx160_inb : ∀ (v1237 : IVec S16 32) (k0_hw44 : k0_chk44 v1237), ∀ a x, ((![v1237] : Fin 1 → IVec S16 32) a x).toNat < S19508.size a := fun v1237 k0_hw44 => k0_hw44.2.2.1
theorem k0_idx168_inb : ∀ (v1237 : IVec S16 32) (k0_hw44 : k0_chk44 v1237), ∀ a x, ((![v1237] : Fin 1 → IVec S16 32) a x).toNat < S19508.size a := fun v1237 k0_hw44 => k0_hw44.2.2.2

def k0_chk45 (v1229 : IVec S16 32) : Prop :=
  (∀ a x, ((![v1229] : Fin 1 → IVec S16 32) a x).toNat < S19508.size a) ∧
  (∀ a x, ((![v1229] : Fin 1 → IVec S16 32) a x).toNat < S19508.size a) ∧
  (∀ a x, ((![v1229] : Fin 1 → IVec S16 32) a x).toNat < S19508.size a) ∧
  (∀ a x, ((![v1229] : Fin 1 → IVec S16 32) a x).toNat < S19508.size a)
theorem k0_idx145_inb : ∀ (v1229 : IVec S16 32) (k0_hw45 : k0_chk45 v1229), ∀ a x, ((![v1229] : Fin 1 → IVec S16 32) a x).toNat < S19508.size a := fun v1229 k0_hw45 => k0_hw45.1
theorem k0_idx153_inb : ∀ (v1229 : IVec S16 32) (k0_hw45 : k0_chk45 v1229), ∀ a x, ((![v1229] : Fin 1 → IVec S16 32) a x).toNat < S19508.size a := fun v1229 k0_hw45 => k0_hw45.2.1
theorem k0_idx161_inb : ∀ (v1229 : IVec S16 32) (k0_hw45 : k0_chk45 v1229), ∀ a x, ((![v1229] : Fin 1 → IVec S16 32) a x).toNat < S19508.size a := fun v1229 k0_hw45 => k0_hw45.2.2.1
theorem k0_idx169_inb : ∀ (v1229 : IVec S16 32) (k0_hw45 : k0_chk45 v1229), ∀ a x, ((![v1229] : Fin 1 → IVec S16 32) a x).toNat < S19508.size a := fun v1229 k0_hw45 => k0_hw45.2.2.2

def k0_chk46 (v1231 : IVec S16 32) : Prop :=
  (∀ a x, ((![v1231] : Fin 1 → IVec S16 32) a x).toNat < S19508.size a) ∧
  (∀ a x, ((![v1231] : Fin 1 → IVec S16 32) a x).toNat < S19508.size a) ∧
  (∀ a x, ((![v1231] : Fin 1 → IVec S16 32) a x).toNat < S19508.size a) ∧
  (∀ a x, ((![v1231] : Fin 1 → IVec S16 32) a x).toNat < S19508.size a)
theorem k0_idx146_inb : ∀ (v1231 : IVec S16 32) (k0_hw46 : k0_chk46 v1231), ∀ a x, ((![v1231] : Fin 1 → IVec S16 32) a x).toNat < S19508.size a := fun v1231 k0_hw46 => k0_hw46.1
theorem k0_idx154_inb : ∀ (v1231 : IVec S16 32) (k0_hw46 : k0_chk46 v1231), ∀ a x, ((![v1231] : Fin 1 → IVec S16 32) a x).toNat < S19508.size a := fun v1231 k0_hw46 => k0_hw46.2.1
theorem k0_idx162_inb : ∀ (v1231 : IVec S16 32) (k0_hw46 : k0_chk46 v1231), ∀ a x, ((![v1231] : Fin 1 → IVec S16 32) a x).toNat < S19508.size a := fun v1231 k0_hw46 => k0_hw46.2.2.1
theorem k0_idx170_inb : ∀ (v1231 : IVec S16 32) (k0_hw46 : k0_chk46 v1231), ∀ a x, ((![v1231] : Fin 1 → IVec S16 32) a x).toNat < S19508.size a := fun v1231 k0_hw46 => k0_hw46.2.2.2

def k0_chk47 (v1223 : IVec S16 32) : Prop :=
  (∀ a x, ((![v1223] : Fin 1 → IVec S16 32) a x).toNat < S19508.size a) ∧
  (∀ a x, ((![v1223] : Fin 1 → IVec S16 32) a x).toNat < S19508.size a) ∧
  (∀ a x, ((![v1223] : Fin 1 → IVec S16 32) a x).toNat < S19508.size a) ∧
  (∀ a x, ((![v1223] : Fin 1 → IVec S16 32) a x).toNat < S19508.size a)
theorem k0_idx147_inb : ∀ (v1223 : IVec S16 32) (k0_hw47 : k0_chk47 v1223), ∀ a x, ((![v1223] : Fin 1 → IVec S16 32) a x).toNat < S19508.size a := fun v1223 k0_hw47 => k0_hw47.1
theorem k0_idx155_inb : ∀ (v1223 : IVec S16 32) (k0_hw47 : k0_chk47 v1223), ∀ a x, ((![v1223] : Fin 1 → IVec S16 32) a x).toNat < S19508.size a := fun v1223 k0_hw47 => k0_hw47.2.1
theorem k0_idx163_inb : ∀ (v1223 : IVec S16 32) (k0_hw47 : k0_chk47 v1223), ∀ a x, ((![v1223] : Fin 1 → IVec S16 32) a x).toNat < S19508.size a := fun v1223 k0_hw47 => k0_hw47.2.2.1
theorem k0_idx171_inb : ∀ (v1223 : IVec S16 32) (k0_hw47 : k0_chk47 v1223), ∀ a x, ((![v1223] : Fin 1 → IVec S16 32) a x).toNat < S19508.size a := fun v1223 k0_hw47 => k0_hw47.2.2.2

def k0_chk41 (v1225 : IVec S16 32) : Prop :=
  (∀ a x, ((![v1225] : Fin 1 → IVec S16 32) a x).toNat < S19508.size a) ∧
  (∀ a x, ((![v1225] : Fin 1 → IVec S16 32) a x).toNat < S19508.size a) ∧
  (∀ a x, ((![v1225] : Fin 1 → IVec S16 32) a x).toNat < S19508.size a) ∧
  (∀ a x, ((![v1225] : Fin 1 → IVec S16 32) a x).toNat < S19508.size a) ∧
  (∀ a x, ((![v1225] : Fin 1 → IVec S16 32) a x).toNat < S19508.size a) ∧
  (∀ a x, ((![v1225] : Fin 1 → IVec S16 32) a x).toNat < S19508.size a) ∧
  (∀ a x, ((![v1225] : Fin 1 → IVec S16 32) a x).toNat < S19508.size a) ∧
  (∀ a x, ((![v1225] : Fin 1 → IVec S16 32) a x).toNat < S19508.size a)
theorem k0_idx141_inb : ∀ (v1225 : IVec S16 32) (k0_hw41 : k0_chk41 v1225), ∀ a x, ((![v1225] : Fin 1 → IVec S16 32) a x).toNat < S19508.size a := fun v1225 k0_hw41 => k0_hw41.1
theorem k0_idx148_inb : ∀ (v1225 : IVec S16 32) (k0_hw41 : k0_chk41 v1225), ∀ a x, ((![v1225] : Fin 1 → IVec S16 32) a x).toNat < S19508.size a := fun v1225 k0_hw41 => k0_hw41.2.1
theorem k0_idx149_inb : ∀ (v1225 : IVec S16 32) (k0_hw41 : k0_chk41 v1225), ∀ a x, ((![v1225] : Fin 1 → IVec S16 32) a x).toNat < S19508.size a := fun v1225 k0_hw41 => k0_hw41.2.2.1
theorem k0_idx156_inb : ∀ (v1225 : IVec S16 32) (k0_hw41 : k0_chk41 v1225), ∀ a x, ((![v1225] : Fin 1 → IVec S16 32) a x).toNat < S19508.size a := fun v1225 k0_hw41 => k0_hw41.2.2.2.1
theorem k0_idx157_inb : ∀ (v1225 : IVec S16 32) (k0_hw41 : k0_chk41 v1225), ∀ a x, ((![v1225] : Fin 1 → IVec S16 32) a x).toNat < S19508.size a := fun v1225 k0_hw41 => k0_hw41.2.2.2.2.1
theorem k0_idx164_inb : ∀ (v1225 : IVec S16 32) (k0_hw41 : k0_chk41 v1225), ∀ a x, ((![v1225] : Fin 1 → IVec S16 32) a x).toNat < S19508.size a := fun v1225 k0_hw41 => k0_hw41.2.2.2.2.2.1
theorem k0_idx165_inb : ∀ (v1225 : IVec S16 32) (k0_hw41 : k0_chk41 v1225), ∀ a x, ((![v1225] : Fin 1 → IVec S16 32) a x).toNat < S19508.size a := fun v1225 k0_hw41 => k0_hw41.2.2.2.2.2.2.1
theorem k0_idx172_inb : ∀ (v1225 : IVec S16 32) (k0_hw41 : k0_chk41 v1225), ∀ a x, ((![v1225] : Fin 1 → IVec S16 32) a x).toNat < S19508.size a := fun v1225 k0_hw41 => k0_hw41.2.2.2.2.2.2.2

def k0_chk48 (v1450 : IVec S16 32) : Prop :=
  (∀ a x, ((![v1450] : Fin 1 → IVec S16 32) a x).toNat < S20488.size a)
theorem k0_idx173_inb : ∀ (v1450 : IVec S16 32) (k0_hw48 : k0_chk48 v1450), ∀ a x, ((![v1450] : Fin 1 → IVec S16 32) a x).toNat < S20488.size a := fun v1450 k0_hw48 => k0_hw48

def k0_chk49 (v1453 : IVec S16 32) : Prop :=
  (∀ a x, ((![v1453] : Fin 1 → IVec S16 32) a x).toNat < S20488.size a)
theorem k0_idx174_inb : ∀ (v1453 : IVec S16 32) (k0_hw49 : k0_chk49 v1453), ∀ a x, ((![v1453] : Fin 1 → IVec S16 32) a x).toNat < S20488.size a := fun v1453 k0_hw49 => k0_hw49

def k0_chk50 (v1456 : IVec S16 32) : Prop :=
  (∀ a x, ((![v1456] : Fin 1 → IVec S16 32) a x).toNat < S20488.size a)
theorem k0_idx175_inb : ∀ (v1456 : IVec S16 32) (k0_hw50 : k0_chk50 v1456), ∀ a x, ((![v1456] : Fin 1 → IVec S16 32) a x).toNat < S20488.size a := fun v1456 k0_hw50 => k0_hw50
def k0_off20 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let c64_i32_391 : BitVec 32 := 64#32
  let v1458 : BitVec 32 := Scalar.addi v13 c64_i32_391
  let v1459 : Index := Scalar.indexCast v1458
  ![v1459.toNat]
def k0_off21 (k0_t2 : Fin k0_t2_loop.trips) (c128_i32_392 : BitVec 32) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let v1461 : BitVec 32 := Scalar.addi v13 c128_i32_392
  let c64_i32_393 : BitVec 32 := 64#32
  let v1462 : BitVec 32 := Scalar.addi v1461 c64_i32_393
  let v1463 : Index := Scalar.indexCast v1462
  ![v1463.toNat]
def k0_off22 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c80_i32 : BitVec 32 := 80#32
  let v1469 : BitVec 32 := Scalar.addi v12 c80_i32
  let v1470 : Index := Scalar.indexCast v1469
  ![v1470.toNat]
def k0_off23 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c128_i32_396 : BitVec 32 := 128#32
  let v1472 : BitVec 32 := Scalar.addi v12 c128_i32_396
  let c80_i32_397 : BitVec 32 := 80#32
  let v1473 : BitVec 32 := Scalar.addi v1472 c80_i32_397
  let v1474 : Index := Scalar.indexCast v1473
  ![v1474.toNat]

def k0_chk52 (v1518 : IVec S16 32) : Prop :=
  (∀ a x, ((![v1518] : Fin 1 → IVec S16 32) a x).toNat < S19508.size a) ∧
  (∀ a x, ((![v1518] : Fin 1 → IVec S16 32) a x).toNat < S19508.size a) ∧
  (∀ a x, ((![v1518] : Fin 1 → IVec S16 32) a x).toNat < S19508.size a) ∧
  (∀ a x, ((![v1518] : Fin 1 → IVec S16 32) a x).toNat < S19508.size a)
theorem k0_idx177_inb : ∀ (v1518 : IVec S16 32) (k0_hw52 : k0_chk52 v1518), ∀ a x, ((![v1518] : Fin 1 → IVec S16 32) a x).toNat < S19508.size a := fun v1518 k0_hw52 => k0_hw52.1
theorem k0_idx185_inb : ∀ (v1518 : IVec S16 32) (k0_hw52 : k0_chk52 v1518), ∀ a x, ((![v1518] : Fin 1 → IVec S16 32) a x).toNat < S19508.size a := fun v1518 k0_hw52 => k0_hw52.2.1
theorem k0_idx193_inb : ∀ (v1518 : IVec S16 32) (k0_hw52 : k0_chk52 v1518), ∀ a x, ((![v1518] : Fin 1 → IVec S16 32) a x).toNat < S19508.size a := fun v1518 k0_hw52 => k0_hw52.2.2.1
theorem k0_idx201_inb : ∀ (v1518 : IVec S16 32) (k0_hw52 : k0_chk52 v1518), ∀ a x, ((![v1518] : Fin 1 → IVec S16 32) a x).toNat < S19508.size a := fun v1518 k0_hw52 => k0_hw52.2.2.2

def k0_chk53 (v1526 : IVec S16 32) : Prop :=
  (∀ a x, ((![v1526] : Fin 1 → IVec S16 32) a x).toNat < S19508.size a) ∧
  (∀ a x, ((![v1526] : Fin 1 → IVec S16 32) a x).toNat < S19508.size a) ∧
  (∀ a x, ((![v1526] : Fin 1 → IVec S16 32) a x).toNat < S19508.size a) ∧
  (∀ a x, ((![v1526] : Fin 1 → IVec S16 32) a x).toNat < S19508.size a)
theorem k0_idx178_inb : ∀ (v1526 : IVec S16 32) (k0_hw53 : k0_chk53 v1526), ∀ a x, ((![v1526] : Fin 1 → IVec S16 32) a x).toNat < S19508.size a := fun v1526 k0_hw53 => k0_hw53.1
theorem k0_idx186_inb : ∀ (v1526 : IVec S16 32) (k0_hw53 : k0_chk53 v1526), ∀ a x, ((![v1526] : Fin 1 → IVec S16 32) a x).toNat < S19508.size a := fun v1526 k0_hw53 => k0_hw53.2.1
theorem k0_idx194_inb : ∀ (v1526 : IVec S16 32) (k0_hw53 : k0_chk53 v1526), ∀ a x, ((![v1526] : Fin 1 → IVec S16 32) a x).toNat < S19508.size a := fun v1526 k0_hw53 => k0_hw53.2.2.1
theorem k0_idx202_inb : ∀ (v1526 : IVec S16 32) (k0_hw53 : k0_chk53 v1526), ∀ a x, ((![v1526] : Fin 1 → IVec S16 32) a x).toNat < S19508.size a := fun v1526 k0_hw53 => k0_hw53.2.2.2

def k0_chk54 (v1528 : IVec S16 32) : Prop :=
  (∀ a x, ((![v1528] : Fin 1 → IVec S16 32) a x).toNat < S19508.size a) ∧
  (∀ a x, ((![v1528] : Fin 1 → IVec S16 32) a x).toNat < S19508.size a) ∧
  (∀ a x, ((![v1528] : Fin 1 → IVec S16 32) a x).toNat < S19508.size a) ∧
  (∀ a x, ((![v1528] : Fin 1 → IVec S16 32) a x).toNat < S19508.size a)
theorem k0_idx179_inb : ∀ (v1528 : IVec S16 32) (k0_hw54 : k0_chk54 v1528), ∀ a x, ((![v1528] : Fin 1 → IVec S16 32) a x).toNat < S19508.size a := fun v1528 k0_hw54 => k0_hw54.1
theorem k0_idx187_inb : ∀ (v1528 : IVec S16 32) (k0_hw54 : k0_chk54 v1528), ∀ a x, ((![v1528] : Fin 1 → IVec S16 32) a x).toNat < S19508.size a := fun v1528 k0_hw54 => k0_hw54.2.1
theorem k0_idx195_inb : ∀ (v1528 : IVec S16 32) (k0_hw54 : k0_chk54 v1528), ∀ a x, ((![v1528] : Fin 1 → IVec S16 32) a x).toNat < S19508.size a := fun v1528 k0_hw54 => k0_hw54.2.2.1
theorem k0_idx203_inb : ∀ (v1528 : IVec S16 32) (k0_hw54 : k0_chk54 v1528), ∀ a x, ((![v1528] : Fin 1 → IVec S16 32) a x).toNat < S19508.size a := fun v1528 k0_hw54 => k0_hw54.2.2.2

def k0_chk55 (v1520 : IVec S16 32) : Prop :=
  (∀ a x, ((![v1520] : Fin 1 → IVec S16 32) a x).toNat < S19508.size a) ∧
  (∀ a x, ((![v1520] : Fin 1 → IVec S16 32) a x).toNat < S19508.size a) ∧
  (∀ a x, ((![v1520] : Fin 1 → IVec S16 32) a x).toNat < S19508.size a) ∧
  (∀ a x, ((![v1520] : Fin 1 → IVec S16 32) a x).toNat < S19508.size a)
theorem k0_idx180_inb : ∀ (v1520 : IVec S16 32) (k0_hw55 : k0_chk55 v1520), ∀ a x, ((![v1520] : Fin 1 → IVec S16 32) a x).toNat < S19508.size a := fun v1520 k0_hw55 => k0_hw55.1
theorem k0_idx188_inb : ∀ (v1520 : IVec S16 32) (k0_hw55 : k0_chk55 v1520), ∀ a x, ((![v1520] : Fin 1 → IVec S16 32) a x).toNat < S19508.size a := fun v1520 k0_hw55 => k0_hw55.2.1
theorem k0_idx196_inb : ∀ (v1520 : IVec S16 32) (k0_hw55 : k0_chk55 v1520), ∀ a x, ((![v1520] : Fin 1 → IVec S16 32) a x).toNat < S19508.size a := fun v1520 k0_hw55 => k0_hw55.2.2.1
theorem k0_idx204_inb : ∀ (v1520 : IVec S16 32) (k0_hw55 : k0_chk55 v1520), ∀ a x, ((![v1520] : Fin 1 → IVec S16 32) a x).toNat < S19508.size a := fun v1520 k0_hw55 => k0_hw55.2.2.2

def k0_chk56 (v1522 : IVec S16 32) : Prop :=
  (∀ a x, ((![v1522] : Fin 1 → IVec S16 32) a x).toNat < S19508.size a) ∧
  (∀ a x, ((![v1522] : Fin 1 → IVec S16 32) a x).toNat < S19508.size a) ∧
  (∀ a x, ((![v1522] : Fin 1 → IVec S16 32) a x).toNat < S19508.size a) ∧
  (∀ a x, ((![v1522] : Fin 1 → IVec S16 32) a x).toNat < S19508.size a)
theorem k0_idx181_inb : ∀ (v1522 : IVec S16 32) (k0_hw56 : k0_chk56 v1522), ∀ a x, ((![v1522] : Fin 1 → IVec S16 32) a x).toNat < S19508.size a := fun v1522 k0_hw56 => k0_hw56.1
theorem k0_idx189_inb : ∀ (v1522 : IVec S16 32) (k0_hw56 : k0_chk56 v1522), ∀ a x, ((![v1522] : Fin 1 → IVec S16 32) a x).toNat < S19508.size a := fun v1522 k0_hw56 => k0_hw56.2.1
theorem k0_idx197_inb : ∀ (v1522 : IVec S16 32) (k0_hw56 : k0_chk56 v1522), ∀ a x, ((![v1522] : Fin 1 → IVec S16 32) a x).toNat < S19508.size a := fun v1522 k0_hw56 => k0_hw56.2.2.1
theorem k0_idx205_inb : ∀ (v1522 : IVec S16 32) (k0_hw56 : k0_chk56 v1522), ∀ a x, ((![v1522] : Fin 1 → IVec S16 32) a x).toNat < S19508.size a := fun v1522 k0_hw56 => k0_hw56.2.2.2

def k0_chk57 (v1514 : IVec S16 32) : Prop :=
  (∀ a x, ((![v1514] : Fin 1 → IVec S16 32) a x).toNat < S19508.size a) ∧
  (∀ a x, ((![v1514] : Fin 1 → IVec S16 32) a x).toNat < S19508.size a) ∧
  (∀ a x, ((![v1514] : Fin 1 → IVec S16 32) a x).toNat < S19508.size a) ∧
  (∀ a x, ((![v1514] : Fin 1 → IVec S16 32) a x).toNat < S19508.size a)
theorem k0_idx182_inb : ∀ (v1514 : IVec S16 32) (k0_hw57 : k0_chk57 v1514), ∀ a x, ((![v1514] : Fin 1 → IVec S16 32) a x).toNat < S19508.size a := fun v1514 k0_hw57 => k0_hw57.1
theorem k0_idx190_inb : ∀ (v1514 : IVec S16 32) (k0_hw57 : k0_chk57 v1514), ∀ a x, ((![v1514] : Fin 1 → IVec S16 32) a x).toNat < S19508.size a := fun v1514 k0_hw57 => k0_hw57.2.1
theorem k0_idx198_inb : ∀ (v1514 : IVec S16 32) (k0_hw57 : k0_chk57 v1514), ∀ a x, ((![v1514] : Fin 1 → IVec S16 32) a x).toNat < S19508.size a := fun v1514 k0_hw57 => k0_hw57.2.2.1
theorem k0_idx206_inb : ∀ (v1514 : IVec S16 32) (k0_hw57 : k0_chk57 v1514), ∀ a x, ((![v1514] : Fin 1 → IVec S16 32) a x).toNat < S19508.size a := fun v1514 k0_hw57 => k0_hw57.2.2.2

def k0_chk51 (v1516 : IVec S16 32) : Prop :=
  (∀ a x, ((![v1516] : Fin 1 → IVec S16 32) a x).toNat < S19508.size a) ∧
  (∀ a x, ((![v1516] : Fin 1 → IVec S16 32) a x).toNat < S19508.size a) ∧
  (∀ a x, ((![v1516] : Fin 1 → IVec S16 32) a x).toNat < S19508.size a) ∧
  (∀ a x, ((![v1516] : Fin 1 → IVec S16 32) a x).toNat < S19508.size a) ∧
  (∀ a x, ((![v1516] : Fin 1 → IVec S16 32) a x).toNat < S19508.size a) ∧
  (∀ a x, ((![v1516] : Fin 1 → IVec S16 32) a x).toNat < S19508.size a) ∧
  (∀ a x, ((![v1516] : Fin 1 → IVec S16 32) a x).toNat < S19508.size a) ∧
  (∀ a x, ((![v1516] : Fin 1 → IVec S16 32) a x).toNat < S19508.size a)
theorem k0_idx176_inb : ∀ (v1516 : IVec S16 32) (k0_hw51 : k0_chk51 v1516), ∀ a x, ((![v1516] : Fin 1 → IVec S16 32) a x).toNat < S19508.size a := fun v1516 k0_hw51 => k0_hw51.1
theorem k0_idx183_inb : ∀ (v1516 : IVec S16 32) (k0_hw51 : k0_chk51 v1516), ∀ a x, ((![v1516] : Fin 1 → IVec S16 32) a x).toNat < S19508.size a := fun v1516 k0_hw51 => k0_hw51.2.1
theorem k0_idx184_inb : ∀ (v1516 : IVec S16 32) (k0_hw51 : k0_chk51 v1516), ∀ a x, ((![v1516] : Fin 1 → IVec S16 32) a x).toNat < S19508.size a := fun v1516 k0_hw51 => k0_hw51.2.2.1
theorem k0_idx191_inb : ∀ (v1516 : IVec S16 32) (k0_hw51 : k0_chk51 v1516), ∀ a x, ((![v1516] : Fin 1 → IVec S16 32) a x).toNat < S19508.size a := fun v1516 k0_hw51 => k0_hw51.2.2.2.1
theorem k0_idx192_inb : ∀ (v1516 : IVec S16 32) (k0_hw51 : k0_chk51 v1516), ∀ a x, ((![v1516] : Fin 1 → IVec S16 32) a x).toNat < S19508.size a := fun v1516 k0_hw51 => k0_hw51.2.2.2.2.1
theorem k0_idx199_inb : ∀ (v1516 : IVec S16 32) (k0_hw51 : k0_chk51 v1516), ∀ a x, ((![v1516] : Fin 1 → IVec S16 32) a x).toNat < S19508.size a := fun v1516 k0_hw51 => k0_hw51.2.2.2.2.2.1
theorem k0_idx200_inb : ∀ (v1516 : IVec S16 32) (k0_hw51 : k0_chk51 v1516), ∀ a x, ((![v1516] : Fin 1 → IVec S16 32) a x).toNat < S19508.size a := fun v1516 k0_hw51 => k0_hw51.2.2.2.2.2.2.1
theorem k0_idx207_inb : ∀ (v1516 : IVec S16 32) (k0_hw51 : k0_chk51 v1516), ∀ a x, ((![v1516] : Fin 1 → IVec S16 32) a x).toNat < S19508.size a := fun v1516 k0_hw51 => k0_hw51.2.2.2.2.2.2.2

def k0_chk58 (v1741 : IVec S16 32) : Prop :=
  (∀ a x, ((![v1741] : Fin 1 → IVec S16 32) a x).toNat < S20488.size a)
theorem k0_idx208_inb : ∀ (v1741 : IVec S16 32) (k0_hw58 : k0_chk58 v1741), ∀ a x, ((![v1741] : Fin 1 → IVec S16 32) a x).toNat < S20488.size a := fun v1741 k0_hw58 => k0_hw58

def k0_chk59 (v1744 : IVec S16 32) : Prop :=
  (∀ a x, ((![v1744] : Fin 1 → IVec S16 32) a x).toNat < S20488.size a)
theorem k0_idx209_inb : ∀ (v1744 : IVec S16 32) (k0_hw59 : k0_chk59 v1744), ∀ a x, ((![v1744] : Fin 1 → IVec S16 32) a x).toNat < S20488.size a := fun v1744 k0_hw59 => k0_hw59

def k0_chk60 (v1747 : IVec S16 32) : Prop :=
  (∀ a x, ((![v1747] : Fin 1 → IVec S16 32) a x).toNat < S20488.size a)
theorem k0_idx210_inb : ∀ (v1747 : IVec S16 32) (k0_hw60 : k0_chk60 v1747), ∀ a x, ((![v1747] : Fin 1 → IVec S16 32) a x).toNat < S20488.size a := fun v1747 k0_hw60 => k0_hw60
def k0_off24 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let c80_i32_474 : BitVec 32 := 80#32
  let v1749 : BitVec 32 := Scalar.addi v13 c80_i32_474
  let v1750 : Index := Scalar.indexCast v1749
  ![v1750.toNat]
def k0_off25 (k0_t2 : Fin k0_t2_loop.trips) (c128_i32_475 : BitVec 32) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let v1752 : BitVec 32 := Scalar.addi v13 c128_i32_475
  let c80_i32_476 : BitVec 32 := 80#32
  let v1753 : BitVec 32 := Scalar.addi v1752 c80_i32_476
  let v1754 : Index := Scalar.indexCast v1753
  ![v1754.toNat]
def k0_off26 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c96_i32 : BitVec 32 := 96#32
  let v1760 : BitVec 32 := Scalar.addi v12 c96_i32
  let v1761 : Index := Scalar.indexCast v1760
  ![v1761.toNat]
def k0_off27 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c128_i32_479 : BitVec 32 := 128#32
  let v1763 : BitVec 32 := Scalar.addi v12 c128_i32_479
  let c96_i32_480 : BitVec 32 := 96#32
  let v1764 : BitVec 32 := Scalar.addi v1763 c96_i32_480
  let v1765 : Index := Scalar.indexCast v1764
  ![v1765.toNat]

def k0_chk62 (v1809 : IVec S16 32) : Prop :=
  (∀ a x, ((![v1809] : Fin 1 → IVec S16 32) a x).toNat < S19508.size a) ∧
  (∀ a x, ((![v1809] : Fin 1 → IVec S16 32) a x).toNat < S19508.size a) ∧
  (∀ a x, ((![v1809] : Fin 1 → IVec S16 32) a x).toNat < S19508.size a) ∧
  (∀ a x, ((![v1809] : Fin 1 → IVec S16 32) a x).toNat < S19508.size a)
theorem k0_idx212_inb : ∀ (v1809 : IVec S16 32) (k0_hw62 : k0_chk62 v1809), ∀ a x, ((![v1809] : Fin 1 → IVec S16 32) a x).toNat < S19508.size a := fun v1809 k0_hw62 => k0_hw62.1
theorem k0_idx220_inb : ∀ (v1809 : IVec S16 32) (k0_hw62 : k0_chk62 v1809), ∀ a x, ((![v1809] : Fin 1 → IVec S16 32) a x).toNat < S19508.size a := fun v1809 k0_hw62 => k0_hw62.2.1
theorem k0_idx228_inb : ∀ (v1809 : IVec S16 32) (k0_hw62 : k0_chk62 v1809), ∀ a x, ((![v1809] : Fin 1 → IVec S16 32) a x).toNat < S19508.size a := fun v1809 k0_hw62 => k0_hw62.2.2.1
theorem k0_idx236_inb : ∀ (v1809 : IVec S16 32) (k0_hw62 : k0_chk62 v1809), ∀ a x, ((![v1809] : Fin 1 → IVec S16 32) a x).toNat < S19508.size a := fun v1809 k0_hw62 => k0_hw62.2.2.2

def k0_chk63 (v1817 : IVec S16 32) : Prop :=
  (∀ a x, ((![v1817] : Fin 1 → IVec S16 32) a x).toNat < S19508.size a) ∧
  (∀ a x, ((![v1817] : Fin 1 → IVec S16 32) a x).toNat < S19508.size a) ∧
  (∀ a x, ((![v1817] : Fin 1 → IVec S16 32) a x).toNat < S19508.size a) ∧
  (∀ a x, ((![v1817] : Fin 1 → IVec S16 32) a x).toNat < S19508.size a)
theorem k0_idx213_inb : ∀ (v1817 : IVec S16 32) (k0_hw63 : k0_chk63 v1817), ∀ a x, ((![v1817] : Fin 1 → IVec S16 32) a x).toNat < S19508.size a := fun v1817 k0_hw63 => k0_hw63.1
theorem k0_idx221_inb : ∀ (v1817 : IVec S16 32) (k0_hw63 : k0_chk63 v1817), ∀ a x, ((![v1817] : Fin 1 → IVec S16 32) a x).toNat < S19508.size a := fun v1817 k0_hw63 => k0_hw63.2.1
theorem k0_idx229_inb : ∀ (v1817 : IVec S16 32) (k0_hw63 : k0_chk63 v1817), ∀ a x, ((![v1817] : Fin 1 → IVec S16 32) a x).toNat < S19508.size a := fun v1817 k0_hw63 => k0_hw63.2.2.1
theorem k0_idx237_inb : ∀ (v1817 : IVec S16 32) (k0_hw63 : k0_chk63 v1817), ∀ a x, ((![v1817] : Fin 1 → IVec S16 32) a x).toNat < S19508.size a := fun v1817 k0_hw63 => k0_hw63.2.2.2

def k0_chk64 (v1819 : IVec S16 32) : Prop :=
  (∀ a x, ((![v1819] : Fin 1 → IVec S16 32) a x).toNat < S19508.size a) ∧
  (∀ a x, ((![v1819] : Fin 1 → IVec S16 32) a x).toNat < S19508.size a) ∧
  (∀ a x, ((![v1819] : Fin 1 → IVec S16 32) a x).toNat < S19508.size a) ∧
  (∀ a x, ((![v1819] : Fin 1 → IVec S16 32) a x).toNat < S19508.size a)
theorem k0_idx214_inb : ∀ (v1819 : IVec S16 32) (k0_hw64 : k0_chk64 v1819), ∀ a x, ((![v1819] : Fin 1 → IVec S16 32) a x).toNat < S19508.size a := fun v1819 k0_hw64 => k0_hw64.1
theorem k0_idx222_inb : ∀ (v1819 : IVec S16 32) (k0_hw64 : k0_chk64 v1819), ∀ a x, ((![v1819] : Fin 1 → IVec S16 32) a x).toNat < S19508.size a := fun v1819 k0_hw64 => k0_hw64.2.1
theorem k0_idx230_inb : ∀ (v1819 : IVec S16 32) (k0_hw64 : k0_chk64 v1819), ∀ a x, ((![v1819] : Fin 1 → IVec S16 32) a x).toNat < S19508.size a := fun v1819 k0_hw64 => k0_hw64.2.2.1
theorem k0_idx238_inb : ∀ (v1819 : IVec S16 32) (k0_hw64 : k0_chk64 v1819), ∀ a x, ((![v1819] : Fin 1 → IVec S16 32) a x).toNat < S19508.size a := fun v1819 k0_hw64 => k0_hw64.2.2.2

def k0_chk65 (v1811 : IVec S16 32) : Prop :=
  (∀ a x, ((![v1811] : Fin 1 → IVec S16 32) a x).toNat < S19508.size a) ∧
  (∀ a x, ((![v1811] : Fin 1 → IVec S16 32) a x).toNat < S19508.size a) ∧
  (∀ a x, ((![v1811] : Fin 1 → IVec S16 32) a x).toNat < S19508.size a) ∧
  (∀ a x, ((![v1811] : Fin 1 → IVec S16 32) a x).toNat < S19508.size a)
theorem k0_idx215_inb : ∀ (v1811 : IVec S16 32) (k0_hw65 : k0_chk65 v1811), ∀ a x, ((![v1811] : Fin 1 → IVec S16 32) a x).toNat < S19508.size a := fun v1811 k0_hw65 => k0_hw65.1
theorem k0_idx223_inb : ∀ (v1811 : IVec S16 32) (k0_hw65 : k0_chk65 v1811), ∀ a x, ((![v1811] : Fin 1 → IVec S16 32) a x).toNat < S19508.size a := fun v1811 k0_hw65 => k0_hw65.2.1
theorem k0_idx231_inb : ∀ (v1811 : IVec S16 32) (k0_hw65 : k0_chk65 v1811), ∀ a x, ((![v1811] : Fin 1 → IVec S16 32) a x).toNat < S19508.size a := fun v1811 k0_hw65 => k0_hw65.2.2.1
theorem k0_idx239_inb : ∀ (v1811 : IVec S16 32) (k0_hw65 : k0_chk65 v1811), ∀ a x, ((![v1811] : Fin 1 → IVec S16 32) a x).toNat < S19508.size a := fun v1811 k0_hw65 => k0_hw65.2.2.2

def k0_chk66 (v1813 : IVec S16 32) : Prop :=
  (∀ a x, ((![v1813] : Fin 1 → IVec S16 32) a x).toNat < S19508.size a) ∧
  (∀ a x, ((![v1813] : Fin 1 → IVec S16 32) a x).toNat < S19508.size a) ∧
  (∀ a x, ((![v1813] : Fin 1 → IVec S16 32) a x).toNat < S19508.size a) ∧
  (∀ a x, ((![v1813] : Fin 1 → IVec S16 32) a x).toNat < S19508.size a)
theorem k0_idx216_inb : ∀ (v1813 : IVec S16 32) (k0_hw66 : k0_chk66 v1813), ∀ a x, ((![v1813] : Fin 1 → IVec S16 32) a x).toNat < S19508.size a := fun v1813 k0_hw66 => k0_hw66.1
theorem k0_idx224_inb : ∀ (v1813 : IVec S16 32) (k0_hw66 : k0_chk66 v1813), ∀ a x, ((![v1813] : Fin 1 → IVec S16 32) a x).toNat < S19508.size a := fun v1813 k0_hw66 => k0_hw66.2.1
theorem k0_idx232_inb : ∀ (v1813 : IVec S16 32) (k0_hw66 : k0_chk66 v1813), ∀ a x, ((![v1813] : Fin 1 → IVec S16 32) a x).toNat < S19508.size a := fun v1813 k0_hw66 => k0_hw66.2.2.1
theorem k0_idx240_inb : ∀ (v1813 : IVec S16 32) (k0_hw66 : k0_chk66 v1813), ∀ a x, ((![v1813] : Fin 1 → IVec S16 32) a x).toNat < S19508.size a := fun v1813 k0_hw66 => k0_hw66.2.2.2

def k0_chk67 (v1805 : IVec S16 32) : Prop :=
  (∀ a x, ((![v1805] : Fin 1 → IVec S16 32) a x).toNat < S19508.size a) ∧
  (∀ a x, ((![v1805] : Fin 1 → IVec S16 32) a x).toNat < S19508.size a) ∧
  (∀ a x, ((![v1805] : Fin 1 → IVec S16 32) a x).toNat < S19508.size a) ∧
  (∀ a x, ((![v1805] : Fin 1 → IVec S16 32) a x).toNat < S19508.size a)
theorem k0_idx217_inb : ∀ (v1805 : IVec S16 32) (k0_hw67 : k0_chk67 v1805), ∀ a x, ((![v1805] : Fin 1 → IVec S16 32) a x).toNat < S19508.size a := fun v1805 k0_hw67 => k0_hw67.1
theorem k0_idx225_inb : ∀ (v1805 : IVec S16 32) (k0_hw67 : k0_chk67 v1805), ∀ a x, ((![v1805] : Fin 1 → IVec S16 32) a x).toNat < S19508.size a := fun v1805 k0_hw67 => k0_hw67.2.1
theorem k0_idx233_inb : ∀ (v1805 : IVec S16 32) (k0_hw67 : k0_chk67 v1805), ∀ a x, ((![v1805] : Fin 1 → IVec S16 32) a x).toNat < S19508.size a := fun v1805 k0_hw67 => k0_hw67.2.2.1
theorem k0_idx241_inb : ∀ (v1805 : IVec S16 32) (k0_hw67 : k0_chk67 v1805), ∀ a x, ((![v1805] : Fin 1 → IVec S16 32) a x).toNat < S19508.size a := fun v1805 k0_hw67 => k0_hw67.2.2.2

def k0_chk61 (v1807 : IVec S16 32) : Prop :=
  (∀ a x, ((![v1807] : Fin 1 → IVec S16 32) a x).toNat < S19508.size a) ∧
  (∀ a x, ((![v1807] : Fin 1 → IVec S16 32) a x).toNat < S19508.size a) ∧
  (∀ a x, ((![v1807] : Fin 1 → IVec S16 32) a x).toNat < S19508.size a) ∧
  (∀ a x, ((![v1807] : Fin 1 → IVec S16 32) a x).toNat < S19508.size a) ∧
  (∀ a x, ((![v1807] : Fin 1 → IVec S16 32) a x).toNat < S19508.size a) ∧
  (∀ a x, ((![v1807] : Fin 1 → IVec S16 32) a x).toNat < S19508.size a) ∧
  (∀ a x, ((![v1807] : Fin 1 → IVec S16 32) a x).toNat < S19508.size a) ∧
  (∀ a x, ((![v1807] : Fin 1 → IVec S16 32) a x).toNat < S19508.size a)
theorem k0_idx211_inb : ∀ (v1807 : IVec S16 32) (k0_hw61 : k0_chk61 v1807), ∀ a x, ((![v1807] : Fin 1 → IVec S16 32) a x).toNat < S19508.size a := fun v1807 k0_hw61 => k0_hw61.1
theorem k0_idx218_inb : ∀ (v1807 : IVec S16 32) (k0_hw61 : k0_chk61 v1807), ∀ a x, ((![v1807] : Fin 1 → IVec S16 32) a x).toNat < S19508.size a := fun v1807 k0_hw61 => k0_hw61.2.1
theorem k0_idx219_inb : ∀ (v1807 : IVec S16 32) (k0_hw61 : k0_chk61 v1807), ∀ a x, ((![v1807] : Fin 1 → IVec S16 32) a x).toNat < S19508.size a := fun v1807 k0_hw61 => k0_hw61.2.2.1
theorem k0_idx226_inb : ∀ (v1807 : IVec S16 32) (k0_hw61 : k0_chk61 v1807), ∀ a x, ((![v1807] : Fin 1 → IVec S16 32) a x).toNat < S19508.size a := fun v1807 k0_hw61 => k0_hw61.2.2.2.1
theorem k0_idx227_inb : ∀ (v1807 : IVec S16 32) (k0_hw61 : k0_chk61 v1807), ∀ a x, ((![v1807] : Fin 1 → IVec S16 32) a x).toNat < S19508.size a := fun v1807 k0_hw61 => k0_hw61.2.2.2.2.1
theorem k0_idx234_inb : ∀ (v1807 : IVec S16 32) (k0_hw61 : k0_chk61 v1807), ∀ a x, ((![v1807] : Fin 1 → IVec S16 32) a x).toNat < S19508.size a := fun v1807 k0_hw61 => k0_hw61.2.2.2.2.2.1
theorem k0_idx235_inb : ∀ (v1807 : IVec S16 32) (k0_hw61 : k0_chk61 v1807), ∀ a x, ((![v1807] : Fin 1 → IVec S16 32) a x).toNat < S19508.size a := fun v1807 k0_hw61 => k0_hw61.2.2.2.2.2.2.1
theorem k0_idx242_inb : ∀ (v1807 : IVec S16 32) (k0_hw61 : k0_chk61 v1807), ∀ a x, ((![v1807] : Fin 1 → IVec S16 32) a x).toNat < S19508.size a := fun v1807 k0_hw61 => k0_hw61.2.2.2.2.2.2.2

def k0_chk68 (v2032 : IVec S16 32) : Prop :=
  (∀ a x, ((![v2032] : Fin 1 → IVec S16 32) a x).toNat < S20488.size a)
theorem k0_idx243_inb : ∀ (v2032 : IVec S16 32) (k0_hw68 : k0_chk68 v2032), ∀ a x, ((![v2032] : Fin 1 → IVec S16 32) a x).toNat < S20488.size a := fun v2032 k0_hw68 => k0_hw68

def k0_chk69 (v2035 : IVec S16 32) : Prop :=
  (∀ a x, ((![v2035] : Fin 1 → IVec S16 32) a x).toNat < S20488.size a)
theorem k0_idx244_inb : ∀ (v2035 : IVec S16 32) (k0_hw69 : k0_chk69 v2035), ∀ a x, ((![v2035] : Fin 1 → IVec S16 32) a x).toNat < S20488.size a := fun v2035 k0_hw69 => k0_hw69

def k0_chk70 (v2038 : IVec S16 32) : Prop :=
  (∀ a x, ((![v2038] : Fin 1 → IVec S16 32) a x).toNat < S20488.size a)
theorem k0_idx245_inb : ∀ (v2038 : IVec S16 32) (k0_hw70 : k0_chk70 v2038), ∀ a x, ((![v2038] : Fin 1 → IVec S16 32) a x).toNat < S20488.size a := fun v2038 k0_hw70 => k0_hw70
def k0_off28 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let c96_i32_557 : BitVec 32 := 96#32
  let v2040 : BitVec 32 := Scalar.addi v13 c96_i32_557
  let v2041 : Index := Scalar.indexCast v2040
  ![v2041.toNat]
def k0_off29 (k0_t2 : Fin k0_t2_loop.trips) (c128_i32_558 : BitVec 32) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let v2043 : BitVec 32 := Scalar.addi v13 c128_i32_558
  let c96_i32_559 : BitVec 32 := 96#32
  let v2044 : BitVec 32 := Scalar.addi v2043 c96_i32_559
  let v2045 : Index := Scalar.indexCast v2044
  ![v2045.toNat]
def k0_off30 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c112_i32 : BitVec 32 := 112#32
  let v2051 : BitVec 32 := Scalar.addi v12 c112_i32
  let v2052 : Index := Scalar.indexCast v2051
  ![v2052.toNat]
def k0_off31 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c256_i32 : BitVec 32 := 256#32
  let v12 : BitVec 32 := Scalar.muli arg10 c256_i32
  let c128_i32_562 : BitVec 32 := 128#32
  let v2054 : BitVec 32 := Scalar.addi v12 c128_i32_562
  let c112_i32_563 : BitVec 32 := 112#32
  let v2055 : BitVec 32 := Scalar.addi v2054 c112_i32_563
  let v2056 : Index := Scalar.indexCast v2055
  ![v2056.toNat]

def k0_chk72 (v2100 : IVec S16 32) : Prop :=
  (∀ a x, ((![v2100] : Fin 1 → IVec S16 32) a x).toNat < S19508.size a) ∧
  (∀ a x, ((![v2100] : Fin 1 → IVec S16 32) a x).toNat < S19508.size a) ∧
  (∀ a x, ((![v2100] : Fin 1 → IVec S16 32) a x).toNat < S19508.size a) ∧
  (∀ a x, ((![v2100] : Fin 1 → IVec S16 32) a x).toNat < S19508.size a)
theorem k0_idx247_inb : ∀ (v2100 : IVec S16 32) (k0_hw72 : k0_chk72 v2100), ∀ a x, ((![v2100] : Fin 1 → IVec S16 32) a x).toNat < S19508.size a := fun v2100 k0_hw72 => k0_hw72.1
theorem k0_idx255_inb : ∀ (v2100 : IVec S16 32) (k0_hw72 : k0_chk72 v2100), ∀ a x, ((![v2100] : Fin 1 → IVec S16 32) a x).toNat < S19508.size a := fun v2100 k0_hw72 => k0_hw72.2.1
theorem k0_idx263_inb : ∀ (v2100 : IVec S16 32) (k0_hw72 : k0_chk72 v2100), ∀ a x, ((![v2100] : Fin 1 → IVec S16 32) a x).toNat < S19508.size a := fun v2100 k0_hw72 => k0_hw72.2.2.1
theorem k0_idx271_inb : ∀ (v2100 : IVec S16 32) (k0_hw72 : k0_chk72 v2100), ∀ a x, ((![v2100] : Fin 1 → IVec S16 32) a x).toNat < S19508.size a := fun v2100 k0_hw72 => k0_hw72.2.2.2

def k0_chk73 (v2108 : IVec S16 32) : Prop :=
  (∀ a x, ((![v2108] : Fin 1 → IVec S16 32) a x).toNat < S19508.size a) ∧
  (∀ a x, ((![v2108] : Fin 1 → IVec S16 32) a x).toNat < S19508.size a) ∧
  (∀ a x, ((![v2108] : Fin 1 → IVec S16 32) a x).toNat < S19508.size a) ∧
  (∀ a x, ((![v2108] : Fin 1 → IVec S16 32) a x).toNat < S19508.size a)
theorem k0_idx248_inb : ∀ (v2108 : IVec S16 32) (k0_hw73 : k0_chk73 v2108), ∀ a x, ((![v2108] : Fin 1 → IVec S16 32) a x).toNat < S19508.size a := fun v2108 k0_hw73 => k0_hw73.1
theorem k0_idx256_inb : ∀ (v2108 : IVec S16 32) (k0_hw73 : k0_chk73 v2108), ∀ a x, ((![v2108] : Fin 1 → IVec S16 32) a x).toNat < S19508.size a := fun v2108 k0_hw73 => k0_hw73.2.1
theorem k0_idx264_inb : ∀ (v2108 : IVec S16 32) (k0_hw73 : k0_chk73 v2108), ∀ a x, ((![v2108] : Fin 1 → IVec S16 32) a x).toNat < S19508.size a := fun v2108 k0_hw73 => k0_hw73.2.2.1
theorem k0_idx272_inb : ∀ (v2108 : IVec S16 32) (k0_hw73 : k0_chk73 v2108), ∀ a x, ((![v2108] : Fin 1 → IVec S16 32) a x).toNat < S19508.size a := fun v2108 k0_hw73 => k0_hw73.2.2.2

def k0_chk74 (v2110 : IVec S16 32) : Prop :=
  (∀ a x, ((![v2110] : Fin 1 → IVec S16 32) a x).toNat < S19508.size a) ∧
  (∀ a x, ((![v2110] : Fin 1 → IVec S16 32) a x).toNat < S19508.size a) ∧
  (∀ a x, ((![v2110] : Fin 1 → IVec S16 32) a x).toNat < S19508.size a) ∧
  (∀ a x, ((![v2110] : Fin 1 → IVec S16 32) a x).toNat < S19508.size a)
theorem k0_idx249_inb : ∀ (v2110 : IVec S16 32) (k0_hw74 : k0_chk74 v2110), ∀ a x, ((![v2110] : Fin 1 → IVec S16 32) a x).toNat < S19508.size a := fun v2110 k0_hw74 => k0_hw74.1
theorem k0_idx257_inb : ∀ (v2110 : IVec S16 32) (k0_hw74 : k0_chk74 v2110), ∀ a x, ((![v2110] : Fin 1 → IVec S16 32) a x).toNat < S19508.size a := fun v2110 k0_hw74 => k0_hw74.2.1
theorem k0_idx265_inb : ∀ (v2110 : IVec S16 32) (k0_hw74 : k0_chk74 v2110), ∀ a x, ((![v2110] : Fin 1 → IVec S16 32) a x).toNat < S19508.size a := fun v2110 k0_hw74 => k0_hw74.2.2.1
theorem k0_idx273_inb : ∀ (v2110 : IVec S16 32) (k0_hw74 : k0_chk74 v2110), ∀ a x, ((![v2110] : Fin 1 → IVec S16 32) a x).toNat < S19508.size a := fun v2110 k0_hw74 => k0_hw74.2.2.2

def k0_chk75 (v2102 : IVec S16 32) : Prop :=
  (∀ a x, ((![v2102] : Fin 1 → IVec S16 32) a x).toNat < S19508.size a) ∧
  (∀ a x, ((![v2102] : Fin 1 → IVec S16 32) a x).toNat < S19508.size a) ∧
  (∀ a x, ((![v2102] : Fin 1 → IVec S16 32) a x).toNat < S19508.size a) ∧
  (∀ a x, ((![v2102] : Fin 1 → IVec S16 32) a x).toNat < S19508.size a)
theorem k0_idx250_inb : ∀ (v2102 : IVec S16 32) (k0_hw75 : k0_chk75 v2102), ∀ a x, ((![v2102] : Fin 1 → IVec S16 32) a x).toNat < S19508.size a := fun v2102 k0_hw75 => k0_hw75.1
theorem k0_idx258_inb : ∀ (v2102 : IVec S16 32) (k0_hw75 : k0_chk75 v2102), ∀ a x, ((![v2102] : Fin 1 → IVec S16 32) a x).toNat < S19508.size a := fun v2102 k0_hw75 => k0_hw75.2.1
theorem k0_idx266_inb : ∀ (v2102 : IVec S16 32) (k0_hw75 : k0_chk75 v2102), ∀ a x, ((![v2102] : Fin 1 → IVec S16 32) a x).toNat < S19508.size a := fun v2102 k0_hw75 => k0_hw75.2.2.1
theorem k0_idx274_inb : ∀ (v2102 : IVec S16 32) (k0_hw75 : k0_chk75 v2102), ∀ a x, ((![v2102] : Fin 1 → IVec S16 32) a x).toNat < S19508.size a := fun v2102 k0_hw75 => k0_hw75.2.2.2

def k0_chk76 (v2104 : IVec S16 32) : Prop :=
  (∀ a x, ((![v2104] : Fin 1 → IVec S16 32) a x).toNat < S19508.size a) ∧
  (∀ a x, ((![v2104] : Fin 1 → IVec S16 32) a x).toNat < S19508.size a) ∧
  (∀ a x, ((![v2104] : Fin 1 → IVec S16 32) a x).toNat < S19508.size a) ∧
  (∀ a x, ((![v2104] : Fin 1 → IVec S16 32) a x).toNat < S19508.size a)
theorem k0_idx251_inb : ∀ (v2104 : IVec S16 32) (k0_hw76 : k0_chk76 v2104), ∀ a x, ((![v2104] : Fin 1 → IVec S16 32) a x).toNat < S19508.size a := fun v2104 k0_hw76 => k0_hw76.1
theorem k0_idx259_inb : ∀ (v2104 : IVec S16 32) (k0_hw76 : k0_chk76 v2104), ∀ a x, ((![v2104] : Fin 1 → IVec S16 32) a x).toNat < S19508.size a := fun v2104 k0_hw76 => k0_hw76.2.1
theorem k0_idx267_inb : ∀ (v2104 : IVec S16 32) (k0_hw76 : k0_chk76 v2104), ∀ a x, ((![v2104] : Fin 1 → IVec S16 32) a x).toNat < S19508.size a := fun v2104 k0_hw76 => k0_hw76.2.2.1
theorem k0_idx275_inb : ∀ (v2104 : IVec S16 32) (k0_hw76 : k0_chk76 v2104), ∀ a x, ((![v2104] : Fin 1 → IVec S16 32) a x).toNat < S19508.size a := fun v2104 k0_hw76 => k0_hw76.2.2.2

def k0_chk77 (v2096 : IVec S16 32) : Prop :=
  (∀ a x, ((![v2096] : Fin 1 → IVec S16 32) a x).toNat < S19508.size a) ∧
  (∀ a x, ((![v2096] : Fin 1 → IVec S16 32) a x).toNat < S19508.size a) ∧
  (∀ a x, ((![v2096] : Fin 1 → IVec S16 32) a x).toNat < S19508.size a) ∧
  (∀ a x, ((![v2096] : Fin 1 → IVec S16 32) a x).toNat < S19508.size a)
theorem k0_idx252_inb : ∀ (v2096 : IVec S16 32) (k0_hw77 : k0_chk77 v2096), ∀ a x, ((![v2096] : Fin 1 → IVec S16 32) a x).toNat < S19508.size a := fun v2096 k0_hw77 => k0_hw77.1
theorem k0_idx260_inb : ∀ (v2096 : IVec S16 32) (k0_hw77 : k0_chk77 v2096), ∀ a x, ((![v2096] : Fin 1 → IVec S16 32) a x).toNat < S19508.size a := fun v2096 k0_hw77 => k0_hw77.2.1
theorem k0_idx268_inb : ∀ (v2096 : IVec S16 32) (k0_hw77 : k0_chk77 v2096), ∀ a x, ((![v2096] : Fin 1 → IVec S16 32) a x).toNat < S19508.size a := fun v2096 k0_hw77 => k0_hw77.2.2.1
theorem k0_idx276_inb : ∀ (v2096 : IVec S16 32) (k0_hw77 : k0_chk77 v2096), ∀ a x, ((![v2096] : Fin 1 → IVec S16 32) a x).toNat < S19508.size a := fun v2096 k0_hw77 => k0_hw77.2.2.2

def k0_chk71 (v2098 : IVec S16 32) : Prop :=
  (∀ a x, ((![v2098] : Fin 1 → IVec S16 32) a x).toNat < S19508.size a) ∧
  (∀ a x, ((![v2098] : Fin 1 → IVec S16 32) a x).toNat < S19508.size a) ∧
  (∀ a x, ((![v2098] : Fin 1 → IVec S16 32) a x).toNat < S19508.size a) ∧
  (∀ a x, ((![v2098] : Fin 1 → IVec S16 32) a x).toNat < S19508.size a) ∧
  (∀ a x, ((![v2098] : Fin 1 → IVec S16 32) a x).toNat < S19508.size a) ∧
  (∀ a x, ((![v2098] : Fin 1 → IVec S16 32) a x).toNat < S19508.size a) ∧
  (∀ a x, ((![v2098] : Fin 1 → IVec S16 32) a x).toNat < S19508.size a) ∧
  (∀ a x, ((![v2098] : Fin 1 → IVec S16 32) a x).toNat < S19508.size a)
theorem k0_idx246_inb : ∀ (v2098 : IVec S16 32) (k0_hw71 : k0_chk71 v2098), ∀ a x, ((![v2098] : Fin 1 → IVec S16 32) a x).toNat < S19508.size a := fun v2098 k0_hw71 => k0_hw71.1
theorem k0_idx253_inb : ∀ (v2098 : IVec S16 32) (k0_hw71 : k0_chk71 v2098), ∀ a x, ((![v2098] : Fin 1 → IVec S16 32) a x).toNat < S19508.size a := fun v2098 k0_hw71 => k0_hw71.2.1
theorem k0_idx254_inb : ∀ (v2098 : IVec S16 32) (k0_hw71 : k0_chk71 v2098), ∀ a x, ((![v2098] : Fin 1 → IVec S16 32) a x).toNat < S19508.size a := fun v2098 k0_hw71 => k0_hw71.2.2.1
theorem k0_idx261_inb : ∀ (v2098 : IVec S16 32) (k0_hw71 : k0_chk71 v2098), ∀ a x, ((![v2098] : Fin 1 → IVec S16 32) a x).toNat < S19508.size a := fun v2098 k0_hw71 => k0_hw71.2.2.2.1
theorem k0_idx262_inb : ∀ (v2098 : IVec S16 32) (k0_hw71 : k0_chk71 v2098), ∀ a x, ((![v2098] : Fin 1 → IVec S16 32) a x).toNat < S19508.size a := fun v2098 k0_hw71 => k0_hw71.2.2.2.2.1
theorem k0_idx269_inb : ∀ (v2098 : IVec S16 32) (k0_hw71 : k0_chk71 v2098), ∀ a x, ((![v2098] : Fin 1 → IVec S16 32) a x).toNat < S19508.size a := fun v2098 k0_hw71 => k0_hw71.2.2.2.2.2.1
theorem k0_idx270_inb : ∀ (v2098 : IVec S16 32) (k0_hw71 : k0_chk71 v2098), ∀ a x, ((![v2098] : Fin 1 → IVec S16 32) a x).toNat < S19508.size a := fun v2098 k0_hw71 => k0_hw71.2.2.2.2.2.2.1
theorem k0_idx277_inb : ∀ (v2098 : IVec S16 32) (k0_hw71 : k0_chk71 v2098), ∀ a x, ((![v2098] : Fin 1 → IVec S16 32) a x).toNat < S19508.size a := fun v2098 k0_hw71 => k0_hw71.2.2.2.2.2.2.2

def k0_chk78 (v2323 : IVec S16 32) : Prop :=
  (∀ a x, ((![v2323] : Fin 1 → IVec S16 32) a x).toNat < S20488.size a)
theorem k0_idx278_inb : ∀ (v2323 : IVec S16 32) (k0_hw78 : k0_chk78 v2323), ∀ a x, ((![v2323] : Fin 1 → IVec S16 32) a x).toNat < S20488.size a := fun v2323 k0_hw78 => k0_hw78

def k0_chk79 (v2326 : IVec S16 32) : Prop :=
  (∀ a x, ((![v2326] : Fin 1 → IVec S16 32) a x).toNat < S20488.size a)
theorem k0_idx279_inb : ∀ (v2326 : IVec S16 32) (k0_hw79 : k0_chk79 v2326), ∀ a x, ((![v2326] : Fin 1 → IVec S16 32) a x).toNat < S20488.size a := fun v2326 k0_hw79 => k0_hw79

def k0_chk80 (v2329 : IVec S16 32) : Prop :=
  (∀ a x, ((![v2329] : Fin 1 → IVec S16 32) a x).toNat < S20488.size a)
theorem k0_idx280_inb : ∀ (v2329 : IVec S16 32) (k0_hw80 : k0_chk80 v2329), ∀ a x, ((![v2329] : Fin 1 → IVec S16 32) a x).toNat < S20488.size a := fun v2329 k0_hw80 => k0_hw80
def k0_off32 (k0_t2 : Fin k0_t2_loop.trips) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let c112_i32_640 : BitVec 32 := 112#32
  let v2331 : BitVec 32 := Scalar.addi v13 c112_i32_640
  let v2332 : Index := Scalar.indexCast v2331
  ![v2332.toNat]
def k0_off33 (k0_t2 : Fin k0_t2_loop.trips) (c128_i32_641 : BitVec 32) : Fin 1 → Nat :=
  let c0_i32_3 : BitVec 32 := 0#32
  let c1_i32_4 : BitVec 32 := 1#32
  let arg10 : BitVec 32 := Scf.iv c0_i32_3 c1_i32_4 k0_t2
  let c512_i32 : BitVec 32 := 512#32
  let v13 : BitVec 32 := Scalar.muli arg10 c512_i32
  let v2334 : BitVec 32 := Scalar.addi v13 c128_i32_641
  let c112_i32_642 : BitVec 32 := 112#32
  let v2335 : BitVec 32 := Scalar.addi v2334 c112_i32_642
  let v2336 : Index := Scalar.indexCast v2335
  ![v2336.toNat]
def k0_off34 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v9 : BitVec 32 := Scalar.muli v1 c32768_i32
  let c0_i32_0 : BitVec 32 := 0#32
  let c1_i32 : BitVec 32 := 1#32
  let arg8 : BitVec 32 := Scf.iv c0_i32_0 c1_i32 k0_t1
  let c8192_i32 : BitVec 32 := 8192#32
  let v10 : BitVec 32 := Scalar.muli arg8 c8192_i32
  let v11 : BitVec 32 := Scalar.addi v9 v10
  ![v11.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x2 : Shape := ⟨2, ![262144, 2]⟩
abbrev S20481 : Shape := ⟨1, ![20481]⟩
abbrev S20480 : Shape := ⟨1, ![20480]⟩
abbrev S4096x5 : Shape := ⟨2, ![4096, 5]⟩
abbrev S4096x2 : Shape := ⟨2, ![4096, 2]⟩
abbrev S4096x3 : Shape := ⟨2, ![4096, 3]⟩
abbrev S262144x1x2 : Shape := ⟨3, ![262144, 1, 2]⟩
abbrev S1x4096x2 : Shape := ⟨3, ![1, 4096, 2]⟩
abbrev S262144x4096x2 : Shape := ⟨3, ![262144, 4096, 2]⟩
abbrev S_ : Shape := ⟨0, ![]⟩
abbrev S262144x4096 : Shape := ⟨2, ![262144, 4096]⟩
abbrev S262144 : Shape := ⟨1, ![262144]⟩
abbrev S262144x1 : Shape := ⟨2, ![262144, 1]⟩
abbrev S1 : Shape := ⟨1, ![1]⟩
abbrev S1x1 : Shape := ⟨2, ![1, 1]⟩
abbrev S262144x3 : Shape := ⟨2, ![262144, 3]⟩

abbrev nBuf : Space → Nat
  | .hbm => 42
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S20481, .f32⟩
  | .hbm, ⟨2, _⟩ => ⟨S20480, .f32⟩
  | .hbm, ⟨3, _⟩ => ⟨S4096x5, .f32⟩
  | .hbm, ⟨4, _⟩ => ⟨S4096x2, .f32⟩
  | .hbm, ⟨5, _⟩ => ⟨S4096x3, .f32⟩
  | .hbm, ⟨6, _⟩ => ⟨S262144x1x2, .f32⟩
  | .hbm, ⟨7, _⟩ => ⟨S1x4096x2, .f32⟩
  | .hbm, ⟨8, _⟩ => ⟨S262144x4096x2, .f32⟩
  | .hbm, ⟨9, _⟩ => ⟨S262144x4096x2, .f32⟩
  | .hbm, ⟨10, _⟩ => ⟨S262144x4096x2, .f32⟩
  | .hbm, ⟨11, _⟩ => ⟨S262144x4096x2, .f32⟩
  | .hbm, ⟨12, _⟩ => ⟨S_, .f32⟩
  | .hbm, ⟨13, _⟩ => ⟨S262144x4096, .f32⟩
  | .hbm, ⟨14, _⟩ => ⟨S262144x4096, .i32⟩
  | .hbm, ⟨15, _⟩ => ⟨S_, .f32⟩
  | .hbm, ⟨16, _⟩ => ⟨S_, .i32⟩
  | .hbm, ⟨17, _⟩ => ⟨S262144, .f32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S1, .i32⟩
  | .hbm, ⟨28, _⟩ => ⟨S_, .i32⟩
  | .hbm, ⟨29, _⟩ => ⟨S262144x1, .i32⟩
  | .hbm, ⟨30, _⟩ => ⟨S262144x1, .i1⟩
  | .hbm, ⟨31, _⟩ => ⟨S1x1, .i32⟩
  | .hbm, ⟨32, _⟩ => ⟨S262144x1, .i32⟩
  | .hbm, ⟨33, _⟩ => ⟨S262144x1, .i1⟩
  | .hbm, ⟨34, _⟩ => ⟨S262144x1, .i1⟩
  | .hbm, ⟨35, _⟩ => ⟨S_, .i1⟩
  | .hbm, ⟨36, _⟩ => ⟨S262144, .i1⟩
  | .hbm, ⟨37, _⟩ => ⟨S262144x3, .f32⟩
  | .hbm, ⟨38, _⟩ => ⟨S262144x3, .i1⟩
  | .hbm, ⟨39, _⟩ => ⟨S_, .f32⟩
  | .hbm, ⟨40, _⟩ => ⟨S262144x3, .f32⟩
  | .hbm, ⟨41, _⟩ => ⟨S262144x3, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v11 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v12 : Ref sig .tc := ⟨.hbm, 41, rfl⟩

abbrev nD : Nat := 1
abbrev τ : Topo := Topo.v7x

variable {F : FTy → Type} [FloatOps F]
-- ==== Proof.Setup.lean ====
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type}

/-! # The launch's parameters

The kernel's one SparseCore call as the launch theorem reads it: the labels, the definitions, and the
ghost state, the handshakes' rounds beside the local copies' counters. -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's semaphores and buffers are where the launch wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The assertions' algebra. -/
abbrev MM (F : FTy → Type) := MT nD τ sig (HIx 1) (Elt F) ℕ UU ℕ

abbrev EH : Emb UH (MM F) := embL

/-- The subcore that runs the body at grid coordinates `i`. -/
abbrev cV (i : grid0.Coords) : Fin τ.nSC := (i 0).castLE hcore0
abbrev jV (i : grid0.Coords) : Fin τ.nSub := (i 1).castLE hsub0
abbrev tile (d : Dev nD) (i : grid0.Coords) : Thread nD τ := V d (cV i) (jV i)

/-- A subcore's own memory: the table, the chunk of queries, the chunk of answers. -/
abbrev tabM : Memref sig .scVector .vmem S20488 .f32 := Memref.whole cc0_scratch0
abbrev inM : Memref sig .scVector .vmem S4096 .f32 := Memref.whole cc0_scratch1
abbrev outM : Memref sig .scVector .vmem S8192 .f32 := Memref.whole cc0_scratch2

end Cert.Proof
-- ==== Proof.Unit.lean ====
module

public import proofs.«01_k».proof.KernelIdeal
public import proofs.«01_k».proof.Proof.Gen.KernelIdeal

/-! # What a step computes

Sixteen queries are handled at once, one in each lane. This module names what the kernel computes for them: the first
cell of the 4 x 4 window around a query, the squared distance to a site, the better of two sites; and it states the
kernel's text for sixteen queries (`tail0` and what follows) in those names. -/

@[expose] public section

noncomputable section

namespace Cert.Proof

open Idealize.ShloMosaic Idealize.SL.Sem
open Cert.KernelIdeal Cert.KernelIdeal.Gen

variable {F : FTy → Type} [FloatOps F]

/-- The first cell of the window, in one coordinate. -/
def corner (q : FVec F S16 .f32) : IVec S16 32 :=
  minsi (broadcast S16 60#32) (maxsi (broadcast S16 0#32)
    (addi (subi (fptosi 32 (mulf q (broadcast S16 (Scalar.ofBits .f32 0x42800000#32)))) (broadcast S16 2#32))
      (select (cmpf .oge (subf (mulf q (broadcast S16 (Scalar.ofBits .f32 0x42800000#32)))
          (sitofp .f32 (fptosi 32 (mulf q (broadcast S16 (Scalar.ofBits .f32 0x42800000#32))))))
          (broadcast S16 (Scalar.ofBits .f32 0x3F000000#32)))
        (broadcast S16 1#32) (broadcast S16 0#32))))

/-- The word, in the table, of the window's first cell. -/
def windowBase (qx qy : FVec F S16 .f32) : IVec S16 32 :=
  muli (addi (muli (corner qx) (broadcast S16 64#32)) (corner qy)) (broadcast S16 5#32)

/-- The word `r` after `b`. -/
def row (b : IVec S16 32) : Nat → IVec S16 32
  | 0 => b
  | r + 1 => addi b (broadcast S16 (BitVec.ofNat 32 (r + 1)))

/-- The least squared distance so far and where its site stands in the window. -/
abbrev Best (F : FTy → Type) := FVec F S16 .f32 × IVec S16 32

/-- Nothing seen: infinitely far. -/
def start : Best F := ⟨broadcast S16 (Scalar.ofBits .f32 0x7F800000#32), broadcast S16 0#32⟩

/-- The squared distance. -/
def dist (qx qy sx sy : FVec F S16 .f32) : FVec F S16 .f32 :=
  addf (mulf (subf qx sx) (subf qx sx)) (mulf (subf qy sy) (subf qy sy))

/-- The site at squared distance `d`, if it is strictly closer than the best so far. -/
def closer (d : FVec F S16 .f32) (o : BitVec 32) (s : Best F) : Best F :=
  ⟨select (cmpf .olt d s.1) d s.1, select (cmpf .olt d s.1) (broadcast S16 o) s.2⟩

/-- A subcore's programs. -/
abbrev TileProg (F : FTy → Type) (i : grid0.Coords) (α : Type) : Type _ :=
  Prog (TpuEff nD τ sig (Elt F) Λ₀ (.scVector ((i 0).castLE hcore0) ((i 1).castLE hsub0))) α

/-- The text that sees one site. -/
def probe {i : grid0.Coords} (arg5 : Memref sig .scVector .vmem S20488 .f32) (qx qy : FVec F S16 .f32) {ox oy : Nat}
    (hox : ∀ a, (![ox] : Fin 1 → Nat) a + S19508.size a ≤ S20488.size a) (hoy : ∀ a, (![oy] : Fin 1 → Nat) a + S19508.size a ≤ S20488.size a)
    {ix iy : IVec S16 32} (hx : ∀ a x, ((![ix] : Fin 1 → IVec S16 32) a x).toNat < S19508.size a)
    (hy : ∀ a x, ((![iy] : Fin 1 → IVec S16 32) a x).toNat < S19508.size a) (o : BitVec 32) (s : Best F) : TileProg F i (Best F) := do
  let sx : Vec F S16 .f32 ← SparseCore.vectorLoadIdx (arg5.slice (Rect.unit (s := S20488) ![ox] S19508.size hox) (fun _ => rfl)) ![ix] hx (View.loads_vmem h_S19508)
  let sy : Vec F S16 .f32 ← SparseCore.vectorLoadIdx (arg5.slice (Rect.unit (s := S20488) ![oy] S19508.size hoy) (fun _ => rfl)) ![iy] hy (View.loads_vmem h_S19508)
  pure (closer (dist qx qy sx sy) o s)

/-- The end of a step: fetch the three colour words of the best site `s`, of the window based at
`b`, write them to the three planes of the output block, and go on. -/
def paint {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (b : IVec S16 32) (s : Best F) (K : TileProg F i (BitVec 32)) : TileProg F i (BitVec 32) := do
  have e : IVec S16 32 := addi b s.2
  have hr : k0_chk8 (row e 3) := (← Prog.lift (TpuEff.assume (k0_chk8 (row e 3)) (k0_chk8.dec (row e 3)))).down
  let r : Vec F S16 .f32 ← SparseCore.vectorLoadIdx arg5 ![row e 3] (k0_idx33_inb _ hr) (View.loads_vmem h_S20488)
  have hg : k0_chk9 (row e 4) := (← Prog.lift (TpuEff.assume (k0_chk9 (row e 4)) (k0_chk9.dec (row e 4)))).down
  let g : Vec F S16 .f32 ← SparseCore.vectorLoadIdx arg5 ![row e 4] (k0_idx34_inb _ hg) (View.loads_vmem h_S20488)
  have hb : k0_chk10 (row e 5) := (← Prog.lift (TpuEff.assume (k0_chk10 (row e 5)) (k0_chk10.dec (row e 5)))).down
  let bl : Vec F S16 .f32 ← SparseCore.vectorLoadIdx arg5 ![row e 5] (k0_idx35_inb _ hb) (View.loads_vmem h_S20488)
  let _ : Vec F S16 .f32 ← Prog.lift (.load arg7 (Rect.unit (s := S8192) ar S16.size har).toLoadRect (View.loadsAt_vmem h_S16))
  Prog.lift (.store arg7 (Rect.unit (s := S8192) ar S16.size har) r Finset.univ (View.stores_vmem_bits_univ h_S16 rfl) (.inl rfl))
  let _ : Vec F S16 .f32 ← Prog.lift (.load arg7 (Rect.unit (s := S8192) ag S16.size hag).toLoadRect (View.loadsAt_vmem h_S16))
  Prog.lift (.store arg7 (Rect.unit (s := S8192) ag S16.size hag) g Finset.univ (View.stores_vmem_bits_univ h_S16 rfl) (.inl rfl))
  let _ : Vec F S16 .f32 ← Prog.lift (.load arg7 (Rect.unit (s := S8192) ab S16.size hab).toLoadRect (View.loadsAt_vmem h_S16))
  Prog.lift (.store arg7 (Rect.unit (s := S8192) ab S16.size hab) bl Finset.univ (View.stores_vmem_bits_univ h_S16 rfl) (.inl rfl))
  K

/-- What is left of a step once all sixteen sites of the window are seen; the fifteen definitions
after it each see one site more. -/
def tail16 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) := paint arg5 arg7 har hag hab w0 s K

/-- What is left of a step before the window's last site; `tail14` … `tail0` each see one site more first. -/
def tail15 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_976 inb_S20488_S19508_976 (k0_idx7_inb _ h0) (k0_idx1_inb _ h1) 975#32 s >>=
    tail16 arg5 arg7 har hag hab qx qy h0 h1 h2 h3 h4 h6 h7 K

def tail14 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_968 inb_S20488_S19508_968 (k0_idx5_inb _ h3) (k0_idx6_inb _ h4) 970#32 s >>=
    tail15 arg5 arg7 har hag hab qx qy h0 h1 h2 h3 h4 h6 h7 K

def tail13 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_960 inb_S20488_S19508_960 (k0_idx3_inb _ h6) (k0_idx4_inb _ h7) 965#32 s >>=
    tail14 arg5 arg7 har hag hab qx qy h0 h1 h2 h3 h4 h6 h7 K

def tail12 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_960 inb_S20488_S19508_960 (k0_idx1_inb _ h1) (k0_idx2_inb _ h2) 960#32 s >>=
    tail13 arg5 arg7 har hag hab qx qy h0 h1 h2 h3 h4 h6 h7 K

def tail11 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_656 inb_S20488_S19508_656 (k0_idx7_inb _ h0) (k0_idx1_inb _ h1) 655#32 s >>=
    tail12 arg5 arg7 har hag hab qx qy h0 h1 h2 h3 h4 h6 h7 K

def tail10 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_648 inb_S20488_S19508_648 (k0_idx5_inb _ h3) (k0_idx6_inb _ h4) 650#32 s >>=
    tail11 arg5 arg7 har hag hab qx qy h0 h1 h2 h3 h4 h6 h7 K

def tail9 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_640 inb_S20488_S19508_640 (k0_idx3_inb _ h6) (k0_idx4_inb _ h7) 645#32 s >>=
    tail10 arg5 arg7 har hag hab qx qy h0 h1 h2 h3 h4 h6 h7 K

def tail8 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_640 inb_S20488_S19508_640 (k0_idx1_inb _ h1) (k0_idx2_inb _ h2) 640#32 s >>=
    tail9 arg5 arg7 har hag hab qx qy h0 h1 h2 h3 h4 h6 h7 K

def tail7 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_336 inb_S20488_S19508_336 (k0_idx7_inb _ h0) (k0_idx1_inb _ h1) 335#32 s >>=
    tail8 arg5 arg7 har hag hab qx qy h0 h1 h2 h3 h4 h6 h7 K

def tail6 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_328 inb_S20488_S19508_328 (k0_idx5_inb _ h3) (k0_idx6_inb _ h4) 330#32 s >>=
    tail7 arg5 arg7 har hag hab qx qy h0 h1 h2 h3 h4 h6 h7 K

def tail5 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_320 inb_S20488_S19508_320 (k0_idx3_inb _ h6) (k0_idx4_inb _ h7) 325#32 s >>=
    tail6 arg5 arg7 har hag hab qx qy h0 h1 h2 h3 h4 h6 h7 K

def tail4 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_320 inb_S20488_S19508_320 (k0_idx1_inb _ h1) (k0_idx2_inb _ h2) 320#32 s >>=
    tail5 arg5 arg7 har hag hab qx qy h0 h1 h2 h3 h4 h6 h7 K

def tail3 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_16 inb_S20488_S19508_16 (k0_idx7_inb _ h0) (k0_idx1_inb _ h1) 15#32 s >>=
    tail4 arg5 arg7 har hag hab qx qy h0 h1 h2 h3 h4 h6 h7 K

def tail2 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_8 inb_S20488_S19508_8 (k0_idx5_inb _ h3) (k0_idx6_inb _ h4) 10#32 s >>=
    tail3 arg5 arg7 har hag hab qx qy h0 h1 h2 h3 h4 h6 h7 K

def tail1 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_0 inb_S20488_S19508_0 (k0_idx3_inb _ h6) (k0_idx4_inb _ h7) 5#32 s >>=
    tail2 arg5 arg7 har hag hab qx qy h0 h1 h2 h3 h4 h6 h7 K

def tail0 {i : grid0.Coords} (arg5 : Memref sig .scVector .vmem S20488 .f32)
    (arg7 : Memref sig .scVector .vmem S8192 .f32) {ar ag ab : Fin 1 → Nat}
    (har : ∀ a, ar a + S16.size a ≤ S8192.size a) (hag : ∀ a, ag a + S16.size a ≤ S8192.size a)
    (hab : ∀ a, ab a + S16.size a ≤ S8192.size a)
    (qx qy : FVec F S16 .f32) {w0 w1 w2 w3 w4 w6 w7 : IVec S16 32} (h0 : k0_chk7 w0) (h1 : k0_chk1 w1) (h2 : k0_chk2 w2)
    (h3 : k0_chk5 w3) (h4 : k0_chk6 w4) (h6 : k0_chk3 w6) (h7 : k0_chk4 w7)
    (K : TileProg F i (BitVec 32)) (s : Best F) : TileProg F i (BitVec 32) :=
  probe arg5 qx qy inb_S20488_S19508_0 inb_S20488_S19508_0 (k0_idx1_inb _ h1) (k0_idx2_inb _ h2) 0#32 s >>=
    tail1 arg5 arg7 har hag hab qx qy h0 h1 h2 h3 h4 h6 h7 K

/-- One step: sixteen queries, then on. -/
def unit {i : grid0.Coords} (arg5 : Memref sig .scVector .vmem S20488 .f32) (arg6 : Memref sig .scVector .vmem S4096 .f32)
    (arg7 : Memref sig .scVector .vmem S8192 .f32) {ax ay ar ag ab : Fin 1 → Nat}
    (hax : ∀ a, ax a + S16.size a ≤ S4096.size a) (hay : ∀ a, ay a + S16.size a ≤ S4096.size a)
    (har : ∀ a, ar a + S16.size a ≤ S8192.size a) (hag : ∀ a, ag a + S16.size a ≤ S8192.size a)
    (hab : ∀ a, ab a + S16.size a ≤ S8192.size a) (K : TileProg F i (BitVec 32)) : TileProg F i (BitVec 32) := do
  let qx : Vec F S16 .f32 ← Prog.lift (.load arg6 (Rect.unit (s := S4096) ax S16.size hax).toLoadRect (View.loadsAt_vmem h_S16))
  let qy : Vec F S16 .f32 ← Prog.lift (.load arg6 (Rect.unit (s := S4096) ay S16.size hay).toLoadRect (View.loadsAt_vmem h_S16))
  have b : IVec S16 32 := windowBase qx qy
  have h0 : k0_chk7 (row b 0) := (← Prog.lift (TpuEff.assume (k0_chk7 (row b 0)) (k0_chk7.dec (row b 0)))).down
  have h1 : k0_chk1 (row b 1) := (← Prog.lift (TpuEff.assume (k0_chk1 (row b 1)) (k0_chk1.dec (row b 1)))).down
  have h2 : k0_chk2 (row b 2) := (← Prog.lift (TpuEff.assume (k0_chk2 (row b 2)) (k0_chk2.dec (row b 2)))).down
  have h3 : k0_chk5 (row b 3) := (← Prog.lift (TpuEff.assume (k0_chk5 (row b 3)) (k0_chk5.dec (row b 3)))).down
  have h4 : k0_chk6 (row b 4) := (← Prog.lift (TpuEff.assume (k0_chk6 (row b 4)) (k0_chk6.dec (row b 4)))).down
  have h6 : k0_chk3 (row b 6) := (← Prog.lift (TpuEff.assume (k0_chk3 (row b 6)) (k0_chk3.dec (row b 6)))).down
  have h7 : k0_chk4 (row b 7) := (← Prog.lift (TpuEff.assume (k0_chk4 (row b 7)) (k0_chk4.dec (row b 7)))).down
  tail0 arg5 arg7 har hag hab qx qy h0 h1 h2 h3 h4 h6 h7 K start

/-- The eight steps of a block of 128 queries, the inner loop's trip `k`. -/
def block {i : grid0.Coords} (arg5 : Memref sig .scVector .vmem S20488 .f32) (arg6 : Memref sig .scVector .vmem S4096 .f32)
    (arg7 : Memref sig .scVector .vmem S8192 .f32) (k : Fin k0_t2_loop.trips) : TileProg F i (BitVec 32) :=
  unit arg5 arg6 arg7 (k0_off2_inb k) (k0_off3_inb k) (k0_off4_inb k) (k0_off5_inb k 0) (k0_off5_inb k 1) <|
  unit arg5 arg6 arg7 (k0_off6_inb k) (k0_off7_inb k) (k0_off8_inb k) (k0_off9_inb k 0) (k0_off9_inb k 1) <|
  unit arg5 arg6 arg7 (k0_off10_inb k) (k0_off11_inb k) (k0_off12_inb k) (k0_off13_inb k 0) (k0_off13_inb k 1) <|
  unit arg5 arg6 arg7 (k0_off14_inb k) (k0_off15_inb k) (k0_off16_inb k) (k0_off17_inb k 0) (k0_off17_inb k 1) <|
  unit arg5 arg6 arg7 (k0_off18_inb k) (k0_off19_inb k) (k0_off20_inb k) (k0_off21_inb k 0) (k0_off21_inb k 1) <|
  unit arg5 arg6 arg7 (k0_off22_inb k) (k0_off23_inb k) (k0_off24_inb k) (k0_off25_inb k 0) (k0_off25_inb k 1) <|
  unit arg5 arg6 arg7 (k0_off26_inb k) (k0_off27_inb k) (k0_off28_inb k) (k0_off29_inb k 0) (k0_off29_inb k 1) <|
  unit arg5 arg6 arg7 (k0_off30_inb k) (k0_off31_inb k) (k0_off32_inb k) (k0_off33_inb k 0) (k0_off33_inb k 1) <|
  pure 0#32

end Cert.Proof

end
-- ==== Proof.Spec.lean ====
module

public import proofs.«01_k».proof.Proof.Unit

/-! # What the search finds

The search of one window in plain terms: it sees the window's sixteen sites in order and keeps the best so far; the
answer for one query does not depend on the other lanes. -/

@[expose] public section

noncomputable section

namespace Cert.Proof

open Idealize.ShloMosaic Idealize.SL.Sem
open Cert.KernelIdeal Cert.KernelIdeal.Gen

variable {F : FTy → Type} [FloatOps F]

/-- Where, after the window's first cell, the table keeps the cell number `m` of the window. -/
def offs (m : Nat) : Nat := 320 * (m / 4) + 5 * (m % 4)

/-- The best site so far, after site number `m` of the window is seen too. `tab n` is word `n` of the
table. -/
def see (tab : Nat → F .f32) (qx qy : FVec F S16 .f32) (b : IVec S16 32) (m : Nat) (s : Best F) : Best F :=
  closer (dist qx qy (fun l => tab ((b l).toNat + offs m + 1)) (fun l => tab ((b l).toNat + offs m + 2)))
    (BitVec.ofNat 32 (offs m)) s

/-- The best of the window's first `m` sites. -/
def search (tab : Nat → F .f32) (qx qy : FVec F S16 .f32) (b : IVec S16 32) : Nat → Best F
  | 0 => start
  | m + 1 => see tab qx qy b m (search tab qx qy b m)

/-- Colour word `ch` of the window's best site. -/
def colour (tab : Nat → F .f32) (qx qy : FVec F S16 .f32) (ch : Nat) : FVec F S16 .f32 := fun l =>
  tab ((windowBase qx qy l).toNat + ((search tab qx qy (windowBase qx qy) 16).2 l).toNat + (3 + ch))

/-- The first lane. -/
abbrev lane0 : S16.Idx := fun a => ⟨0, by fin_cases a; decide⟩

/-- The colour word `ch` found for the one query `(x, y)`. -/
def pick (tab : Nat → F .f32) (x y : F .f32) (ch : Nat) : F .f32 :=
  colour tab (fun _ => x) (fun _ => y) ch lane0

/-- A lane of the search is the search for that lane's query alone. -/
theorem search_lane (tab : Nat → F .f32) (qx qy : FVec F S16 .f32) (b : IVec S16 32) (l : S16.Idx) :
    ∀ m, (search tab qx qy b m).1 l = (search tab (fun _ => qx l) (fun _ => qy l) (fun _ => b l) m).1 lane0 ∧
      (search tab qx qy b m).2 l = (search tab (fun _ => qx l) (fun _ => qy l) (fun _ => b l) m).2 lane0
  | 0 => ⟨rfl, rfl⟩
  | m + 1 => by
    obtain ⟨h1, h2⟩ := search_lane tab qx qy b l m
    simp only [search, see, closer, select, cmpf, broadcast, dist, addf, mulf, subf, h1, h2]
    trivial

/-- A lane of the corner depends on that lane's coordinate alone. -/
theorem corner_lane (q : FVec F S16 .f32) (l z : S16.Idx) : corner (fun _ => q l) z = corner q l := by
  unfold corner
  simp only [minsi, maxsi, addi, subi, fptosi, sitofp, mulf, subf, cmpf, select, broadcast]

/-- Every lane works on its own query. -/
theorem colour_lane (tab : Nat → F .f32) (qx qy : FVec F S16 .f32) (ch : Nat) (l : S16.Idx) :
    colour tab qx qy ch l = pick tab (qx l) (qy l) ch := by
  unfold pick colour
  have e := (search_lane tab qx qy (windowBase qx qy) l 16).2
  have hb : (windowBase (fun _ => qx l) (fun _ => qy l) : IVec S16 32) = fun _ => windowBase qx qy l := by
    funext z
    unfold windowBase
    simp only [muli, addi, broadcast, corner_lane qx l z, corner_lane qy l z]
  rw [e, hb]

/-- A number clipped to 0 … 60 is at most 60. -/
theorem clip_le (x : BitVec 32) : (Scalar.minsi 60#32 (Scalar.maxsi 0#32 x)).toNat ≤ 60 := by
  unfold Scalar.minsi Scalar.maxsi
  show (if (60#32).slt (if x.slt 0#32 then 0#32 else x) then 60#32 else (if x.slt 0#32 then 0#32 else x)).toNat ≤ 60
  simp only [BitVec.slt_eq_decide, decide_eq_true_eq]
  have hx := BitVec.toInt_eq_toNat_cond x
  have h0 : (0#32).toInt = 0 := rfl
  have h6 : (60#32).toInt = 60 := rfl
  have := x.isLt
  split
  · decide
  · rename_i h
    split
    · decide
    · rename_i h2
      split at hx <;> omega

/-- A window starts at cell 60 at the latest. -/
theorem corner_le (q : FVec F S16 .f32) (l : S16.Idx) : (corner q l).toNat ≤ 60 := clip_le _

/-- A window's first word is at most 19500. -/
theorem windowBase_le (qx qy : FVec F S16 .f32) (l : S16.Idx) : (windowBase qx qy l).toNat ≤ 19500 := by
  have h1 := corner_le qx l
  have h2 := corner_le qy l
  show ((corner qx l * 64#32 + corner qy l) * 5#32).toNat ≤ 19500
  have e1 : (corner qx l * 64#32 + corner qy l).toNat = (corner qx l).toNat * 64 + (corner qy l).toNat := by
    rw [BitVec.toNat_add, BitVec.toNat_mul]
    show ((corner qx l).toNat * 64 % 4294967296 + _) % 4294967296 = _
    omega
  rw [BitVec.toNat_mul, e1]
  exact (Nat.mod_le _ _).trans (by show _ * 5 ≤ _; omega)

/-- The best site's word lies in the window. -/
theorem search_le (tab : Nat → F .f32) (qx qy : FVec F S16 .f32) (b : IVec S16 32) (l : S16.Idx) :
    ∀ m, m ≤ 16 → ((search tab qx qy b m).2 l).toNat ≤ 975
  | 0, _ => by show (0#32).toNat ≤ 975; decide
  | m + 1, h => by
    have ih := search_le tab qx qy b l m (by omega)
    have ho : (BitVec.ofNat 32 (offs m)).toNat ≤ 975 := by
      have h4 : m / 4 ≤ 3 := by omega
      have h5 : offs m ≤ 975 := by unfold offs; omega
      exact (Nat.mod_le _ _).trans h5
    simp only [search, see, closer, select, broadcast, Scalar.select]
    split <;> assumption

/-- The word `r` after, as a number: nothing overflows. -/
theorem row_toNat (b : IVec S16 32) (l : S16.Idx) (h : (b l).toNat ≤ 20475) (r : Nat) (hr : r ≤ 10) :
    (row b r l).toNat = (b l).toNat + r := by
  cases r with
  | zero => rfl
  | succ r =>
    show (b l + BitVec.ofNat 32 (r + 1)).toNat = _
    rw [BitVec.toNat_add, BitVec.toNat_ofNat]
    omega

end Cert.Proof
-- ==== Proof.Step.lean ====
module

public import proofs.«01_k».proof.Proof.Setup
public import proofs.«01_k».proof.Proof.Spec
public import Idealize.ShloMosaic.Lib.WritesUnit

/-! # One step

The reads of the table and the writes of the answers in one step of sixteen queries, as the program logic sees them. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The table's buffer `t` holds the words `tab`, as far as they go. -/
def Holds (tab : Nat → F .f32) (t : S20488.Idx → F .f32) : Prop :=
  ∀ x : S20488.Idx, (x 0).val < 20481 → t x = tab (x 0).val

/-- A word of the table, by its number. -/
theorem Holds.at {tab : Nat → F .f32} {t : S20488.Idx → F .f32} (h : Holds tab t) {x : S20488.Idx} {n : Nat}
    (hx : (x 0).val = n) (hn : n < 20481) : t x = tab n := by
  subst hx; exact h x hn

variable (d : Dev nD) (i : grid0.Coords)

/-- The table's buffer. -/
abbrev tabPts (t : Buf (Elt F) ((tile d i).loc cc0_scratch0)) : sProp (MM F) := (tile d i).loc cc0_scratch0 ↦{fullShare} t
/-- The queries' buffer. -/
abbrev inPts (t : Buf (Elt F) ((tile d i).loc cc0_scratch1)) : sProp (MM F) := (tile d i).loc cc0_scratch1 ↦{fullShare} t
/-- The answers' buffer. -/
abbrev outPts (t : Buf (Elt F) ((tile d i).loc cc0_scratch2)) : sProp (MM F) := (tile d i).loc cc0_scratch2 ↦{fullShare} t

/-- A weakest precondition on this subcore. -/
abbrev WP {α : Type} (e : TileProg F i α) (Q : α → sProp (MM F)) : sProp (MM F) :=
  wp frame (wpE defs₀ 𝒱₀ (tile d i) none) Set.univ e Q

/-- A gather from the table's buffer, from word `o` on. -/
theorem sub_load {o : Nat} (ho : ∀ a, (![o] : Fin 1 → Nat) a + S19508.size a ≤ S20488.size a) {w : IVec S16 32}
    (hw : ∀ a x, ((![w] : Fin 1 → IVec S16 32) a x).toNat < S19508.size a) {tab : Nat → F .f32} {t : S20488.Idx → F .f32}
    (ht : Holds tab t) {b : IVec S16 32} {n : Nat} (hn : ∀ l, o + (w l).toNat = (b l).toNat + n) (hb : ∀ l, (b l).toNat + n < 20481) :
    loadIdx (((tabM.slice (Rect.unit (s := S20488) ![o] S19508.size ho) (fun _ => rfl)).access (.whole (Rect.unit (s := S20488) ![o] S19508.size ho).shape)).read (Elt F) t) ![w] hw
      = fun l => tab ((b l).toNat + n) := by
  funext l
  refine ht.at (x := (((tabM.slice (Rect.unit (s := S20488) ![o] S19508.size ho) (fun _ => rfl)).access (.whole S19508)).emb (idxAt ![w] hw l))) ?_ (hb l)
  have := hn l
  show (o + 1 * (0 + 1 * (w l).toNat) : Nat) = _
  omega

/-- A gather from the whole of the table's buffer. -/
theorem whole_load {w : IVec S16 32}
    (hw : ∀ a x, ((![w] : Fin 1 → IVec S16 32) a x).toNat < S20488.size a) {tab : Nat → F .f32} {t : S20488.Idx → F .f32}
    (ht : Holds tab t) {v : S16.Idx → Nat} (hn : ∀ l, (w l).toNat = v l) (hb : ∀ l, v l < 20481) :
    loadIdx ((tabM.access (.whole S20488)).read (Elt F) t) ![w] hw = fun l => tab (v l) := by
  funext l
  refine ht.at (x := ((tabM.access (.whole S20488)).emb (idxAt ![w] hw l))) ?_ (hb l)
  have := hn l
  show (0 + 1 * (w l).toNat : Nat) = _
  omega

/-- Seeing one site: two gathers, then the better of it and the best so far. -/
theorem wp_probe {α : Type} {ox oy : Nat}
    (hox : ∀ a, (![ox] : Fin 1 → Nat) a + S19508.size a ≤ S20488.size a) (hoy : ∀ a, (![oy] : Fin 1 → Nat) a + S19508.size a ≤ S20488.size a)
    {ix iy : IVec S16 32} (hx : ∀ a x, ((![ix] : Fin 1 → IVec S16 32) a x).toNat < S19508.size a)
    (hy : ∀ a x, ((![iy] : Fin 1 → IVec S16 32) a x).toNat < S19508.size a) (qx qy : FVec F S16 .f32) (s : Best F)
    {tab : Nat → F .f32} {t : Buf (Elt F) ((tile d i).loc cc0_scratch0)} (ht : Holds tab t) (b : IVec S16 32) (m : Nat)
    (hb : ∀ l, (b l).toNat + (offs m + 2) < 20481) (h1 : ∀ l, ox + (ix l).toNat = (b l).toNat + (offs m + 1))
    (h2 : ∀ l, oy + (iy l).toNat = (b l).toNat + (offs m + 2)) {o : BitVec 32} (ho : o = BitVec.ofNat 32 (offs m))
    (k : Best F → TileProg F i α) (Q : α → sProp (MM F)) :
    tabPts d i t ⊢ iprop((tabPts d i t -∗ WP d i (k (see tab qx qy b m s)) Q)
      -∗ WP d i (probe tabM qx qy hox hoy hx hy o s >>= k) Q) := by
  iintro Ht Hk
  unfold probe
  rw [bind_assoc]
  iapply (SparseCore.wp_vectorLoadIdx 𝒱₀ (tile d i) none Set.univ (base := (tabM.slice (Rect.unit (s := S20488) ![ox] S19508.size hox) (fun _ => rfl))) (S := Finset.univ) (q := fullShare) (Finset.subset_univ _)) $$ Ht; iintro Ht
  rw [bind_assoc]
  iapply (SparseCore.wp_vectorLoadIdx 𝒱₀ (tile d i) none Set.univ (base := (tabM.slice (Rect.unit (s := S20488) ![oy] S19508.size hoy) (fun _ => rfl))) (S := Finset.univ) (q := fullShare) (Finset.subset_univ _)) $$ Ht; iintro Ht
  rw [sub_load hox hx ht h1 fun l => by have := hb l; omega, sub_load hoy hy ht h2 hb, pure_bind, ho]
  iapply Hk $$ Ht

/-- The answers' buffer after sixteen words `w` are stored from word `n` on. -/
def stored (n : Nat) (w : FVec F S16 .f32) (f : S8192.Idx → F .f32) : S8192.Idx → F .f32 := fun x =>
  if h : n ≤ (x 0).val ∧ (x 0).val < n + 16 then w (fun a => ⟨(x 0).val - n, by fin_cases a; show _ < 16; omega⟩) else f x

/-- What sixteen words written at word `n` leave in the answers' buffer. -/
theorem store_eq {a : Fin 1 → Nat} (ha : ∀ k, a k + S16.size k ≤ S8192.size k) {n : Nat} (hn : a = ![n])
    (w : FVec F S16 .f32) (f : Buf (Elt F) ((tile d i).loc cc0_scratch2)) :
    (outM.access (Rect.unit (s := S8192) a S16.size ha)).write (Elt F) f w Finset.univ = stored n w f := by
  funext x
  have e := View.read_writes_cons_unit (Val := Elt F) outM.view f ha w [] x hn
  refine Eq.trans (Eq.trans ?_ e) ?_
  · rfl
  · unfold stored
    by_cases h : n ≤ (x 0).val ∧ (x 0).val < n + 16
    · rw [dif_pos h, dif_pos (show ∀ k, _ from fun k => by fin_cases k; exact h)]
      refine congrArg w (funext fun k => ?_)
      fin_cases k
      rfl
    · rw [dif_neg h, dif_neg (fun hh => h (hh 0))]
      rfl

/-- A check that holds is passed. -/
theorem WP_assume {α : Type} {P : Prop} {dec : Decidable P} (h : P) (k : PLift P → TileProg F i α) (Q : α → sProp (MM F)) :
    WP d i (k ⟨h⟩) Q ⊢ WP d i (Prog.lift (TpuEff.assume P dec) >>= k) Q :=
  wp_assume 𝒱₀ (tile d i) none Set.univ (k := k) h

/-- A gather of sixteen table words. -/
theorem WP_gather {α : Type} {w : IVec S16 32} {hw : ∀ a x, ((![w] : Fin 1 → IVec S16 32) a x).toNat < S20488.size a}
    {hl : tabM.view.Loads} {tab : Nat → F .f32} {t : Buf (Elt F) ((tile d i).loc cc0_scratch0)} (ht : Holds tab t) {v : S16.Idx → Nat}
    (hn : ∀ l, (w l).toNat = v l) (hb : ∀ l, v l < 20481) {g : FVec F S16 .f32} (hg : g = fun l => tab (v l)) (k : FVec F S16 .f32 → TileProg F i α) (Q : α → sProp (MM F)) :
    tabPts d i t ⊢ iprop((tabPts d i t -∗ WP d i (k g) Q)
      -∗ WP d i (SparseCore.vectorLoadIdx tabM ![w] hw hl >>= k) Q) := by
  rw [hg, ← whole_load hw ht hn hb]
  exact SparseCore.wp_vectorLoadIdx 𝒱₀ (tile d i) none Set.univ (base := tabM) (S := Finset.univ) (q := fullShare) (Finset.subset_univ _)

/-- A write of sixteen answers. -/
theorem WP_store {α : Type} {a : Fin 1 → Nat} {ha : ∀ k, a k + S16.size k ≤ S8192.size k} {n : Nat} (hn : a = ![n])
    {hl hs hq} (w : FVec F S16 .f32) (f : Buf (Elt F) ((tile d i).loc cc0_scratch2)) (k : PUnit → TileProg F i α) (Q : α → sProp (MM F)) :
    outPts d i f ⊢ iprop((outPts d i (stored n w f) -∗ WP d i (k ⟨⟩) Q)
      -∗ WP d i (Prog.lift (.load outM (Rect.unit (s := S8192) a S16.size ha).toLoadRect hl) >>= fun _ =>
        Prog.lift (.store outM (Rect.unit (s := S8192) a S16.size ha) w Finset.univ hs hq) >>= k) Q) := by
  iintro Hf Hk
  iapply (wp_load 𝒱₀ (tile d i) none Set.univ (m := outM) (S := Finset.univ) (Finset.subset_univ _)) $$ Hf; iintro Hf
  iapply (wp_store 𝒱₀ (tile d i) none Set.univ (m := outM) (r := Rect.unit (s := S8192) a S16.size ha) (S := Finset.univ) (Finset.subset_univ _)) $$ Hf; iintro Hf
  rw [store_eq d i ha hn]
  iapply Hk $$ Hf

/-- A read of sixteen coordinates. -/
theorem WP_read {α : Type} {a : Fin 1 → Nat} {ha : ∀ k, a k + S16.size k ≤ S4096.size k} {hl}
    (x : Buf (Elt F) ((tile d i).loc cc0_scratch1)) (k : FVec F S16 .f32 → TileProg F i α) (Q : α → sProp (MM F)) :
    inPts d i x ⊢ iprop((inPts d i x -∗ WP d i (k (inM.view.readAt (Elt F) (Rect.unit (s := S4096) a S16.size ha).toLoadRect x)) Q)
      -∗ WP d i (Prog.lift (.load inM (Rect.unit (s := S4096) a S16.size ha).toLoadRect hl) >>= k) Q) := by
  exact wp_load 𝒱₀ (tile d i) none Set.univ (m := inM) (S := Finset.univ) (Finset.subset_univ _)

/-- The three colour words of the best site, gathered and written. -/
theorem wp_paint {ar ag ab : Fin 1 → Nat} (har : ∀ a, ar a + S16.size a ≤ S8192.size a)
    (hag : ∀ a, ag a + S16.size a ≤ S8192.size a) (hab : ∀ a, ab a + S16.size a ≤ S8192.size a) {n : Nat}
    (hr : ar = ![n]) (hg : ag = ![n + 128]) (hb : ab = ![n + 256])
    (qx qy : FVec F S16 .f32) {tab : Nat → F .f32} {t : Buf (Elt F) ((tile d i).loc cc0_scratch0)} (ht : Holds tab t)
    (f : Buf (Elt F) ((tile d i).loc cc0_scratch2)) (k : TileProg F i (BitVec 32)) (Q : BitVec 32 → sProp (MM F)) :
    iprop(tabPts d i t ∗ outPts d i f) ⊢ iprop((tabPts d i t
        -∗ outPts d i (stored (n + 256) (colour tab qx qy 2) (stored (n + 128) (colour tab qx qy 1) (stored n (colour tab qx qy 0) f)))
        -∗ WP d i k Q)
      -∗ WP d i (paint tabM outM har hag hab (windowBase qx qy) (search tab qx qy (windowBase qx qy) 16) k) Q) := by
  have hB := windowBase_le qx qy
  have hS := fun l => search_le tab qx qy (windowBase qx qy) l 16 (le_refl _)
  have hE : ∀ l, ((addi (windowBase qx qy) (search tab qx qy (windowBase qx qy) 16).2) l).toNat
      = (windowBase qx qy l).toNat + ((search tab qx qy (windowBase qx qy) 16).2 l).toNat := fun l => by
    show (_ + _ : BitVec 32).toNat = _
    rw [BitVec.toNat_add]
    have := hB l; have := hS l
    omega
  have hR : ∀ c, c ≤ 2 → ∀ l, (row (addi (windowBase qx qy) (search tab qx qy (windowBase qx qy) 16).2) (3 + c) l).toNat
      = (windowBase qx qy l).toNat + ((search tab qx qy (windowBase qx qy) 16).2 l).toNat + (3 + c) := fun c hc l => by
    have := hB l; have := hS l
    rw [row_toNat _ _ (by rw [hE]; omega) _ (by omega), hE]
  have hL : ∀ c, c ≤ 2 → ∀ l, (windowBase qx qy l).toNat + ((search tab qx qy (windowBase qx qy) 16).2 l).toNat + (3 + c) < 20481 :=
    fun c hc l => by have := hB l; have := hS l; omega
  have hC : ∀ c, c ≤ 2 → ∀ a x, ((![row (addi (windowBase qx qy) (search tab qx qy (windowBase qx qy) 16).2) (3 + c)] : Fin 1 → IVec S16 32) a x).toNat
      < S20488.size a := fun c hc a x => by
    fin_cases a
    have := hR c hc x; have := hL c hc x
    show (row _ (3 + c) x).toNat < 20488
    omega
  iintro ⟨Ht, Hf⟩ Hk
  unfold paint
  iapply (WP_assume d i (hC 0 (by omega)))
  iapply (WP_gather d i ht (hR 0 (by omega)) (hL 0 (by omega)) (g := colour tab qx qy 0) rfl) $$ Ht; iintro Ht
  iapply (WP_assume d i (hC 1 (by omega)))
  iapply (WP_gather d i ht (hR 1 (by omega)) (hL 1 (by omega)) (g := colour tab qx qy 1) rfl) $$ Ht; iintro Ht
  iapply (WP_assume d i (hC 2 (by omega)))
  iapply (WP_gather d i ht (hR 2 (by omega)) (hL 2 (by omega)) (g := colour tab qx qy 2) rfl) $$ Ht; iintro Ht
  iapply (WP_store d i hr) $$ Hf; iintro Hf
  iapply (WP_store d i hg) $$ Hf; iintro Hf
  iapply (WP_store d i hb) $$ Hf; iintro Hf
  iapply Hk $$ Ht Hf

end Cert.Proof
-- ==== Proof.Block.lean ====
module

public import proofs.«01_k».proof.Proof.Step

/-! # A block of 128 queries

The sixteen sites of a window one after the other, the three writes of a step, and the eight steps of a block: what
stands in the answers' buffer after each of them. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (i : grid0.Coords)

/-- The sixteen sites of the window, one after the other. -/
theorem wp_search {ar ag ab : Fin 1 → Nat} (har : ∀ a, ar a + S16.size a ≤ S8192.size a)
    (hag : ∀ a, ag a + S16.size a ≤ S8192.size a) (hab : ∀ a, ab a + S16.size a ≤ S8192.size a)
    (qx qy : FVec F S16 .f32) {tab : Nat → F .f32} {t : Buf (Elt F) ((tile d i).loc cc0_scratch0)} (ht : Holds tab t)
    (b : IVec S16 32) (hb : ∀ l, (b l).toNat ≤ 19500)
    (h0 : k0_chk7 (row b 0)) (h1 : k0_chk1 (row b 1)) (h2 : k0_chk2 (row b 2))
    (h3 : k0_chk5 (row b 3)) (h4 : k0_chk6 (row b 4)) (h6 : k0_chk3 (row b 6)) (h7 : k0_chk4 (row b 7))
    (k : TileProg F i (BitVec 32)) (Q : BitVec 32 → sProp (MM F)) :
    tabPts d i t ⊢ iprop((tabPts d i t -∗ WP d i (paint tabM outM har hag hab b (search tab qx qy b 16) k) Q)
      -∗ WP d i (tail0 tabM outM har hag hab qx qy h0 h1 h2 h3 h4 h6 h7 k start) Q) := by
  have at_ : ∀ (o r n : Nat), r ≤ 10 → o + r = n → ∀ l, o + (row b r l).toNat = (b l).toNat + n := fun o r n hr h l => by
    have := hb l
    rw [row_toNat b l (by omega) r hr]
    omega
  have lim : ∀ n, n ≤ 980 → ∀ l, (b l).toNat + n < 20481 := fun n hn l => by have := hb l; omega
  iintro Ht Hk
  unfold tail0
  iapply (wp_probe d i _ _ _ _ qx qy _ ht b 0 (lim _ (by decide)) (at_ 0 1 _ (by decide) (by decide)) (at_ 0 2 _ (by decide) (by decide)) rfl) $$ Ht; iintro Ht
  unfold tail1
  iapply (wp_probe d i _ _ _ _ qx qy _ ht b 1 (lim _ (by decide)) (at_ 0 6 _ (by decide) (by decide)) (at_ 0 7 _ (by decide) (by decide)) rfl) $$ Ht; iintro Ht
  unfold tail2
  iapply (wp_probe d i _ _ _ _ qx qy _ ht b 2 (lim _ (by decide)) (at_ 8 3 _ (by decide) (by decide)) (at_ 8 4 _ (by decide) (by decide)) rfl) $$ Ht; iintro Ht
  unfold tail3
  iapply (wp_probe d i _ _ _ _ qx qy _ ht b 3 (lim _ (by decide)) (at_ 16 0 _ (by decide) (by decide)) (at_ 16 1 _ (by decide) (by decide)) rfl) $$ Ht; iintro Ht
  unfold tail4
  iapply (wp_probe d i _ _ _ _ qx qy _ ht b 4 (lim _ (by decide)) (at_ 320 1 _ (by decide) (by decide)) (at_ 320 2 _ (by decide) (by decide)) rfl) $$ Ht; iintro Ht
  unfold tail5
  iapply (wp_probe d i _ _ _ _ qx qy _ ht b 5 (lim _ (by decide)) (at_ 320 6 _ (by decide) (by decide)) (at_ 320 7 _ (by decide) (by decide)) rfl) $$ Ht; iintro Ht
  unfold tail6
  iapply (wp_probe d i _ _ _ _ qx qy _ ht b 6 (lim _ (by decide)) (at_ 328 3 _ (by decide) (by decide)) (at_ 328 4 _ (by decide) (by decide)) rfl) $$ Ht; iintro Ht
  unfold tail7
  iapply (wp_probe d i _ _ _ _ qx qy _ ht b 7 (lim _ (by decide)) (at_ 336 0 _ (by decide) (by decide)) (at_ 336 1 _ (by decide) (by decide)) rfl) $$ Ht; iintro Ht
  unfold tail8
  iapply (wp_probe d i _ _ _ _ qx qy _ ht b 8 (lim _ (by decide)) (at_ 640 1 _ (by decide) (by decide)) (at_ 640 2 _ (by decide) (by decide)) rfl) $$ Ht; iintro Ht
  unfold tail9
  iapply (wp_probe d i _ _ _ _ qx qy _ ht b 9 (lim _ (by decide)) (at_ 640 6 _ (by decide) (by decide)) (at_ 640 7 _ (by decide) (by decide)) rfl) $$ Ht; iintro Ht
  unfold tail10
  iapply (wp_probe d i _ _ _ _ qx qy _ ht b 10 (lim _ (by decide)) (at_ 648 3 _ (by decide) (by decide)) (at_ 648 4 _ (by decide) (by decide)) rfl) $$ Ht; iintro Ht
  unfold tail11
  iapply (wp_probe d i _ _ _ _ qx qy _ ht b 11 (lim _ (by decide)) (at_ 656 0 _ (by decide) (by decide)) (at_ 656 1 _ (by decide) (by decide)) rfl) $$ Ht; iintro Ht
  unfold tail12
  iapply (wp_probe d i _ _ _ _ qx qy _ ht b 12 (lim _ (by decide)) (at_ 960 1 _ (by decide) (by decide)) (at_ 960 2 _ (by decide) (by decide)) rfl) $$ Ht; iintro Ht
  unfold tail13
  iapply (wp_probe d i _ _ _ _ qx qy _ ht b 13 (lim _ (by decide)) (at_ 960 6 _ (by decide) (by decide)) (at_ 960 7 _ (by decide) (by decide)) rfl) $$ Ht; iintro Ht
  unfold tail14
  iapply (wp_probe d i _ _ _ _ qx qy _ ht b 14 (lim _ (by decide)) (at_ 968 3 _ (by decide) (by decide)) (at_ 968 4 _ (by decide) (by decide)) rfl) $$ Ht; iintro Ht
  unfold tail15
  iapply (wp_probe d i _ _ _ _ qx qy _ ht b 15 (lim _ (by decide)) (at_ 976 0 _ (by decide) (by decide)) (at_ 976 1 _ (by decide) (by decide)) rfl) $$ Ht; iintro Ht
  unfold tail16
  iapply Hk $$ Ht

/-- Reading sixteen queries' coordinates that stand at word `n` of the chunk. -/
theorem WP_read_at {α : Type} {a : Fin 1 → Nat} {ha : ∀ k, a k + S16.size k ≤ S4096.size k} {hl} {n : Nat} (hn : a = ![n])
    {xq : Nat → F .f32} {x : Buf (Elt F) ((tile d i).loc cc0_scratch1)} (hx : ∀ y : S4096.Idx, x y = xq (y 0).val)
    (k : FVec F S16 .f32 → TileProg F i α) (Q : α → sProp (MM F)) :
    inPts d i x ⊢ iprop((inPts d i x -∗ WP d i (k (fun l => xq (n + (l 0).val))) Q)
      -∗ WP d i (Prog.lift (.load inM (Rect.unit (s := S4096) a S16.size ha).toLoadRect hl) >>= k) Q) := by
  have e : inM.view.readAt (Elt F) (Rect.unit (s := S4096) a S16.size ha).toLoadRect x = fun l : S16.Idx => xq (n + (l 0).val) := by
    subst hn
    funext l
    refine (hx _).trans (congrArg xq ?_)
    show (n + 1 * (l 0).val : Nat) = _
    omega
  rw [← e]
  exact WP_read d i x k Q

/-- The first `c` groups of sixteen queries of the chunk `xq` have their colours in `f`. -/
def Done (tab xq : Nat → F .f32) (c : Nat) (f : S8192.Idx → F .f32) : Prop :=
  ∀ x : S8192.Idx, (x 0).val % 512 / 128 < 3 → (x 0).val / 512 * 8 + (x 0).val % 128 / 16 < c →
    f x = pick tab (xq ((x 0).val / 512 * 256 + (x 0).val % 128)) (xq ((x 0).val / 512 * 256 + (x 0).val % 128 + 128))
      ((x 0).val % 512 / 128)

/-- One more step of a block extends what is right by sixteen queries. -/
theorem done_succ {tab xq : Nat → F .f32} {k u : Nat} (hu : u < 8) {f : S8192.Idx → F .f32} (h : Done tab xq (8 * k + u) f)
    {qx qy : FVec F S16 .f32} (hx : qx = fun l => xq (256 * k + 16 * u + (l 0).val))
    (hy : qy = fun l => xq (256 * k + 16 * u + 128 + (l 0).val)) :
    Done tab xq (8 * k + u + 1) (stored (512 * k + 16 * u + 256) (colour tab qx qy 2)
      (stored (512 * k + 16 * u + 128) (colour tab qx qy 1) (stored (512 * k + 16 * u) (colour tab qx qy 0) f))) := by
  intro x h3 hc
  by_cases hlt : (x 0).val / 512 * 8 + (x 0).val % 128 / 16 < 8 * k + u
  · rw [stored, dif_neg (by omega), stored, dif_neg (by omega), stored, dif_neg (by omega)]
    exact h x h3 hlt
  · have key : ∀ ch, ch < 3 → (x 0).val % 512 / 128 = ch → ∀ (hh : ∀ a : Fin 1, (x 0).val - (512 * k + 16 * u + 128 * ch) < S16.size a),
        colour tab qx qy ch (fun a => ⟨(x 0).val - (512 * k + 16 * u + 128 * ch), hh a⟩)
          = pick tab (xq ((x 0).val / 512 * 256 + (x 0).val % 128)) (xq ((x 0).val / 512 * 256 + (x 0).val % 128 + 128)) ch := by
      intro ch hch e hh
      rw [colour_lane, hx, hy]
      congr 2
      · refine congrArg xq ?_
        show 256 * k + 16 * u + ((x 0).val - (512 * k + 16 * u + 128 * ch)) = _
        omega
      · refine congrArg xq ?_
        show 256 * k + 16 * u + 128 + ((x 0).val - (512 * k + 16 * u + 128 * ch)) = _
        omega
    have h512 : (x 0).val / 512 = k := by omega
    have h16 : (x 0).val % 128 / 16 = u := by omega
    rcases (show (x 0).val % 512 / 128 = 0 ∨ (x 0).val % 512 / 128 = 1 ∨ (x 0).val % 512 / 128 = 2 by omega) with e | e | e
    · rw [stored, dif_neg (by omega), stored, dif_neg (by omega), stored, dif_pos (by omega), e]
      exact key 0 (by omega) e _
    · rw [stored, dif_neg (by omega), stored, dif_pos (by omega), e]
      exact key 1 (by omega) e _
    · rw [stored, dif_pos (by omega), e]
      exact key 2 (by omega) e _

/-- One step of the inner loop: a group of sixteen queries more. -/
theorem wp_unit {ax ay ar ag ab : Fin 1 → Nat}
    {hax : ∀ a, ax a + S16.size a ≤ S4096.size a} {hay : ∀ a, ay a + S16.size a ≤ S4096.size a}
    {har : ∀ a, ar a + S16.size a ≤ S8192.size a} {hag : ∀ a, ag a + S16.size a ≤ S8192.size a}
    {hab : ∀ a, ab a + S16.size a ≤ S8192.size a} {k u : Nat} (hu : u < 8) (ex : ax = ![256 * k + 16 * u])
    (ey : ay = ![256 * k + 16 * u + 128]) (er : ar = ![512 * k + 16 * u]) (eg : ag = ![512 * k + 16 * u + 128])
    (eb : ab = ![512 * k + 16 * u + 256])
    {tab xq : Nat → F .f32} {t : Buf (Elt F) ((tile d i).loc cc0_scratch0)} (ht : Holds tab t)
    {x : Buf (Elt F) ((tile d i).loc cc0_scratch1)} (hx : ∀ y : S4096.Idx, x y = xq (y 0).val)
    (e : TileProg F i (BitVec 32)) (Q : BitVec 32 → sProp (MM F)) :
    iprop(tabPts d i t ∗ inPts d i x ∗ ∃ f, ⌜Done tab xq (8 * k + u) f⌝ ∗ outPts d i f) ⊢
      iprop((iprop(tabPts d i t ∗ inPts d i x ∗ ∃ f, ⌜Done tab xq (8 * k + u + 1) f⌝ ∗ outPts d i f) -∗ WP d i e Q)
        -∗ WP d i (unit tabM inM outM hax hay har hag hab e) Q) := by
  iintro ⟨Ht, Hx, ⟨%f, %hf, Hf⟩⟩ Hk
  unfold unit
  iapply (WP_read_at d i ex hx) $$ Hx; iintro Hx
  iapply (WP_read_at d i ey hx) $$ Hx; iintro Hx
  generalize hqx : (fun l : S16.Idx => xq (256 * k + 16 * u + (l 0).val)) = qx
  generalize hqy : (fun l : S16.Idx => xq (256 * k + 16 * u + 128 + (l 0).val)) = qy
  have hB := windowBase_le qx qy
  have hC : ∀ r, r ≤ 7 → ∀ a x, ((![row (windowBase qx qy) r] : Fin 1 → IVec S16 32) a x).toNat < S19508.size a := fun r hr a x => by
    fin_cases a
    have := hB x
    show (row (windowBase qx qy) r x).toNat < 19508
    rw [row_toNat _ _ (by omega) _ (by omega)]
    omega
  have c7 : k0_chk7 (row (windowBase qx qy) 0) := ⟨hC 0 (by omega), hC 0 (by omega), hC 0 (by omega), hC 0 (by omega)⟩
  have c1 : k0_chk1 (row (windowBase qx qy) 1) := ⟨hC 1 (by omega), hC 1 (by omega), hC 1 (by omega), hC 1 (by omega), hC 1 (by omega), hC 1 (by omega), hC 1 (by omega), hC 1 (by omega)⟩
  have c2 : k0_chk2 (row (windowBase qx qy) 2) := ⟨hC 2 (by omega), hC 2 (by omega), hC 2 (by omega), hC 2 (by omega)⟩
  have c5 : k0_chk5 (row (windowBase qx qy) 3) := ⟨hC 3 (by omega), hC 3 (by omega), hC 3 (by omega), hC 3 (by omega)⟩
  have c6 : k0_chk6 (row (windowBase qx qy) 4) := ⟨hC 4 (by omega), hC 4 (by omega), hC 4 (by omega), hC 4 (by omega)⟩
  have c3 : k0_chk3 (row (windowBase qx qy) 6) := ⟨hC 6 (by omega), hC 6 (by omega), hC 6 (by omega), hC 6 (by omega)⟩
  have c4 : k0_chk4 (row (windowBase qx qy) 7) := ⟨hC 7 (by omega), hC 7 (by omega), hC 7 (by omega), hC 7 (by omega)⟩
  iapply (WP_assume d i c7)
  iapply (WP_assume d i c1)
  iapply (WP_assume d i c2)
  iapply (WP_assume d i c5)
  iapply (WP_assume d i c6)
  iapply (WP_assume d i c3)
  iapply (WP_assume d i c4)
  iapply (wp_search d i har hag hab qx qy ht (windowBase qx qy) hB c7 c1 c2 c5 c6 c3 c4) $$ Ht; iintro Ht
  iapply (wp_paint d i har hag hab er eg eb qx qy ht f) $$ [Ht Hf]
  · isplitl [Ht]; · iexact Ht
    iexact Hf
  iintro Ht Hf
  iapply Hk
  isplitl [Ht]; · iexact Ht
  isplitl [Hx]; · iexact Hx
  iexists _
  isplitr [Hf]
  · ipureintro
    exact done_succ hu hf hqx.symm hqy.symm
  · iexact Hf

/-- A program that returns at once. -/
theorem WP_pure {α : Type} (a : α) (Q : α → sProp (MM F)) : Q a ⊢ WP d i (pure a) Q := by
  show _ ⊢ wp frame (wpE defs₀ 𝒱₀ (tile d i) none) Set.univ (.ret a) Q
  rw [wp_ret]
  exact fupd_intro

/-- The inner loop's trip `k`. -/
theorem wp_block (k : Fin k0_t2_loop.trips) {tab xq : Nat → F .f32} {t : Buf (Elt F) ((tile d i).loc cc0_scratch0)} (ht : Holds tab t)
    {x : Buf (Elt F) ((tile d i).loc cc0_scratch1)} (hx : ∀ y : S4096.Idx, x y = xq (y 0).val) (Q : BitVec 32 → sProp (MM F)) :
    iprop(tabPts d i t ∗ inPts d i x ∗ ∃ f, ⌜Done tab xq (8 * k.val) f⌝ ∗ outPts d i f) ⊢
      iprop((iprop(tabPts d i t ∗ inPts d i x ∗ ∃ f, ⌜Done tab xq (8 * (k.val + 1)) f⌝ ∗ outPts d i f) -∗ Q 0#32)
        -∗ WP d i (block tabM inM outM k) Q) := by
  iintro H Hk
  unfold block
  iapply (wp_unit d i (k := k.val) (u := 0) (by decide) (k0_off2_eq k) ((k0_off3_eq k).trans rfl) (k0_off4_eq k)
    ((k0_off5_eq k 0).trans (by congr 1)) ((k0_off5_eq k 1).trans (by congr 1)) ht hx) $$ H; iintro H
  iapply (wp_unit d i (k := k.val) (u := 1) (by decide) (k0_off6_eq k) ((k0_off7_eq k).trans rfl) (k0_off8_eq k)
    ((k0_off9_eq k 0).trans (by congr 1)) ((k0_off9_eq k 1).trans (by congr 1)) ht hx) $$ H; iintro H
  iapply (wp_unit d i (k := k.val) (u := 2) (by decide) (k0_off10_eq k) ((k0_off11_eq k).trans rfl) (k0_off12_eq k)
    ((k0_off13_eq k 0).trans (by congr 1)) ((k0_off13_eq k 1).trans (by congr 1)) ht hx) $$ H; iintro H
  iapply (wp_unit d i (k := k.val) (u := 3) (by decide) (k0_off14_eq k) ((k0_off15_eq k).trans rfl) (k0_off16_eq k)
    ((k0_off17_eq k 0).trans (by congr 1)) ((k0_off17_eq k 1).trans (by congr 1)) ht hx) $$ H; iintro H
  iapply (wp_unit d i (k := k.val) (u := 4) (by decide) (k0_off18_eq k) ((k0_off19_eq k).trans rfl) (k0_off20_eq k)
    ((k0_off21_eq k 0).trans (by congr 1)) ((k0_off21_eq k 1).trans (by congr 1)) ht hx) $$ H; iintro H
  iapply (wp_unit d i (k := k.val) (u := 5) (by decide) (k0_off22_eq k) ((k0_off23_eq k).trans rfl) (k0_off24_eq k)
    ((k0_off25_eq k 0).trans (by congr 1)) ((k0_off25_eq k 1).trans (by congr 1)) ht hx) $$ H; iintro H
  iapply (wp_unit d i (k := k.val) (u := 6) (by decide) (k0_off26_eq k) ((k0_off27_eq k).trans rfl) (k0_off28_eq k)
    ((k0_off29_eq k 0).trans (by congr 1)) ((k0_off29_eq k 1).trans (by congr 1)) ht hx) $$ H; iintro H
  iapply (wp_unit d i (k := k.val) (u := 7) (by decide) (k0_off30_eq k) ((k0_off31_eq k).trans rfl) (k0_off32_eq k)
    ((k0_off33_eq k 0).trans (by congr 1)) ((k0_off33_eq k 1).trans (by congr 1)) ht hx) $$ H; iintro H
  iapply (WP_pure d i)
  iapply Hk $$ H

end Cert.Proof
-- ==== Proof.Parts1.lean ====
module

public import proofs.«01_k».proof.Proof.Unit

/-! # The inner loop's text, first half

The inner loop's trip is printed as a chain of parts, cut at fixed sizes. Each theorem says that one part, followed by
whatever comes next, is the next stretch of a step's text as module `Unit` writes it. -/

@[expose] public section

noncomputable section

namespace Cert.Proof

open Idealize.ShloMosaic Idealize.SL.Sem
open Cert.KernelIdeal Cert.KernelIdeal.Gen

variable {F : FTy → Type} [FloatOps F]
variable (i : grid0.Coords) (arg2 : Memref sig .scVector .hbm S524288 .f32) (harg2 : arg2.IsWhole) (arg3 : Memref sig .scVector .hbm S20481 .f32) (harg3 : arg3.IsWhole) (arg4 : Memref sig .scVector .hbm S1048576 .f32) (harg4 : arg4.IsWhole) (arg5 : Memref sig .scVector .vmem S20488 .f32) (harg5 : arg5.IsWhole) (arg6 : Memref sig .scVector .vmem S4096 .f32) (harg6 : arg6.IsWhole) (arg7 : Memref sig .scVector .vmem S8192 .f32) (harg7 : arg7.IsWhole) (v4_r0 : DmaSems sig S_) (v12_r1 : DmaSems sig S_) (v12_r2 : DmaSems sig S_)

set_option maxRecDepth 100000 in
theorem part1_eq (c0_i32_3 c1_i32_4 : BitVec 32) (k0_t2 : Fin k0_t2_loop.trips)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part1 i arg2 harg2 arg3 harg3 arg4 harg4 arg5 harg5 arg6 harg6 arg7 harg7 v4_r0 v12_r1 v12_r2 c0_i32_3 c1_i32_4 k0_t2 >>= fun ⟨v12, v13, v16, v20, v46, v50, c60_i32_20, v51⟩ => do
      have v52 : IVec S16 32 := maxsi v51 v46
      have v53 : IVec S16 32 := broadcast S16 c60_i32_20
      have v54 : IVec S16 32 := minsi v53 v52
      let c64_i32 : BitVec 32 := 64#32
      have v55 : IVec S16 32 := broadcast S16 c64_i32
      have v56 : IVec S16 32 := muli v50 v55
      have v57 : IVec S16 32 := addi v56 v54
      let c5_i32 : BitVec 32 := 5#32
      have v58 : IVec S16 32 := broadcast S16 c5_i32
      have v59 : IVec S16 32 := muli v57 v58
      have k0_hw7 : k0_chk7 v59 := (← Prog.lift (TpuEff.assume (k0_chk7 v59) (k0_chk7.dec v59))).down
      let c1_i32_21 : BitVec 32 := 1#32
      have v60 : IVec S16 32 := broadcast S16 c1_i32_21
      have v61 : IVec S16 32 := addi v59 v60
      have k0_hw1 : k0_chk1 v61 := (← Prog.lift (TpuEff.assume (k0_chk1 v61) (k0_chk1.dec v61))).down
      let c2_i32_22 : BitVec 32 := 2#32
      have v62 : IVec S16 32 := broadcast S16 c2_i32_22
      have v63 : IVec S16 32 := addi v59 v62
      have k0_hw2 : k0_chk2 v63 := (← Prog.lift (TpuEff.assume (k0_chk2 v63) (k0_chk2.dec v63))).down
      let c3_i32 : BitVec 32 := 3#32
      have v64 : IVec S16 32 := broadcast S16 c3_i32
      have v65 : IVec S16 32 := addi v59 v64
      have k0_hw5 : k0_chk5 v65 := (← Prog.lift (TpuEff.assume (k0_chk5 v65) (k0_chk5.dec v65))).down
      let c4_i32_23 : BitVec 32 := 4#32
      have v66 : IVec S16 32 := broadcast S16 c4_i32_23
      have v67 : IVec S16 32 := addi v59 v66
      have k0_hw6 : k0_chk6 v67 := (← Prog.lift (TpuEff.assume (k0_chk6 v67) (k0_chk6.dec v67))).down
      let c6_i32 : BitVec 32 := 6#32
      have v70 : IVec S16 32 := broadcast S16 c6_i32
      have v71 : IVec S16 32 := addi v59 v70
      have k0_hw3 : k0_chk3 v71 := (← Prog.lift (TpuEff.assume (k0_chk3 v71) (k0_chk3.dec v71))).down
      let c7_i32 : BitVec 32 := 7#32
      have v72 : IVec S16 32 := broadcast S16 c7_i32
      have v73 : IVec S16 32 := addi v59 v72
      have k0_hw4 : k0_chk4 v73 := (← Prog.lift (TpuEff.assume (k0_chk4 v73) (k0_chk4.dec v73))).down
      T v16 v20 v59 v61 v63 v65 v67 v71 v73 k0_hw7 k0_hw1 k0_hw2 k0_hw5 k0_hw6 k0_hw3 k0_hw4) = (do
      let v16 : Vec F S16 .f32 ← Prog.lift (.load arg6 (Rect.unit (s := S4096) (k0_off2 k0_t2) S16.size (k0_off2_inb k0_t2)).toLoadRect (View.loadsAt_vmem h_S16))
      let v20 : Vec F S16 .f32 ← Prog.lift (.load arg6 (Rect.unit (s := S4096) (k0_off3 k0_t2) S16.size (k0_off3_inb k0_t2)).toLoadRect (View.loadsAt_vmem h_S16))
      have cst : F .f32 := Scalar.ofBits .f32 0x42800000#32
      have v21 : FVec F S16 .f32 := broadcast S16 cst
      have v22 : FVec F S16 .f32 := mulf v16 v21
      have cst_9 : F .f32 := Scalar.ofBits .f32 0x42800000#32
      have v23 : FVec F S16 .f32 := broadcast S16 cst_9
      have v24 : FVec F S16 .f32 := mulf v20 v23
      have v25 : IVec S16 32 := fptosi 32 v22
      have v26 : IVec S16 32 := fptosi 32 v24
      have v27 : FVec F S16 .f32 := sitofp .f32 v25
      have v28 : FVec F S16 .f32 := subf v22 v27
      have v29 : FVec F S16 .f32 := sitofp .f32 v26
      have v30 : FVec F S16 .f32 := subf v24 v29
      let c2_i32_10 : BitVec 32 := 2#32
      have v31 : IVec S16 32 := broadcast S16 c2_i32_10
      have v32 : IVec S16 32 := subi v25 v31
      have cst_11 : F .f32 := Scalar.ofBits .f32 0x3F000000#32
      have v33 : FVec F S16 .f32 := broadcast S16 cst_11
      have v34 : IVec S16 1 := cmpf .oge v28 v33
      let c1_i32_12 : BitVec 32 := 1#32
      let c0_i32_13 : BitVec 32 := 0#32
      have v35 : IVec S16 32 := broadcast S16 c1_i32_12
      have v36 : IVec S16 32 := broadcast S16 c0_i32_13
      have v37 : IVec S16 32 := select v34 v35 v36
      have v38 : IVec S16 32 := addi v32 v37
      let c2_i32_14 : BitVec 32 := 2#32
      have v39 : IVec S16 32 := broadcast S16 c2_i32_14
      have v40 : IVec S16 32 := subi v26 v39
      have cst_15 : F .f32 := Scalar.ofBits .f32 0x3F000000#32
      have v41 : FVec F S16 .f32 := broadcast S16 cst_15
      have v42 : IVec S16 1 := cmpf .oge v30 v41
      let c1_i32_16 : BitVec 32 := 1#32
      let c0_i32_17 : BitVec 32 := 0#32
      have v43 : IVec S16 32 := broadcast S16 c1_i32_16
      have v44 : IVec S16 32 := broadcast S16 c0_i32_17
      have v45 : IVec S16 32 := select v42 v43 v44
      have v46 : IVec S16 32 := addi v40 v45
      let c0_i32_18 : BitVec 32 := 0#32
      let c60_i32 : BitVec 32 := 60#32
      have v47 : IVec S16 32 := broadcast S16 c0_i32_18
      have v48 : IVec S16 32 := maxsi v47 v38
      have v49 : IVec S16 32 := broadcast S16 c60_i32
      have v50 : IVec S16 32 := minsi v49 v48
      let c0_i32_19 : BitVec 32 := 0#32
      let c60_i32_20 : BitVec 32 := 60#32
      have v51 : IVec S16 32 := broadcast S16 c0_i32_19
      have v52 : IVec S16 32 := maxsi v51 v46
      have v53 : IVec S16 32 := broadcast S16 c60_i32_20
      have v54 : IVec S16 32 := minsi v53 v52
      let c64_i32 : BitVec 32 := 64#32
      have v55 : IVec S16 32 := broadcast S16 c64_i32
      have v56 : IVec S16 32 := muli v50 v55
      have v57 : IVec S16 32 := addi v56 v54
      let c5_i32 : BitVec 32 := 5#32
      have v58 : IVec S16 32 := broadcast S16 c5_i32
      have v59 : IVec S16 32 := muli v57 v58
      have k0_hw7 : k0_chk7 v59 := (← Prog.lift (TpuEff.assume (k0_chk7 v59) (k0_chk7.dec v59))).down
      let c1_i32_21 : BitVec 32 := 1#32
      have v60 : IVec S16 32 := broadcast S16 c1_i32_21
      have v61 : IVec S16 32 := addi v59 v60
      have k0_hw1 : k0_chk1 v61 := (← Prog.lift (TpuEff.assume (k0_chk1 v61) (k0_chk1.dec v61))).down
      let c2_i32_22 : BitVec 32 := 2#32
      have v62 : IVec S16 32 := broadcast S16 c2_i32_22
      have v63 : IVec S16 32 := addi v59 v62
      have k0_hw2 : k0_chk2 v63 := (← Prog.lift (TpuEff.assume (k0_chk2 v63) (k0_chk2.dec v63))).down
      let c3_i32 : BitVec 32 := 3#32
      have v64 : IVec S16 32 := broadcast S16 c3_i32
      have v65 : IVec S16 32 := addi v59 v64
      have k0_hw5 : k0_chk5 v65 := (← Prog.lift (TpuEff.assume (k0_chk5 v65) (k0_chk5.dec v65))).down
      let c4_i32_23 : BitVec 32 := 4#32
      have v66 : IVec S16 32 := broadcast S16 c4_i32_23
      have v67 : IVec S16 32 := addi v59 v66
      have k0_hw6 : k0_chk6 v67 := (← Prog.lift (TpuEff.assume (k0_chk6 v67) (k0_chk6.dec v67))).down
      let c6_i32 : BitVec 32 := 6#32
      have v70 : IVec S16 32 := broadcast S16 c6_i32
      have v71 : IVec S16 32 := addi v59 v70
      have k0_hw3 : k0_chk3 v71 := (← Prog.lift (TpuEff.assume (k0_chk3 v71) (k0_chk3.dec v71))).down
      let c7_i32 : BitVec 32 := 7#32
      have v72 : IVec S16 32 := broadcast S16 c7_i32
      have v73 : IVec S16 32 := addi v59 v72
      have k0_hw4 : k0_chk4 v73 := (← Prog.lift (TpuEff.assume (k0_chk4 v73) (k0_chk4.dec v73))).down
      T v16 v20 v59 v61 v63 v65 v67 v71 v73 k0_hw7 k0_hw1 k0_hw2 k0_hw5 k0_hw6 k0_hw3 k0_hw4) := rfl

set_option maxRecDepth 100000 in
theorem part2_eq (v16 : Vec F S16 .f32) (v20 : Vec F S16 .f32) (v46 : IVec S16 32) (v50 : IVec S16 32) (c60_i32_20 : BitVec 32) (v51 : IVec S16 32)
    (T : Best F → FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part2 i arg2 harg2 arg3 harg3 arg4 harg4 arg5 harg5 arg6 harg6 arg7 harg7 v4_r0 v12_r1 v12_r2 v16 v20 v46 v50 c60_i32_20 v51 >>= fun ⟨v59, k0_hw7, v61, k0_hw1, v63, k0_hw2, v65, k0_hw5, v67, k0_hw6, v71, k0_hw3, v73, k0_hw4, v86, v88⟩ => do
      let v89 : Memref sig .scVector .vmem S19508 .f32 := arg5.slice (Rect.unit (s := S20488) ![0] S19508.size inb_S20488_S19508_0) (fun _ => rfl)
      let v90 : Vec F S16 .f32 ← SparseCore.vectorLoadIdx v89 ![v71] (k0_idx3_inb v71 k0_hw3) (View.loads_vmem h_S19508)
      let v91 : Memref sig .scVector .vmem S19508 .f32 := arg5.slice (Rect.unit (s := S20488) ![0] S19508.size inb_S20488_S19508_0) (fun _ => rfl)
      let v92 : Vec F S16 .f32 ← SparseCore.vectorLoadIdx v91 ![v73] (k0_idx4_inb v73 k0_hw4) (View.loads_vmem h_S19508)
      have v93 : FVec F S16 .f32 := subf v16 v90
      have v94 : FVec F S16 .f32 := subf v20 v92
      have v95 : FVec F S16 .f32 := mulf v93 v93
      have v96 : FVec F S16 .f32 := mulf v94 v94
      have v97 : FVec F S16 .f32 := addf v95 v96
      have v98 : IVec S16 1 := cmpf .olt v97 v86
      have v99 : FVec F S16 .f32 := select v98 v97 v86
      let c5_i32_32 : BitVec 32 := 5#32
      have v100 : IVec S16 32 := broadcast S16 c5_i32_32
      have v101 : IVec S16 32 := select v98 v100 v88
      T (v99, v101) v16 v20 v59 v61 v63 v65 v67 v71 v73 k0_hw7 k0_hw1 k0_hw2 k0_hw5 k0_hw6 k0_hw3 k0_hw4) = (do
      have v52 : IVec S16 32 := maxsi v51 v46
      have v53 : IVec S16 32 := broadcast S16 c60_i32_20
      have v54 : IVec S16 32 := minsi v53 v52
      let c64_i32 : BitVec 32 := 64#32
      have v55 : IVec S16 32 := broadcast S16 c64_i32
      have v56 : IVec S16 32 := muli v50 v55
      have v57 : IVec S16 32 := addi v56 v54
      let c5_i32 : BitVec 32 := 5#32
      have v58 : IVec S16 32 := broadcast S16 c5_i32
      have v59 : IVec S16 32 := muli v57 v58
      have k0_hw7 : k0_chk7 v59 := (← Prog.lift (TpuEff.assume (k0_chk7 v59) (k0_chk7.dec v59))).down
      let c1_i32_21 : BitVec 32 := 1#32
      have v60 : IVec S16 32 := broadcast S16 c1_i32_21
      have v61 : IVec S16 32 := addi v59 v60
      have k0_hw1 : k0_chk1 v61 := (← Prog.lift (TpuEff.assume (k0_chk1 v61) (k0_chk1.dec v61))).down
      let c2_i32_22 : BitVec 32 := 2#32
      have v62 : IVec S16 32 := broadcast S16 c2_i32_22
      have v63 : IVec S16 32 := addi v59 v62
      have k0_hw2 : k0_chk2 v63 := (← Prog.lift (TpuEff.assume (k0_chk2 v63) (k0_chk2.dec v63))).down
      let c3_i32 : BitVec 32 := 3#32
      have v64 : IVec S16 32 := broadcast S16 c3_i32
      have v65 : IVec S16 32 := addi v59 v64
      have k0_hw5 : k0_chk5 v65 := (← Prog.lift (TpuEff.assume (k0_chk5 v65) (k0_chk5.dec v65))).down
      let c4_i32_23 : BitVec 32 := 4#32
      have v66 : IVec S16 32 := broadcast S16 c4_i32_23
      have v67 : IVec S16 32 := addi v59 v66
      have k0_hw6 : k0_chk6 v67 := (← Prog.lift (TpuEff.assume (k0_chk6 v67) (k0_chk6.dec v67))).down
      let c6_i32 : BitVec 32 := 6#32
      have v70 : IVec S16 32 := broadcast S16 c6_i32
      have v71 : IVec S16 32 := addi v59 v70
      have k0_hw3 : k0_chk3 v71 := (← Prog.lift (TpuEff.assume (k0_chk3 v71) (k0_chk3.dec v71))).down
      let c7_i32 : BitVec 32 := 7#32
      have v72 : IVec S16 32 := broadcast S16 c7_i32
      have v73 : IVec S16 32 := addi v59 v72
      have k0_hw4 : k0_chk4 v73 := (← Prog.lift (TpuEff.assume (k0_chk4 v73) (k0_chk4.dec v73))).down
      let s1 ← probe arg5 v16 v20 inb_S20488_S19508_0 inb_S20488_S19508_0 (k0_idx1_inb v61 k0_hw1) (k0_idx2_inb v63 k0_hw2) 0#32 start
      let s2 ← probe arg5 v16 v20 inb_S20488_S19508_0 inb_S20488_S19508_0 (k0_idx3_inb v71 k0_hw3) (k0_idx4_inb v73 k0_hw4) 5#32 s1
      T s2 v16 v20 v59 v61 v63 v65 v67 v71 v73 k0_hw7 k0_hw1 k0_hw2 k0_hw5 k0_hw6 k0_hw3 k0_hw4) := rfl

set_option maxRecDepth 100000 in
theorem part3_eq (v16 : Vec F S16 .f32) (v20 : Vec F S16 .f32) (v59 : IVec S16 32) (k0_hw7 : k0_chk7 v59) (v61 : IVec S16 32) (k0_hw1 : k0_chk1 v61) (v63 : IVec S16 32) (k0_hw2 : k0_chk2 v63) (v65 : IVec S16 32) (k0_hw5 : k0_chk5 v65) (v67 : IVec S16 32) (k0_hw6 : k0_chk6 v67) (v71 : IVec S16 32) (k0_hw3 : k0_chk3 v71) (v73 : IVec S16 32) (k0_hw4 : k0_chk4 v73) (v86 : FVec F S16 .f32) (v88 : IVec S16 32)
    (T : Best F → TileProg F i (BitVec 32)) :
    (k0_part3 i arg2 harg2 arg3 harg3 arg4 harg4 arg5 harg5 arg6 harg6 arg7 harg7 v4_r0 v12_r1 v12_r2 v16 v20 v59 k0_hw7 v61 k0_hw1 v63 k0_hw2 v65 k0_hw5 v67 k0_hw6 v71 k0_hw3 v73 k0_hw4 v86 v88 >>= fun ⟨v127, v137, v138, c320_i32_37⟩ => do
      have v139 : IVec S16 32 := broadcast S16 c320_i32_37
      have v140 : IVec S16 32 := select v137 v139 v127
      T (v138, v140)) = (do
      let v89 : Memref sig .scVector .vmem S19508 .f32 := arg5.slice (Rect.unit (s := S20488) ![0] S19508.size inb_S20488_S19508_0) (fun _ => rfl)
      let v90 : Vec F S16 .f32 ← SparseCore.vectorLoadIdx v89 ![v71] (k0_idx3_inb v71 k0_hw3) (View.loads_vmem h_S19508)
      let v91 : Memref sig .scVector .vmem S19508 .f32 := arg5.slice (Rect.unit (s := S20488) ![0] S19508.size inb_S20488_S19508_0) (fun _ => rfl)
      let v92 : Vec F S16 .f32 ← SparseCore.vectorLoadIdx v91 ![v73] (k0_idx4_inb v73 k0_hw4) (View.loads_vmem h_S19508)
      have v93 : FVec F S16 .f32 := subf v16 v90
      have v94 : FVec F S16 .f32 := subf v20 v92
      have v95 : FVec F S16 .f32 := mulf v93 v93
      have v96 : FVec F S16 .f32 := mulf v94 v94
      have v97 : FVec F S16 .f32 := addf v95 v96
      have v98 : IVec S16 1 := cmpf .olt v97 v86
      have v99 : FVec F S16 .f32 := select v98 v97 v86
      let c5_i32_32 : BitVec 32 := 5#32
      have v100 : IVec S16 32 := broadcast S16 c5_i32_32
      have v101 : IVec S16 32 := select v98 v100 v88
      let s1 ← probe arg5 v16 v20 inb_S20488_S19508_8 inb_S20488_S19508_8 (k0_idx5_inb v65 k0_hw5) (k0_idx6_inb v67 k0_hw6) 10#32 (v99, v101)
      let s2 ← probe arg5 v16 v20 inb_S20488_S19508_16 inb_S20488_S19508_16 (k0_idx7_inb v59 k0_hw7) (k0_idx8_inb v61 k0_hw1) 15#32 s1
      let s3 ← probe arg5 v16 v20 inb_S20488_S19508_320 inb_S20488_S19508_320 (k0_idx9_inb v61 k0_hw1) (k0_idx10_inb v63 k0_hw2) 320#32 s2
      T s3) := rfl

set_option maxRecDepth 100000 in
theorem part4_eq (v16 : Vec F S16 .f32) (v20 : Vec F S16 .f32) (v59 : IVec S16 32) (k0_hw7 : k0_chk7 v59) (v61 : IVec S16 32) (k0_hw1 : k0_chk1 v61) (v63 : IVec S16 32) (k0_hw2 : k0_chk2 v63) (v65 : IVec S16 32) (k0_hw5 : k0_chk5 v65) (v67 : IVec S16 32) (k0_hw6 : k0_chk6 v67) (v71 : IVec S16 32) (k0_hw3 : k0_chk3 v71) (v73 : IVec S16 32) (k0_hw4 : k0_chk4 v73) (v127 : IVec S16 32) (v137 : IVec S16 1) (v138 : FVec F S16 .f32) (c320_i32_37 : BitVec 32)
    (T : Best F → TileProg F i (BitVec 32)) :
    (k0_part4 i arg2 harg2 arg3 harg3 arg4 harg4 arg5 harg5 arg6 harg6 arg7 harg7 v4_r0 v12_r1 v12_r2 v16 v20 v59 k0_hw7 v61 k0_hw1 v63 k0_hw2 v65 k0_hw5 v67 k0_hw6 v71 k0_hw3 v73 k0_hw4 v127 v137 v138 c320_i32_37 >>= fun ⟨v177, v179, v186, v187⟩ => do
      have v188 : FVec F S16 .f32 := addf v186 v187
      have v189 : IVec S16 1 := cmpf .olt v188 v177
      have v190 : FVec F S16 .f32 := select v189 v188 v177
      let c640_i32_43 : BitVec 32 := 640#32
      have v191 : IVec S16 32 := broadcast S16 c640_i32_43
      have v192 : IVec S16 32 := select v189 v191 v179
      T (v190, v192)) = (do
      have v139 : IVec S16 32 := broadcast S16 c320_i32_37
      have v140 : IVec S16 32 := select v137 v139 v127
      let s1 ← probe arg5 v16 v20 inb_S20488_S19508_320 inb_S20488_S19508_320 (k0_idx11_inb v71 k0_hw3) (k0_idx12_inb v73 k0_hw4) 325#32 (v138, v140)
      let s2 ← probe arg5 v16 v20 inb_S20488_S19508_328 inb_S20488_S19508_328 (k0_idx13_inb v65 k0_hw5) (k0_idx14_inb v67 k0_hw6) 330#32 s1
      let s3 ← probe arg5 v16 v20 inb_S20488_S19508_336 inb_S20488_S19508_336 (k0_idx15_inb v59 k0_hw7) (k0_idx16_inb v61 k0_hw1) 335#32 s2
      let s4 ← probe arg5 v16 v20 inb_S20488_S19508_640 inb_S20488_S19508_640 (k0_idx17_inb v61 k0_hw1) (k0_idx18_inb v63 k0_hw2) 640#32 s3
      T s4) := rfl

set_option maxRecDepth 100000 in
theorem part5_eq (v16 : Vec F S16 .f32) (v20 : Vec F S16 .f32) (v59 : IVec S16 32) (k0_hw7 : k0_chk7 v59) (v61 : IVec S16 32) (k0_hw1 : k0_chk1 v61) (v63 : IVec S16 32) (k0_hw2 : k0_chk2 v63) (v65 : IVec S16 32) (k0_hw5 : k0_chk5 v65) (v67 : IVec S16 32) (k0_hw6 : k0_chk6 v67) (v71 : IVec S16 32) (k0_hw3 : k0_chk3 v71) (v73 : IVec S16 32) (k0_hw4 : k0_chk4 v73) (v177 : FVec F S16 .f32) (v179 : IVec S16 32) (v186 : FVec F S16 .f32) (v187 : FVec F S16 .f32)
    (T : Best F → TileProg F i (BitVec 32)) :
    (k0_part5 i arg2 harg2 arg3 harg3 arg4 harg4 arg5 harg5 arg6 harg6 arg7 harg7 v4_r0 v12_r1 v12_r2 v16 v20 v59 k0_hw7 v61 k0_hw1 v63 k0_hw2 v65 k0_hw5 v67 k0_hw6 v71 k0_hw3 v73 k0_hw4 v177 v179 v186 v187 >>= fun ⟨v229, v231, v233, v235⟩ => do
      have v236 : FVec F S16 .f32 := subf v16 v233
      have v237 : FVec F S16 .f32 := subf v20 v235
      have v238 : FVec F S16 .f32 := mulf v236 v236
      have v239 : FVec F S16 .f32 := mulf v237 v237
      have v240 : FVec F S16 .f32 := addf v238 v239
      have v241 : IVec S16 1 := cmpf .olt v240 v229
      have v242 : FVec F S16 .f32 := select v241 v240 v229
      let c960_i32_49 : BitVec 32 := 960#32
      have v243 : IVec S16 32 := broadcast S16 c960_i32_49
      have v244 : IVec S16 32 := select v241 v243 v231
      T (v242, v244)) = (do
      have v188 : FVec F S16 .f32 := addf v186 v187
      have v189 : IVec S16 1 := cmpf .olt v188 v177
      have v190 : FVec F S16 .f32 := select v189 v188 v177
      let c640_i32_43 : BitVec 32 := 640#32
      have v191 : IVec S16 32 := broadcast S16 c640_i32_43
      have v192 : IVec S16 32 := select v189 v191 v179
      let s1 ← probe arg5 v16 v20 inb_S20488_S19508_640 inb_S20488_S19508_640 (k0_idx19_inb v71 k0_hw3) (k0_idx20_inb v73 k0_hw4) 645#32 (v190, v192)
      let s2 ← probe arg5 v16 v20 inb_S20488_S19508_648 inb_S20488_S19508_648 (k0_idx21_inb v65 k0_hw5) (k0_idx22_inb v67 k0_hw6) 650#32 s1
      let s3 ← probe arg5 v16 v20 inb_S20488_S19508_656 inb_S20488_S19508_656 (k0_idx23_inb v59 k0_hw7) (k0_idx24_inb v61 k0_hw1) 655#32 s2
      let s4 ← probe arg5 v16 v20 inb_S20488_S19508_960 inb_S20488_S19508_960 (k0_idx25_inb v61 k0_hw1) (k0_idx26_inb v63 k0_hw2) 960#32 s3
      T s4) := rfl

set_option maxRecDepth 100000 in
theorem part6_eq (k0_t2 : Fin k0_t2_loop.trips) (v16 : Vec F S16 .f32) (v20 : Vec F S16 .f32) (v59 : IVec S16 32) (k0_hw7 : k0_chk7 v59) (v61 : IVec S16 32) (k0_hw1 : k0_chk1 v61) (v65 : IVec S16 32) (k0_hw5 : k0_chk5 v65) (v67 : IVec S16 32) (k0_hw6 : k0_chk6 v67) (v71 : IVec S16 32) (k0_hw3 : k0_chk3 v71) (v73 : IVec S16 32) (k0_hw4 : k0_chk4 v73) (v229 : FVec F S16 .f32) (v231 : IVec S16 32) (v233 : Vec F S16 .f32) (v235 : Vec F S16 .f32)
    (T : TileProg F i (BitVec 32)) :
    (k0_part6 i arg2 harg2 arg3 harg3 arg4 harg4 arg5 harg5 arg6 harg6 arg7 harg7 v4_r0 v12_r1 v12_r2 v16 v20 v59 k0_hw7 v61 k0_hw1 v65 k0_hw5 v67 k0_hw6 v71 k0_hw3 v73 k0_hw4 v229 v231 v233 v235 >>= fun ⟨v284, c3_i32_54⟩ => do
      have v285 : IVec S16 32 := broadcast S16 c3_i32_54
      have v286 : IVec S16 32 := addi v284 v285
      have k0_hw8 : k0_chk8 v286 := (← Prog.lift (TpuEff.assume (k0_chk8 v286) (k0_chk8.dec v286))).down
      let v287 : Vec F S16 .f32 ← SparseCore.vectorLoadIdx arg5 ![v286] (k0_idx33_inb v286 k0_hw8) (View.loads_vmem h_S20488)
      let c4_i32_55 : BitVec 32 := 4#32
      have v288 : IVec S16 32 := broadcast S16 c4_i32_55
      have v289 : IVec S16 32 := addi v284 v288
      have k0_hw9 : k0_chk9 v289 := (← Prog.lift (TpuEff.assume (k0_chk9 v289) (k0_chk9.dec v289))).down
      let v290 : Vec F S16 .f32 ← SparseCore.vectorLoadIdx arg5 ![v289] (k0_idx34_inb v289 k0_hw9) (View.loads_vmem h_S20488)
      let c5_i32_56 : BitVec 32 := 5#32
      have v291 : IVec S16 32 := broadcast S16 c5_i32_56
      have v292 : IVec S16 32 := addi v284 v291
      have k0_hw10 : k0_chk10 v292 := (← Prog.lift (TpuEff.assume (k0_chk10 v292) (k0_chk10.dec v292))).down
      let v293 : Vec F S16 .f32 ← SparseCore.vectorLoadIdx arg5 ![v292] (k0_idx35_inb v292 k0_hw10) (View.loads_vmem h_S20488)
      let v296 : Vec F S16 .f32 ← Prog.lift (.load arg7 (Rect.unit (s := S8192) (k0_off4 k0_t2) S16.size (k0_off4_inb k0_t2)).toLoadRect (View.loadsAt_vmem h_S16))
      Prog.lift (.store arg7 (Rect.unit (s := S8192) (k0_off4 k0_t2) S16.size (k0_off4_inb k0_t2)) v287 Finset.univ (View.stores_vmem_bits_univ h_S16 rfl) (.inl rfl))
      let v300 : Vec F S16 .f32 ← Prog.lift (.load arg7 (Rect.unit (s := S8192) (k0_off5 k0_t2 128#32) S16.size (k0_off5_inb k0_t2 0)).toLoadRect (View.loadsAt_vmem h_S16))
      Prog.lift (.store arg7 (Rect.unit (s := S8192) (k0_off5 k0_t2 128#32) S16.size (k0_off5_inb k0_t2 0)) v290 Finset.univ (View.stores_vmem_bits_univ h_S16 rfl) (.inl rfl))
      let v304 : Vec F S16 .f32 ← Prog.lift (.load arg7 (Rect.unit (s := S8192) (k0_off5 k0_t2 256#32) S16.size (k0_off5_inb k0_t2 1)).toLoadRect (View.loadsAt_vmem h_S16))
      Prog.lift (.store arg7 (Rect.unit (s := S8192) (k0_off5 k0_t2 256#32) S16.size (k0_off5_inb k0_t2 1)) v293 Finset.univ (View.stores_vmem_bits_univ h_S16 rfl) (.inl rfl))
      T) = (do
      have v236 : FVec F S16 .f32 := subf v16 v233
      have v237 : FVec F S16 .f32 := subf v20 v235
      have v238 : FVec F S16 .f32 := mulf v236 v236
      have v239 : FVec F S16 .f32 := mulf v237 v237
      have v240 : FVec F S16 .f32 := addf v238 v239
      have v241 : IVec S16 1 := cmpf .olt v240 v229
      have v242 : FVec F S16 .f32 := select v241 v240 v229
      let c960_i32_49 : BitVec 32 := 960#32
      have v243 : IVec S16 32 := broadcast S16 c960_i32_49
      have v244 : IVec S16 32 := select v241 v243 v231
      let s1 ← probe arg5 v16 v20 inb_S20488_S19508_960 inb_S20488_S19508_960 (k0_idx27_inb v71 k0_hw3) (k0_idx28_inb v73 k0_hw4) 965#32 (v242, v244)
      let s2 ← probe arg5 v16 v20 inb_S20488_S19508_968 inb_S20488_S19508_968 (k0_idx29_inb v65 k0_hw5) (k0_idx30_inb v67 k0_hw6) 970#32 s1
      let s3 ← probe arg5 v16 v20 inb_S20488_S19508_976 inb_S20488_S19508_976 (k0_idx31_inb v59 k0_hw7) (k0_idx32_inb v61 k0_hw1) 975#32 s2
      have v283 : IVec S16 32 := s3.2
      have v284 : IVec S16 32 := addi v59 v283
      let c3_i32_54 : BitVec 32 := 3#32
      have v285 : IVec S16 32 := broadcast S16 c3_i32_54
      have v286 : IVec S16 32 := addi v284 v285
      have k0_hw8 : k0_chk8 v286 := (← Prog.lift (TpuEff.assume (k0_chk8 v286) (k0_chk8.dec v286))).down
      let v287 : Vec F S16 .f32 ← SparseCore.vectorLoadIdx arg5 ![v286] (k0_idx33_inb v286 k0_hw8) (View.loads_vmem h_S20488)
      let c4_i32_55 : BitVec 32 := 4#32
      have v288 : IVec S16 32 := broadcast S16 c4_i32_55
      have v289 : IVec S16 32 := addi v284 v288
      have k0_hw9 : k0_chk9 v289 := (← Prog.lift (TpuEff.assume (k0_chk9 v289) (k0_chk9.dec v289))).down
      let v290 : Vec F S16 .f32 ← SparseCore.vectorLoadIdx arg5 ![v289] (k0_idx34_inb v289 k0_hw9) (View.loads_vmem h_S20488)
      let c5_i32_56 : BitVec 32 := 5#32
      have v291 : IVec S16 32 := broadcast S16 c5_i32_56
      have v292 : IVec S16 32 := addi v284 v291
      have k0_hw10 : k0_chk10 v292 := (← Prog.lift (TpuEff.assume (k0_chk10 v292) (k0_chk10.dec v292))).down
      let v293 : Vec F S16 .f32 ← SparseCore.vectorLoadIdx arg5 ![v292] (k0_idx35_inb v292 k0_hw10) (View.loads_vmem h_S20488)
      let v296 : Vec F S16 .f32 ← Prog.lift (.load arg7 (Rect.unit (s := S8192) (k0_off4 k0_t2) S16.size (k0_off4_inb k0_t2)).toLoadRect (View.loadsAt_vmem h_S16))
      Prog.lift (.store arg7 (Rect.unit (s := S8192) (k0_off4 k0_t2) S16.size (k0_off4_inb k0_t2)) v287 Finset.univ (View.stores_vmem_bits_univ h_S16 rfl) (.inl rfl))
      let v300 : Vec F S16 .f32 ← Prog.lift (.load arg7 (Rect.unit (s := S8192) (k0_off5 k0_t2 128#32) S16.size (k0_off5_inb k0_t2 0)).toLoadRect (View.loadsAt_vmem h_S16))
      Prog.lift (.store arg7 (Rect.unit (s := S8192) (k0_off5 k0_t2 128#32) S16.size (k0_off5_inb k0_t2 0)) v290 Finset.univ (View.stores_vmem_bits_univ h_S16 rfl) (.inl rfl))
      let v304 : Vec F S16 .f32 ← Prog.lift (.load arg7 (Rect.unit (s := S8192) (k0_off5 k0_t2 256#32) S16.size (k0_off5_inb k0_t2 1)).toLoadRect (View.loadsAt_vmem h_S16))
      Prog.lift (.store arg7 (Rect.unit (s := S8192) (k0_off5 k0_t2 256#32) S16.size (k0_off5_inb k0_t2 1)) v293 Finset.univ (View.stores_vmem_bits_univ h_S16 rfl) (.inl rfl))
      T) := rfl

set_option maxRecDepth 100000 in
theorem part7_eq (k0_t2 : Fin k0_t2_loop.trips) (v12 : BitVec 32) (v13 : BitVec 32) (v284 : IVec S16 32) (c3_i32_54 : BitVec 32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part7 i arg2 harg2 arg3 harg3 arg4 harg4 arg5 harg5 arg6 harg6 arg7 harg7 v4_r0 v12_r1 v12_r2 k0_t2 v12 v13 v284 c3_i32_54 >>= fun ⟨v307, v311, v317, v319, v321, v323, v324⟩ => do
      have v325 : IVec S16 1 := cmpf .oge v319 v324
      let c1_i32_69 : BitVec 32 := 1#32
      let c0_i32_70 : BitVec 32 := 0#32
      have v326 : IVec S16 32 := broadcast S16 c1_i32_69
      have v327 : IVec S16 32 := broadcast S16 c0_i32_70
      have v328 : IVec S16 32 := select v325 v326 v327
      have v329 : IVec S16 32 := addi v323 v328
      let c2_i32_71 : BitVec 32 := 2#32
      have v330 : IVec S16 32 := broadcast S16 c2_i32_71
      have v331 : IVec S16 32 := subi v317 v330
      have cst_72 : F .f32 := Scalar.ofBits .f32 0x3F000000#32
      have v332 : FVec F S16 .f32 := broadcast S16 cst_72
      have v333 : IVec S16 1 := cmpf .oge v321 v332
      let c1_i32_73 : BitVec 32 := 1#32
      let c0_i32_74 : BitVec 32 := 0#32
      have v334 : IVec S16 32 := broadcast S16 c1_i32_73
      have v335 : IVec S16 32 := broadcast S16 c0_i32_74
      have v336 : IVec S16 32 := select v333 v334 v335
      have v337 : IVec S16 32 := addi v331 v336
      let c0_i32_75 : BitVec 32 := 0#32
      let c60_i32_76 : BitVec 32 := 60#32
      have v338 : IVec S16 32 := broadcast S16 c0_i32_75
      have v339 : IVec S16 32 := maxsi v338 v329
      have v340 : IVec S16 32 := broadcast S16 c60_i32_76
      have v341 : IVec S16 32 := minsi v340 v339
      let c0_i32_77 : BitVec 32 := 0#32
      let c60_i32_78 : BitVec 32 := 60#32
      have v342 : IVec S16 32 := broadcast S16 c0_i32_77
      have v343 : IVec S16 32 := maxsi v342 v337
      have v344 : IVec S16 32 := broadcast S16 c60_i32_78
      have v345 : IVec S16 32 := minsi v344 v343
      let c64_i32_79 : BitVec 32 := 64#32
      have v346 : IVec S16 32 := broadcast S16 c64_i32_79
      have v347 : IVec S16 32 := muli v341 v346
      have v348 : IVec S16 32 := addi v347 v345
      let c5_i32_80 : BitVec 32 := 5#32
      have v349 : IVec S16 32 := broadcast S16 c5_i32_80
      have v350 : IVec S16 32 := muli v348 v349
      have k0_hw17 : k0_chk17 v350 := (← Prog.lift (TpuEff.assume (k0_chk17 v350) (k0_chk17.dec v350))).down
      let c1_i32_81 : BitVec 32 := 1#32
      have v351 : IVec S16 32 := broadcast S16 c1_i32_81
      have v352 : IVec S16 32 := addi v350 v351
      have k0_hw11 : k0_chk11 v352 := (← Prog.lift (TpuEff.assume (k0_chk11 v352) (k0_chk11.dec v352))).down
      let c2_i32_82 : BitVec 32 := 2#32
      have v353 : IVec S16 32 := broadcast S16 c2_i32_82
      have v354 : IVec S16 32 := addi v350 v353
      have k0_hw12 : k0_chk12 v354 := (← Prog.lift (TpuEff.assume (k0_chk12 v354) (k0_chk12.dec v354))).down
      let c3_i32_83 : BitVec 32 := 3#32
      have v355 : IVec S16 32 := broadcast S16 c3_i32_83
      have v356 : IVec S16 32 := addi v350 v355
      have k0_hw15 : k0_chk15 v356 := (← Prog.lift (TpuEff.assume (k0_chk15 v356) (k0_chk15.dec v356))).down
      let c4_i32_84 : BitVec 32 := 4#32
      have v357 : IVec S16 32 := broadcast S16 c4_i32_84
      have v358 : IVec S16 32 := addi v350 v357
      have k0_hw16 : k0_chk16 v358 := (← Prog.lift (TpuEff.assume (k0_chk16 v358) (k0_chk16.dec v358))).down
      let c6_i32_86 : BitVec 32 := 6#32
      have v361 : IVec S16 32 := broadcast S16 c6_i32_86
      have v362 : IVec S16 32 := addi v350 v361
      have k0_hw13 : k0_chk13 v362 := (← Prog.lift (TpuEff.assume (k0_chk13 v362) (k0_chk13.dec v362))).down
      let c7_i32_87 : BitVec 32 := 7#32
      have v363 : IVec S16 32 := broadcast S16 c7_i32_87
      have v364 : IVec S16 32 := addi v350 v363
      have k0_hw14 : k0_chk14 v364 := (← Prog.lift (TpuEff.assume (k0_chk14 v364) (k0_chk14.dec v364))).down
      T v307 v311 v350 v352 v354 v356 v358 v362 v364 k0_hw17 k0_hw11 k0_hw12 k0_hw15 k0_hw16 k0_hw13 k0_hw14) = (do
      have v285 : IVec S16 32 := broadcast S16 c3_i32_54
      have v286 : IVec S16 32 := addi v284 v285
      have k0_hw8 : k0_chk8 v286 := (← Prog.lift (TpuEff.assume (k0_chk8 v286) (k0_chk8.dec v286))).down
      let v287 : Vec F S16 .f32 ← SparseCore.vectorLoadIdx arg5 ![v286] (k0_idx33_inb v286 k0_hw8) (View.loads_vmem h_S20488)
      let c4_i32_55 : BitVec 32 := 4#32
      have v288 : IVec S16 32 := broadcast S16 c4_i32_55
      have v289 : IVec S16 32 := addi v284 v288
      have k0_hw9 : k0_chk9 v289 := (← Prog.lift (TpuEff.assume (k0_chk9 v289) (k0_chk9.dec v289))).down
      let v290 : Vec F S16 .f32 ← SparseCore.vectorLoadIdx arg5 ![v289] (k0_idx34_inb v289 k0_hw9) (View.loads_vmem h_S20488)
      let c5_i32_56 : BitVec 32 := 5#32
      have v291 : IVec S16 32 := broadcast S16 c5_i32_56
      have v292 : IVec S16 32 := addi v284 v291
      have k0_hw10 : k0_chk10 v292 := (← Prog.lift (TpuEff.assume (k0_chk10 v292) (k0_chk10.dec v292))).down
      let v293 : Vec F S16 .f32 ← SparseCore.vectorLoadIdx arg5 ![v292] (k0_idx35_inb v292 k0_hw10) (View.loads_vmem h_S20488)
      let v296 : Vec F S16 .f32 ← Prog.lift (.load arg7 (Rect.unit (s := S8192) (k0_off4 k0_t2) S16.size (k0_off4_inb k0_t2)).toLoadRect (View.loadsAt_vmem h_S16))
      Prog.lift (.store arg7 (Rect.unit (s := S8192) (k0_off4 k0_t2) S16.size (k0_off4_inb k0_t2)) v287 Finset.univ (View.stores_vmem_bits_univ h_S16 rfl) (.inl rfl))
      let v300 : Vec F S16 .f32 ← Prog.lift (.load arg7 (Rect.unit (s := S8192) (k0_off5 k0_t2 128#32) S16.size (k0_off5_inb k0_t2 0)).toLoadRect (View.loadsAt_vmem h_S16))
      Prog.lift (.store arg7 (Rect.unit (s := S8192) (k0_off5 k0_t2 128#32) S16.size (k0_off5_inb k0_t2 0)) v290 Finset.univ (View.stores_vmem_bits_univ h_S16 rfl) (.inl rfl))
      let v304 : Vec F S16 .f32 ← Prog.lift (.load arg7 (Rect.unit (s := S8192) (k0_off5 k0_t2 256#32) S16.size (k0_off5_inb k0_t2 1)).toLoadRect (View.loadsAt_vmem h_S16))
      Prog.lift (.store arg7 (Rect.unit (s := S8192) (k0_off5 k0_t2 256#32) S16.size (k0_off5_inb k0_t2 1)) v293 Finset.univ (View.stores_vmem_bits_univ h_S16 rfl) (.inl rfl))
      let v307 : Vec F S16 .f32 ← Prog.lift (.load arg6 (Rect.unit (s := S4096) (k0_off6 k0_t2) S16.size (k0_off6_inb k0_t2)).toLoadRect (View.loadsAt_vmem h_S16))
      let v311 : Vec F S16 .f32 ← Prog.lift (.load arg6 (Rect.unit (s := S4096) (k0_off7 k0_t2) S16.size (k0_off7_inb k0_t2)).toLoadRect (View.loadsAt_vmem h_S16))
      have cst_65 : F .f32 := Scalar.ofBits .f32 0x42800000#32
      have v312 : FVec F S16 .f32 := broadcast S16 cst_65
      have v313 : FVec F S16 .f32 := mulf v307 v312
      have cst_66 : F .f32 := Scalar.ofBits .f32 0x42800000#32
      have v314 : FVec F S16 .f32 := broadcast S16 cst_66
      have v315 : FVec F S16 .f32 := mulf v311 v314
      have v316 : IVec S16 32 := fptosi 32 v313
      have v317 : IVec S16 32 := fptosi 32 v315
      have v318 : FVec F S16 .f32 := sitofp .f32 v316
      have v319 : FVec F S16 .f32 := subf v313 v318
      have v320 : FVec F S16 .f32 := sitofp .f32 v317
      have v321 : FVec F S16 .f32 := subf v315 v320
      let c2_i32_67 : BitVec 32 := 2#32
      have v322 : IVec S16 32 := broadcast S16 c2_i32_67
      have v323 : IVec S16 32 := subi v316 v322
      have cst_68 : F .f32 := Scalar.ofBits .f32 0x3F000000#32
      have v324 : FVec F S16 .f32 := broadcast S16 cst_68
      have v325 : IVec S16 1 := cmpf .oge v319 v324
      let c1_i32_69 : BitVec 32 := 1#32
      let c0_i32_70 : BitVec 32 := 0#32
      have v326 : IVec S16 32 := broadcast S16 c1_i32_69
      have v327 : IVec S16 32 := broadcast S16 c0_i32_70
      have v328 : IVec S16 32 := select v325 v326 v327
      have v329 : IVec S16 32 := addi v323 v328
      let c2_i32_71 : BitVec 32 := 2#32
      have v330 : IVec S16 32 := broadcast S16 c2_i32_71
      have v331 : IVec S16 32 := subi v317 v330
      have cst_72 : F .f32 := Scalar.ofBits .f32 0x3F000000#32
      have v332 : FVec F S16 .f32 := broadcast S16 cst_72
      have v333 : IVec S16 1 := cmpf .oge v321 v332
      let c1_i32_73 : BitVec 32 := 1#32
      let c0_i32_74 : BitVec 32 := 0#32
      have v334 : IVec S16 32 := broadcast S16 c1_i32_73
      have v335 : IVec S16 32 := broadcast S16 c0_i32_74
      have v336 : IVec S16 32 := select v333 v334 v335
      have v337 : IVec S16 32 := addi v331 v336
      let c0_i32_75 : BitVec 32 := 0#32
      let c60_i32_76 : BitVec 32 := 60#32
      have v338 : IVec S16 32 := broadcast S16 c0_i32_75
      have v339 : IVec S16 32 := maxsi v338 v329
      have v340 : IVec S16 32 := broadcast S16 c60_i32_76
      have v341 : IVec S16 32 := minsi v340 v339
      let c0_i32_77 : BitVec 32 := 0#32
      let c60_i32_78 : BitVec 32 := 60#32
      have v342 : IVec S16 32 := broadcast S16 c0_i32_77
      have v343 : IVec S16 32 := maxsi v342 v337
      have v344 : IVec S16 32 := broadcast S16 c60_i32_78
      have v345 : IVec S16 32 := minsi v344 v343
      let c64_i32_79 : BitVec 32 := 64#32
      have v346 : IVec S16 32 := broadcast S16 c64_i32_79
      have v347 : IVec S16 32 := muli v341 v346
      have v348 : IVec S16 32 := addi v347 v345
      let c5_i32_80 : BitVec 32 := 5#32
      have v349 : IVec S16 32 := broadcast S16 c5_i32_80
      have v350 : IVec S16 32 := muli v348 v349
      have k0_hw17 : k0_chk17 v350 := (← Prog.lift (TpuEff.assume (k0_chk17 v350) (k0_chk17.dec v350))).down
      let c1_i32_81 : BitVec 32 := 1#32
      have v351 : IVec S16 32 := broadcast S16 c1_i32_81
      have v352 : IVec S16 32 := addi v350 v351
      have k0_hw11 : k0_chk11 v352 := (← Prog.lift (TpuEff.assume (k0_chk11 v352) (k0_chk11.dec v352))).down
      let c2_i32_82 : BitVec 32 := 2#32
      have v353 : IVec S16 32 := broadcast S16 c2_i32_82
      have v354 : IVec S16 32 := addi v350 v353
      have k0_hw12 : k0_chk12 v354 := (← Prog.lift (TpuEff.assume (k0_chk12 v354) (k0_chk12.dec v354))).down
      let c3_i32_83 : BitVec 32 := 3#32
      have v355 : IVec S16 32 := broadcast S16 c3_i32_83
      have v356 : IVec S16 32 := addi v350 v355
      have k0_hw15 : k0_chk15 v356 := (← Prog.lift (TpuEff.assume (k0_chk15 v356) (k0_chk15.dec v356))).down
      let c4_i32_84 : BitVec 32 := 4#32
      have v357 : IVec S16 32 := broadcast S16 c4_i32_84
      have v358 : IVec S16 32 := addi v350 v357
      have k0_hw16 : k0_chk16 v358 := (← Prog.lift (TpuEff.assume (k0_chk16 v358) (k0_chk16.dec v358))).down
      let c6_i32_86 : BitVec 32 := 6#32
      have v361 : IVec S16 32 := broadcast S16 c6_i32_86
      have v362 : IVec S16 32 := addi v350 v361
      have k0_hw13 : k0_chk13 v362 := (← Prog.lift (TpuEff.assume (k0_chk13 v362) (k0_chk13.dec v362))).down
      let c7_i32_87 : BitVec 32 := 7#32
      have v363 : IVec S16 32 := broadcast S16 c7_i32_87
      have v364 : IVec S16 32 := addi v350 v363
      have k0_hw14 : k0_chk14 v364 := (← Prog.lift (TpuEff.assume (k0_chk14 v364) (k0_chk14.dec v364))).down
      T v307 v311 v350 v352 v354 v356 v358 v362 v364 k0_hw17 k0_hw11 k0_hw12 k0_hw15 k0_hw16 k0_hw13 k0_hw14) := rfl

set_option maxRecDepth 100000 in
theorem part8_eq (v307 : Vec F S16 .f32) (v311 : Vec F S16 .f32) (v317 : IVec S16 32) (v319 : FVec F S16 .f32) (v321 : FVec F S16 .f32) (v323 : IVec S16 32) (v324 : FVec F S16 .f32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part8 i arg2 harg2 arg3 harg3 arg4 harg4 arg5 harg5 arg6 harg6 arg7 harg7 v4_r0 v12_r1 v12_r2 v317 v319 v321 v323 v324 >>= fun ⟨v350, k0_hw17, v352, k0_hw11, v354, k0_hw12, v356, k0_hw15, v358, k0_hw16, v361⟩ => do
      have v362 : IVec S16 32 := addi v350 v361
      have k0_hw13 : k0_chk13 v362 := (← Prog.lift (TpuEff.assume (k0_chk13 v362) (k0_chk13.dec v362))).down
      let c7_i32_87 : BitVec 32 := 7#32
      have v363 : IVec S16 32 := broadcast S16 c7_i32_87
      have v364 : IVec S16 32 := addi v350 v363
      have k0_hw14 : k0_chk14 v364 := (← Prog.lift (TpuEff.assume (k0_chk14 v364) (k0_chk14.dec v364))).down
      T v307 v311 v350 v352 v354 v356 v358 v362 v364 k0_hw17 k0_hw11 k0_hw12 k0_hw15 k0_hw16 k0_hw13 k0_hw14) = (do
      have v325 : IVec S16 1 := cmpf .oge v319 v324
      let c1_i32_69 : BitVec 32 := 1#32
      let c0_i32_70 : BitVec 32 := 0#32
      have v326 : IVec S16 32 := broadcast S16 c1_i32_69
      have v327 : IVec S16 32 := broadcast S16 c0_i32_70
      have v328 : IVec S16 32 := select v325 v326 v327
      have v329 : IVec S16 32 := addi v323 v328
      let c2_i32_71 : BitVec 32 := 2#32
      have v330 : IVec S16 32 := broadcast S16 c2_i32_71
      have v331 : IVec S16 32 := subi v317 v330
      have cst_72 : F .f32 := Scalar.ofBits .f32 0x3F000000#32
      have v332 : FVec F S16 .f32 := broadcast S16 cst_72
      have v333 : IVec S16 1 := cmpf .oge v321 v332
      let c1_i32_73 : BitVec 32 := 1#32
      let c0_i32_74 : BitVec 32 := 0#32
      have v334 : IVec S16 32 := broadcast S16 c1_i32_73
      have v335 : IVec S16 32 := broadcast S16 c0_i32_74
      have v336 : IVec S16 32 := select v333 v334 v335
      have v337 : IVec S16 32 := addi v331 v336
      let c0_i32_75 : BitVec 32 := 0#32
      let c60_i32_76 : BitVec 32 := 60#32
      have v338 : IVec S16 32 := broadcast S16 c0_i32_75
      have v339 : IVec S16 32 := maxsi v338 v329
      have v340 : IVec S16 32 := broadcast S16 c60_i32_76
      have v341 : IVec S16 32 := minsi v340 v339
      let c0_i32_77 : BitVec 32 := 0#32
      let c60_i32_78 : BitVec 32 := 60#32
      have v342 : IVec S16 32 := broadcast S16 c0_i32_77
      have v343 : IVec S16 32 := maxsi v342 v337
      have v344 : IVec S16 32 := broadcast S16 c60_i32_78
      have v345 : IVec S16 32 := minsi v344 v343
      let c64_i32_79 : BitVec 32 := 64#32
      have v346 : IVec S16 32 := broadcast S16 c64_i32_79
      have v347 : IVec S16 32 := muli v341 v346
      have v348 : IVec S16 32 := addi v347 v345
      let c5_i32_80 : BitVec 32 := 5#32
      have v349 : IVec S16 32 := broadcast S16 c5_i32_80
      have v350 : IVec S16 32 := muli v348 v349
      have k0_hw17 : k0_chk17 v350 := (← Prog.lift (TpuEff.assume (k0_chk17 v350) (k0_chk17.dec v350))).down
      let c1_i32_81 : BitVec 32 := 1#32
      have v351 : IVec S16 32 := broadcast S16 c1_i32_81
      have v352 : IVec S16 32 := addi v350 v351
      have k0_hw11 : k0_chk11 v352 := (← Prog.lift (TpuEff.assume (k0_chk11 v352) (k0_chk11.dec v352))).down
      let c2_i32_82 : BitVec 32 := 2#32
      have v353 : IVec S16 32 := broadcast S16 c2_i32_82
      have v354 : IVec S16 32 := addi v350 v353
      have k0_hw12 : k0_chk12 v354 := (← Prog.lift (TpuEff.assume (k0_chk12 v354) (k0_chk12.dec v354))).down
      let c3_i32_83 : BitVec 32 := 3#32
      have v355 : IVec S16 32 := broadcast S16 c3_i32_83
      have v356 : IVec S16 32 := addi v350 v355
      have k0_hw15 : k0_chk15 v356 := (← Prog.lift (TpuEff.assume (k0_chk15 v356) (k0_chk15.dec v356))).down
      let c4_i32_84 : BitVec 32 := 4#32
      have v357 : IVec S16 32 := broadcast S16 c4_i32_84
      have v358 : IVec S16 32 := addi v350 v357
      have k0_hw16 : k0_chk16 v358 := (← Prog.lift (TpuEff.assume (k0_chk16 v358) (k0_chk16.dec v358))).down
      let c6_i32_86 : BitVec 32 := 6#32
      have v361 : IVec S16 32 := broadcast S16 c6_i32_86
      have v362 : IVec S16 32 := addi v350 v361
      have k0_hw13 : k0_chk13 v362 := (← Prog.lift (TpuEff.assume (k0_chk13 v362) (k0_chk13.dec v362))).down
      let c7_i32_87 : BitVec 32 := 7#32
      have v363 : IVec S16 32 := broadcast S16 c7_i32_87
      have v364 : IVec S16 32 := addi v350 v363
      have k0_hw14 : k0_chk14 v364 := (← Prog.lift (TpuEff.assume (k0_chk14 v364) (k0_chk14.dec v364))).down
      T v307 v311 v350 v352 v354 v356 v358 v362 v364 k0_hw17 k0_hw11 k0_hw12 k0_hw15 k0_hw16 k0_hw13 k0_hw14) := rfl

set_option maxRecDepth 100000 in
theorem part9_eq (v307 : Vec F S16 .f32) (v311 : Vec F S16 .f32) (v350 : IVec S16 32) (k0_hw17 : k0_chk17 v350) (v352 : IVec S16 32) (k0_hw11 : k0_chk11 v352) (v354 : IVec S16 32) (k0_hw12 : k0_chk12 v354) (v356 : IVec S16 32) (k0_hw15 : k0_chk15 v356) (v358 : IVec S16 32) (k0_hw16 : k0_chk16 v358) (v361 : IVec S16 32)
    (T : Best F → FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part9 i arg2 harg2 arg3 harg3 arg4 harg4 arg5 harg5 arg6 harg6 arg7 harg7 v4_r0 v12_r1 v12_r2 v307 v311 v350 v352 k0_hw11 v354 k0_hw12 v356 k0_hw15 v358 k0_hw16 v361 >>= fun ⟨v362, k0_hw13, v364, k0_hw14, v403, v405⟩ => do
      let v406 : Memref sig .scVector .vmem S19508 .f32 := arg5.slice (Rect.unit (s := S20488) ![16] S19508.size inb_S20488_S19508_16) (fun _ => rfl)
      let v407 : Vec F S16 .f32 ← SparseCore.vectorLoadIdx v406 ![v350] (k0_idx42_inb v350 k0_hw17) (View.loads_vmem h_S19508)
      let v408 : Memref sig .scVector .vmem S19508 .f32 := arg5.slice (Rect.unit (s := S20488) ![16] S19508.size inb_S20488_S19508_16) (fun _ => rfl)
      let v409 : Vec F S16 .f32 ← SparseCore.vectorLoadIdx v408 ![v352] (k0_idx43_inb v352 k0_hw11) (View.loads_vmem h_S19508)
      have v410 : FVec F S16 .f32 := subf v307 v407
      have v411 : FVec F S16 .f32 := subf v311 v409
      have v412 : FVec F S16 .f32 := mulf v410 v410
      have v413 : FVec F S16 .f32 := mulf v411 v411
      have v414 : FVec F S16 .f32 := addf v412 v413
      have v415 : IVec S16 1 := cmpf .olt v414 v403
      have v416 : FVec F S16 .f32 := select v415 v414 v403
      let c15_i32_101 : BitVec 32 := 15#32
      have v417 : IVec S16 32 := broadcast S16 c15_i32_101
      have v418 : IVec S16 32 := select v415 v417 v405
      T (v416, v418) v307 v311 v350 v352 v354 v356 v358 v362 v364 k0_hw17 k0_hw11 k0_hw12 k0_hw15 k0_hw16 k0_hw13 k0_hw14) = (do
      have v362 : IVec S16 32 := addi v350 v361
      have k0_hw13 : k0_chk13 v362 := (← Prog.lift (TpuEff.assume (k0_chk13 v362) (k0_chk13.dec v362))).down
      let c7_i32_87 : BitVec 32 := 7#32
      have v363 : IVec S16 32 := broadcast S16 c7_i32_87
      have v364 : IVec S16 32 := addi v350 v363
      have k0_hw14 : k0_chk14 v364 := (← Prog.lift (TpuEff.assume (k0_chk14 v364) (k0_chk14.dec v364))).down
      let s1 ← probe arg5 v307 v311 inb_S20488_S19508_0 inb_S20488_S19508_0 (k0_idx36_inb v352 k0_hw11) (k0_idx37_inb v354 k0_hw12) 0#32 start
      let s2 ← probe arg5 v307 v311 inb_S20488_S19508_0 inb_S20488_S19508_0 (k0_idx38_inb v362 k0_hw13) (k0_idx39_inb v364 k0_hw14) 5#32 s1
      let s3 ← probe arg5 v307 v311 inb_S20488_S19508_8 inb_S20488_S19508_8 (k0_idx40_inb v356 k0_hw15) (k0_idx41_inb v358 k0_hw16) 10#32 s2
      let s4 ← probe arg5 v307 v311 inb_S20488_S19508_16 inb_S20488_S19508_16 (k0_idx42_inb v350 k0_hw17) (k0_idx43_inb v352 k0_hw11) 15#32 s3
      T s4 v307 v311 v350 v352 v354 v356 v358 v362 v364 k0_hw17 k0_hw11 k0_hw12 k0_hw15 k0_hw16 k0_hw13 k0_hw14) := rfl

set_option maxRecDepth 100000 in
theorem part10_eq (v307 : Vec F S16 .f32) (v311 : Vec F S16 .f32) (v350 : IVec S16 32) (k0_hw17 : k0_chk17 v350) (v352 : IVec S16 32) (k0_hw11 : k0_chk11 v352) (v354 : IVec S16 32) (k0_hw12 : k0_chk12 v354) (v356 : IVec S16 32) (k0_hw15 : k0_chk15 v356) (v358 : IVec S16 32) (k0_hw16 : k0_chk16 v358) (v362 : IVec S16 32) (k0_hw13 : k0_chk13 v362) (v364 : IVec S16 32) (k0_hw14 : k0_chk14 v364) (v403 : FVec F S16 .f32) (v405 : IVec S16 32)
    (T : Best F → TileProg F i (BitVec 32)) :
    (k0_part10 i arg2 harg2 arg3 harg3 arg4 harg4 arg5 harg5 arg6 harg6 arg7 harg7 v4_r0 v12_r1 v12_r2 v307 v311 v350 k0_hw17 v352 k0_hw11 v354 k0_hw12 v356 k0_hw15 v358 k0_hw16 v362 k0_hw13 v364 k0_hw14 v403 v405 >>= fun ⟨v444, v454, v455, c330_i32_110⟩ => do
      have v456 : IVec S16 32 := broadcast S16 c330_i32_110
      have v457 : IVec S16 32 := select v454 v456 v444
      T (v455, v457)) = (do
      let v406 : Memref sig .scVector .vmem S19508 .f32 := arg5.slice (Rect.unit (s := S20488) ![16] S19508.size inb_S20488_S19508_16) (fun _ => rfl)
      let v407 : Vec F S16 .f32 ← SparseCore.vectorLoadIdx v406 ![v350] (k0_idx42_inb v350 k0_hw17) (View.loads_vmem h_S19508)
      let v408 : Memref sig .scVector .vmem S19508 .f32 := arg5.slice (Rect.unit (s := S20488) ![16] S19508.size inb_S20488_S19508_16) (fun _ => rfl)
      let v409 : Vec F S16 .f32 ← SparseCore.vectorLoadIdx v408 ![v352] (k0_idx43_inb v352 k0_hw11) (View.loads_vmem h_S19508)
      have v410 : FVec F S16 .f32 := subf v307 v407
      have v411 : FVec F S16 .f32 := subf v311 v409
      have v412 : FVec F S16 .f32 := mulf v410 v410
      have v413 : FVec F S16 .f32 := mulf v411 v411
      have v414 : FVec F S16 .f32 := addf v412 v413
      have v415 : IVec S16 1 := cmpf .olt v414 v403
      have v416 : FVec F S16 .f32 := select v415 v414 v403
      let c15_i32_101 : BitVec 32 := 15#32
      have v417 : IVec S16 32 := broadcast S16 c15_i32_101
      have v418 : IVec S16 32 := select v415 v417 v405
      let s1 ← probe arg5 v307 v311 inb_S20488_S19508_320 inb_S20488_S19508_320 (k0_idx44_inb v352 k0_hw11) (k0_idx45_inb v354 k0_hw12) 320#32 (v416, v418)
      let s2 ← probe arg5 v307 v311 inb_S20488_S19508_320 inb_S20488_S19508_320 (k0_idx46_inb v362 k0_hw13) (k0_idx47_inb v364 k0_hw14) 325#32 s1
      let s3 ← probe arg5 v307 v311 inb_S20488_S19508_328 inb_S20488_S19508_328 (k0_idx48_inb v356 k0_hw15) (k0_idx49_inb v358 k0_hw16) 330#32 s2
      T s3) := rfl

set_option maxRecDepth 100000 in
theorem part11_eq (v307 : Vec F S16 .f32) (v311 : Vec F S16 .f32) (v350 : IVec S16 32) (k0_hw17 : k0_chk17 v350) (v352 : IVec S16 32) (k0_hw11 : k0_chk11 v352) (v354 : IVec S16 32) (k0_hw12 : k0_chk12 v354) (v356 : IVec S16 32) (k0_hw15 : k0_chk15 v356) (v358 : IVec S16 32) (k0_hw16 : k0_chk16 v358) (v362 : IVec S16 32) (k0_hw13 : k0_chk13 v362) (v364 : IVec S16 32) (k0_hw14 : k0_chk14 v364) (v444 : IVec S16 32) (v454 : IVec S16 1) (v455 : FVec F S16 .f32) (c330_i32_110 : BitVec 32)
    (T : Best F → TileProg F i (BitVec 32)) :
    (k0_part11 i arg2 harg2 arg3 harg3 arg4 harg4 arg5 harg5 arg6 harg6 arg7 harg7 v4_r0 v12_r1 v12_r2 v307 v311 v350 k0_hw17 v352 k0_hw11 v354 k0_hw12 v356 k0_hw15 v358 k0_hw16 v362 k0_hw13 v364 k0_hw14 v444 v454 v455 c330_i32_110 >>= fun ⟨v494, v496, v503, v504⟩ => do
      have v505 : FVec F S16 .f32 := addf v503 v504
      have v506 : IVec S16 1 := cmpf .olt v505 v494
      have v507 : FVec F S16 .f32 := select v506 v505 v494
      let c650_i32_122 : BitVec 32 := 650#32
      have v508 : IVec S16 32 := broadcast S16 c650_i32_122
      have v509 : IVec S16 32 := select v506 v508 v496
      T (v507, v509)) = (do
      have v456 : IVec S16 32 := broadcast S16 c330_i32_110
      have v457 : IVec S16 32 := select v454 v456 v444
      let s1 ← probe arg5 v307 v311 inb_S20488_S19508_336 inb_S20488_S19508_336 (k0_idx50_inb v350 k0_hw17) (k0_idx51_inb v352 k0_hw11) 335#32 (v455, v457)
      let s2 ← probe arg5 v307 v311 inb_S20488_S19508_640 inb_S20488_S19508_640 (k0_idx52_inb v352 k0_hw11) (k0_idx53_inb v354 k0_hw12) 640#32 s1
      let s3 ← probe arg5 v307 v311 inb_S20488_S19508_640 inb_S20488_S19508_640 (k0_idx54_inb v362 k0_hw13) (k0_idx55_inb v364 k0_hw14) 645#32 s2
      let s4 ← probe arg5 v307 v311 inb_S20488_S19508_648 inb_S20488_S19508_648 (k0_idx56_inb v356 k0_hw15) (k0_idx57_inb v358 k0_hw16) 650#32 s3
      T s4) := rfl

set_option maxRecDepth 100000 in
theorem part12_eq (v307 : Vec F S16 .f32) (v311 : Vec F S16 .f32) (v350 : IVec S16 32) (k0_hw17 : k0_chk17 v350) (v352 : IVec S16 32) (k0_hw11 : k0_chk11 v352) (v354 : IVec S16 32) (k0_hw12 : k0_chk12 v354) (v356 : IVec S16 32) (k0_hw15 : k0_chk15 v356) (v358 : IVec S16 32) (k0_hw16 : k0_chk16 v358) (v362 : IVec S16 32) (k0_hw13 : k0_chk13 v362) (v364 : IVec S16 32) (k0_hw14 : k0_chk14 v364) (v494 : FVec F S16 .f32) (v496 : IVec S16 32) (v503 : FVec F S16 .f32) (v504 : FVec F S16 .f32)
    (T : Best F → TileProg F i (BitVec 32)) :
    (k0_part12 i arg2 harg2 arg3 harg3 arg4 harg4 arg5 harg5 arg6 harg6 arg7 harg7 v4_r0 v12_r1 v12_r2 v307 v311 v350 k0_hw17 v352 k0_hw11 v354 k0_hw12 v356 k0_hw15 v358 k0_hw16 v362 k0_hw13 v364 k0_hw14 v494 v496 v503 v504 >>= fun ⟨v546, v548, v550, v552⟩ => do
      have v553 : FVec F S16 .f32 := subf v307 v550
      have v554 : FVec F S16 .f32 := subf v311 v552
      have v555 : FVec F S16 .f32 := mulf v553 v553
      have v556 : FVec F S16 .f32 := mulf v554 v554
      have v557 : FVec F S16 .f32 := addf v555 v556
      have v558 : IVec S16 1 := cmpf .olt v557 v546
      have v559 : FVec F S16 .f32 := select v558 v557 v546
      let c970_i32_134 : BitVec 32 := 970#32
      have v560 : IVec S16 32 := broadcast S16 c970_i32_134
      have v561 : IVec S16 32 := select v558 v560 v548
      T (v559, v561)) = (do
      have v505 : FVec F S16 .f32 := addf v503 v504
      have v506 : IVec S16 1 := cmpf .olt v505 v494
      have v507 : FVec F S16 .f32 := select v506 v505 v494
      let c650_i32_122 : BitVec 32 := 650#32
      have v508 : IVec S16 32 := broadcast S16 c650_i32_122
      have v509 : IVec S16 32 := select v506 v508 v496
      let s1 ← probe arg5 v307 v311 inb_S20488_S19508_656 inb_S20488_S19508_656 (k0_idx58_inb v350 k0_hw17) (k0_idx59_inb v352 k0_hw11) 655#32 (v507, v509)
      let s2 ← probe arg5 v307 v311 inb_S20488_S19508_960 inb_S20488_S19508_960 (k0_idx60_inb v352 k0_hw11) (k0_idx61_inb v354 k0_hw12) 960#32 s1
      let s3 ← probe arg5 v307 v311 inb_S20488_S19508_960 inb_S20488_S19508_960 (k0_idx62_inb v362 k0_hw13) (k0_idx63_inb v364 k0_hw14) 965#32 s2
      let s4 ← probe arg5 v307 v311 inb_S20488_S19508_968 inb_S20488_S19508_968 (k0_idx64_inb v356 k0_hw15) (k0_idx65_inb v358 k0_hw16) 970#32 s3
      T s4) := rfl

set_option maxRecDepth 100000 in
theorem part13_eq (k0_t2 : Fin k0_t2_loop.trips) (v13 : BitVec 32) (v307 : Vec F S16 .f32) (v311 : Vec F S16 .f32) (v350 : IVec S16 32) (k0_hw17 : k0_chk17 v350) (v352 : IVec S16 32) (k0_hw11 : k0_chk11 v352) (v546 : FVec F S16 .f32) (v548 : IVec S16 32) (v550 : Vec F S16 .f32) (v552 : Vec F S16 .f32)
    (T : TileProg F i (BitVec 32)) :
    (k0_part13 i arg2 harg2 arg3 harg3 arg4 harg4 arg5 harg5 arg6 harg6 arg7 harg7 v4_r0 v12_r1 v12_r2 k0_t2 v13 v307 v311 v350 k0_hw17 v352 k0_hw11 v546 v548 v550 v552 >>= fun v584 => do
      Prog.lift (.store arg7 (Rect.unit (s := S8192) (k0_off9 k0_t2 256#32) S16.size (k0_off9_inb k0_t2 1)) v584 Finset.univ (View.stores_vmem_bits_univ h_S16 rfl) (.inl rfl))
      T) = (do
      have v553 : FVec F S16 .f32 := subf v307 v550
      have v554 : FVec F S16 .f32 := subf v311 v552
      have v555 : FVec F S16 .f32 := mulf v553 v553
      have v556 : FVec F S16 .f32 := mulf v554 v554
      have v557 : FVec F S16 .f32 := addf v555 v556
      have v558 : IVec S16 1 := cmpf .olt v557 v546
      have v559 : FVec F S16 .f32 := select v558 v557 v546
      let c970_i32_134 : BitVec 32 := 970#32
      have v560 : IVec S16 32 := broadcast S16 c970_i32_134
      have v561 : IVec S16 32 := select v558 v560 v548
      let s1 ← probe arg5 v307 v311 inb_S20488_S19508_976 inb_S20488_S19508_976 (k0_idx66_inb v350 k0_hw17) (k0_idx67_inb v352 k0_hw11) 975#32 (v559, v561)
      have v574 : IVec S16 32 := s1.2
      have v575 : IVec S16 32 := addi v350 v574
      let c3_i32_138 : BitVec 32 := 3#32
      have v576 : IVec S16 32 := broadcast S16 c3_i32_138
      have v577 : IVec S16 32 := addi v575 v576
      have k0_hw18 : k0_chk18 v577 := (← Prog.lift (TpuEff.assume (k0_chk18 v577) (k0_chk18.dec v577))).down
      let v578 : Vec F S16 .f32 ← SparseCore.vectorLoadIdx arg5 ![v577] (k0_idx68_inb v577 k0_hw18) (View.loads_vmem h_S20488)
      let c4_i32_139 : BitVec 32 := 4#32
      have v579 : IVec S16 32 := broadcast S16 c4_i32_139
      have v580 : IVec S16 32 := addi v575 v579
      have k0_hw19 : k0_chk19 v580 := (← Prog.lift (TpuEff.assume (k0_chk19 v580) (k0_chk19.dec v580))).down
      let v581 : Vec F S16 .f32 ← SparseCore.vectorLoadIdx arg5 ![v580] (k0_idx69_inb v580 k0_hw19) (View.loads_vmem h_S20488)
      let c5_i32_140 : BitVec 32 := 5#32
      have v582 : IVec S16 32 := broadcast S16 c5_i32_140
      have v583 : IVec S16 32 := addi v575 v582
      have k0_hw20 : k0_chk20 v583 := (← Prog.lift (TpuEff.assume (k0_chk20 v583) (k0_chk20.dec v583))).down
      let v584 : Vec F S16 .f32 ← SparseCore.vectorLoadIdx arg5 ![v583] (k0_idx70_inb v583 k0_hw20) (View.loads_vmem h_S20488)
      let v587 : Vec F S16 .f32 ← Prog.lift (.load arg7 (Rect.unit (s := S8192) (k0_off8 k0_t2) S16.size (k0_off8_inb k0_t2)).toLoadRect (View.loadsAt_vmem h_S16))
      Prog.lift (.store arg7 (Rect.unit (s := S8192) (k0_off8 k0_t2) S16.size (k0_off8_inb k0_t2)) v578 Finset.univ (View.stores_vmem_bits_univ h_S16 rfl) (.inl rfl))
      let v591 : Vec F S16 .f32 ← Prog.lift (.load arg7 (Rect.unit (s := S8192) (k0_off9 k0_t2 128#32) S16.size (k0_off9_inb k0_t2 0)).toLoadRect (View.loadsAt_vmem h_S16))
      Prog.lift (.store arg7 (Rect.unit (s := S8192) (k0_off9 k0_t2 128#32) S16.size (k0_off9_inb k0_t2 0)) v581 Finset.univ (View.stores_vmem_bits_univ h_S16 rfl) (.inl rfl))
      let v595 : Vec F S16 .f32 ← Prog.lift (.load arg7 (Rect.unit (s := S8192) (k0_off9 k0_t2 256#32) S16.size (k0_off9_inb k0_t2 1)).toLoadRect (View.loadsAt_vmem h_S16))
      Prog.lift (.store arg7 (Rect.unit (s := S8192) (k0_off9 k0_t2 256#32) S16.size (k0_off9_inb k0_t2 1)) v584 Finset.univ (View.stores_vmem_bits_univ h_S16 rfl) (.inl rfl))
      T) := rfl

set_option maxRecDepth 100000 in
theorem part14_eq (k0_t2 : Fin k0_t2_loop.trips) (v12 : BitVec 32) (v584 : Vec F S16 .f32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part14 i arg2 harg2 arg3 harg3 arg4 harg4 arg5 harg5 arg6 harg6 arg7 harg7 v4_r0 v12_r1 v12_r2 k0_t2 v12 v584 >>= fun ⟨v598, v602, v632, v636, c64_i32_162⟩ => do
      have v637 : IVec S16 32 := broadcast S16 c64_i32_162
      have v638 : IVec S16 32 := muli v632 v637
      have v639 : IVec S16 32 := addi v638 v636
      let c5_i32_163 : BitVec 32 := 5#32
      have v640 : IVec S16 32 := broadcast S16 c5_i32_163
      have v641 : IVec S16 32 := muli v639 v640
      have k0_hw27 : k0_chk27 v641 := (← Prog.lift (TpuEff.assume (k0_chk27 v641) (k0_chk27.dec v641))).down
      let c1_i32_164 : BitVec 32 := 1#32
      have v642 : IVec S16 32 := broadcast S16 c1_i32_164
      have v643 : IVec S16 32 := addi v641 v642
      have k0_hw21 : k0_chk21 v643 := (← Prog.lift (TpuEff.assume (k0_chk21 v643) (k0_chk21.dec v643))).down
      let c2_i32_165 : BitVec 32 := 2#32
      have v644 : IVec S16 32 := broadcast S16 c2_i32_165
      have v645 : IVec S16 32 := addi v641 v644
      have k0_hw22 : k0_chk22 v645 := (← Prog.lift (TpuEff.assume (k0_chk22 v645) (k0_chk22.dec v645))).down
      let c3_i32_166 : BitVec 32 := 3#32
      have v646 : IVec S16 32 := broadcast S16 c3_i32_166
      have v647 : IVec S16 32 := addi v641 v646
      have k0_hw25 : k0_chk25 v647 := (← Prog.lift (TpuEff.assume (k0_chk25 v647) (k0_chk25.dec v647))).down
      let c4_i32_167 : BitVec 32 := 4#32
      have v648 : IVec S16 32 := broadcast S16 c4_i32_167
      have v649 : IVec S16 32 := addi v641 v648
      have k0_hw26 : k0_chk26 v649 := (← Prog.lift (TpuEff.assume (k0_chk26 v649) (k0_chk26.dec v649))).down
      let c6_i32_169 : BitVec 32 := 6#32
      have v652 : IVec S16 32 := broadcast S16 c6_i32_169
      have v653 : IVec S16 32 := addi v641 v652
      have k0_hw23 : k0_chk23 v653 := (← Prog.lift (TpuEff.assume (k0_chk23 v653) (k0_chk23.dec v653))).down
      let c7_i32_170 : BitVec 32 := 7#32
      have v654 : IVec S16 32 := broadcast S16 c7_i32_170
      have v655 : IVec S16 32 := addi v641 v654
      have k0_hw24 : k0_chk24 v655 := (← Prog.lift (TpuEff.assume (k0_chk24 v655) (k0_chk24.dec v655))).down
      T v598 v602 v641 v643 v645 v647 v649 v653 v655 k0_hw27 k0_hw21 k0_hw22 k0_hw25 k0_hw26 k0_hw23 k0_hw24) = (do
      Prog.lift (.store arg7 (Rect.unit (s := S8192) (k0_off9 k0_t2 256#32) S16.size (k0_off9_inb k0_t2 1)) v584 Finset.univ (View.stores_vmem_bits_univ h_S16 rfl) (.inl rfl))
      let v598 : Vec F S16 .f32 ← Prog.lift (.load arg6 (Rect.unit (s := S4096) (k0_off10 k0_t2) S16.size (k0_off10_inb k0_t2)).toLoadRect (View.loadsAt_vmem h_S16))
      let v602 : Vec F S16 .f32 ← Prog.lift (.load arg6 (Rect.unit (s := S4096) (k0_off11 k0_t2) S16.size (k0_off11_inb k0_t2)).toLoadRect (View.loadsAt_vmem h_S16))
      have cst_148 : F .f32 := Scalar.ofBits .f32 0x42800000#32
      have v603 : FVec F S16 .f32 := broadcast S16 cst_148
      have v604 : FVec F S16 .f32 := mulf v598 v603
      have cst_149 : F .f32 := Scalar.ofBits .f32 0x42800000#32
      have v605 : FVec F S16 .f32 := broadcast S16 cst_149
      have v606 : FVec F S16 .f32 := mulf v602 v605
      have v607 : IVec S16 32 := fptosi 32 v604
      have v608 : IVec S16 32 := fptosi 32 v606
      have v609 : FVec F S16 .f32 := sitofp .f32 v607
      have v610 : FVec F S16 .f32 := subf v604 v609
      have v611 : FVec F S16 .f32 := sitofp .f32 v608
      have v612 : FVec F S16 .f32 := subf v606 v611
      let c2_i32_150 : BitVec 32 := 2#32
      have v613 : IVec S16 32 := broadcast S16 c2_i32_150
      have v614 : IVec S16 32 := subi v607 v613
      have cst_151 : F .f32 := Scalar.ofBits .f32 0x3F000000#32
      have v615 : FVec F S16 .f32 := broadcast S16 cst_151
      have v616 : IVec S16 1 := cmpf .oge v610 v615
      let c1_i32_152 : BitVec 32 := 1#32
      let c0_i32_153 : BitVec 32 := 0#32
      have v617 : IVec S16 32 := broadcast S16 c1_i32_152
      have v618 : IVec S16 32 := broadcast S16 c0_i32_153
      have v619 : IVec S16 32 := select v616 v617 v618
      have v620 : IVec S16 32 := addi v614 v619
      let c2_i32_154 : BitVec 32 := 2#32
      have v621 : IVec S16 32 := broadcast S16 c2_i32_154
      have v622 : IVec S16 32 := subi v608 v621
      have cst_155 : F .f32 := Scalar.ofBits .f32 0x3F000000#32
      have v623 : FVec F S16 .f32 := broadcast S16 cst_155
      have v624 : IVec S16 1 := cmpf .oge v612 v623
      let c1_i32_156 : BitVec 32 := 1#32
      let c0_i32_157 : BitVec 32 := 0#32
      have v625 : IVec S16 32 := broadcast S16 c1_i32_156
      have v626 : IVec S16 32 := broadcast S16 c0_i32_157
      have v627 : IVec S16 32 := select v624 v625 v626
      have v628 : IVec S16 32 := addi v622 v627
      let c0_i32_158 : BitVec 32 := 0#32
      let c60_i32_159 : BitVec 32 := 60#32
      have v629 : IVec S16 32 := broadcast S16 c0_i32_158
      have v630 : IVec S16 32 := maxsi v629 v620
      have v631 : IVec S16 32 := broadcast S16 c60_i32_159
      have v632 : IVec S16 32 := minsi v631 v630
      let c0_i32_160 : BitVec 32 := 0#32
      let c60_i32_161 : BitVec 32 := 60#32
      have v633 : IVec S16 32 := broadcast S16 c0_i32_160
      have v634 : IVec S16 32 := maxsi v633 v628
      have v635 : IVec S16 32 := broadcast S16 c60_i32_161
      have v636 : IVec S16 32 := minsi v635 v634
      let c64_i32_162 : BitVec 32 := 64#32
      have v637 : IVec S16 32 := broadcast S16 c64_i32_162
      have v638 : IVec S16 32 := muli v632 v637
      have v639 : IVec S16 32 := addi v638 v636
      let c5_i32_163 : BitVec 32 := 5#32
      have v640 : IVec S16 32 := broadcast S16 c5_i32_163
      have v641 : IVec S16 32 := muli v639 v640
      have k0_hw27 : k0_chk27 v641 := (← Prog.lift (TpuEff.assume (k0_chk27 v641) (k0_chk27.dec v641))).down
      let c1_i32_164 : BitVec 32 := 1#32
      have v642 : IVec S16 32 := broadcast S16 c1_i32_164
      have v643 : IVec S16 32 := addi v641 v642
      have k0_hw21 : k0_chk21 v643 := (← Prog.lift (TpuEff.assume (k0_chk21 v643) (k0_chk21.dec v643))).down
      let c2_i32_165 : BitVec 32 := 2#32
      have v644 : IVec S16 32 := broadcast S16 c2_i32_165
      have v645 : IVec S16 32 := addi v641 v644
      have k0_hw22 : k0_chk22 v645 := (← Prog.lift (TpuEff.assume (k0_chk22 v645) (k0_chk22.dec v645))).down
      let c3_i32_166 : BitVec 32 := 3#32
      have v646 : IVec S16 32 := broadcast S16 c3_i32_166
      have v647 : IVec S16 32 := addi v641 v646
      have k0_hw25 : k0_chk25 v647 := (← Prog.lift (TpuEff.assume (k0_chk25 v647) (k0_chk25.dec v647))).down
      let c4_i32_167 : BitVec 32 := 4#32
      have v648 : IVec S16 32 := broadcast S16 c4_i32_167
      have v649 : IVec S16 32 := addi v641 v648
      have k0_hw26 : k0_chk26 v649 := (← Prog.lift (TpuEff.assume (k0_chk26 v649) (k0_chk26.dec v649))).down
      let c6_i32_169 : BitVec 32 := 6#32
      have v652 : IVec S16 32 := broadcast S16 c6_i32_169
      have v653 : IVec S16 32 := addi v641 v652
      have k0_hw23 : k0_chk23 v653 := (← Prog.lift (TpuEff.assume (k0_chk23 v653) (k0_chk23.dec v653))).down
      let c7_i32_170 : BitVec 32 := 7#32
      have v654 : IVec S16 32 := broadcast S16 c7_i32_170
      have v655 : IVec S16 32 := addi v641 v654
      have k0_hw24 : k0_chk24 v655 := (← Prog.lift (TpuEff.assume (k0_chk24 v655) (k0_chk24.dec v655))).down
      T v598 v602 v641 v643 v645 v647 v649 v653 v655 k0_hw27 k0_hw21 k0_hw22 k0_hw25 k0_hw26 k0_hw23 k0_hw24) := rfl

set_option maxRecDepth 100000 in
theorem part15_eq (v598 : Vec F S16 .f32) (v602 : Vec F S16 .f32) (v632 : IVec S16 32) (v636 : IVec S16 32) (c64_i32_162 : BitVec 32)
    (T : Best F → FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part15 i arg2 harg2 arg3 harg3 arg4 harg4 arg5 harg5 arg6 harg6 arg7 harg7 v4_r0 v12_r1 v12_r2 v598 v602 v632 v636 c64_i32_162 >>= fun ⟨v641, k0_hw27, v643, k0_hw21, v645, k0_hw22, v647, k0_hw25, v649, k0_hw26, v653, k0_hw23, v655, k0_hw24, v668, v670, v672, v674⟩ => do
      have v675 : FVec F S16 .f32 := subf v598 v672
      have v676 : FVec F S16 .f32 := subf v602 v674
      have v677 : FVec F S16 .f32 := mulf v675 v675
      have v678 : FVec F S16 .f32 := mulf v676 v676
      have v679 : FVec F S16 .f32 := addf v677 v678
      have v680 : IVec S16 1 := cmpf .olt v679 v668
      have v681 : FVec F S16 .f32 := select v680 v679 v668
      let c5_i32_178 : BitVec 32 := 5#32
      have v682 : IVec S16 32 := broadcast S16 c5_i32_178
      have v683 : IVec S16 32 := select v680 v682 v670
      T (v681, v683) v598 v602 v641 v643 v645 v647 v649 v653 v655 k0_hw27 k0_hw21 k0_hw22 k0_hw25 k0_hw26 k0_hw23 k0_hw24) = (do
      have v637 : IVec S16 32 := broadcast S16 c64_i32_162
      have v638 : IVec S16 32 := muli v632 v637
      have v639 : IVec S16 32 := addi v638 v636
      let c5_i32_163 : BitVec 32 := 5#32
      have v640 : IVec S16 32 := broadcast S16 c5_i32_163
      have v641 : IVec S16 32 := muli v639 v640
      have k0_hw27 : k0_chk27 v641 := (← Prog.lift (TpuEff.assume (k0_chk27 v641) (k0_chk27.dec v641))).down
      let c1_i32_164 : BitVec 32 := 1#32
      have v642 : IVec S16 32 := broadcast S16 c1_i32_164
      have v643 : IVec S16 32 := addi v641 v642
      have k0_hw21 : k0_chk21 v643 := (← Prog.lift (TpuEff.assume (k0_chk21 v643) (k0_chk21.dec v643))).down
      let c2_i32_165 : BitVec 32 := 2#32
      have v644 : IVec S16 32 := broadcast S16 c2_i32_165
      have v645 : IVec S16 32 := addi v641 v644
      have k0_hw22 : k0_chk22 v645 := (← Prog.lift (TpuEff.assume (k0_chk22 v645) (k0_chk22.dec v645))).down
      let c3_i32_166 : BitVec 32 := 3#32
      have v646 : IVec S16 32 := broadcast S16 c3_i32_166
      have v647 : IVec S16 32 := addi v641 v646
      have k0_hw25 : k0_chk25 v647 := (← Prog.lift (TpuEff.assume (k0_chk25 v647) (k0_chk25.dec v647))).down
      let c4_i32_167 : BitVec 32 := 4#32
      have v648 : IVec S16 32 := broadcast S16 c4_i32_167
      have v649 : IVec S16 32 := addi v641 v648
      have k0_hw26 : k0_chk26 v649 := (← Prog.lift (TpuEff.assume (k0_chk26 v649) (k0_chk26.dec v649))).down
      let c6_i32_169 : BitVec 32 := 6#32
      have v652 : IVec S16 32 := broadcast S16 c6_i32_169
      have v653 : IVec S16 32 := addi v641 v652
      have k0_hw23 : k0_chk23 v653 := (← Prog.lift (TpuEff.assume (k0_chk23 v653) (k0_chk23.dec v653))).down
      let c7_i32_170 : BitVec 32 := 7#32
      have v654 : IVec S16 32 := broadcast S16 c7_i32_170
      have v655 : IVec S16 32 := addi v641 v654
      have k0_hw24 : k0_chk24 v655 := (← Prog.lift (TpuEff.assume (k0_chk24 v655) (k0_chk24.dec v655))).down
      let s1 ← probe arg5 v598 v602 inb_S20488_S19508_0 inb_S20488_S19508_0 (k0_idx71_inb v643 k0_hw21) (k0_idx72_inb v645 k0_hw22) 0#32 start
      let s2 ← probe arg5 v598 v602 inb_S20488_S19508_0 inb_S20488_S19508_0 (k0_idx73_inb v653 k0_hw23) (k0_idx74_inb v655 k0_hw24) 5#32 s1
      T s2 v598 v602 v641 v643 v645 v647 v649 v653 v655 k0_hw27 k0_hw21 k0_hw22 k0_hw25 k0_hw26 k0_hw23 k0_hw24) := rfl

set_option maxRecDepth 100000 in
theorem part16_eq (v598 : Vec F S16 .f32) (v602 : Vec F S16 .f32) (v641 : IVec S16 32) (k0_hw27 : k0_chk27 v641) (v643 : IVec S16 32) (k0_hw21 : k0_chk21 v643) (v645 : IVec S16 32) (k0_hw22 : k0_chk22 v645) (v647 : IVec S16 32) (k0_hw25 : k0_chk25 v647) (v649 : IVec S16 32) (k0_hw26 : k0_chk26 v649) (v653 : IVec S16 32) (k0_hw23 : k0_chk23 v653) (v655 : IVec S16 32) (k0_hw24 : k0_chk24 v655) (v668 : FVec F S16 .f32) (v670 : IVec S16 32) (v672 : Vec F S16 .f32) (v674 : Vec F S16 .f32)
    (T : Best F → TileProg F i (BitVec 32)) :
    (k0_part16 i arg2 harg2 arg3 harg3 arg4 harg4 arg5 harg5 arg6 harg6 arg7 harg7 v4_r0 v12_r1 v12_r2 v598 v602 v641 k0_hw27 v643 k0_hw21 v645 k0_hw22 v647 k0_hw25 v649 k0_hw26 v668 v670 v672 v674 >>= fun ⟨v720, v722⟩ => do
      let v723 : Memref sig .scVector .vmem S19508 .f32 := arg5.slice (Rect.unit (s := S20488) ![320] S19508.size inb_S20488_S19508_320) (fun _ => rfl)
      let v724 : Vec F S16 .f32 ← SparseCore.vectorLoadIdx v723 ![v653] (k0_idx81_inb v653 k0_hw23) (View.loads_vmem h_S19508)
      let v725 : Memref sig .scVector .vmem S19508 .f32 := arg5.slice (Rect.unit (s := S20488) ![320] S19508.size inb_S20488_S19508_320) (fun _ => rfl)
      let v726 : Vec F S16 .f32 ← SparseCore.vectorLoadIdx v725 ![v655] (k0_idx82_inb v655 k0_hw24) (View.loads_vmem h_S19508)
      have v727 : FVec F S16 .f32 := subf v598 v724
      have v728 : FVec F S16 .f32 := subf v602 v726
      have v729 : FVec F S16 .f32 := mulf v727 v727
      have v730 : FVec F S16 .f32 := mulf v728 v728
      have v731 : FVec F S16 .f32 := addf v729 v730
      have v732 : IVec S16 1 := cmpf .olt v731 v720
      have v733 : FVec F S16 .f32 := select v732 v731 v720
      let c325_i32_190 : BitVec 32 := 325#32
      have v734 : IVec S16 32 := broadcast S16 c325_i32_190
      have v735 : IVec S16 32 := select v732 v734 v722
      T (v733, v735)) = (do
      have v675 : FVec F S16 .f32 := subf v598 v672
      have v676 : FVec F S16 .f32 := subf v602 v674
      have v677 : FVec F S16 .f32 := mulf v675 v675
      have v678 : FVec F S16 .f32 := mulf v676 v676
      have v679 : FVec F S16 .f32 := addf v677 v678
      have v680 : IVec S16 1 := cmpf .olt v679 v668
      have v681 : FVec F S16 .f32 := select v680 v679 v668
      let c5_i32_178 : BitVec 32 := 5#32
      have v682 : IVec S16 32 := broadcast S16 c5_i32_178
      have v683 : IVec S16 32 := select v680 v682 v670
      let s1 ← probe arg5 v598 v602 inb_S20488_S19508_8 inb_S20488_S19508_8 (k0_idx75_inb v647 k0_hw25) (k0_idx76_inb v649 k0_hw26) 10#32 (v681, v683)
      let s2 ← probe arg5 v598 v602 inb_S20488_S19508_16 inb_S20488_S19508_16 (k0_idx77_inb v641 k0_hw27) (k0_idx78_inb v643 k0_hw21) 15#32 s1
      let s3 ← probe arg5 v598 v602 inb_S20488_S19508_320 inb_S20488_S19508_320 (k0_idx79_inb v643 k0_hw21) (k0_idx80_inb v645 k0_hw22) 320#32 s2
      let s4 ← probe arg5 v598 v602 inb_S20488_S19508_320 inb_S20488_S19508_320 (k0_idx81_inb v653 k0_hw23) (k0_idx82_inb v655 k0_hw24) 325#32 s3
      T s4) := rfl

set_option maxRecDepth 100000 in
theorem part17_eq (v598 : Vec F S16 .f32) (v602 : Vec F S16 .f32) (v641 : IVec S16 32) (k0_hw27 : k0_chk27 v641) (v643 : IVec S16 32) (k0_hw21 : k0_chk21 v643) (v645 : IVec S16 32) (k0_hw22 : k0_chk22 v645) (v647 : IVec S16 32) (k0_hw25 : k0_chk25 v647) (v649 : IVec S16 32) (k0_hw26 : k0_chk26 v649) (v653 : IVec S16 32) (k0_hw23 : k0_chk23 v653) (v655 : IVec S16 32) (k0_hw24 : k0_chk24 v655) (v720 : FVec F S16 .f32) (v722 : IVec S16 32)
    (T : Best F → TileProg F i (BitVec 32)) :
    (k0_part17 i arg2 harg2 arg3 harg3 arg4 harg4 arg5 harg5 arg6 harg6 arg7 harg7 v4_r0 v12_r1 v12_r2 v598 v602 v641 k0_hw27 v643 k0_hw21 v645 k0_hw22 v647 k0_hw25 v649 k0_hw26 v653 k0_hw23 v655 k0_hw24 v720 v722 >>= fun ⟨v761, v771, v772, c640_i32_199⟩ => do
      have v773 : IVec S16 32 := broadcast S16 c640_i32_199
      have v774 : IVec S16 32 := select v771 v773 v761
      T (v772, v774)) = (do
      let v723 : Memref sig .scVector .vmem S19508 .f32 := arg5.slice (Rect.unit (s := S20488) ![320] S19508.size inb_S20488_S19508_320) (fun _ => rfl)
      let v724 : Vec F S16 .f32 ← SparseCore.vectorLoadIdx v723 ![v653] (k0_idx81_inb v653 k0_hw23) (View.loads_vmem h_S19508)
      let v725 : Memref sig .scVector .vmem S19508 .f32 := arg5.slice (Rect.unit (s := S20488) ![320] S19508.size inb_S20488_S19508_320) (fun _ => rfl)
      let v726 : Vec F S16 .f32 ← SparseCore.vectorLoadIdx v725 ![v655] (k0_idx82_inb v655 k0_hw24) (View.loads_vmem h_S19508)
      have v727 : FVec F S16 .f32 := subf v598 v724
      have v728 : FVec F S16 .f32 := subf v602 v726
      have v729 : FVec F S16 .f32 := mulf v727 v727
      have v730 : FVec F S16 .f32 := mulf v728 v728
      have v731 : FVec F S16 .f32 := addf v729 v730
      have v732 : IVec S16 1 := cmpf .olt v731 v720
      have v733 : FVec F S16 .f32 := select v732 v731 v720
      let c325_i32_190 : BitVec 32 := 325#32
      have v734 : IVec S16 32 := broadcast S16 c325_i32_190
      have v735 : IVec S16 32 := select v732 v734 v722
      let s1 ← probe arg5 v598 v602 inb_S20488_S19508_328 inb_S20488_S19508_328 (k0_idx83_inb v647 k0_hw25) (k0_idx84_inb v649 k0_hw26) 330#32 (v733, v735)
      let s2 ← probe arg5 v598 v602 inb_S20488_S19508_336 inb_S20488_S19508_336 (k0_idx85_inb v641 k0_hw27) (k0_idx86_inb v643 k0_hw21) 335#32 s1
      let s3 ← probe arg5 v598 v602 inb_S20488_S19508_640 inb_S20488_S19508_640 (k0_idx87_inb v643 k0_hw21) (k0_idx88_inb v645 k0_hw22) 640#32 s2
      T s3) := rfl

set_option maxRecDepth 100000 in
theorem part18_eq (v598 : Vec F S16 .f32) (v602 : Vec F S16 .f32) (v641 : IVec S16 32) (k0_hw27 : k0_chk27 v641) (v643 : IVec S16 32) (k0_hw21 : k0_chk21 v643) (v645 : IVec S16 32) (k0_hw22 : k0_chk22 v645) (v647 : IVec S16 32) (k0_hw25 : k0_chk25 v647) (v649 : IVec S16 32) (k0_hw26 : k0_chk26 v649) (v653 : IVec S16 32) (k0_hw23 : k0_chk23 v653) (v655 : IVec S16 32) (k0_hw24 : k0_chk24 v655) (v761 : IVec S16 32) (v771 : IVec S16 1) (v772 : FVec F S16 .f32) (c640_i32_199 : BitVec 32)
    (T : Best F → TileProg F i (BitVec 32)) :
    (k0_part18 i arg2 harg2 arg3 harg3 arg4 harg4 arg5 harg5 arg6 harg6 arg7 harg7 v4_r0 v12_r1 v12_r2 v598 v602 v641 k0_hw27 v643 k0_hw21 v645 k0_hw22 v647 k0_hw25 v649 k0_hw26 v653 k0_hw23 v655 k0_hw24 v761 v771 v772 c640_i32_199 >>= fun ⟨v811, v813, v820, v821⟩ => do
      have v822 : FVec F S16 .f32 := addf v820 v821
      have v823 : IVec S16 1 := cmpf .olt v822 v811
      have v824 : FVec F S16 .f32 := select v823 v822 v811
      let c960_i32_211 : BitVec 32 := 960#32
      have v825 : IVec S16 32 := broadcast S16 c960_i32_211
      have v826 : IVec S16 32 := select v823 v825 v813
      T (v824, v826)) = (do
      have v773 : IVec S16 32 := broadcast S16 c640_i32_199
      have v774 : IVec S16 32 := select v771 v773 v761
      let s1 ← probe arg5 v598 v602 inb_S20488_S19508_640 inb_S20488_S19508_640 (k0_idx89_inb v653 k0_hw23) (k0_idx90_inb v655 k0_hw24) 645#32 (v772, v774)
      let s2 ← probe arg5 v598 v602 inb_S20488_S19508_648 inb_S20488_S19508_648 (k0_idx91_inb v647 k0_hw25) (k0_idx92_inb v649 k0_hw26) 650#32 s1
      let s3 ← probe arg5 v598 v602 inb_S20488_S19508_656 inb_S20488_S19508_656 (k0_idx93_inb v641 k0_hw27) (k0_idx94_inb v643 k0_hw21) 655#32 s2
      let s4 ← probe arg5 v598 v602 inb_S20488_S19508_960 inb_S20488_S19508_960 (k0_idx95_inb v643 k0_hw21) (k0_idx96_inb v645 k0_hw22) 960#32 s3
      T s4) := rfl

set_option maxRecDepth 100000 in
theorem part19_eq (k0_t2 : Fin k0_t2_loop.trips) (v598 : Vec F S16 .f32) (v602 : Vec F S16 .f32) (v641 : IVec S16 32) (k0_hw27 : k0_chk27 v641) (v643 : IVec S16 32) (k0_hw21 : k0_chk21 v643) (v647 : IVec S16 32) (k0_hw25 : k0_chk25 v647) (v649 : IVec S16 32) (k0_hw26 : k0_chk26 v649) (v653 : IVec S16 32) (k0_hw23 : k0_chk23 v653) (v655 : IVec S16 32) (k0_hw24 : k0_chk24 v655) (v811 : FVec F S16 .f32) (v813 : IVec S16 32) (v820 : FVec F S16 .f32) (v821 : FVec F S16 .f32)
    (T : TileProg F i (BitVec 32)) :
    (k0_part19 i arg2 harg2 arg3 harg3 arg4 harg4 arg5 harg5 arg6 harg6 arg7 harg7 v4_r0 v12_r1 v12_r2 v598 v602 v641 k0_hw27 v643 k0_hw21 v647 k0_hw25 v649 k0_hw26 v653 k0_hw23 v655 k0_hw24 v811 v813 v820 v821 >>= fun ⟨v866, v869⟩ => do
      let c4_i32_222 : BitVec 32 := 4#32
      have v870 : IVec S16 32 := broadcast S16 c4_i32_222
      have v871 : IVec S16 32 := addi v866 v870
      have k0_hw29 : k0_chk29 v871 := (← Prog.lift (TpuEff.assume (k0_chk29 v871) (k0_chk29.dec v871))).down
      let v872 : Vec F S16 .f32 ← SparseCore.vectorLoadIdx arg5 ![v871] (k0_idx104_inb v871 k0_hw29) (View.loads_vmem h_S20488)
      let c5_i32_223 : BitVec 32 := 5#32
      have v873 : IVec S16 32 := broadcast S16 c5_i32_223
      have v874 : IVec S16 32 := addi v866 v873
      have k0_hw30 : k0_chk30 v874 := (← Prog.lift (TpuEff.assume (k0_chk30 v874) (k0_chk30.dec v874))).down
      let v875 : Vec F S16 .f32 ← SparseCore.vectorLoadIdx arg5 ![v874] (k0_idx105_inb v874 k0_hw30) (View.loads_vmem h_S20488)
      let v878 : Vec F S16 .f32 ← Prog.lift (.load arg7 (Rect.unit (s := S8192) (k0_off12 k0_t2) S16.size (k0_off12_inb k0_t2)).toLoadRect (View.loadsAt_vmem h_S16))
      Prog.lift (.store arg7 (Rect.unit (s := S8192) (k0_off12 k0_t2) S16.size (k0_off12_inb k0_t2)) v869 Finset.univ (View.stores_vmem_bits_univ h_S16 rfl) (.inl rfl))
      let v882 : Vec F S16 .f32 ← Prog.lift (.load arg7 (Rect.unit (s := S8192) (k0_off13 k0_t2 128#32) S16.size (k0_off13_inb k0_t2 0)).toLoadRect (View.loadsAt_vmem h_S16))
      Prog.lift (.store arg7 (Rect.unit (s := S8192) (k0_off13 k0_t2 128#32) S16.size (k0_off13_inb k0_t2 0)) v872 Finset.univ (View.stores_vmem_bits_univ h_S16 rfl) (.inl rfl))
      let v886 : Vec F S16 .f32 ← Prog.lift (.load arg7 (Rect.unit (s := S8192) (k0_off13 k0_t2 256#32) S16.size (k0_off13_inb k0_t2 1)).toLoadRect (View.loadsAt_vmem h_S16))
      Prog.lift (.store arg7 (Rect.unit (s := S8192) (k0_off13 k0_t2 256#32) S16.size (k0_off13_inb k0_t2 1)) v875 Finset.univ (View.stores_vmem_bits_univ h_S16 rfl) (.inl rfl))
      T) = (do
      have v822 : FVec F S16 .f32 := addf v820 v821
      have v823 : IVec S16 1 := cmpf .olt v822 v811
      have v824 : FVec F S16 .f32 := select v823 v822 v811
      let c960_i32_211 : BitVec 32 := 960#32
      have v825 : IVec S16 32 := broadcast S16 c960_i32_211
      have v826 : IVec S16 32 := select v823 v825 v813
      let s1 ← probe arg5 v598 v602 inb_S20488_S19508_960 inb_S20488_S19508_960 (k0_idx97_inb v653 k0_hw23) (k0_idx98_inb v655 k0_hw24) 965#32 (v824, v826)
      let s2 ← probe arg5 v598 v602 inb_S20488_S19508_968 inb_S20488_S19508_968 (k0_idx99_inb v647 k0_hw25) (k0_idx100_inb v649 k0_hw26) 970#32 s1
      let s3 ← probe arg5 v598 v602 inb_S20488_S19508_976 inb_S20488_S19508_976 (k0_idx101_inb v641 k0_hw27) (k0_idx102_inb v643 k0_hw21) 975#32 s2
      have v865 : IVec S16 32 := s3.2
      have v866 : IVec S16 32 := addi v641 v865
      let c3_i32_221 : BitVec 32 := 3#32
      have v867 : IVec S16 32 := broadcast S16 c3_i32_221
      have v868 : IVec S16 32 := addi v866 v867
      have k0_hw28 : k0_chk28 v868 := (← Prog.lift (TpuEff.assume (k0_chk28 v868) (k0_chk28.dec v868))).down
      let v869 : Vec F S16 .f32 ← SparseCore.vectorLoadIdx arg5 ![v868] (k0_idx103_inb v868 k0_hw28) (View.loads_vmem h_S20488)
      let c4_i32_222 : BitVec 32 := 4#32
      have v870 : IVec S16 32 := broadcast S16 c4_i32_222
      have v871 : IVec S16 32 := addi v866 v870
      have k0_hw29 : k0_chk29 v871 := (← Prog.lift (TpuEff.assume (k0_chk29 v871) (k0_chk29.dec v871))).down
      let v872 : Vec F S16 .f32 ← SparseCore.vectorLoadIdx arg5 ![v871] (k0_idx104_inb v871 k0_hw29) (View.loads_vmem h_S20488)
      let c5_i32_223 : BitVec 32 := 5#32
      have v873 : IVec S16 32 := broadcast S16 c5_i32_223
      have v874 : IVec S16 32 := addi v866 v873
      have k0_hw30 : k0_chk30 v874 := (← Prog.lift (TpuEff.assume (k0_chk30 v874) (k0_chk30.dec v874))).down
      let v875 : Vec F S16 .f32 ← SparseCore.vectorLoadIdx arg5 ![v874] (k0_idx105_inb v874 k0_hw30) (View.loads_vmem h_S20488)
      let v878 : Vec F S16 .f32 ← Prog.lift (.load arg7 (Rect.unit (s := S8192) (k0_off12 k0_t2) S16.size (k0_off12_inb k0_t2)).toLoadRect (View.loadsAt_vmem h_S16))
      Prog.lift (.store arg7 (Rect.unit (s := S8192) (k0_off12 k0_t2) S16.size (k0_off12_inb k0_t2)) v869 Finset.univ (View.stores_vmem_bits_univ h_S16 rfl) (.inl rfl))
      let v882 : Vec F S16 .f32 ← Prog.lift (.load arg7 (Rect.unit (s := S8192) (k0_off13 k0_t2 128#32) S16.size (k0_off13_inb k0_t2 0)).toLoadRect (View.loadsAt_vmem h_S16))
      Prog.lift (.store arg7 (Rect.unit (s := S8192) (k0_off13 k0_t2 128#32) S16.size (k0_off13_inb k0_t2 0)) v872 Finset.univ (View.stores_vmem_bits_univ h_S16 rfl) (.inl rfl))
      let v886 : Vec F S16 .f32 ← Prog.lift (.load arg7 (Rect.unit (s := S8192) (k0_off13 k0_t2 256#32) S16.size (k0_off13_inb k0_t2 1)).toLoadRect (View.loadsAt_vmem h_S16))
      Prog.lift (.store arg7 (Rect.unit (s := S8192) (k0_off13 k0_t2 256#32) S16.size (k0_off13_inb k0_t2 1)) v875 Finset.univ (View.stores_vmem_bits_univ h_S16 rfl) (.inl rfl))
      T) := rfl

set_option maxRecDepth 100000 in
theorem part20_eq (k0_t2 : Fin k0_t2_loop.trips) (v12 : BitVec 32) (v13 : BitVec 32) (v866 : IVec S16 32) (v869 : Vec F S16 .f32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part20 i arg2 harg2 arg3 harg3 arg4 harg4 arg5 harg5 arg6 harg6 arg7 harg7 v4_r0 v12_r1 v12_r2 k0_t2 v12 v13 v866 v869 >>= fun ⟨v889, v893, v899, v903, v905, v907, c0_i32_236, v908⟩ => do
      have v909 : IVec S16 32 := broadcast S16 c0_i32_236
      have v910 : IVec S16 32 := select v907 v908 v909
      have v911 : IVec S16 32 := addi v905 v910
      let c2_i32_237 : BitVec 32 := 2#32
      have v912 : IVec S16 32 := broadcast S16 c2_i32_237
      have v913 : IVec S16 32 := subi v899 v912
      have cst_238 : F .f32 := Scalar.ofBits .f32 0x3F000000#32
      have v914 : FVec F S16 .f32 := broadcast S16 cst_238
      have v915 : IVec S16 1 := cmpf .oge v903 v914
      let c1_i32_239 : BitVec 32 := 1#32
      let c0_i32_240 : BitVec 32 := 0#32
      have v916 : IVec S16 32 := broadcast S16 c1_i32_239
      have v917 : IVec S16 32 := broadcast S16 c0_i32_240
      have v918 : IVec S16 32 := select v915 v916 v917
      have v919 : IVec S16 32 := addi v913 v918
      let c0_i32_241 : BitVec 32 := 0#32
      let c60_i32_242 : BitVec 32 := 60#32
      have v920 : IVec S16 32 := broadcast S16 c0_i32_241
      have v921 : IVec S16 32 := maxsi v920 v911
      have v922 : IVec S16 32 := broadcast S16 c60_i32_242
      have v923 : IVec S16 32 := minsi v922 v921
      let c0_i32_243 : BitVec 32 := 0#32
      let c60_i32_244 : BitVec 32 := 60#32
      have v924 : IVec S16 32 := broadcast S16 c0_i32_243
      have v925 : IVec S16 32 := maxsi v924 v919
      have v926 : IVec S16 32 := broadcast S16 c60_i32_244
      have v927 : IVec S16 32 := minsi v926 v925
      let c64_i32_245 : BitVec 32 := 64#32
      have v928 : IVec S16 32 := broadcast S16 c64_i32_245
      have v929 : IVec S16 32 := muli v923 v928
      have v930 : IVec S16 32 := addi v929 v927
      let c5_i32_246 : BitVec 32 := 5#32
      have v931 : IVec S16 32 := broadcast S16 c5_i32_246
      have v932 : IVec S16 32 := muli v930 v931
      have k0_hw37 : k0_chk37 v932 := (← Prog.lift (TpuEff.assume (k0_chk37 v932) (k0_chk37.dec v932))).down
      let c1_i32_247 : BitVec 32 := 1#32
      have v933 : IVec S16 32 := broadcast S16 c1_i32_247
      have v934 : IVec S16 32 := addi v932 v933
      have k0_hw31 : k0_chk31 v934 := (← Prog.lift (TpuEff.assume (k0_chk31 v934) (k0_chk31.dec v934))).down
      let c2_i32_248 : BitVec 32 := 2#32
      have v935 : IVec S16 32 := broadcast S16 c2_i32_248
      have v936 : IVec S16 32 := addi v932 v935
      have k0_hw32 : k0_chk32 v936 := (← Prog.lift (TpuEff.assume (k0_chk32 v936) (k0_chk32.dec v936))).down
      let c3_i32_249 : BitVec 32 := 3#32
      have v937 : IVec S16 32 := broadcast S16 c3_i32_249
      have v938 : IVec S16 32 := addi v932 v937
      have k0_hw35 : k0_chk35 v938 := (← Prog.lift (TpuEff.assume (k0_chk35 v938) (k0_chk35.dec v938))).down
      let c4_i32_250 : BitVec 32 := 4#32
      have v939 : IVec S16 32 := broadcast S16 c4_i32_250
      have v940 : IVec S16 32 := addi v932 v939
      have k0_hw36 : k0_chk36 v940 := (← Prog.lift (TpuEff.assume (k0_chk36 v940) (k0_chk36.dec v940))).down
      let c6_i32_252 : BitVec 32 := 6#32
      have v943 : IVec S16 32 := broadcast S16 c6_i32_252
      have v944 : IVec S16 32 := addi v932 v943
      have k0_hw33 : k0_chk33 v944 := (← Prog.lift (TpuEff.assume (k0_chk33 v944) (k0_chk33.dec v944))).down
      let c7_i32_253 : BitVec 32 := 7#32
      have v945 : IVec S16 32 := broadcast S16 c7_i32_253
      have v946 : IVec S16 32 := addi v932 v945
      have k0_hw34 : k0_chk34 v946 := (← Prog.lift (TpuEff.assume (k0_chk34 v946) (k0_chk34.dec v946))).down
      T v889 v893 v932 v934 v936 v938 v940 v944 v946 k0_hw37 k0_hw31 k0_hw32 k0_hw35 k0_hw36 k0_hw33 k0_hw34) = (do
      let c4_i32_222 : BitVec 32 := 4#32
      have v870 : IVec S16 32 := broadcast S16 c4_i32_222
      have v871 : IVec S16 32 := addi v866 v870
      have k0_hw29 : k0_chk29 v871 := (← Prog.lift (TpuEff.assume (k0_chk29 v871) (k0_chk29.dec v871))).down
      let v872 : Vec F S16 .f32 ← SparseCore.vectorLoadIdx arg5 ![v871] (k0_idx104_inb v871 k0_hw29) (View.loads_vmem h_S20488)
      let c5_i32_223 : BitVec 32 := 5#32
      have v873 : IVec S16 32 := broadcast S16 c5_i32_223
      have v874 : IVec S16 32 := addi v866 v873
      have k0_hw30 : k0_chk30 v874 := (← Prog.lift (TpuEff.assume (k0_chk30 v874) (k0_chk30.dec v874))).down
      let v875 : Vec F S16 .f32 ← SparseCore.vectorLoadIdx arg5 ![v874] (k0_idx105_inb v874 k0_hw30) (View.loads_vmem h_S20488)
      let v878 : Vec F S16 .f32 ← Prog.lift (.load arg7 (Rect.unit (s := S8192) (k0_off12 k0_t2) S16.size (k0_off12_inb k0_t2)).toLoadRect (View.loadsAt_vmem h_S16))
      Prog.lift (.store arg7 (Rect.unit (s := S8192) (k0_off12 k0_t2) S16.size (k0_off12_inb k0_t2)) v869 Finset.univ (View.stores_vmem_bits_univ h_S16 rfl) (.inl rfl))
      let v882 : Vec F S16 .f32 ← Prog.lift (.load arg7 (Rect.unit (s := S8192) (k0_off13 k0_t2 128#32) S16.size (k0_off13_inb k0_t2 0)).toLoadRect (View.loadsAt_vmem h_S16))
      Prog.lift (.store arg7 (Rect.unit (s := S8192) (k0_off13 k0_t2 128#32) S16.size (k0_off13_inb k0_t2 0)) v872 Finset.univ (View.stores_vmem_bits_univ h_S16 rfl) (.inl rfl))
      let v886 : Vec F S16 .f32 ← Prog.lift (.load arg7 (Rect.unit (s := S8192) (k0_off13 k0_t2 256#32) S16.size (k0_off13_inb k0_t2 1)).toLoadRect (View.loadsAt_vmem h_S16))
      Prog.lift (.store arg7 (Rect.unit (s := S8192) (k0_off13 k0_t2 256#32) S16.size (k0_off13_inb k0_t2 1)) v875 Finset.univ (View.stores_vmem_bits_univ h_S16 rfl) (.inl rfl))
      let v889 : Vec F S16 .f32 ← Prog.lift (.load arg6 (Rect.unit (s := S4096) (k0_off14 k0_t2) S16.size (k0_off14_inb k0_t2)).toLoadRect (View.loadsAt_vmem h_S16))
      let v893 : Vec F S16 .f32 ← Prog.lift (.load arg6 (Rect.unit (s := S4096) (k0_off15 k0_t2) S16.size (k0_off15_inb k0_t2)).toLoadRect (View.loadsAt_vmem h_S16))
      have cst_231 : F .f32 := Scalar.ofBits .f32 0x42800000#32
      have v894 : FVec F S16 .f32 := broadcast S16 cst_231
      have v895 : FVec F S16 .f32 := mulf v889 v894
      have cst_232 : F .f32 := Scalar.ofBits .f32 0x42800000#32
      have v896 : FVec F S16 .f32 := broadcast S16 cst_232
      have v897 : FVec F S16 .f32 := mulf v893 v896
      have v898 : IVec S16 32 := fptosi 32 v895
      have v899 : IVec S16 32 := fptosi 32 v897
      have v900 : FVec F S16 .f32 := sitofp .f32 v898
      have v901 : FVec F S16 .f32 := subf v895 v900
      have v902 : FVec F S16 .f32 := sitofp .f32 v899
      have v903 : FVec F S16 .f32 := subf v897 v902
      let c2_i32_233 : BitVec 32 := 2#32
      have v904 : IVec S16 32 := broadcast S16 c2_i32_233
      have v905 : IVec S16 32 := subi v898 v904
      have cst_234 : F .f32 := Scalar.ofBits .f32 0x3F000000#32
      have v906 : FVec F S16 .f32 := broadcast S16 cst_234
      have v907 : IVec S16 1 := cmpf .oge v901 v906
      let c1_i32_235 : BitVec 32 := 1#32
      let c0_i32_236 : BitVec 32 := 0#32
      have v908 : IVec S16 32 := broadcast S16 c1_i32_235
      have v909 : IVec S16 32 := broadcast S16 c0_i32_236
      have v910 : IVec S16 32 := select v907 v908 v909
      have v911 : IVec S16 32 := addi v905 v910
      let c2_i32_237 : BitVec 32 := 2#32
      have v912 : IVec S16 32 := broadcast S16 c2_i32_237
      have v913 : IVec S16 32 := subi v899 v912
      have cst_238 : F .f32 := Scalar.ofBits .f32 0x3F000000#32
      have v914 : FVec F S16 .f32 := broadcast S16 cst_238
      have v915 : IVec S16 1 := cmpf .oge v903 v914
      let c1_i32_239 : BitVec 32 := 1#32
      let c0_i32_240 : BitVec 32 := 0#32
      have v916 : IVec S16 32 := broadcast S16 c1_i32_239
      have v917 : IVec S16 32 := broadcast S16 c0_i32_240
      have v918 : IVec S16 32 := select v915 v916 v917
      have v919 : IVec S16 32 := addi v913 v918
      let c0_i32_241 : BitVec 32 := 0#32
      let c60_i32_242 : BitVec 32 := 60#32
      have v920 : IVec S16 32 := broadcast S16 c0_i32_241
      have v921 : IVec S16 32 := maxsi v920 v911
      have v922 : IVec S16 32 := broadcast S16 c60_i32_242
      have v923 : IVec S16 32 := minsi v922 v921
      let c0_i32_243 : BitVec 32 := 0#32
      let c60_i32_244 : BitVec 32 := 60#32
      have v924 : IVec S16 32 := broadcast S16 c0_i32_243
      have v925 : IVec S16 32 := maxsi v924 v919
      have v926 : IVec S16 32 := broadcast S16 c60_i32_244
      have v927 : IVec S16 32 := minsi v926 v925
      let c64_i32_245 : BitVec 32 := 64#32
      have v928 : IVec S16 32 := broadcast S16 c64_i32_245
      have v929 : IVec S16 32 := muli v923 v928
      have v930 : IVec S16 32 := addi v929 v927
      let c5_i32_246 : BitVec 32 := 5#32
      have v931 : IVec S16 32 := broadcast S16 c5_i32_246
      have v932 : IVec S16 32 := muli v930 v931
      have k0_hw37 : k0_chk37 v932 := (← Prog.lift (TpuEff.assume (k0_chk37 v932) (k0_chk37.dec v932))).down
      let c1_i32_247 : BitVec 32 := 1#32
      have v933 : IVec S16 32 := broadcast S16 c1_i32_247
      have v934 : IVec S16 32 := addi v932 v933
      have k0_hw31 : k0_chk31 v934 := (← Prog.lift (TpuEff.assume (k0_chk31 v934) (k0_chk31.dec v934))).down
      let c2_i32_248 : BitVec 32 := 2#32
      have v935 : IVec S16 32 := broadcast S16 c2_i32_248
      have v936 : IVec S16 32 := addi v932 v935
      have k0_hw32 : k0_chk32 v936 := (← Prog.lift (TpuEff.assume (k0_chk32 v936) (k0_chk32.dec v936))).down
      let c3_i32_249 : BitVec 32 := 3#32
      have v937 : IVec S16 32 := broadcast S16 c3_i32_249
      have v938 : IVec S16 32 := addi v932 v937
      have k0_hw35 : k0_chk35 v938 := (← Prog.lift (TpuEff.assume (k0_chk35 v938) (k0_chk35.dec v938))).down
      let c4_i32_250 : BitVec 32 := 4#32
      have v939 : IVec S16 32 := broadcast S16 c4_i32_250
      have v940 : IVec S16 32 := addi v932 v939
      have k0_hw36 : k0_chk36 v940 := (← Prog.lift (TpuEff.assume (k0_chk36 v940) (k0_chk36.dec v940))).down
      let c6_i32_252 : BitVec 32 := 6#32
      have v943 : IVec S16 32 := broadcast S16 c6_i32_252
      have v944 : IVec S16 32 := addi v932 v943
      have k0_hw33 : k0_chk33 v944 := (← Prog.lift (TpuEff.assume (k0_chk33 v944) (k0_chk33.dec v944))).down
      let c7_i32_253 : BitVec 32 := 7#32
      have v945 : IVec S16 32 := broadcast S16 c7_i32_253
      have v946 : IVec S16 32 := addi v932 v945
      have k0_hw34 : k0_chk34 v946 := (← Prog.lift (TpuEff.assume (k0_chk34 v946) (k0_chk34.dec v946))).down
      T v889 v893 v932 v934 v936 v938 v940 v944 v946 k0_hw37 k0_hw31 k0_hw32 k0_hw35 k0_hw36 k0_hw33 k0_hw34) := rfl

set_option maxRecDepth 100000 in
theorem part21_eq (v889 : Vec F S16 .f32) (v893 : Vec F S16 .f32) (v899 : IVec S16 32) (v903 : FVec F S16 .f32) (v905 : IVec S16 32) (v907 : IVec S16 1) (c0_i32_236 : BitVec 32) (v908 : IVec S16 32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part21 i arg2 harg2 arg3 harg3 arg4 harg4 arg5 harg5 arg6 harg6 arg7 harg7 v4_r0 v12_r1 v12_r2 v899 v903 v905 v907 c0_i32_236 v908 >>= fun ⟨v932, k0_hw37, v934, k0_hw31, v936, k0_hw32, v938, k0_hw35, v940, k0_hw36, v944, k0_hw33, v945⟩ => do
      have v946 : IVec S16 32 := addi v932 v945
      have k0_hw34 : k0_chk34 v946 := (← Prog.lift (TpuEff.assume (k0_chk34 v946) (k0_chk34.dec v946))).down
      T v889 v893 v932 v934 v936 v938 v940 v944 v946 k0_hw37 k0_hw31 k0_hw32 k0_hw35 k0_hw36 k0_hw33 k0_hw34) = (do
      have v909 : IVec S16 32 := broadcast S16 c0_i32_236
      have v910 : IVec S16 32 := select v907 v908 v909
      have v911 : IVec S16 32 := addi v905 v910
      let c2_i32_237 : BitVec 32 := 2#32
      have v912 : IVec S16 32 := broadcast S16 c2_i32_237
      have v913 : IVec S16 32 := subi v899 v912
      have cst_238 : F .f32 := Scalar.ofBits .f32 0x3F000000#32
      have v914 : FVec F S16 .f32 := broadcast S16 cst_238
      have v915 : IVec S16 1 := cmpf .oge v903 v914
      let c1_i32_239 : BitVec 32 := 1#32
      let c0_i32_240 : BitVec 32 := 0#32
      have v916 : IVec S16 32 := broadcast S16 c1_i32_239
      have v917 : IVec S16 32 := broadcast S16 c0_i32_240
      have v918 : IVec S16 32 := select v915 v916 v917
      have v919 : IVec S16 32 := addi v913 v918
      let c0_i32_241 : BitVec 32 := 0#32
      let c60_i32_242 : BitVec 32 := 60#32
      have v920 : IVec S16 32 := broadcast S16 c0_i32_241
      have v921 : IVec S16 32 := maxsi v920 v911
      have v922 : IVec S16 32 := broadcast S16 c60_i32_242
      have v923 : IVec S16 32 := minsi v922 v921
      let c0_i32_243 : BitVec 32 := 0#32
      let c60_i32_244 : BitVec 32 := 60#32
      have v924 : IVec S16 32 := broadcast S16 c0_i32_243
      have v925 : IVec S16 32 := maxsi v924 v919
      have v926 : IVec S16 32 := broadcast S16 c60_i32_244
      have v927 : IVec S16 32 := minsi v926 v925
      let c64_i32_245 : BitVec 32 := 64#32
      have v928 : IVec S16 32 := broadcast S16 c64_i32_245
      have v929 : IVec S16 32 := muli v923 v928
      have v930 : IVec S16 32 := addi v929 v927
      let c5_i32_246 : BitVec 32 := 5#32
      have v931 : IVec S16 32 := broadcast S16 c5_i32_246
      have v932 : IVec S16 32 := muli v930 v931
      have k0_hw37 : k0_chk37 v932 := (← Prog.lift (TpuEff.assume (k0_chk37 v932) (k0_chk37.dec v932))).down
      let c1_i32_247 : BitVec 32 := 1#32
      have v933 : IVec S16 32 := broadcast S16 c1_i32_247
      have v934 : IVec S16 32 := addi v932 v933
      have k0_hw31 : k0_chk31 v934 := (← Prog.lift (TpuEff.assume (k0_chk31 v934) (k0_chk31.dec v934))).down
      let c2_i32_248 : BitVec 32 := 2#32
      have v935 : IVec S16 32 := broadcast S16 c2_i32_248
      have v936 : IVec S16 32 := addi v932 v935
      have k0_hw32 : k0_chk32 v936 := (← Prog.lift (TpuEff.assume (k0_chk32 v936) (k0_chk32.dec v936))).down
      let c3_i32_249 : BitVec 32 := 3#32
      have v937 : IVec S16 32 := broadcast S16 c3_i32_249
      have v938 : IVec S16 32 := addi v932 v937
      have k0_hw35 : k0_chk35 v938 := (← Prog.lift (TpuEff.assume (k0_chk35 v938) (k0_chk35.dec v938))).down
      let c4_i32_250 : BitVec 32 := 4#32
      have v939 : IVec S16 32 := broadcast S16 c4_i32_250
      have v940 : IVec S16 32 := addi v932 v939
      have k0_hw36 : k0_chk36 v940 := (← Prog.lift (TpuEff.assume (k0_chk36 v940) (k0_chk36.dec v940))).down
      let c6_i32_252 : BitVec 32 := 6#32
      have v943 : IVec S16 32 := broadcast S16 c6_i32_252
      have v944 : IVec S16 32 := addi v932 v943
      have k0_hw33 : k0_chk33 v944 := (← Prog.lift (TpuEff.assume (k0_chk33 v944) (k0_chk33.dec v944))).down
      let c7_i32_253 : BitVec 32 := 7#32
      have v945 : IVec S16 32 := broadcast S16 c7_i32_253
      have v946 : IVec S16 32 := addi v932 v945
      have k0_hw34 : k0_chk34 v946 := (← Prog.lift (TpuEff.assume (k0_chk34 v946) (k0_chk34.dec v946))).down
      T v889 v893 v932 v934 v936 v938 v940 v944 v946 k0_hw37 k0_hw31 k0_hw32 k0_hw35 k0_hw36 k0_hw33 k0_hw34) := rfl

set_option maxRecDepth 100000 in
theorem part22_eq (v889 : Vec F S16 .f32) (v893 : Vec F S16 .f32) (v932 : IVec S16 32) (k0_hw37 : k0_chk37 v932) (v934 : IVec S16 32) (k0_hw31 : k0_chk31 v934) (v936 : IVec S16 32) (k0_hw32 : k0_chk32 v936) (v938 : IVec S16 32) (k0_hw35 : k0_chk35 v938) (v940 : IVec S16 32) (k0_hw36 : k0_chk36 v940) (v944 : IVec S16 32) (k0_hw33 : k0_chk33 v944) (v945 : IVec S16 32)
    (T : Best F → FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part22 i arg2 harg2 arg3 harg3 arg4 harg4 arg5 harg5 arg6 harg6 arg7 harg7 v4_r0 v12_r1 v12_r2 v889 v893 v932 k0_hw37 v934 k0_hw31 v936 k0_hw32 v938 k0_hw35 v940 k0_hw36 v944 k0_hw33 v945 >>= fun ⟨v946, k0_hw34, v985, v987, v989, v991⟩ => do
      have v992 : FVec F S16 .f32 := subf v889 v989
      have v993 : FVec F S16 .f32 := subf v893 v991
      have v994 : FVec F S16 .f32 := mulf v992 v992
      have v995 : FVec F S16 .f32 := mulf v993 v993
      have v996 : FVec F S16 .f32 := addf v994 v995
      have v997 : IVec S16 1 := cmpf .olt v996 v985
      have v998 : FVec F S16 .f32 := select v997 v996 v985
      let c15_i32_267 : BitVec 32 := 15#32
      have v999 : IVec S16 32 := broadcast S16 c15_i32_267
      have v1000 : IVec S16 32 := select v997 v999 v987
      T (v998, v1000) v889 v893 v932 v934 v936 v938 v940 v944 v946 k0_hw37 k0_hw31 k0_hw32 k0_hw35 k0_hw36 k0_hw33 k0_hw34) = (do
      have v946 : IVec S16 32 := addi v932 v945
      have k0_hw34 : k0_chk34 v946 := (← Prog.lift (TpuEff.assume (k0_chk34 v946) (k0_chk34.dec v946))).down
      let s1 ← probe arg5 v889 v893 inb_S20488_S19508_0 inb_S20488_S19508_0 (k0_idx106_inb v934 k0_hw31) (k0_idx107_inb v936 k0_hw32) 0#32 start
      let s2 ← probe arg5 v889 v893 inb_S20488_S19508_0 inb_S20488_S19508_0 (k0_idx108_inb v944 k0_hw33) (k0_idx109_inb v946 k0_hw34) 5#32 s1
      let s3 ← probe arg5 v889 v893 inb_S20488_S19508_8 inb_S20488_S19508_8 (k0_idx110_inb v938 k0_hw35) (k0_idx111_inb v940 k0_hw36) 10#32 s2
      let s4 ← probe arg5 v889 v893 inb_S20488_S19508_16 inb_S20488_S19508_16 (k0_idx112_inb v932 k0_hw37) (k0_idx113_inb v934 k0_hw31) 15#32 s3
      T s4 v889 v893 v932 v934 v936 v938 v940 v944 v946 k0_hw37 k0_hw31 k0_hw32 k0_hw35 k0_hw36 k0_hw33 k0_hw34) := rfl

set_option maxRecDepth 100000 in
theorem part23_eq (v889 : Vec F S16 .f32) (v893 : Vec F S16 .f32) (v932 : IVec S16 32) (k0_hw37 : k0_chk37 v932) (v934 : IVec S16 32) (k0_hw31 : k0_chk31 v934) (v936 : IVec S16 32) (k0_hw32 : k0_chk32 v936) (v938 : IVec S16 32) (k0_hw35 : k0_chk35 v938) (v940 : IVec S16 32) (k0_hw36 : k0_chk36 v940) (v944 : IVec S16 32) (k0_hw33 : k0_chk33 v944) (v946 : IVec S16 32) (k0_hw34 : k0_chk34 v946) (v985 : FVec F S16 .f32) (v987 : IVec S16 32) (v989 : Vec F S16 .f32) (v991 : Vec F S16 .f32)
    (T : Best F → TileProg F i (BitVec 32)) :
    (k0_part23 i arg2 harg2 arg3 harg3 arg4 harg4 arg5 harg5 arg6 harg6 arg7 harg7 v4_r0 v12_r1 v12_r2 v889 v893 v934 k0_hw31 v936 k0_hw32 v938 k0_hw35 v940 k0_hw36 v944 k0_hw33 v946 k0_hw34 v985 v987 v989 v991 >>= fun ⟨v1037, v1039⟩ => do
      let v1040 : Memref sig .scVector .vmem S19508 .f32 := arg5.slice (Rect.unit (s := S20488) ![336] S19508.size inb_S20488_S19508_336) (fun _ => rfl)
      let v1041 : Vec F S16 .f32 ← SparseCore.vectorLoadIdx v1040 ![v932] (k0_idx120_inb v932 k0_hw37) (View.loads_vmem h_S19508)
      let v1042 : Memref sig .scVector .vmem S19508 .f32 := arg5.slice (Rect.unit (s := S20488) ![336] S19508.size inb_S20488_S19508_336) (fun _ => rfl)
      let v1043 : Vec F S16 .f32 ← SparseCore.vectorLoadIdx v1042 ![v934] (k0_idx121_inb v934 k0_hw31) (View.loads_vmem h_S19508)
      have v1044 : FVec F S16 .f32 := subf v889 v1041
      have v1045 : FVec F S16 .f32 := subf v893 v1043
      have v1046 : FVec F S16 .f32 := mulf v1044 v1044
      have v1047 : FVec F S16 .f32 := mulf v1045 v1045
      have v1048 : FVec F S16 .f32 := addf v1046 v1047
      have v1049 : IVec S16 1 := cmpf .olt v1048 v1037
      have v1050 : FVec F S16 .f32 := select v1049 v1048 v1037
      let c335_i32_279 : BitVec 32 := 335#32
      have v1051 : IVec S16 32 := broadcast S16 c335_i32_279
      have v1052 : IVec S16 32 := select v1049 v1051 v1039
      T (v1050, v1052)) = (do
      have v992 : FVec F S16 .f32 := subf v889 v989
      have v993 : FVec F S16 .f32 := subf v893 v991
      have v994 : FVec F S16 .f32 := mulf v992 v992
      have v995 : FVec F S16 .f32 := mulf v993 v993
      have v996 : FVec F S16 .f32 := addf v994 v995
      have v997 : IVec S16 1 := cmpf .olt v996 v985
      have v998 : FVec F S16 .f32 := select v997 v996 v985
      let c15_i32_267 : BitVec 32 := 15#32
      have v999 : IVec S16 32 := broadcast S16 c15_i32_267
      have v1000 : IVec S16 32 := select v997 v999 v987
      let s1 ← probe arg5 v889 v893 inb_S20488_S19508_320 inb_S20488_S19508_320 (k0_idx114_inb v934 k0_hw31) (k0_idx115_inb v936 k0_hw32) 320#32 (v998, v1000)
      let s2 ← probe arg5 v889 v893 inb_S20488_S19508_320 inb_S20488_S19508_320 (k0_idx116_inb v944 k0_hw33) (k0_idx117_inb v946 k0_hw34) 325#32 s1
      let s3 ← probe arg5 v889 v893 inb_S20488_S19508_328 inb_S20488_S19508_328 (k0_idx118_inb v938 k0_hw35) (k0_idx119_inb v940 k0_hw36) 330#32 s2
      let s4 ← probe arg5 v889 v893 inb_S20488_S19508_336 inb_S20488_S19508_336 (k0_idx120_inb v932 k0_hw37) (k0_idx121_inb v934 k0_hw31) 335#32 s3
      T s4) := rfl

set_option maxRecDepth 100000 in
theorem part24_eq (v889 : Vec F S16 .f32) (v893 : Vec F S16 .f32) (v932 : IVec S16 32) (k0_hw37 : k0_chk37 v932) (v934 : IVec S16 32) (k0_hw31 : k0_chk31 v934) (v936 : IVec S16 32) (k0_hw32 : k0_chk32 v936) (v938 : IVec S16 32) (k0_hw35 : k0_chk35 v938) (v940 : IVec S16 32) (k0_hw36 : k0_chk36 v940) (v944 : IVec S16 32) (k0_hw33 : k0_chk33 v944) (v946 : IVec S16 32) (k0_hw34 : k0_chk34 v946) (v1037 : FVec F S16 .f32) (v1039 : IVec S16 32)
    (T : Best F → TileProg F i (BitVec 32)) :
    (k0_part24 i arg2 harg2 arg3 harg3 arg4 harg4 arg5 harg5 arg6 harg6 arg7 harg7 v4_r0 v12_r1 v12_r2 v889 v893 v932 k0_hw37 v934 k0_hw31 v936 k0_hw32 v938 k0_hw35 v940 k0_hw36 v944 k0_hw33 v946 k0_hw34 v1037 v1039 >>= fun ⟨v1078, v1088, v1089, c650_i32_288⟩ => do
      have v1090 : IVec S16 32 := broadcast S16 c650_i32_288
      have v1091 : IVec S16 32 := select v1088 v1090 v1078
      T (v1089, v1091)) = (do
      let v1040 : Memref sig .scVector .vmem S19508 .f32 := arg5.slice (Rect.unit (s := S20488) ![336] S19508.size inb_S20488_S19508_336) (fun _ => rfl)
      let v1041 : Vec F S16 .f32 ← SparseCore.vectorLoadIdx v1040 ![v932] (k0_idx120_inb v932 k0_hw37) (View.loads_vmem h_S19508)
      let v1042 : Memref sig .scVector .vmem S19508 .f32 := arg5.slice (Rect.unit (s := S20488) ![336] S19508.size inb_S20488_S19508_336) (fun _ => rfl)
      let v1043 : Vec F S16 .f32 ← SparseCore.vectorLoadIdx v1042 ![v934] (k0_idx121_inb v934 k0_hw31) (View.loads_vmem h_S19508)
      have v1044 : FVec F S16 .f32 := subf v889 v1041
      have v1045 : FVec F S16 .f32 := subf v893 v1043
      have v1046 : FVec F S16 .f32 := mulf v1044 v1044
      have v1047 : FVec F S16 .f32 := mulf v1045 v1045
      have v1048 : FVec F S16 .f32 := addf v1046 v1047
      have v1049 : IVec S16 1 := cmpf .olt v1048 v1037
      have v1050 : FVec F S16 .f32 := select v1049 v1048 v1037
      let c335_i32_279 : BitVec 32 := 335#32
      have v1051 : IVec S16 32 := broadcast S16 c335_i32_279
      have v1052 : IVec S16 32 := select v1049 v1051 v1039
      let s1 ← probe arg5 v889 v893 inb_S20488_S19508_640 inb_S20488_S19508_640 (k0_idx122_inb v934 k0_hw31) (k0_idx123_inb v936 k0_hw32) 640#32 (v1050, v1052)
      let s2 ← probe arg5 v889 v893 inb_S20488_S19508_640 inb_S20488_S19508_640 (k0_idx124_inb v944 k0_hw33) (k0_idx125_inb v946 k0_hw34) 645#32 s1
      let s3 ← probe arg5 v889 v893 inb_S20488_S19508_648 inb_S20488_S19508_648 (k0_idx126_inb v938 k0_hw35) (k0_idx127_inb v940 k0_hw36) 650#32 s2
      T s3) := rfl

set_option maxRecDepth 100000 in
theorem part25_eq (v889 : Vec F S16 .f32) (v893 : Vec F S16 .f32) (v932 : IVec S16 32) (k0_hw37 : k0_chk37 v932) (v934 : IVec S16 32) (k0_hw31 : k0_chk31 v934) (v936 : IVec S16 32) (k0_hw32 : k0_chk32 v936) (v938 : IVec S16 32) (k0_hw35 : k0_chk35 v938) (v940 : IVec S16 32) (k0_hw36 : k0_chk36 v940) (v944 : IVec S16 32) (k0_hw33 : k0_chk33 v944) (v946 : IVec S16 32) (k0_hw34 : k0_chk34 v946) (v1078 : IVec S16 32) (v1088 : IVec S16 1) (v1089 : FVec F S16 .f32) (c650_i32_288 : BitVec 32)
    (T : Best F → TileProg F i (BitVec 32)) :
    (k0_part25 i arg2 harg2 arg3 harg3 arg4 harg4 arg5 harg5 arg6 harg6 arg7 harg7 v4_r0 v12_r1 v12_r2 v889 v893 v932 k0_hw37 v934 k0_hw31 v936 k0_hw32 v938 k0_hw35 v940 k0_hw36 v944 k0_hw33 v946 k0_hw34 v1078 v1088 v1089 c650_i32_288 >>= fun ⟨v1128, v1130, v1137, v1138⟩ => do
      have v1139 : FVec F S16 .f32 := addf v1137 v1138
      have v1140 : IVec S16 1 := cmpf .olt v1139 v1128
      have v1141 : FVec F S16 .f32 := select v1140 v1139 v1128
      let c970_i32_300 : BitVec 32 := 970#32
      have v1142 : IVec S16 32 := broadcast S16 c970_i32_300
      have v1143 : IVec S16 32 := select v1140 v1142 v1130
      T (v1141, v1143)) = (do
      have v1090 : IVec S16 32 := broadcast S16 c650_i32_288
      have v1091 : IVec S16 32 := select v1088 v1090 v1078
      let s1 ← probe arg5 v889 v893 inb_S20488_S19508_656 inb_S20488_S19508_656 (k0_idx128_inb v932 k0_hw37) (k0_idx129_inb v934 k0_hw31) 655#32 (v1089, v1091)
      let s2 ← probe arg5 v889 v893 inb_S20488_S19508_960 inb_S20488_S19508_960 (k0_idx130_inb v934 k0_hw31) (k0_idx131_inb v936 k0_hw32) 960#32 s1
      let s3 ← probe arg5 v889 v893 inb_S20488_S19508_960 inb_S20488_S19508_960 (k0_idx132_inb v944 k0_hw33) (k0_idx133_inb v946 k0_hw34) 965#32 s2
      let s4 ← probe arg5 v889 v893 inb_S20488_S19508_968 inb_S20488_S19508_968 (k0_idx134_inb v938 k0_hw35) (k0_idx135_inb v940 k0_hw36) 970#32 s3
      T s4) := rfl

set_option maxRecDepth 100000 in
theorem part26_eq (k0_t2 : Fin k0_t2_loop.trips) (v12 : BitVec 32) (v13 : BitVec 32) (v889 : Vec F S16 .f32) (v893 : Vec F S16 .f32) (v932 : IVec S16 32) (k0_hw37 : k0_chk37 v932) (v934 : IVec S16 32) (k0_hw31 : k0_chk31 v934) (v1128 : FVec F S16 .f32) (v1130 : IVec S16 32) (v1137 : FVec F S16 .f32) (v1138 : FVec F S16 .f32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part26 i arg2 harg2 arg3 harg3 arg4 harg4 arg5 harg5 arg6 harg6 arg7 harg7 v4_r0 v12_r1 v12_r2 k0_t2 v12 v13 v889 v893 v932 k0_hw37 v934 k0_hw31 v1128 v1130 v1137 v1138 >>= fun _ => do
      let v1180 : Vec F S16 .f32 ← Prog.lift (.load arg6 (Rect.unit (s := S4096) (k0_off18 k0_t2) S16.size (k0_off18_inb k0_t2)).toLoadRect (View.loadsAt_vmem h_S16))
      let v1184 : Vec F S16 .f32 ← Prog.lift (.load arg6 (Rect.unit (s := S4096) (k0_off19 k0_t2) S16.size (k0_off19_inb k0_t2)).toLoadRect (View.loadsAt_vmem h_S16))
      have cst_315 : F .f32 := Scalar.ofBits .f32 0x42800000#32
      have v1185 : FVec F S16 .f32 := broadcast S16 cst_315
      have v1186 : FVec F S16 .f32 := mulf v1180 v1185
      have cst_316 : F .f32 := Scalar.ofBits .f32 0x42800000#32
      have v1187 : FVec F S16 .f32 := broadcast S16 cst_316
      have v1188 : FVec F S16 .f32 := mulf v1184 v1187
      have v1189 : IVec S16 32 := fptosi 32 v1186
      have v1190 : IVec S16 32 := fptosi 32 v1188
      have v1191 : FVec F S16 .f32 := sitofp .f32 v1189
      have v1192 : FVec F S16 .f32 := subf v1186 v1191
      have v1193 : FVec F S16 .f32 := sitofp .f32 v1190
      have v1194 : FVec F S16 .f32 := subf v1188 v1193
      let c2_i32_317 : BitVec 32 := 2#32
      have v1195 : IVec S16 32 := broadcast S16 c2_i32_317
      have v1196 : IVec S16 32 := subi v1189 v1195
      have cst_318 : F .f32 := Scalar.ofBits .f32 0x3F000000#32
      have v1197 : FVec F S16 .f32 := broadcast S16 cst_318
      have v1198 : IVec S16 1 := cmpf .oge v1192 v1197
      let c1_i32_319 : BitVec 32 := 1#32
      let c0_i32_320 : BitVec 32 := 0#32
      have v1199 : IVec S16 32 := broadcast S16 c1_i32_319
      have v1200 : IVec S16 32 := broadcast S16 c0_i32_320
      have v1201 : IVec S16 32 := select v1198 v1199 v1200
      have v1202 : IVec S16 32 := addi v1196 v1201
      let c2_i32_321 : BitVec 32 := 2#32
      have v1203 : IVec S16 32 := broadcast S16 c2_i32_321
      have v1204 : IVec S16 32 := subi v1190 v1203
      have cst_322 : F .f32 := Scalar.ofBits .f32 0x3F000000#32
      have v1205 : FVec F S16 .f32 := broadcast S16 cst_322
      have v1206 : IVec S16 1 := cmpf .oge v1194 v1205
      let c1_i32_323 : BitVec 32 := 1#32
      let c0_i32_324 : BitVec 32 := 0#32
      have v1207 : IVec S16 32 := broadcast S16 c1_i32_323
      have v1208 : IVec S16 32 := broadcast S16 c0_i32_324
      have v1209 : IVec S16 32 := select v1206 v1207 v1208
      have v1210 : IVec S16 32 := addi v1204 v1209
      let c0_i32_325 : BitVec 32 := 0#32
      let c60_i32_326 : BitVec 32 := 60#32
      have v1211 : IVec S16 32 := broadcast S16 c0_i32_325
      have v1212 : IVec S16 32 := maxsi v1211 v1202
      have v1213 : IVec S16 32 := broadcast S16 c60_i32_326
      have v1214 : IVec S16 32 := minsi v1213 v1212
      let c0_i32_327 : BitVec 32 := 0#32
      let c60_i32_328 : BitVec 32 := 60#32
      have v1215 : IVec S16 32 := broadcast S16 c0_i32_327
      have v1216 : IVec S16 32 := maxsi v1215 v1210
      have v1217 : IVec S16 32 := broadcast S16 c60_i32_328
      have v1218 : IVec S16 32 := minsi v1217 v1216
      let c64_i32_329 : BitVec 32 := 64#32
      have v1219 : IVec S16 32 := broadcast S16 c64_i32_329
      have v1220 : IVec S16 32 := muli v1214 v1219
      have v1221 : IVec S16 32 := addi v1220 v1218
      let c5_i32_330 : BitVec 32 := 5#32
      have v1222 : IVec S16 32 := broadcast S16 c5_i32_330
      have v1223 : IVec S16 32 := muli v1221 v1222
      have k0_hw47 : k0_chk47 v1223 := (← Prog.lift (TpuEff.assume (k0_chk47 v1223) (k0_chk47.dec v1223))).down
      let c1_i32_331 : BitVec 32 := 1#32
      have v1224 : IVec S16 32 := broadcast S16 c1_i32_331
      have v1225 : IVec S16 32 := addi v1223 v1224
      have k0_hw41 : k0_chk41 v1225 := (← Prog.lift (TpuEff.assume (k0_chk41 v1225) (k0_chk41.dec v1225))).down
      let c2_i32_332 : BitVec 32 := 2#32
      have v1226 : IVec S16 32 := broadcast S16 c2_i32_332
      have v1227 : IVec S16 32 := addi v1223 v1226
      have k0_hw42 : k0_chk42 v1227 := (← Prog.lift (TpuEff.assume (k0_chk42 v1227) (k0_chk42.dec v1227))).down
      let c3_i32_333 : BitVec 32 := 3#32
      have v1228 : IVec S16 32 := broadcast S16 c3_i32_333
      have v1229 : IVec S16 32 := addi v1223 v1228
      have k0_hw45 : k0_chk45 v1229 := (← Prog.lift (TpuEff.assume (k0_chk45 v1229) (k0_chk45.dec v1229))).down
      let c4_i32_334 : BitVec 32 := 4#32
      have v1230 : IVec S16 32 := broadcast S16 c4_i32_334
      have v1231 : IVec S16 32 := addi v1223 v1230
      have k0_hw46 : k0_chk46 v1231 := (← Prog.lift (TpuEff.assume (k0_chk46 v1231) (k0_chk46.dec v1231))).down
      let c6_i32_336 : BitVec 32 := 6#32
      have v1234 : IVec S16 32 := broadcast S16 c6_i32_336
      have v1235 : IVec S16 32 := addi v1223 v1234
      have k0_hw43 : k0_chk43 v1235 := (← Prog.lift (TpuEff.assume (k0_chk43 v1235) (k0_chk43.dec v1235))).down
      let c7_i32_337 : BitVec 32 := 7#32
      have v1236 : IVec S16 32 := broadcast S16 c7_i32_337
      have v1237 : IVec S16 32 := addi v1223 v1236
      have k0_hw44 : k0_chk44 v1237 := (← Prog.lift (TpuEff.assume (k0_chk44 v1237) (k0_chk44.dec v1237))).down
      T v1180 v1184 v1223 v1225 v1227 v1229 v1231 v1235 v1237 k0_hw47 k0_hw41 k0_hw42 k0_hw45 k0_hw46 k0_hw43 k0_hw44) = (do
      have v1139 : FVec F S16 .f32 := addf v1137 v1138
      have v1140 : IVec S16 1 := cmpf .olt v1139 v1128
      have v1141 : FVec F S16 .f32 := select v1140 v1139 v1128
      let c970_i32_300 : BitVec 32 := 970#32
      have v1142 : IVec S16 32 := broadcast S16 c970_i32_300
      have v1143 : IVec S16 32 := select v1140 v1142 v1130
      let s1 ← probe arg5 v889 v893 inb_S20488_S19508_976 inb_S20488_S19508_976 (k0_idx136_inb v932 k0_hw37) (k0_idx137_inb v934 k0_hw31) 975#32 (v1141, v1143)
      have v1156 : IVec S16 32 := s1.2
      have v1157 : IVec S16 32 := addi v932 v1156
      let c3_i32_304 : BitVec 32 := 3#32
      have v1158 : IVec S16 32 := broadcast S16 c3_i32_304
      have v1159 : IVec S16 32 := addi v1157 v1158
      have k0_hw38 : k0_chk38 v1159 := (← Prog.lift (TpuEff.assume (k0_chk38 v1159) (k0_chk38.dec v1159))).down
      let v1160 : Vec F S16 .f32 ← SparseCore.vectorLoadIdx arg5 ![v1159] (k0_idx138_inb v1159 k0_hw38) (View.loads_vmem h_S20488)
      let c4_i32_305 : BitVec 32 := 4#32
      have v1161 : IVec S16 32 := broadcast S16 c4_i32_305
      have v1162 : IVec S16 32 := addi v1157 v1161
      have k0_hw39 : k0_chk39 v1162 := (← Prog.lift (TpuEff.assume (k0_chk39 v1162) (k0_chk39.dec v1162))).down
      let v1163 : Vec F S16 .f32 ← SparseCore.vectorLoadIdx arg5 ![v1162] (k0_idx139_inb v1162 k0_hw39) (View.loads_vmem h_S20488)
      let c5_i32_306 : BitVec 32 := 5#32
      have v1164 : IVec S16 32 := broadcast S16 c5_i32_306
      have v1165 : IVec S16 32 := addi v1157 v1164
      have k0_hw40 : k0_chk40 v1165 := (← Prog.lift (TpuEff.assume (k0_chk40 v1165) (k0_chk40.dec v1165))).down
      let v1166 : Vec F S16 .f32 ← SparseCore.vectorLoadIdx arg5 ![v1165] (k0_idx140_inb v1165 k0_hw40) (View.loads_vmem h_S20488)
      let v1169 : Vec F S16 .f32 ← Prog.lift (.load arg7 (Rect.unit (s := S8192) (k0_off16 k0_t2) S16.size (k0_off16_inb k0_t2)).toLoadRect (View.loadsAt_vmem h_S16))
      Prog.lift (.store arg7 (Rect.unit (s := S8192) (k0_off16 k0_t2) S16.size (k0_off16_inb k0_t2)) v1160 Finset.univ (View.stores_vmem_bits_univ h_S16 rfl) (.inl rfl))
      let v1173 : Vec F S16 .f32 ← Prog.lift (.load arg7 (Rect.unit (s := S8192) (k0_off17 k0_t2 128#32) S16.size (k0_off17_inb k0_t2 0)).toLoadRect (View.loadsAt_vmem h_S16))
      Prog.lift (.store arg7 (Rect.unit (s := S8192) (k0_off17 k0_t2 128#32) S16.size (k0_off17_inb k0_t2 0)) v1163 Finset.univ (View.stores_vmem_bits_univ h_S16 rfl) (.inl rfl))
      let v1177 : Vec F S16 .f32 ← Prog.lift (.load arg7 (Rect.unit (s := S8192) (k0_off17 k0_t2 256#32) S16.size (k0_off17_inb k0_t2 1)).toLoadRect (View.loadsAt_vmem h_S16))
      Prog.lift (.store arg7 (Rect.unit (s := S8192) (k0_off17 k0_t2 256#32) S16.size (k0_off17_inb k0_t2 1)) v1166 Finset.univ (View.stores_vmem_bits_univ h_S16 rfl) (.inl rfl))
      let v1180 : Vec F S16 .f32 ← Prog.lift (.load arg6 (Rect.unit (s := S4096) (k0_off18 k0_t2) S16.size (k0_off18_inb k0_t2)).toLoadRect (View.loadsAt_vmem h_S16))
      let v1184 : Vec F S16 .f32 ← Prog.lift (.load arg6 (Rect.unit (s := S4096) (k0_off19 k0_t2) S16.size (k0_off19_inb k0_t2)).toLoadRect (View.loadsAt_vmem h_S16))
      have cst_315 : F .f32 := Scalar.ofBits .f32 0x42800000#32
      have v1185 : FVec F S16 .f32 := broadcast S16 cst_315
      have v1186 : FVec F S16 .f32 := mulf v1180 v1185
      have cst_316 : F .f32 := Scalar.ofBits .f32 0x42800000#32
      have v1187 : FVec F S16 .f32 := broadcast S16 cst_316
      have v1188 : FVec F S16 .f32 := mulf v1184 v1187
      have v1189 : IVec S16 32 := fptosi 32 v1186
      have v1190 : IVec S16 32 := fptosi 32 v1188
      have v1191 : FVec F S16 .f32 := sitofp .f32 v1189
      have v1192 : FVec F S16 .f32 := subf v1186 v1191
      have v1193 : FVec F S16 .f32 := sitofp .f32 v1190
      have v1194 : FVec F S16 .f32 := subf v1188 v1193
      let c2_i32_317 : BitVec 32 := 2#32
      have v1195 : IVec S16 32 := broadcast S16 c2_i32_317
      have v1196 : IVec S16 32 := subi v1189 v1195
      have cst_318 : F .f32 := Scalar.ofBits .f32 0x3F000000#32
      have v1197 : FVec F S16 .f32 := broadcast S16 cst_318
      have v1198 : IVec S16 1 := cmpf .oge v1192 v1197
      let c1_i32_319 : BitVec 32 := 1#32
      let c0_i32_320 : BitVec 32 := 0#32
      have v1199 : IVec S16 32 := broadcast S16 c1_i32_319
      have v1200 : IVec S16 32 := broadcast S16 c0_i32_320
      have v1201 : IVec S16 32 := select v1198 v1199 v1200
      have v1202 : IVec S16 32 := addi v1196 v1201
      let c2_i32_321 : BitVec 32 := 2#32
      have v1203 : IVec S16 32 := broadcast S16 c2_i32_321
      have v1204 : IVec S16 32 := subi v1190 v1203
      have cst_322 : F .f32 := Scalar.ofBits .f32 0x3F000000#32
      have v1205 : FVec F S16 .f32 := broadcast S16 cst_322
      have v1206 : IVec S16 1 := cmpf .oge v1194 v1205
      let c1_i32_323 : BitVec 32 := 1#32
      let c0_i32_324 : BitVec 32 := 0#32
      have v1207 : IVec S16 32 := broadcast S16 c1_i32_323
      have v1208 : IVec S16 32 := broadcast S16 c0_i32_324
      have v1209 : IVec S16 32 := select v1206 v1207 v1208
      have v1210 : IVec S16 32 := addi v1204 v1209
      let c0_i32_325 : BitVec 32 := 0#32
      let c60_i32_326 : BitVec 32 := 60#32
      have v1211 : IVec S16 32 := broadcast S16 c0_i32_325
      have v1212 : IVec S16 32 := maxsi v1211 v1202
      have v1213 : IVec S16 32 := broadcast S16 c60_i32_326
      have v1214 : IVec S16 32 := minsi v1213 v1212
      let c0_i32_327 : BitVec 32 := 0#32
      let c60_i32_328 : BitVec 32 := 60#32
      have v1215 : IVec S16 32 := broadcast S16 c0_i32_327
      have v1216 : IVec S16 32 := maxsi v1215 v1210
      have v1217 : IVec S16 32 := broadcast S16 c60_i32_328
      have v1218 : IVec S16 32 := minsi v1217 v1216
      let c64_i32_329 : BitVec 32 := 64#32
      have v1219 : IVec S16 32 := broadcast S16 c64_i32_329
      have v1220 : IVec S16 32 := muli v1214 v1219
      have v1221 : IVec S16 32 := addi v1220 v1218
      let c5_i32_330 : BitVec 32 := 5#32
      have v1222 : IVec S16 32 := broadcast S16 c5_i32_330
      have v1223 : IVec S16 32 := muli v1221 v1222
      have k0_hw47 : k0_chk47 v1223 := (← Prog.lift (TpuEff.assume (k0_chk47 v1223) (k0_chk47.dec v1223))).down
      let c1_i32_331 : BitVec 32 := 1#32
      have v1224 : IVec S16 32 := broadcast S16 c1_i32_331
      have v1225 : IVec S16 32 := addi v1223 v1224
      have k0_hw41 : k0_chk41 v1225 := (← Prog.lift (TpuEff.assume (k0_chk41 v1225) (k0_chk41.dec v1225))).down
      let c2_i32_332 : BitVec 32 := 2#32
      have v1226 : IVec S16 32 := broadcast S16 c2_i32_332
      have v1227 : IVec S16 32 := addi v1223 v1226
      have k0_hw42 : k0_chk42 v1227 := (← Prog.lift (TpuEff.assume (k0_chk42 v1227) (k0_chk42.dec v1227))).down
      let c3_i32_333 : BitVec 32 := 3#32
      have v1228 : IVec S16 32 := broadcast S16 c3_i32_333
      have v1229 : IVec S16 32 := addi v1223 v1228
      have k0_hw45 : k0_chk45 v1229 := (← Prog.lift (TpuEff.assume (k0_chk45 v1229) (k0_chk45.dec v1229))).down
      let c4_i32_334 : BitVec 32 := 4#32
      have v1230 : IVec S16 32 := broadcast S16 c4_i32_334
      have v1231 : IVec S16 32 := addi v1223 v1230
      have k0_hw46 : k0_chk46 v1231 := (← Prog.lift (TpuEff.assume (k0_chk46 v1231) (k0_chk46.dec v1231))).down
      let c6_i32_336 : BitVec 32 := 6#32
      have v1234 : IVec S16 32 := broadcast S16 c6_i32_336
      have v1235 : IVec S16 32 := addi v1223 v1234
      have k0_hw43 : k0_chk43 v1235 := (← Prog.lift (TpuEff.assume (k0_chk43 v1235) (k0_chk43.dec v1235))).down
      let c7_i32_337 : BitVec 32 := 7#32
      have v1236 : IVec S16 32 := broadcast S16 c7_i32_337
      have v1237 : IVec S16 32 := addi v1223 v1236
      have k0_hw44 : k0_chk44 v1237 := (← Prog.lift (TpuEff.assume (k0_chk44 v1237) (k0_chk44.dec v1237))).down
      T v1180 v1184 v1223 v1225 v1227 v1229 v1231 v1235 v1237 k0_hw47 k0_hw41 k0_hw42 k0_hw45 k0_hw46 k0_hw43 k0_hw44) := rfl

end Cert.Proof

end
-- ==== Proof.Parts2.lean ====
module

public import proofs.«01_k».proof.Proof.Unit

/-! # The inner loop's text, second half

The same as in the first half, for the trip's remaining parts. -/

@[expose] public section

noncomputable section

namespace Cert.Proof

open Idealize.ShloMosaic Idealize.SL.Sem
open Cert.KernelIdeal Cert.KernelIdeal.Gen

variable {F : FTy → Type} [FloatOps F]
variable (i : grid0.Coords) (arg2 : Memref sig .scVector .hbm S524288 .f32) (harg2 : arg2.IsWhole) (arg3 : Memref sig .scVector .hbm S20481 .f32) (harg3 : arg3.IsWhole) (arg4 : Memref sig .scVector .hbm S1048576 .f32) (harg4 : arg4.IsWhole) (arg5 : Memref sig .scVector .vmem S20488 .f32) (harg5 : arg5.IsWhole) (arg6 : Memref sig .scVector .vmem S4096 .f32) (harg6 : arg6.IsWhole) (arg7 : Memref sig .scVector .vmem S8192 .f32) (harg7 : arg7.IsWhole) (v4_r0 : DmaSems sig S_) (v12_r1 : DmaSems sig S_) (v12_r2 : DmaSems sig S_)

set_option maxRecDepth 100000 in
theorem part27_eq (k0_t2 : Fin k0_t2_loop.trips) (v12 : BitVec 32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part27 i arg2 harg2 arg3 harg3 arg4 harg4 arg5 harg5 arg6 harg6 arg7 harg7 v4_r0 v12_r1 v12_r2 k0_t2 v12 >>= fun ⟨v1180, v1184, v1221, c5_i32_330⟩ => do
      have v1222 : IVec S16 32 := broadcast S16 c5_i32_330
      have v1223 : IVec S16 32 := muli v1221 v1222
      have k0_hw47 : k0_chk47 v1223 := (← Prog.lift (TpuEff.assume (k0_chk47 v1223) (k0_chk47.dec v1223))).down
      let c1_i32_331 : BitVec 32 := 1#32
      have v1224 : IVec S16 32 := broadcast S16 c1_i32_331
      have v1225 : IVec S16 32 := addi v1223 v1224
      have k0_hw41 : k0_chk41 v1225 := (← Prog.lift (TpuEff.assume (k0_chk41 v1225) (k0_chk41.dec v1225))).down
      let c2_i32_332 : BitVec 32 := 2#32
      have v1226 : IVec S16 32 := broadcast S16 c2_i32_332
      have v1227 : IVec S16 32 := addi v1223 v1226
      have k0_hw42 : k0_chk42 v1227 := (← Prog.lift (TpuEff.assume (k0_chk42 v1227) (k0_chk42.dec v1227))).down
      let c3_i32_333 : BitVec 32 := 3#32
      have v1228 : IVec S16 32 := broadcast S16 c3_i32_333
      have v1229 : IVec S16 32 := addi v1223 v1228
      have k0_hw45 : k0_chk45 v1229 := (← Prog.lift (TpuEff.assume (k0_chk45 v1229) (k0_chk45.dec v1229))).down
      let c4_i32_334 : BitVec 32 := 4#32
      have v1230 : IVec S16 32 := broadcast S16 c4_i32_334
      have v1231 : IVec S16 32 := addi v1223 v1230
      have k0_hw46 : k0_chk46 v1231 := (← Prog.lift (TpuEff.assume (k0_chk46 v1231) (k0_chk46.dec v1231))).down
      let c6_i32_336 : BitVec 32 := 6#32
      have v1234 : IVec S16 32 := broadcast S16 c6_i32_336
      have v1235 : IVec S16 32 := addi v1223 v1234
      have k0_hw43 : k0_chk43 v1235 := (← Prog.lift (TpuEff.assume (k0_chk43 v1235) (k0_chk43.dec v1235))).down
      let c7_i32_337 : BitVec 32 := 7#32
      have v1236 : IVec S16 32 := broadcast S16 c7_i32_337
      have v1237 : IVec S16 32 := addi v1223 v1236
      have k0_hw44 : k0_chk44 v1237 := (← Prog.lift (TpuEff.assume (k0_chk44 v1237) (k0_chk44.dec v1237))).down
      T v1180 v1184 v1223 v1225 v1227 v1229 v1231 v1235 v1237 k0_hw47 k0_hw41 k0_hw42 k0_hw45 k0_hw46 k0_hw43 k0_hw44) = (do
      let v1180 : Vec F S16 .f32 ← Prog.lift (.load arg6 (Rect.unit (s := S4096) (k0_off18 k0_t2) S16.size (k0_off18_inb k0_t2)).toLoadRect (View.loadsAt_vmem h_S16))
      let v1184 : Vec F S16 .f32 ← Prog.lift (.load arg6 (Rect.unit (s := S4096) (k0_off19 k0_t2) S16.size (k0_off19_inb k0_t2)).toLoadRect (View.loadsAt_vmem h_S16))
      have cst_315 : F .f32 := Scalar.ofBits .f32 0x42800000#32
      have v1185 : FVec F S16 .f32 := broadcast S16 cst_315
      have v1186 : FVec F S16 .f32 := mulf v1180 v1185
      have cst_316 : F .f32 := Scalar.ofBits .f32 0x42800000#32
      have v1187 : FVec F S16 .f32 := broadcast S16 cst_316
      have v1188 : FVec F S16 .f32 := mulf v1184 v1187
      have v1189 : IVec S16 32 := fptosi 32 v1186
      have v1190 : IVec S16 32 := fptosi 32 v1188
      have v1191 : FVec F S16 .f32 := sitofp .f32 v1189
      have v1192 : FVec F S16 .f32 := subf v1186 v1191
      have v1193 : FVec F S16 .f32 := sitofp .f32 v1190
      have v1194 : FVec F S16 .f32 := subf v1188 v1193
      let c2_i32_317 : BitVec 32 := 2#32
      have v1195 : IVec S16 32 := broadcast S16 c2_i32_317
      have v1196 : IVec S16 32 := subi v1189 v1195
      have cst_318 : F .f32 := Scalar.ofBits .f32 0x3F000000#32
      have v1197 : FVec F S16 .f32 := broadcast S16 cst_318
      have v1198 : IVec S16 1 := cmpf .oge v1192 v1197
      let c1_i32_319 : BitVec 32 := 1#32
      let c0_i32_320 : BitVec 32 := 0#32
      have v1199 : IVec S16 32 := broadcast S16 c1_i32_319
      have v1200 : IVec S16 32 := broadcast S16 c0_i32_320
      have v1201 : IVec S16 32 := select v1198 v1199 v1200
      have v1202 : IVec S16 32 := addi v1196 v1201
      let c2_i32_321 : BitVec 32 := 2#32
      have v1203 : IVec S16 32 := broadcast S16 c2_i32_321
      have v1204 : IVec S16 32 := subi v1190 v1203
      have cst_322 : F .f32 := Scalar.ofBits .f32 0x3F000000#32
      have v1205 : FVec F S16 .f32 := broadcast S16 cst_322
      have v1206 : IVec S16 1 := cmpf .oge v1194 v1205
      let c1_i32_323 : BitVec 32 := 1#32
      let c0_i32_324 : BitVec 32 := 0#32
      have v1207 : IVec S16 32 := broadcast S16 c1_i32_323
      have v1208 : IVec S16 32 := broadcast S16 c0_i32_324
      have v1209 : IVec S16 32 := select v1206 v1207 v1208
      have v1210 : IVec S16 32 := addi v1204 v1209
      let c0_i32_325 : BitVec 32 := 0#32
      let c60_i32_326 : BitVec 32 := 60#32
      have v1211 : IVec S16 32 := broadcast S16 c0_i32_325
      have v1212 : IVec S16 32 := maxsi v1211 v1202
      have v1213 : IVec S16 32 := broadcast S16 c60_i32_326
      have v1214 : IVec S16 32 := minsi v1213 v1212
      let c0_i32_327 : BitVec 32 := 0#32
      let c60_i32_328 : BitVec 32 := 60#32
      have v1215 : IVec S16 32 := broadcast S16 c0_i32_327
      have v1216 : IVec S16 32 := maxsi v1215 v1210
      have v1217 : IVec S16 32 := broadcast S16 c60_i32_328
      have v1218 : IVec S16 32 := minsi v1217 v1216
      let c64_i32_329 : BitVec 32 := 64#32
      have v1219 : IVec S16 32 := broadcast S16 c64_i32_329
      have v1220 : IVec S16 32 := muli v1214 v1219
      have v1221 : IVec S16 32 := addi v1220 v1218
      let c5_i32_330 : BitVec 32 := 5#32
      have v1222 : IVec S16 32 := broadcast S16 c5_i32_330
      have v1223 : IVec S16 32 := muli v1221 v1222
      have k0_hw47 : k0_chk47 v1223 := (← Prog.lift (TpuEff.assume (k0_chk47 v1223) (k0_chk47.dec v1223))).down
      let c1_i32_331 : BitVec 32 := 1#32
      have v1224 : IVec S16 32 := broadcast S16 c1_i32_331
      have v1225 : IVec S16 32 := addi v1223 v1224
      have k0_hw41 : k0_chk41 v1225 := (← Prog.lift (TpuEff.assume (k0_chk41 v1225) (k0_chk41.dec v1225))).down
      let c2_i32_332 : BitVec 32 := 2#32
      have v1226 : IVec S16 32 := broadcast S16 c2_i32_332
      have v1227 : IVec S16 32 := addi v1223 v1226
      have k0_hw42 : k0_chk42 v1227 := (← Prog.lift (TpuEff.assume (k0_chk42 v1227) (k0_chk42.dec v1227))).down
      let c3_i32_333 : BitVec 32 := 3#32
      have v1228 : IVec S16 32 := broadcast S16 c3_i32_333
      have v1229 : IVec S16 32 := addi v1223 v1228
      have k0_hw45 : k0_chk45 v1229 := (← Prog.lift (TpuEff.assume (k0_chk45 v1229) (k0_chk45.dec v1229))).down
      let c4_i32_334 : BitVec 32 := 4#32
      have v1230 : IVec S16 32 := broadcast S16 c4_i32_334
      have v1231 : IVec S16 32 := addi v1223 v1230
      have k0_hw46 : k0_chk46 v1231 := (← Prog.lift (TpuEff.assume (k0_chk46 v1231) (k0_chk46.dec v1231))).down
      let c6_i32_336 : BitVec 32 := 6#32
      have v1234 : IVec S16 32 := broadcast S16 c6_i32_336
      have v1235 : IVec S16 32 := addi v1223 v1234
      have k0_hw43 : k0_chk43 v1235 := (← Prog.lift (TpuEff.assume (k0_chk43 v1235) (k0_chk43.dec v1235))).down
      let c7_i32_337 : BitVec 32 := 7#32
      have v1236 : IVec S16 32 := broadcast S16 c7_i32_337
      have v1237 : IVec S16 32 := addi v1223 v1236
      have k0_hw44 : k0_chk44 v1237 := (← Prog.lift (TpuEff.assume (k0_chk44 v1237) (k0_chk44.dec v1237))).down
      T v1180 v1184 v1223 v1225 v1227 v1229 v1231 v1235 v1237 k0_hw47 k0_hw41 k0_hw42 k0_hw45 k0_hw46 k0_hw43 k0_hw44) := rfl

set_option maxRecDepth 100000 in
theorem part28_eq (v1180 : Vec F S16 .f32) (v1184 : Vec F S16 .f32) (v1221 : IVec S16 32) (c5_i32_330 : BitVec 32)
    (T : Best F → FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part28 i arg2 harg2 arg3 harg3 arg4 harg4 arg5 harg5 arg6 harg6 arg7 harg7 v4_r0 v12_r1 v12_r2 v1180 v1184 v1221 c5_i32_330 >>= fun ⟨v1223, k0_hw47, v1225, k0_hw41, v1227, k0_hw42, v1229, k0_hw45, v1231, k0_hw46, v1235, k0_hw43, v1237, k0_hw44, v1250, v1252, v1259, v1260⟩ => do
      have v1261 : FVec F S16 .f32 := addf v1259 v1260
      have v1262 : IVec S16 1 := cmpf .olt v1261 v1250
      have v1263 : FVec F S16 .f32 := select v1262 v1261 v1250
      let c5_i32_345 : BitVec 32 := 5#32
      have v1264 : IVec S16 32 := broadcast S16 c5_i32_345
      have v1265 : IVec S16 32 := select v1262 v1264 v1252
      T (v1263, v1265) v1180 v1184 v1223 v1225 v1227 v1229 v1231 v1235 v1237 k0_hw47 k0_hw41 k0_hw42 k0_hw45 k0_hw46 k0_hw43 k0_hw44) = (do
      have v1222 : IVec S16 32 := broadcast S16 c5_i32_330
      have v1223 : IVec S16 32 := muli v1221 v1222
      have k0_hw47 : k0_chk47 v1223 := (← Prog.lift (TpuEff.assume (k0_chk47 v1223) (k0_chk47.dec v1223))).down
      let c1_i32_331 : BitVec 32 := 1#32
      have v1224 : IVec S16 32 := broadcast S16 c1_i32_331
      have v1225 : IVec S16 32 := addi v1223 v1224
      have k0_hw41 : k0_chk41 v1225 := (← Prog.lift (TpuEff.assume (k0_chk41 v1225) (k0_chk41.dec v1225))).down
      let c2_i32_332 : BitVec 32 := 2#32
      have v1226 : IVec S16 32 := broadcast S16 c2_i32_332
      have v1227 : IVec S16 32 := addi v1223 v1226
      have k0_hw42 : k0_chk42 v1227 := (← Prog.lift (TpuEff.assume (k0_chk42 v1227) (k0_chk42.dec v1227))).down
      let c3_i32_333 : BitVec 32 := 3#32
      have v1228 : IVec S16 32 := broadcast S16 c3_i32_333
      have v1229 : IVec S16 32 := addi v1223 v1228
      have k0_hw45 : k0_chk45 v1229 := (← Prog.lift (TpuEff.assume (k0_chk45 v1229) (k0_chk45.dec v1229))).down
      let c4_i32_334 : BitVec 32 := 4#32
      have v1230 : IVec S16 32 := broadcast S16 c4_i32_334
      have v1231 : IVec S16 32 := addi v1223 v1230
      have k0_hw46 : k0_chk46 v1231 := (← Prog.lift (TpuEff.assume (k0_chk46 v1231) (k0_chk46.dec v1231))).down
      let c6_i32_336 : BitVec 32 := 6#32
      have v1234 : IVec S16 32 := broadcast S16 c6_i32_336
      have v1235 : IVec S16 32 := addi v1223 v1234
      have k0_hw43 : k0_chk43 v1235 := (← Prog.lift (TpuEff.assume (k0_chk43 v1235) (k0_chk43.dec v1235))).down
      let c7_i32_337 : BitVec 32 := 7#32
      have v1236 : IVec S16 32 := broadcast S16 c7_i32_337
      have v1237 : IVec S16 32 := addi v1223 v1236
      have k0_hw44 : k0_chk44 v1237 := (← Prog.lift (TpuEff.assume (k0_chk44 v1237) (k0_chk44.dec v1237))).down
      let s1 ← probe arg5 v1180 v1184 inb_S20488_S19508_0 inb_S20488_S19508_0 (k0_idx141_inb v1225 k0_hw41) (k0_idx142_inb v1227 k0_hw42) 0#32 start
      let s2 ← probe arg5 v1180 v1184 inb_S20488_S19508_0 inb_S20488_S19508_0 (k0_idx143_inb v1235 k0_hw43) (k0_idx144_inb v1237 k0_hw44) 5#32 s1
      T s2 v1180 v1184 v1223 v1225 v1227 v1229 v1231 v1235 v1237 k0_hw47 k0_hw41 k0_hw42 k0_hw45 k0_hw46 k0_hw43 k0_hw44) := rfl

set_option maxRecDepth 100000 in
theorem part29_eq (v1180 : Vec F S16 .f32) (v1184 : Vec F S16 .f32) (v1223 : IVec S16 32) (k0_hw47 : k0_chk47 v1223) (v1225 : IVec S16 32) (k0_hw41 : k0_chk41 v1225) (v1227 : IVec S16 32) (k0_hw42 : k0_chk42 v1227) (v1229 : IVec S16 32) (k0_hw45 : k0_chk45 v1229) (v1231 : IVec S16 32) (k0_hw46 : k0_chk46 v1231) (v1235 : IVec S16 32) (k0_hw43 : k0_chk43 v1235) (v1237 : IVec S16 32) (k0_hw44 : k0_chk44 v1237) (v1250 : FVec F S16 .f32) (v1252 : IVec S16 32) (v1259 : FVec F S16 .f32) (v1260 : FVec F S16 .f32)
    (T : Best F → TileProg F i (BitVec 32)) :
    (k0_part29 i arg2 harg2 arg3 harg3 arg4 harg4 arg5 harg5 arg6 harg6 arg7 harg7 v4_r0 v12_r1 v12_r2 v1180 v1184 v1223 k0_hw47 v1225 k0_hw41 v1227 k0_hw42 v1229 k0_hw45 v1231 k0_hw46 v1235 k0_hw43 v1237 k0_hw44 v1250 v1252 v1259 v1260 >>= fun ⟨v1302, v1304, v1306, v1308⟩ => do
      have v1309 : FVec F S16 .f32 := subf v1180 v1306
      have v1310 : FVec F S16 .f32 := subf v1184 v1308
      have v1311 : FVec F S16 .f32 := mulf v1309 v1309
      have v1312 : FVec F S16 .f32 := mulf v1310 v1310
      have v1313 : FVec F S16 .f32 := addf v1311 v1312
      have v1314 : IVec S16 1 := cmpf .olt v1313 v1302
      have v1315 : FVec F S16 .f32 := select v1314 v1313 v1302
      let c325_i32_357 : BitVec 32 := 325#32
      have v1316 : IVec S16 32 := broadcast S16 c325_i32_357
      have v1317 : IVec S16 32 := select v1314 v1316 v1304
      T (v1315, v1317)) = (do
      have v1261 : FVec F S16 .f32 := addf v1259 v1260
      have v1262 : IVec S16 1 := cmpf .olt v1261 v1250
      have v1263 : FVec F S16 .f32 := select v1262 v1261 v1250
      let c5_i32_345 : BitVec 32 := 5#32
      have v1264 : IVec S16 32 := broadcast S16 c5_i32_345
      have v1265 : IVec S16 32 := select v1262 v1264 v1252
      let s1 ← probe arg5 v1180 v1184 inb_S20488_S19508_8 inb_S20488_S19508_8 (k0_idx145_inb v1229 k0_hw45) (k0_idx146_inb v1231 k0_hw46) 10#32 (v1263, v1265)
      let s2 ← probe arg5 v1180 v1184 inb_S20488_S19508_16 inb_S20488_S19508_16 (k0_idx147_inb v1223 k0_hw47) (k0_idx148_inb v1225 k0_hw41) 15#32 s1
      let s3 ← probe arg5 v1180 v1184 inb_S20488_S19508_320 inb_S20488_S19508_320 (k0_idx149_inb v1225 k0_hw41) (k0_idx150_inb v1227 k0_hw42) 320#32 s2
      let s4 ← probe arg5 v1180 v1184 inb_S20488_S19508_320 inb_S20488_S19508_320 (k0_idx151_inb v1235 k0_hw43) (k0_idx152_inb v1237 k0_hw44) 325#32 s3
      T s4) := rfl

set_option maxRecDepth 100000 in
theorem part30_eq (v1180 : Vec F S16 .f32) (v1184 : Vec F S16 .f32) (v1223 : IVec S16 32) (k0_hw47 : k0_chk47 v1223) (v1225 : IVec S16 32) (k0_hw41 : k0_chk41 v1225) (v1227 : IVec S16 32) (k0_hw42 : k0_chk42 v1227) (v1229 : IVec S16 32) (k0_hw45 : k0_chk45 v1229) (v1231 : IVec S16 32) (k0_hw46 : k0_chk46 v1231) (v1235 : IVec S16 32) (k0_hw43 : k0_chk43 v1235) (v1237 : IVec S16 32) (k0_hw44 : k0_chk44 v1237) (v1302 : FVec F S16 .f32) (v1304 : IVec S16 32) (v1306 : Vec F S16 .f32) (v1308 : Vec F S16 .f32)
    (T : Best F → TileProg F i (BitVec 32)) :
    (k0_part30 i arg2 harg2 arg3 harg3 arg4 harg4 arg5 harg5 arg6 harg6 arg7 harg7 v4_r0 v12_r1 v12_r2 v1180 v1184 v1223 k0_hw47 v1225 k0_hw41 v1227 k0_hw42 v1229 k0_hw45 v1231 k0_hw46 v1302 v1304 v1306 v1308 >>= fun ⟨v1354, v1356⟩ => do
      let v1357 : Memref sig .scVector .vmem S19508 .f32 := arg5.slice (Rect.unit (s := S20488) ![640] S19508.size inb_S20488_S19508_640) (fun _ => rfl)
      let v1358 : Vec F S16 .f32 ← SparseCore.vectorLoadIdx v1357 ![v1235] (k0_idx159_inb v1235 k0_hw43) (View.loads_vmem h_S19508)
      let v1359 : Memref sig .scVector .vmem S19508 .f32 := arg5.slice (Rect.unit (s := S20488) ![640] S19508.size inb_S20488_S19508_640) (fun _ => rfl)
      let v1360 : Vec F S16 .f32 ← SparseCore.vectorLoadIdx v1359 ![v1237] (k0_idx160_inb v1237 k0_hw44) (View.loads_vmem h_S19508)
      have v1361 : FVec F S16 .f32 := subf v1180 v1358
      have v1362 : FVec F S16 .f32 := subf v1184 v1360
      have v1363 : FVec F S16 .f32 := mulf v1361 v1361
      have v1364 : FVec F S16 .f32 := mulf v1362 v1362
      have v1365 : FVec F S16 .f32 := addf v1363 v1364
      have v1366 : IVec S16 1 := cmpf .olt v1365 v1354
      have v1367 : FVec F S16 .f32 := select v1366 v1365 v1354
      let c645_i32_369 : BitVec 32 := 645#32
      have v1368 : IVec S16 32 := broadcast S16 c645_i32_369
      have v1369 : IVec S16 32 := select v1366 v1368 v1356
      T (v1367, v1369)) = (do
      have v1309 : FVec F S16 .f32 := subf v1180 v1306
      have v1310 : FVec F S16 .f32 := subf v1184 v1308
      have v1311 : FVec F S16 .f32 := mulf v1309 v1309
      have v1312 : FVec F S16 .f32 := mulf v1310 v1310
      have v1313 : FVec F S16 .f32 := addf v1311 v1312
      have v1314 : IVec S16 1 := cmpf .olt v1313 v1302
      have v1315 : FVec F S16 .f32 := select v1314 v1313 v1302
      let c325_i32_357 : BitVec 32 := 325#32
      have v1316 : IVec S16 32 := broadcast S16 c325_i32_357
      have v1317 : IVec S16 32 := select v1314 v1316 v1304
      let s1 ← probe arg5 v1180 v1184 inb_S20488_S19508_328 inb_S20488_S19508_328 (k0_idx153_inb v1229 k0_hw45) (k0_idx154_inb v1231 k0_hw46) 330#32 (v1315, v1317)
      let s2 ← probe arg5 v1180 v1184 inb_S20488_S19508_336 inb_S20488_S19508_336 (k0_idx155_inb v1223 k0_hw47) (k0_idx156_inb v1225 k0_hw41) 335#32 s1
      let s3 ← probe arg5 v1180 v1184 inb_S20488_S19508_640 inb_S20488_S19508_640 (k0_idx157_inb v1225 k0_hw41) (k0_idx158_inb v1227 k0_hw42) 640#32 s2
      let s4 ← probe arg5 v1180 v1184 inb_S20488_S19508_640 inb_S20488_S19508_640 (k0_idx159_inb v1235 k0_hw43) (k0_idx160_inb v1237 k0_hw44) 645#32 s3
      T s4) := rfl

set_option maxRecDepth 100000 in
theorem part31_eq (v1180 : Vec F S16 .f32) (v1184 : Vec F S16 .f32) (v1223 : IVec S16 32) (k0_hw47 : k0_chk47 v1223) (v1225 : IVec S16 32) (k0_hw41 : k0_chk41 v1225) (v1227 : IVec S16 32) (k0_hw42 : k0_chk42 v1227) (v1229 : IVec S16 32) (k0_hw45 : k0_chk45 v1229) (v1231 : IVec S16 32) (k0_hw46 : k0_chk46 v1231) (v1235 : IVec S16 32) (k0_hw43 : k0_chk43 v1235) (v1237 : IVec S16 32) (k0_hw44 : k0_chk44 v1237) (v1354 : FVec F S16 .f32) (v1356 : IVec S16 32)
    (T : Best F → TileProg F i (BitVec 32)) :
    (k0_part31 i arg2 harg2 arg3 harg3 arg4 harg4 arg5 harg5 arg6 harg6 arg7 harg7 v4_r0 v12_r1 v12_r2 v1180 v1184 v1223 k0_hw47 v1225 k0_hw41 v1227 k0_hw42 v1229 k0_hw45 v1231 k0_hw46 v1235 k0_hw43 v1237 k0_hw44 v1354 v1356 >>= fun ⟨v1395, v1405, v1406, c960_i32_378⟩ => do
      have v1407 : IVec S16 32 := broadcast S16 c960_i32_378
      have v1408 : IVec S16 32 := select v1405 v1407 v1395
      T (v1406, v1408)) = (do
      let v1357 : Memref sig .scVector .vmem S19508 .f32 := arg5.slice (Rect.unit (s := S20488) ![640] S19508.size inb_S20488_S19508_640) (fun _ => rfl)
      let v1358 : Vec F S16 .f32 ← SparseCore.vectorLoadIdx v1357 ![v1235] (k0_idx159_inb v1235 k0_hw43) (View.loads_vmem h_S19508)
      let v1359 : Memref sig .scVector .vmem S19508 .f32 := arg5.slice (Rect.unit (s := S20488) ![640] S19508.size inb_S20488_S19508_640) (fun _ => rfl)
      let v1360 : Vec F S16 .f32 ← SparseCore.vectorLoadIdx v1359 ![v1237] (k0_idx160_inb v1237 k0_hw44) (View.loads_vmem h_S19508)
      have v1361 : FVec F S16 .f32 := subf v1180 v1358
      have v1362 : FVec F S16 .f32 := subf v1184 v1360
      have v1363 : FVec F S16 .f32 := mulf v1361 v1361
      have v1364 : FVec F S16 .f32 := mulf v1362 v1362
      have v1365 : FVec F S16 .f32 := addf v1363 v1364
      have v1366 : IVec S16 1 := cmpf .olt v1365 v1354
      have v1367 : FVec F S16 .f32 := select v1366 v1365 v1354
      let c645_i32_369 : BitVec 32 := 645#32
      have v1368 : IVec S16 32 := broadcast S16 c645_i32_369
      have v1369 : IVec S16 32 := select v1366 v1368 v1356
      let s1 ← probe arg5 v1180 v1184 inb_S20488_S19508_648 inb_S20488_S19508_648 (k0_idx161_inb v1229 k0_hw45) (k0_idx162_inb v1231 k0_hw46) 650#32 (v1367, v1369)
      let s2 ← probe arg5 v1180 v1184 inb_S20488_S19508_656 inb_S20488_S19508_656 (k0_idx163_inb v1223 k0_hw47) (k0_idx164_inb v1225 k0_hw41) 655#32 s1
      let s3 ← probe arg5 v1180 v1184 inb_S20488_S19508_960 inb_S20488_S19508_960 (k0_idx165_inb v1225 k0_hw41) (k0_idx166_inb v1227 k0_hw42) 960#32 s2
      T s3) := rfl

set_option maxRecDepth 100000 in
theorem part32_eq (k0_t2 : Fin k0_t2_loop.trips) (v1180 : Vec F S16 .f32) (v1184 : Vec F S16 .f32) (v1223 : IVec S16 32) (k0_hw47 : k0_chk47 v1223) (v1225 : IVec S16 32) (k0_hw41 : k0_chk41 v1225) (v1229 : IVec S16 32) (k0_hw45 : k0_chk45 v1229) (v1231 : IVec S16 32) (k0_hw46 : k0_chk46 v1231) (v1235 : IVec S16 32) (k0_hw43 : k0_chk43 v1235) (v1237 : IVec S16 32) (k0_hw44 : k0_chk44 v1237) (v1395 : IVec S16 32) (v1405 : IVec S16 1) (v1406 : FVec F S16 .f32) (c960_i32_378 : BitVec 32)
    (T : TileProg F i (BitVec 32)) :
    (k0_part32 i arg2 harg2 arg3 harg3 arg4 harg4 arg5 harg5 arg6 harg6 arg7 harg7 v4_r0 v12_r1 v12_r2 v1180 v1184 v1223 k0_hw47 v1225 k0_hw41 v1229 k0_hw45 v1231 k0_hw46 v1235 k0_hw43 v1237 k0_hw44 v1395 v1405 v1406 c960_i32_378 >>= fun ⟨v1448, v1451, v1453, k0_hw49⟩ => do
      let v1454 : Vec F S16 .f32 ← SparseCore.vectorLoadIdx arg5 ![v1453] (k0_idx174_inb v1453 k0_hw49) (View.loads_vmem h_S20488)
      let c5_i32_390 : BitVec 32 := 5#32
      have v1455 : IVec S16 32 := broadcast S16 c5_i32_390
      have v1456 : IVec S16 32 := addi v1448 v1455
      have k0_hw50 : k0_chk50 v1456 := (← Prog.lift (TpuEff.assume (k0_chk50 v1456) (k0_chk50.dec v1456))).down
      let v1457 : Vec F S16 .f32 ← SparseCore.vectorLoadIdx arg5 ![v1456] (k0_idx175_inb v1456 k0_hw50) (View.loads_vmem h_S20488)
      let v1460 : Vec F S16 .f32 ← Prog.lift (.load arg7 (Rect.unit (s := S8192) (k0_off20 k0_t2) S16.size (k0_off20_inb k0_t2)).toLoadRect (View.loadsAt_vmem h_S16))
      Prog.lift (.store arg7 (Rect.unit (s := S8192) (k0_off20 k0_t2) S16.size (k0_off20_inb k0_t2)) v1451 Finset.univ (View.stores_vmem_bits_univ h_S16 rfl) (.inl rfl))
      let v1464 : Vec F S16 .f32 ← Prog.lift (.load arg7 (Rect.unit (s := S8192) (k0_off21 k0_t2 128#32) S16.size (k0_off21_inb k0_t2 0)).toLoadRect (View.loadsAt_vmem h_S16))
      Prog.lift (.store arg7 (Rect.unit (s := S8192) (k0_off21 k0_t2 128#32) S16.size (k0_off21_inb k0_t2 0)) v1454 Finset.univ (View.stores_vmem_bits_univ h_S16 rfl) (.inl rfl))
      let v1468 : Vec F S16 .f32 ← Prog.lift (.load arg7 (Rect.unit (s := S8192) (k0_off21 k0_t2 256#32) S16.size (k0_off21_inb k0_t2 1)).toLoadRect (View.loadsAt_vmem h_S16))
      Prog.lift (.store arg7 (Rect.unit (s := S8192) (k0_off21 k0_t2 256#32) S16.size (k0_off21_inb k0_t2 1)) v1457 Finset.univ (View.stores_vmem_bits_univ h_S16 rfl) (.inl rfl))
      T) = (do
      have v1407 : IVec S16 32 := broadcast S16 c960_i32_378
      have v1408 : IVec S16 32 := select v1405 v1407 v1395
      let s1 ← probe arg5 v1180 v1184 inb_S20488_S19508_960 inb_S20488_S19508_960 (k0_idx167_inb v1235 k0_hw43) (k0_idx168_inb v1237 k0_hw44) 965#32 (v1406, v1408)
      let s2 ← probe arg5 v1180 v1184 inb_S20488_S19508_968 inb_S20488_S19508_968 (k0_idx169_inb v1229 k0_hw45) (k0_idx170_inb v1231 k0_hw46) 970#32 s1
      let s3 ← probe arg5 v1180 v1184 inb_S20488_S19508_976 inb_S20488_S19508_976 (k0_idx171_inb v1223 k0_hw47) (k0_idx172_inb v1225 k0_hw41) 975#32 s2
      have v1447 : IVec S16 32 := s3.2
      have v1448 : IVec S16 32 := addi v1223 v1447
      let c3_i32_388 : BitVec 32 := 3#32
      have v1449 : IVec S16 32 := broadcast S16 c3_i32_388
      have v1450 : IVec S16 32 := addi v1448 v1449
      have k0_hw48 : k0_chk48 v1450 := (← Prog.lift (TpuEff.assume (k0_chk48 v1450) (k0_chk48.dec v1450))).down
      let v1451 : Vec F S16 .f32 ← SparseCore.vectorLoadIdx arg5 ![v1450] (k0_idx173_inb v1450 k0_hw48) (View.loads_vmem h_S20488)
      let c4_i32_389 : BitVec 32 := 4#32
      have v1452 : IVec S16 32 := broadcast S16 c4_i32_389
      have v1453 : IVec S16 32 := addi v1448 v1452
      have k0_hw49 : k0_chk49 v1453 := (← Prog.lift (TpuEff.assume (k0_chk49 v1453) (k0_chk49.dec v1453))).down
      let v1454 : Vec F S16 .f32 ← SparseCore.vectorLoadIdx arg5 ![v1453] (k0_idx174_inb v1453 k0_hw49) (View.loads_vmem h_S20488)
      let c5_i32_390 : BitVec 32 := 5#32
      have v1455 : IVec S16 32 := broadcast S16 c5_i32_390
      have v1456 : IVec S16 32 := addi v1448 v1455
      have k0_hw50 : k0_chk50 v1456 := (← Prog.lift (TpuEff.assume (k0_chk50 v1456) (k0_chk50.dec v1456))).down
      let v1457 : Vec F S16 .f32 ← SparseCore.vectorLoadIdx arg5 ![v1456] (k0_idx175_inb v1456 k0_hw50) (View.loads_vmem h_S20488)
      let v1460 : Vec F S16 .f32 ← Prog.lift (.load arg7 (Rect.unit (s := S8192) (k0_off20 k0_t2) S16.size (k0_off20_inb k0_t2)).toLoadRect (View.loadsAt_vmem h_S16))
      Prog.lift (.store arg7 (Rect.unit (s := S8192) (k0_off20 k0_t2) S16.size (k0_off20_inb k0_t2)) v1451 Finset.univ (View.stores_vmem_bits_univ h_S16 rfl) (.inl rfl))
      let v1464 : Vec F S16 .f32 ← Prog.lift (.load arg7 (Rect.unit (s := S8192) (k0_off21 k0_t2 128#32) S16.size (k0_off21_inb k0_t2 0)).toLoadRect (View.loadsAt_vmem h_S16))
      Prog.lift (.store arg7 (Rect.unit (s := S8192) (k0_off21 k0_t2 128#32) S16.size (k0_off21_inb k0_t2 0)) v1454 Finset.univ (View.stores_vmem_bits_univ h_S16 rfl) (.inl rfl))
      let v1468 : Vec F S16 .f32 ← Prog.lift (.load arg7 (Rect.unit (s := S8192) (k0_off21 k0_t2 256#32) S16.size (k0_off21_inb k0_t2 1)).toLoadRect (View.loadsAt_vmem h_S16))
      Prog.lift (.store arg7 (Rect.unit (s := S8192) (k0_off21 k0_t2 256#32) S16.size (k0_off21_inb k0_t2 1)) v1457 Finset.univ (View.stores_vmem_bits_univ h_S16 rfl) (.inl rfl))
      T) := rfl

set_option maxRecDepth 100000 in
theorem part33_eq (k0_t2 : Fin k0_t2_loop.trips) (v12 : BitVec 32) (v13 : BitVec 32) (v1448 : IVec S16 32) (v1451 : Vec F S16 .f32) (v1453 : IVec S16 32) (k0_hw49 : k0_chk49 v1453)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part33 i arg2 harg2 arg3 harg3 arg4 harg4 arg5 harg5 arg6 harg6 arg7 harg7 v4_r0 v12_r1 v12_r2 k0_t2 v12 v13 v1448 v1451 v1453 k0_hw49 >>= fun ⟨v1471, v1475, v1481, v1485, v1493, c2_i32_404⟩ => do
      have v1494 : IVec S16 32 := broadcast S16 c2_i32_404
      have v1495 : IVec S16 32 := subi v1481 v1494
      have cst_405 : F .f32 := Scalar.ofBits .f32 0x3F000000#32
      have v1496 : FVec F S16 .f32 := broadcast S16 cst_405
      have v1497 : IVec S16 1 := cmpf .oge v1485 v1496
      let c1_i32_406 : BitVec 32 := 1#32
      let c0_i32_407 : BitVec 32 := 0#32
      have v1498 : IVec S16 32 := broadcast S16 c1_i32_406
      have v1499 : IVec S16 32 := broadcast S16 c0_i32_407
      have v1500 : IVec S16 32 := select v1497 v1498 v1499
      have v1501 : IVec S16 32 := addi v1495 v1500
      let c0_i32_408 : BitVec 32 := 0#32
      let c60_i32_409 : BitVec 32 := 60#32
      have v1502 : IVec S16 32 := broadcast S16 c0_i32_408
      have v1503 : IVec S16 32 := maxsi v1502 v1493
      have v1504 : IVec S16 32 := broadcast S16 c60_i32_409
      have v1505 : IVec S16 32 := minsi v1504 v1503
      let c0_i32_410 : BitVec 32 := 0#32
      let c60_i32_411 : BitVec 32 := 60#32
      have v1506 : IVec S16 32 := broadcast S16 c0_i32_410
      have v1507 : IVec S16 32 := maxsi v1506 v1501
      have v1508 : IVec S16 32 := broadcast S16 c60_i32_411
      have v1509 : IVec S16 32 := minsi v1508 v1507
      let c64_i32_412 : BitVec 32 := 64#32
      have v1510 : IVec S16 32 := broadcast S16 c64_i32_412
      have v1511 : IVec S16 32 := muli v1505 v1510
      have v1512 : IVec S16 32 := addi v1511 v1509
      let c5_i32_413 : BitVec 32 := 5#32
      have v1513 : IVec S16 32 := broadcast S16 c5_i32_413
      have v1514 : IVec S16 32 := muli v1512 v1513
      have k0_hw57 : k0_chk57 v1514 := (← Prog.lift (TpuEff.assume (k0_chk57 v1514) (k0_chk57.dec v1514))).down
      let c1_i32_414 : BitVec 32 := 1#32
      have v1515 : IVec S16 32 := broadcast S16 c1_i32_414
      have v1516 : IVec S16 32 := addi v1514 v1515
      have k0_hw51 : k0_chk51 v1516 := (← Prog.lift (TpuEff.assume (k0_chk51 v1516) (k0_chk51.dec v1516))).down
      let c2_i32_415 : BitVec 32 := 2#32
      have v1517 : IVec S16 32 := broadcast S16 c2_i32_415
      have v1518 : IVec S16 32 := addi v1514 v1517
      have k0_hw52 : k0_chk52 v1518 := (← Prog.lift (TpuEff.assume (k0_chk52 v1518) (k0_chk52.dec v1518))).down
      let c3_i32_416 : BitVec 32 := 3#32
      have v1519 : IVec S16 32 := broadcast S16 c3_i32_416
      have v1520 : IVec S16 32 := addi v1514 v1519
      have k0_hw55 : k0_chk55 v1520 := (← Prog.lift (TpuEff.assume (k0_chk55 v1520) (k0_chk55.dec v1520))).down
      let c4_i32_417 : BitVec 32 := 4#32
      have v1521 : IVec S16 32 := broadcast S16 c4_i32_417
      have v1522 : IVec S16 32 := addi v1514 v1521
      have k0_hw56 : k0_chk56 v1522 := (← Prog.lift (TpuEff.assume (k0_chk56 v1522) (k0_chk56.dec v1522))).down
      let c6_i32_419 : BitVec 32 := 6#32
      have v1525 : IVec S16 32 := broadcast S16 c6_i32_419
      have v1526 : IVec S16 32 := addi v1514 v1525
      have k0_hw53 : k0_chk53 v1526 := (← Prog.lift (TpuEff.assume (k0_chk53 v1526) (k0_chk53.dec v1526))).down
      let c7_i32_420 : BitVec 32 := 7#32
      have v1527 : IVec S16 32 := broadcast S16 c7_i32_420
      have v1528 : IVec S16 32 := addi v1514 v1527
      have k0_hw54 : k0_chk54 v1528 := (← Prog.lift (TpuEff.assume (k0_chk54 v1528) (k0_chk54.dec v1528))).down
      T v1471 v1475 v1514 v1516 v1518 v1520 v1522 v1526 v1528 k0_hw57 k0_hw51 k0_hw52 k0_hw55 k0_hw56 k0_hw53 k0_hw54) = (do
      let v1454 : Vec F S16 .f32 ← SparseCore.vectorLoadIdx arg5 ![v1453] (k0_idx174_inb v1453 k0_hw49) (View.loads_vmem h_S20488)
      let c5_i32_390 : BitVec 32 := 5#32
      have v1455 : IVec S16 32 := broadcast S16 c5_i32_390
      have v1456 : IVec S16 32 := addi v1448 v1455
      have k0_hw50 : k0_chk50 v1456 := (← Prog.lift (TpuEff.assume (k0_chk50 v1456) (k0_chk50.dec v1456))).down
      let v1457 : Vec F S16 .f32 ← SparseCore.vectorLoadIdx arg5 ![v1456] (k0_idx175_inb v1456 k0_hw50) (View.loads_vmem h_S20488)
      let v1460 : Vec F S16 .f32 ← Prog.lift (.load arg7 (Rect.unit (s := S8192) (k0_off20 k0_t2) S16.size (k0_off20_inb k0_t2)).toLoadRect (View.loadsAt_vmem h_S16))
      Prog.lift (.store arg7 (Rect.unit (s := S8192) (k0_off20 k0_t2) S16.size (k0_off20_inb k0_t2)) v1451 Finset.univ (View.stores_vmem_bits_univ h_S16 rfl) (.inl rfl))
      let v1464 : Vec F S16 .f32 ← Prog.lift (.load arg7 (Rect.unit (s := S8192) (k0_off21 k0_t2 128#32) S16.size (k0_off21_inb k0_t2 0)).toLoadRect (View.loadsAt_vmem h_S16))
      Prog.lift (.store arg7 (Rect.unit (s := S8192) (k0_off21 k0_t2 128#32) S16.size (k0_off21_inb k0_t2 0)) v1454 Finset.univ (View.stores_vmem_bits_univ h_S16 rfl) (.inl rfl))
      let v1468 : Vec F S16 .f32 ← Prog.lift (.load arg7 (Rect.unit (s := S8192) (k0_off21 k0_t2 256#32) S16.size (k0_off21_inb k0_t2 1)).toLoadRect (View.loadsAt_vmem h_S16))
      Prog.lift (.store arg7 (Rect.unit (s := S8192) (k0_off21 k0_t2 256#32) S16.size (k0_off21_inb k0_t2 1)) v1457 Finset.univ (View.stores_vmem_bits_univ h_S16 rfl) (.inl rfl))
      let v1471 : Vec F S16 .f32 ← Prog.lift (.load arg6 (Rect.unit (s := S4096) (k0_off22 k0_t2) S16.size (k0_off22_inb k0_t2)).toLoadRect (View.loadsAt_vmem h_S16))
      let v1475 : Vec F S16 .f32 ← Prog.lift (.load arg6 (Rect.unit (s := S4096) (k0_off23 k0_t2) S16.size (k0_off23_inb k0_t2)).toLoadRect (View.loadsAt_vmem h_S16))
      have cst_398 : F .f32 := Scalar.ofBits .f32 0x42800000#32
      have v1476 : FVec F S16 .f32 := broadcast S16 cst_398
      have v1477 : FVec F S16 .f32 := mulf v1471 v1476
      have cst_399 : F .f32 := Scalar.ofBits .f32 0x42800000#32
      have v1478 : FVec F S16 .f32 := broadcast S16 cst_399
      have v1479 : FVec F S16 .f32 := mulf v1475 v1478
      have v1480 : IVec S16 32 := fptosi 32 v1477
      have v1481 : IVec S16 32 := fptosi 32 v1479
      have v1482 : FVec F S16 .f32 := sitofp .f32 v1480
      have v1483 : FVec F S16 .f32 := subf v1477 v1482
      have v1484 : FVec F S16 .f32 := sitofp .f32 v1481
      have v1485 : FVec F S16 .f32 := subf v1479 v1484
      let c2_i32_400 : BitVec 32 := 2#32
      have v1486 : IVec S16 32 := broadcast S16 c2_i32_400
      have v1487 : IVec S16 32 := subi v1480 v1486
      have cst_401 : F .f32 := Scalar.ofBits .f32 0x3F000000#32
      have v1488 : FVec F S16 .f32 := broadcast S16 cst_401
      have v1489 : IVec S16 1 := cmpf .oge v1483 v1488
      let c1_i32_402 : BitVec 32 := 1#32
      let c0_i32_403 : BitVec 32 := 0#32
      have v1490 : IVec S16 32 := broadcast S16 c1_i32_402
      have v1491 : IVec S16 32 := broadcast S16 c0_i32_403
      have v1492 : IVec S16 32 := select v1489 v1490 v1491
      have v1493 : IVec S16 32 := addi v1487 v1492
      let c2_i32_404 : BitVec 32 := 2#32
      have v1494 : IVec S16 32 := broadcast S16 c2_i32_404
      have v1495 : IVec S16 32 := subi v1481 v1494
      have cst_405 : F .f32 := Scalar.ofBits .f32 0x3F000000#32
      have v1496 : FVec F S16 .f32 := broadcast S16 cst_405
      have v1497 : IVec S16 1 := cmpf .oge v1485 v1496
      let c1_i32_406 : BitVec 32 := 1#32
      let c0_i32_407 : BitVec 32 := 0#32
      have v1498 : IVec S16 32 := broadcast S16 c1_i32_406
      have v1499 : IVec S16 32 := broadcast S16 c0_i32_407
      have v1500 : IVec S16 32 := select v1497 v1498 v1499
      have v1501 : IVec S16 32 := addi v1495 v1500
      let c0_i32_408 : BitVec 32 := 0#32
      let c60_i32_409 : BitVec 32 := 60#32
      have v1502 : IVec S16 32 := broadcast S16 c0_i32_408
      have v1503 : IVec S16 32 := maxsi v1502 v1493
      have v1504 : IVec S16 32 := broadcast S16 c60_i32_409
      have v1505 : IVec S16 32 := minsi v1504 v1503
      let c0_i32_410 : BitVec 32 := 0#32
      let c60_i32_411 : BitVec 32 := 60#32
      have v1506 : IVec S16 32 := broadcast S16 c0_i32_410
      have v1507 : IVec S16 32 := maxsi v1506 v1501
      have v1508 : IVec S16 32 := broadcast S16 c60_i32_411
      have v1509 : IVec S16 32 := minsi v1508 v1507
      let c64_i32_412 : BitVec 32 := 64#32
      have v1510 : IVec S16 32 := broadcast S16 c64_i32_412
      have v1511 : IVec S16 32 := muli v1505 v1510
      have v1512 : IVec S16 32 := addi v1511 v1509
      let c5_i32_413 : BitVec 32 := 5#32
      have v1513 : IVec S16 32 := broadcast S16 c5_i32_413
      have v1514 : IVec S16 32 := muli v1512 v1513
      have k0_hw57 : k0_chk57 v1514 := (← Prog.lift (TpuEff.assume (k0_chk57 v1514) (k0_chk57.dec v1514))).down
      let c1_i32_414 : BitVec 32 := 1#32
      have v1515 : IVec S16 32 := broadcast S16 c1_i32_414
      have v1516 : IVec S16 32 := addi v1514 v1515
      have k0_hw51 : k0_chk51 v1516 := (← Prog.lift (TpuEff.assume (k0_chk51 v1516) (k0_chk51.dec v1516))).down
      let c2_i32_415 : BitVec 32 := 2#32
      have v1517 : IVec S16 32 := broadcast S16 c2_i32_415
      have v1518 : IVec S16 32 := addi v1514 v1517
      have k0_hw52 : k0_chk52 v1518 := (← Prog.lift (TpuEff.assume (k0_chk52 v1518) (k0_chk52.dec v1518))).down
      let c3_i32_416 : BitVec 32 := 3#32
      have v1519 : IVec S16 32 := broadcast S16 c3_i32_416
      have v1520 : IVec S16 32 := addi v1514 v1519
      have k0_hw55 : k0_chk55 v1520 := (← Prog.lift (TpuEff.assume (k0_chk55 v1520) (k0_chk55.dec v1520))).down
      let c4_i32_417 : BitVec 32 := 4#32
      have v1521 : IVec S16 32 := broadcast S16 c4_i32_417
      have v1522 : IVec S16 32 := addi v1514 v1521
      have k0_hw56 : k0_chk56 v1522 := (← Prog.lift (TpuEff.assume (k0_chk56 v1522) (k0_chk56.dec v1522))).down
      let c6_i32_419 : BitVec 32 := 6#32
      have v1525 : IVec S16 32 := broadcast S16 c6_i32_419
      have v1526 : IVec S16 32 := addi v1514 v1525
      have k0_hw53 : k0_chk53 v1526 := (← Prog.lift (TpuEff.assume (k0_chk53 v1526) (k0_chk53.dec v1526))).down
      let c7_i32_420 : BitVec 32 := 7#32
      have v1527 : IVec S16 32 := broadcast S16 c7_i32_420
      have v1528 : IVec S16 32 := addi v1514 v1527
      have k0_hw54 : k0_chk54 v1528 := (← Prog.lift (TpuEff.assume (k0_chk54 v1528) (k0_chk54.dec v1528))).down
      T v1471 v1475 v1514 v1516 v1518 v1520 v1522 v1526 v1528 k0_hw57 k0_hw51 k0_hw52 k0_hw55 k0_hw56 k0_hw53 k0_hw54) := rfl

set_option maxRecDepth 100000 in
theorem part34_eq (v1471 : Vec F S16 .f32) (v1475 : Vec F S16 .f32) (v1481 : IVec S16 32) (v1485 : FVec F S16 .f32) (v1493 : IVec S16 32) (c2_i32_404 : BitVec 32)
    (T : Best F → FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part34 i arg2 harg2 arg3 harg3 arg4 harg4 arg5 harg5 arg6 harg6 arg7 harg7 v4_r0 v12_r1 v12_r2 v1481 v1485 v1493 c2_i32_404 >>= fun ⟨v1514, k0_hw57, v1516, k0_hw51, v1518, k0_hw52, v1520, k0_hw55, v1522, k0_hw56, v1526, k0_hw53, v1528, k0_hw54, v1529⟩ => do
      let c0_i32_422 : BitVec 32 := 0#32
      have v1530 : IVec S16 32 := broadcast S16 c0_i32_422
      let v1531 : Memref sig .scVector .vmem S19508 .f32 := arg5.slice (Rect.unit (s := S20488) ![0] S19508.size inb_S20488_S19508_0) (fun _ => rfl)
      let v1532 : Vec F S16 .f32 ← SparseCore.vectorLoadIdx v1531 ![v1516] (k0_idx176_inb v1516 k0_hw51) (View.loads_vmem h_S19508)
      let v1533 : Memref sig .scVector .vmem S19508 .f32 := arg5.slice (Rect.unit (s := S20488) ![0] S19508.size inb_S20488_S19508_0) (fun _ => rfl)
      let v1534 : Vec F S16 .f32 ← SparseCore.vectorLoadIdx v1533 ![v1518] (k0_idx177_inb v1518 k0_hw52) (View.loads_vmem h_S19508)
      have v1535 : FVec F S16 .f32 := subf v1471 v1532
      have v1536 : FVec F S16 .f32 := subf v1475 v1534
      have v1537 : FVec F S16 .f32 := mulf v1535 v1535
      have v1538 : FVec F S16 .f32 := mulf v1536 v1536
      have v1539 : FVec F S16 .f32 := addf v1537 v1538
      have v1540 : IVec S16 1 := cmpf .olt v1539 v1529
      have v1541 : FVec F S16 .f32 := select v1540 v1539 v1529
      let c0_i32_425 : BitVec 32 := 0#32
      have v1542 : IVec S16 32 := broadcast S16 c0_i32_425
      have v1543 : IVec S16 32 := select v1540 v1542 v1530
      T (v1541, v1543) v1471 v1475 v1514 v1516 v1518 v1520 v1522 v1526 v1528 k0_hw57 k0_hw51 k0_hw52 k0_hw55 k0_hw56 k0_hw53 k0_hw54) = (do
      have v1494 : IVec S16 32 := broadcast S16 c2_i32_404
      have v1495 : IVec S16 32 := subi v1481 v1494
      have cst_405 : F .f32 := Scalar.ofBits .f32 0x3F000000#32
      have v1496 : FVec F S16 .f32 := broadcast S16 cst_405
      have v1497 : IVec S16 1 := cmpf .oge v1485 v1496
      let c1_i32_406 : BitVec 32 := 1#32
      let c0_i32_407 : BitVec 32 := 0#32
      have v1498 : IVec S16 32 := broadcast S16 c1_i32_406
      have v1499 : IVec S16 32 := broadcast S16 c0_i32_407
      have v1500 : IVec S16 32 := select v1497 v1498 v1499
      have v1501 : IVec S16 32 := addi v1495 v1500
      let c0_i32_408 : BitVec 32 := 0#32
      let c60_i32_409 : BitVec 32 := 60#32
      have v1502 : IVec S16 32 := broadcast S16 c0_i32_408
      have v1503 : IVec S16 32 := maxsi v1502 v1493
      have v1504 : IVec S16 32 := broadcast S16 c60_i32_409
      have v1505 : IVec S16 32 := minsi v1504 v1503
      let c0_i32_410 : BitVec 32 := 0#32
      let c60_i32_411 : BitVec 32 := 60#32
      have v1506 : IVec S16 32 := broadcast S16 c0_i32_410
      have v1507 : IVec S16 32 := maxsi v1506 v1501
      have v1508 : IVec S16 32 := broadcast S16 c60_i32_411
      have v1509 : IVec S16 32 := minsi v1508 v1507
      let c64_i32_412 : BitVec 32 := 64#32
      have v1510 : IVec S16 32 := broadcast S16 c64_i32_412
      have v1511 : IVec S16 32 := muli v1505 v1510
      have v1512 : IVec S16 32 := addi v1511 v1509
      let c5_i32_413 : BitVec 32 := 5#32
      have v1513 : IVec S16 32 := broadcast S16 c5_i32_413
      have v1514 : IVec S16 32 := muli v1512 v1513
      have k0_hw57 : k0_chk57 v1514 := (← Prog.lift (TpuEff.assume (k0_chk57 v1514) (k0_chk57.dec v1514))).down
      let c1_i32_414 : BitVec 32 := 1#32
      have v1515 : IVec S16 32 := broadcast S16 c1_i32_414
      have v1516 : IVec S16 32 := addi v1514 v1515
      have k0_hw51 : k0_chk51 v1516 := (← Prog.lift (TpuEff.assume (k0_chk51 v1516) (k0_chk51.dec v1516))).down
      let c2_i32_415 : BitVec 32 := 2#32
      have v1517 : IVec S16 32 := broadcast S16 c2_i32_415
      have v1518 : IVec S16 32 := addi v1514 v1517
      have k0_hw52 : k0_chk52 v1518 := (← Prog.lift (TpuEff.assume (k0_chk52 v1518) (k0_chk52.dec v1518))).down
      let c3_i32_416 : BitVec 32 := 3#32
      have v1519 : IVec S16 32 := broadcast S16 c3_i32_416
      have v1520 : IVec S16 32 := addi v1514 v1519
      have k0_hw55 : k0_chk55 v1520 := (← Prog.lift (TpuEff.assume (k0_chk55 v1520) (k0_chk55.dec v1520))).down
      let c4_i32_417 : BitVec 32 := 4#32
      have v1521 : IVec S16 32 := broadcast S16 c4_i32_417
      have v1522 : IVec S16 32 := addi v1514 v1521
      have k0_hw56 : k0_chk56 v1522 := (← Prog.lift (TpuEff.assume (k0_chk56 v1522) (k0_chk56.dec v1522))).down
      let c6_i32_419 : BitVec 32 := 6#32
      have v1525 : IVec S16 32 := broadcast S16 c6_i32_419
      have v1526 : IVec S16 32 := addi v1514 v1525
      have k0_hw53 : k0_chk53 v1526 := (← Prog.lift (TpuEff.assume (k0_chk53 v1526) (k0_chk53.dec v1526))).down
      let c7_i32_420 : BitVec 32 := 7#32
      have v1527 : IVec S16 32 := broadcast S16 c7_i32_420
      have v1528 : IVec S16 32 := addi v1514 v1527
      have k0_hw54 : k0_chk54 v1528 := (← Prog.lift (TpuEff.assume (k0_chk54 v1528) (k0_chk54.dec v1528))).down
      let s1 ← probe arg5 v1471 v1475 inb_S20488_S19508_0 inb_S20488_S19508_0 (k0_idx176_inb v1516 k0_hw51) (k0_idx177_inb v1518 k0_hw52) 0#32 start
      T s1 v1471 v1475 v1514 v1516 v1518 v1520 v1522 v1526 v1528 k0_hw57 k0_hw51 k0_hw52 k0_hw55 k0_hw56 k0_hw53 k0_hw54) := rfl

set_option maxRecDepth 100000 in
theorem part35_eq (v1471 : Vec F S16 .f32) (v1475 : Vec F S16 .f32) (v1514 : IVec S16 32) (k0_hw57 : k0_chk57 v1514) (v1516 : IVec S16 32) (k0_hw51 : k0_chk51 v1516) (v1518 : IVec S16 32) (k0_hw52 : k0_chk52 v1518) (v1520 : IVec S16 32) (k0_hw55 : k0_chk55 v1520) (v1522 : IVec S16 32) (k0_hw56 : k0_chk56 v1522) (v1526 : IVec S16 32) (k0_hw53 : k0_chk53 v1526) (v1528 : IVec S16 32) (k0_hw54 : k0_chk54 v1528) (v1529 : FVec F S16 .f32)
    (T : Best F → TileProg F i (BitVec 32)) :
    (k0_part35 i arg2 harg2 arg3 harg3 arg4 harg4 arg5 harg5 arg6 harg6 arg7 harg7 v4_r0 v12_r1 v12_r2 v1471 v1475 v1514 k0_hw57 v1516 k0_hw51 v1518 k0_hw52 v1520 k0_hw55 v1522 k0_hw56 v1526 k0_hw53 v1528 k0_hw54 v1529 >>= fun ⟨v1567, v1569, v1576, v1577⟩ => do
      have v1578 : FVec F S16 .f32 := addf v1576 v1577
      have v1579 : IVec S16 1 := cmpf .olt v1578 v1567
      have v1580 : FVec F S16 .f32 := select v1579 v1578 v1567
      let c15_i32_434 : BitVec 32 := 15#32
      have v1581 : IVec S16 32 := broadcast S16 c15_i32_434
      have v1582 : IVec S16 32 := select v1579 v1581 v1569
      T (v1580, v1582)) = (do
      let c0_i32_422 : BitVec 32 := 0#32
      have v1530 : IVec S16 32 := broadcast S16 c0_i32_422
      let v1531 : Memref sig .scVector .vmem S19508 .f32 := arg5.slice (Rect.unit (s := S20488) ![0] S19508.size inb_S20488_S19508_0) (fun _ => rfl)
      let v1532 : Vec F S16 .f32 ← SparseCore.vectorLoadIdx v1531 ![v1516] (k0_idx176_inb v1516 k0_hw51) (View.loads_vmem h_S19508)
      let v1533 : Memref sig .scVector .vmem S19508 .f32 := arg5.slice (Rect.unit (s := S20488) ![0] S19508.size inb_S20488_S19508_0) (fun _ => rfl)
      let v1534 : Vec F S16 .f32 ← SparseCore.vectorLoadIdx v1533 ![v1518] (k0_idx177_inb v1518 k0_hw52) (View.loads_vmem h_S19508)
      have v1535 : FVec F S16 .f32 := subf v1471 v1532
      have v1536 : FVec F S16 .f32 := subf v1475 v1534
      have v1537 : FVec F S16 .f32 := mulf v1535 v1535
      have v1538 : FVec F S16 .f32 := mulf v1536 v1536
      have v1539 : FVec F S16 .f32 := addf v1537 v1538
      have v1540 : IVec S16 1 := cmpf .olt v1539 v1529
      have v1541 : FVec F S16 .f32 := select v1540 v1539 v1529
      let c0_i32_425 : BitVec 32 := 0#32
      have v1542 : IVec S16 32 := broadcast S16 c0_i32_425
      have v1543 : IVec S16 32 := select v1540 v1542 v1530
      let s1 ← probe arg5 v1471 v1475 inb_S20488_S19508_0 inb_S20488_S19508_0 (k0_idx178_inb v1526 k0_hw53) (k0_idx179_inb v1528 k0_hw54) 5#32 (v1541, v1543)
      let s2 ← probe arg5 v1471 v1475 inb_S20488_S19508_8 inb_S20488_S19508_8 (k0_idx180_inb v1520 k0_hw55) (k0_idx181_inb v1522 k0_hw56) 10#32 s1
      let s3 ← probe arg5 v1471 v1475 inb_S20488_S19508_16 inb_S20488_S19508_16 (k0_idx182_inb v1514 k0_hw57) (k0_idx183_inb v1516 k0_hw51) 15#32 s2
      T s3) := rfl

set_option maxRecDepth 100000 in
theorem part36_eq (v1471 : Vec F S16 .f32) (v1475 : Vec F S16 .f32) (v1514 : IVec S16 32) (k0_hw57 : k0_chk57 v1514) (v1516 : IVec S16 32) (k0_hw51 : k0_chk51 v1516) (v1518 : IVec S16 32) (k0_hw52 : k0_chk52 v1518) (v1520 : IVec S16 32) (k0_hw55 : k0_chk55 v1520) (v1522 : IVec S16 32) (k0_hw56 : k0_chk56 v1522) (v1526 : IVec S16 32) (k0_hw53 : k0_chk53 v1526) (v1528 : IVec S16 32) (k0_hw54 : k0_chk54 v1528) (v1567 : FVec F S16 .f32) (v1569 : IVec S16 32) (v1576 : FVec F S16 .f32) (v1577 : FVec F S16 .f32)
    (T : Best F → TileProg F i (BitVec 32)) :
    (k0_part36 i arg2 harg2 arg3 harg3 arg4 harg4 arg5 harg5 arg6 harg6 arg7 harg7 v4_r0 v12_r1 v12_r2 v1471 v1475 v1514 k0_hw57 v1516 k0_hw51 v1518 k0_hw52 v1520 k0_hw55 v1522 k0_hw56 v1526 k0_hw53 v1528 k0_hw54 v1567 v1569 v1576 v1577 >>= fun ⟨v1619, v1621, v1623, v1625⟩ => do
      have v1626 : FVec F S16 .f32 := subf v1471 v1623
      have v1627 : FVec F S16 .f32 := subf v1475 v1625
      have v1628 : FVec F S16 .f32 := mulf v1626 v1626
      have v1629 : FVec F S16 .f32 := mulf v1627 v1627
      have v1630 : FVec F S16 .f32 := addf v1628 v1629
      have v1631 : IVec S16 1 := cmpf .olt v1630 v1619
      have v1632 : FVec F S16 .f32 := select v1631 v1630 v1619
      let c335_i32_446 : BitVec 32 := 335#32
      have v1633 : IVec S16 32 := broadcast S16 c335_i32_446
      have v1634 : IVec S16 32 := select v1631 v1633 v1621
      T (v1632, v1634)) = (do
      have v1578 : FVec F S16 .f32 := addf v1576 v1577
      have v1579 : IVec S16 1 := cmpf .olt v1578 v1567
      have v1580 : FVec F S16 .f32 := select v1579 v1578 v1567
      let c15_i32_434 : BitVec 32 := 15#32
      have v1581 : IVec S16 32 := broadcast S16 c15_i32_434
      have v1582 : IVec S16 32 := select v1579 v1581 v1569
      let s1 ← probe arg5 v1471 v1475 inb_S20488_S19508_320 inb_S20488_S19508_320 (k0_idx184_inb v1516 k0_hw51) (k0_idx185_inb v1518 k0_hw52) 320#32 (v1580, v1582)
      let s2 ← probe arg5 v1471 v1475 inb_S20488_S19508_320 inb_S20488_S19508_320 (k0_idx186_inb v1526 k0_hw53) (k0_idx187_inb v1528 k0_hw54) 325#32 s1
      let s3 ← probe arg5 v1471 v1475 inb_S20488_S19508_328 inb_S20488_S19508_328 (k0_idx188_inb v1520 k0_hw55) (k0_idx189_inb v1522 k0_hw56) 330#32 s2
      let s4 ← probe arg5 v1471 v1475 inb_S20488_S19508_336 inb_S20488_S19508_336 (k0_idx190_inb v1514 k0_hw57) (k0_idx191_inb v1516 k0_hw51) 335#32 s3
      T s4) := rfl

set_option maxRecDepth 100000 in
theorem part37_eq (v1471 : Vec F S16 .f32) (v1475 : Vec F S16 .f32) (v1514 : IVec S16 32) (k0_hw57 : k0_chk57 v1514) (v1516 : IVec S16 32) (k0_hw51 : k0_chk51 v1516) (v1518 : IVec S16 32) (k0_hw52 : k0_chk52 v1518) (v1520 : IVec S16 32) (k0_hw55 : k0_chk55 v1520) (v1522 : IVec S16 32) (k0_hw56 : k0_chk56 v1522) (v1526 : IVec S16 32) (k0_hw53 : k0_chk53 v1526) (v1528 : IVec S16 32) (k0_hw54 : k0_chk54 v1528) (v1619 : FVec F S16 .f32) (v1621 : IVec S16 32) (v1623 : Vec F S16 .f32) (v1625 : Vec F S16 .f32)
    (T : Best F → TileProg F i (BitVec 32)) :
    (k0_part37 i arg2 harg2 arg3 harg3 arg4 harg4 arg5 harg5 arg6 harg6 arg7 harg7 v4_r0 v12_r1 v12_r2 v1471 v1475 v1516 k0_hw51 v1518 k0_hw52 v1520 k0_hw55 v1522 k0_hw56 v1526 k0_hw53 v1528 k0_hw54 v1619 v1621 v1623 v1625 >>= fun ⟨v1671, v1673⟩ => do
      let v1674 : Memref sig .scVector .vmem S19508 .f32 := arg5.slice (Rect.unit (s := S20488) ![656] S19508.size inb_S20488_S19508_656) (fun _ => rfl)
      let v1675 : Vec F S16 .f32 ← SparseCore.vectorLoadIdx v1674 ![v1514] (k0_idx198_inb v1514 k0_hw57) (View.loads_vmem h_S19508)
      let v1676 : Memref sig .scVector .vmem S19508 .f32 := arg5.slice (Rect.unit (s := S20488) ![656] S19508.size inb_S20488_S19508_656) (fun _ => rfl)
      let v1677 : Vec F S16 .f32 ← SparseCore.vectorLoadIdx v1676 ![v1516] (k0_idx199_inb v1516 k0_hw51) (View.loads_vmem h_S19508)
      have v1678 : FVec F S16 .f32 := subf v1471 v1675
      have v1679 : FVec F S16 .f32 := subf v1475 v1677
      have v1680 : FVec F S16 .f32 := mulf v1678 v1678
      have v1681 : FVec F S16 .f32 := mulf v1679 v1679
      have v1682 : FVec F S16 .f32 := addf v1680 v1681
      have v1683 : IVec S16 1 := cmpf .olt v1682 v1671
      have v1684 : FVec F S16 .f32 := select v1683 v1682 v1671
      let c655_i32_458 : BitVec 32 := 655#32
      have v1685 : IVec S16 32 := broadcast S16 c655_i32_458
      have v1686 : IVec S16 32 := select v1683 v1685 v1673
      T (v1684, v1686)) = (do
      have v1626 : FVec F S16 .f32 := subf v1471 v1623
      have v1627 : FVec F S16 .f32 := subf v1475 v1625
      have v1628 : FVec F S16 .f32 := mulf v1626 v1626
      have v1629 : FVec F S16 .f32 := mulf v1627 v1627
      have v1630 : FVec F S16 .f32 := addf v1628 v1629
      have v1631 : IVec S16 1 := cmpf .olt v1630 v1619
      have v1632 : FVec F S16 .f32 := select v1631 v1630 v1619
      let c335_i32_446 : BitVec 32 := 335#32
      have v1633 : IVec S16 32 := broadcast S16 c335_i32_446
      have v1634 : IVec S16 32 := select v1631 v1633 v1621
      let s1 ← probe arg5 v1471 v1475 inb_S20488_S19508_640 inb_S20488_S19508_640 (k0_idx192_inb v1516 k0_hw51) (k0_idx193_inb v1518 k0_hw52) 640#32 (v1632, v1634)
      let s2 ← probe arg5 v1471 v1475 inb_S20488_S19508_640 inb_S20488_S19508_640 (k0_idx194_inb v1526 k0_hw53) (k0_idx195_inb v1528 k0_hw54) 645#32 s1
      let s3 ← probe arg5 v1471 v1475 inb_S20488_S19508_648 inb_S20488_S19508_648 (k0_idx196_inb v1520 k0_hw55) (k0_idx197_inb v1522 k0_hw56) 650#32 s2
      let s4 ← probe arg5 v1471 v1475 inb_S20488_S19508_656 inb_S20488_S19508_656 (k0_idx198_inb v1514 k0_hw57) (k0_idx199_inb v1516 k0_hw51) 655#32 s3
      T s4) := rfl

set_option maxRecDepth 100000 in
theorem part38_eq (v1471 : Vec F S16 .f32) (v1475 : Vec F S16 .f32) (v1514 : IVec S16 32) (k0_hw57 : k0_chk57 v1514) (v1516 : IVec S16 32) (k0_hw51 : k0_chk51 v1516) (v1518 : IVec S16 32) (k0_hw52 : k0_chk52 v1518) (v1520 : IVec S16 32) (k0_hw55 : k0_chk55 v1520) (v1522 : IVec S16 32) (k0_hw56 : k0_chk56 v1522) (v1526 : IVec S16 32) (k0_hw53 : k0_chk53 v1526) (v1528 : IVec S16 32) (k0_hw54 : k0_chk54 v1528) (v1671 : FVec F S16 .f32) (v1673 : IVec S16 32)
    (T : Best F → TileProg F i (BitVec 32)) :
    (k0_part38 i arg2 harg2 arg3 harg3 arg4 harg4 arg5 harg5 arg6 harg6 arg7 harg7 v4_r0 v12_r1 v12_r2 v1471 v1475 v1514 k0_hw57 v1516 k0_hw51 v1518 k0_hw52 v1520 k0_hw55 v1522 k0_hw56 v1526 k0_hw53 v1528 k0_hw54 v1671 v1673 >>= fun ⟨v1712, v1722, v1723, c970_i32_467⟩ => do
      have v1724 : IVec S16 32 := broadcast S16 c970_i32_467
      have v1725 : IVec S16 32 := select v1722 v1724 v1712
      T (v1723, v1725)) = (do
      let v1674 : Memref sig .scVector .vmem S19508 .f32 := arg5.slice (Rect.unit (s := S20488) ![656] S19508.size inb_S20488_S19508_656) (fun _ => rfl)
      let v1675 : Vec F S16 .f32 ← SparseCore.vectorLoadIdx v1674 ![v1514] (k0_idx198_inb v1514 k0_hw57) (View.loads_vmem h_S19508)
      let v1676 : Memref sig .scVector .vmem S19508 .f32 := arg5.slice (Rect.unit (s := S20488) ![656] S19508.size inb_S20488_S19508_656) (fun _ => rfl)
      let v1677 : Vec F S16 .f32 ← SparseCore.vectorLoadIdx v1676 ![v1516] (k0_idx199_inb v1516 k0_hw51) (View.loads_vmem h_S19508)
      have v1678 : FVec F S16 .f32 := subf v1471 v1675
      have v1679 : FVec F S16 .f32 := subf v1475 v1677
      have v1680 : FVec F S16 .f32 := mulf v1678 v1678
      have v1681 : FVec F S16 .f32 := mulf v1679 v1679
      have v1682 : FVec F S16 .f32 := addf v1680 v1681
      have v1683 : IVec S16 1 := cmpf .olt v1682 v1671
      have v1684 : FVec F S16 .f32 := select v1683 v1682 v1671
      let c655_i32_458 : BitVec 32 := 655#32
      have v1685 : IVec S16 32 := broadcast S16 c655_i32_458
      have v1686 : IVec S16 32 := select v1683 v1685 v1673
      let s1 ← probe arg5 v1471 v1475 inb_S20488_S19508_960 inb_S20488_S19508_960 (k0_idx200_inb v1516 k0_hw51) (k0_idx201_inb v1518 k0_hw52) 960#32 (v1684, v1686)
      let s2 ← probe arg5 v1471 v1475 inb_S20488_S19508_960 inb_S20488_S19508_960 (k0_idx202_inb v1526 k0_hw53) (k0_idx203_inb v1528 k0_hw54) 965#32 s1
      let s3 ← probe arg5 v1471 v1475 inb_S20488_S19508_968 inb_S20488_S19508_968 (k0_idx204_inb v1520 k0_hw55) (k0_idx205_inb v1522 k0_hw56) 970#32 s2
      T s3) := rfl

set_option maxRecDepth 100000 in
theorem part39_eq (k0_t2 : Fin k0_t2_loop.trips) (v12 : BitVec 32) (v13 : BitVec 32) (v1471 : Vec F S16 .f32) (v1475 : Vec F S16 .f32) (v1514 : IVec S16 32) (k0_hw57 : k0_chk57 v1514) (v1516 : IVec S16 32) (k0_hw51 : k0_chk51 v1516) (v1712 : IVec S16 32) (v1722 : IVec S16 1) (v1723 : FVec F S16 .f32) (c970_i32_467 : BitVec 32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part39 i arg2 harg2 arg3 harg3 arg4 harg4 arg5 harg5 arg6 harg6 arg7 harg7 v4_r0 v12_r1 v12_r2 k0_t2 v12 v13 v1471 v1475 v1514 k0_hw57 v1516 k0_hw51 v1712 v1722 v1723 c970_i32_467 >>= fun ⟨v1762, v1763, c96_i32_480⟩ => do
      let v1766 : Vec F S16 .f32 ← Prog.lift (.load arg6 (Rect.unit (s := S4096) (k0_off27 k0_t2) S16.size (k0_off27_inb k0_t2)).toLoadRect (View.loadsAt_vmem h_S16))
      have cst_481 : F .f32 := Scalar.ofBits .f32 0x42800000#32
      have v1767 : FVec F S16 .f32 := broadcast S16 cst_481
      have v1768 : FVec F S16 .f32 := mulf v1762 v1767
      have cst_482 : F .f32 := Scalar.ofBits .f32 0x42800000#32
      have v1769 : FVec F S16 .f32 := broadcast S16 cst_482
      have v1770 : FVec F S16 .f32 := mulf v1766 v1769
      have v1771 : IVec S16 32 := fptosi 32 v1768
      have v1772 : IVec S16 32 := fptosi 32 v1770
      have v1773 : FVec F S16 .f32 := sitofp .f32 v1771
      have v1774 : FVec F S16 .f32 := subf v1768 v1773
      have v1775 : FVec F S16 .f32 := sitofp .f32 v1772
      have v1776 : FVec F S16 .f32 := subf v1770 v1775
      let c2_i32_483 : BitVec 32 := 2#32
      have v1777 : IVec S16 32 := broadcast S16 c2_i32_483
      have v1778 : IVec S16 32 := subi v1771 v1777
      have cst_484 : F .f32 := Scalar.ofBits .f32 0x3F000000#32
      have v1779 : FVec F S16 .f32 := broadcast S16 cst_484
      have v1780 : IVec S16 1 := cmpf .oge v1774 v1779
      let c1_i32_485 : BitVec 32 := 1#32
      let c0_i32_486 : BitVec 32 := 0#32
      have v1781 : IVec S16 32 := broadcast S16 c1_i32_485
      have v1782 : IVec S16 32 := broadcast S16 c0_i32_486
      have v1783 : IVec S16 32 := select v1780 v1781 v1782
      have v1784 : IVec S16 32 := addi v1778 v1783
      let c2_i32_487 : BitVec 32 := 2#32
      have v1785 : IVec S16 32 := broadcast S16 c2_i32_487
      have v1786 : IVec S16 32 := subi v1772 v1785
      have cst_488 : F .f32 := Scalar.ofBits .f32 0x3F000000#32
      have v1787 : FVec F S16 .f32 := broadcast S16 cst_488
      have v1788 : IVec S16 1 := cmpf .oge v1776 v1787
      let c1_i32_489 : BitVec 32 := 1#32
      let c0_i32_490 : BitVec 32 := 0#32
      have v1789 : IVec S16 32 := broadcast S16 c1_i32_489
      have v1790 : IVec S16 32 := broadcast S16 c0_i32_490
      have v1791 : IVec S16 32 := select v1788 v1789 v1790
      have v1792 : IVec S16 32 := addi v1786 v1791
      let c0_i32_491 : BitVec 32 := 0#32
      let c60_i32_492 : BitVec 32 := 60#32
      have v1793 : IVec S16 32 := broadcast S16 c0_i32_491
      have v1794 : IVec S16 32 := maxsi v1793 v1784
      have v1795 : IVec S16 32 := broadcast S16 c60_i32_492
      have v1796 : IVec S16 32 := minsi v1795 v1794
      let c0_i32_493 : BitVec 32 := 0#32
      let c60_i32_494 : BitVec 32 := 60#32
      have v1797 : IVec S16 32 := broadcast S16 c0_i32_493
      have v1798 : IVec S16 32 := maxsi v1797 v1792
      have v1799 : IVec S16 32 := broadcast S16 c60_i32_494
      have v1800 : IVec S16 32 := minsi v1799 v1798
      let c64_i32_495 : BitVec 32 := 64#32
      have v1801 : IVec S16 32 := broadcast S16 c64_i32_495
      have v1802 : IVec S16 32 := muli v1796 v1801
      have v1803 : IVec S16 32 := addi v1802 v1800
      let c5_i32_496 : BitVec 32 := 5#32
      have v1804 : IVec S16 32 := broadcast S16 c5_i32_496
      have v1805 : IVec S16 32 := muli v1803 v1804
      have k0_hw67 : k0_chk67 v1805 := (← Prog.lift (TpuEff.assume (k0_chk67 v1805) (k0_chk67.dec v1805))).down
      let c1_i32_497 : BitVec 32 := 1#32
      have v1806 : IVec S16 32 := broadcast S16 c1_i32_497
      have v1807 : IVec S16 32 := addi v1805 v1806
      have k0_hw61 : k0_chk61 v1807 := (← Prog.lift (TpuEff.assume (k0_chk61 v1807) (k0_chk61.dec v1807))).down
      let c2_i32_498 : BitVec 32 := 2#32
      have v1808 : IVec S16 32 := broadcast S16 c2_i32_498
      have v1809 : IVec S16 32 := addi v1805 v1808
      have k0_hw62 : k0_chk62 v1809 := (← Prog.lift (TpuEff.assume (k0_chk62 v1809) (k0_chk62.dec v1809))).down
      let c3_i32_499 : BitVec 32 := 3#32
      have v1810 : IVec S16 32 := broadcast S16 c3_i32_499
      have v1811 : IVec S16 32 := addi v1805 v1810
      have k0_hw65 : k0_chk65 v1811 := (← Prog.lift (TpuEff.assume (k0_chk65 v1811) (k0_chk65.dec v1811))).down
      let c4_i32_500 : BitVec 32 := 4#32
      have v1812 : IVec S16 32 := broadcast S16 c4_i32_500
      have v1813 : IVec S16 32 := addi v1805 v1812
      have k0_hw66 : k0_chk66 v1813 := (← Prog.lift (TpuEff.assume (k0_chk66 v1813) (k0_chk66.dec v1813))).down
      let c6_i32_502 : BitVec 32 := 6#32
      have v1816 : IVec S16 32 := broadcast S16 c6_i32_502
      have v1817 : IVec S16 32 := addi v1805 v1816
      have k0_hw63 : k0_chk63 v1817 := (← Prog.lift (TpuEff.assume (k0_chk63 v1817) (k0_chk63.dec v1817))).down
      let c7_i32_503 : BitVec 32 := 7#32
      have v1818 : IVec S16 32 := broadcast S16 c7_i32_503
      have v1819 : IVec S16 32 := addi v1805 v1818
      have k0_hw64 : k0_chk64 v1819 := (← Prog.lift (TpuEff.assume (k0_chk64 v1819) (k0_chk64.dec v1819))).down
      T v1762 v1766 v1805 v1807 v1809 v1811 v1813 v1817 v1819 k0_hw67 k0_hw61 k0_hw62 k0_hw65 k0_hw66 k0_hw63 k0_hw64) = (do
      have v1724 : IVec S16 32 := broadcast S16 c970_i32_467
      have v1725 : IVec S16 32 := select v1722 v1724 v1712
      let s1 ← probe arg5 v1471 v1475 inb_S20488_S19508_976 inb_S20488_S19508_976 (k0_idx206_inb v1514 k0_hw57) (k0_idx207_inb v1516 k0_hw51) 975#32 (v1723, v1725)
      have v1738 : IVec S16 32 := s1.2
      have v1739 : IVec S16 32 := addi v1514 v1738
      let c3_i32_471 : BitVec 32 := 3#32
      have v1740 : IVec S16 32 := broadcast S16 c3_i32_471
      have v1741 : IVec S16 32 := addi v1739 v1740
      have k0_hw58 : k0_chk58 v1741 := (← Prog.lift (TpuEff.assume (k0_chk58 v1741) (k0_chk58.dec v1741))).down
      let v1742 : Vec F S16 .f32 ← SparseCore.vectorLoadIdx arg5 ![v1741] (k0_idx208_inb v1741 k0_hw58) (View.loads_vmem h_S20488)
      let c4_i32_472 : BitVec 32 := 4#32
      have v1743 : IVec S16 32 := broadcast S16 c4_i32_472
      have v1744 : IVec S16 32 := addi v1739 v1743
      have k0_hw59 : k0_chk59 v1744 := (← Prog.lift (TpuEff.assume (k0_chk59 v1744) (k0_chk59.dec v1744))).down
      let v1745 : Vec F S16 .f32 ← SparseCore.vectorLoadIdx arg5 ![v1744] (k0_idx209_inb v1744 k0_hw59) (View.loads_vmem h_S20488)
      let c5_i32_473 : BitVec 32 := 5#32
      have v1746 : IVec S16 32 := broadcast S16 c5_i32_473
      have v1747 : IVec S16 32 := addi v1739 v1746
      have k0_hw60 : k0_chk60 v1747 := (← Prog.lift (TpuEff.assume (k0_chk60 v1747) (k0_chk60.dec v1747))).down
      let v1748 : Vec F S16 .f32 ← SparseCore.vectorLoadIdx arg5 ![v1747] (k0_idx210_inb v1747 k0_hw60) (View.loads_vmem h_S20488)
      let v1751 : Vec F S16 .f32 ← Prog.lift (.load arg7 (Rect.unit (s := S8192) (k0_off24 k0_t2) S16.size (k0_off24_inb k0_t2)).toLoadRect (View.loadsAt_vmem h_S16))
      Prog.lift (.store arg7 (Rect.unit (s := S8192) (k0_off24 k0_t2) S16.size (k0_off24_inb k0_t2)) v1742 Finset.univ (View.stores_vmem_bits_univ h_S16 rfl) (.inl rfl))
      let v1755 : Vec F S16 .f32 ← Prog.lift (.load arg7 (Rect.unit (s := S8192) (k0_off25 k0_t2 128#32) S16.size (k0_off25_inb k0_t2 0)).toLoadRect (View.loadsAt_vmem h_S16))
      Prog.lift (.store arg7 (Rect.unit (s := S8192) (k0_off25 k0_t2 128#32) S16.size (k0_off25_inb k0_t2 0)) v1745 Finset.univ (View.stores_vmem_bits_univ h_S16 rfl) (.inl rfl))
      let v1759 : Vec F S16 .f32 ← Prog.lift (.load arg7 (Rect.unit (s := S8192) (k0_off25 k0_t2 256#32) S16.size (k0_off25_inb k0_t2 1)).toLoadRect (View.loadsAt_vmem h_S16))
      Prog.lift (.store arg7 (Rect.unit (s := S8192) (k0_off25 k0_t2 256#32) S16.size (k0_off25_inb k0_t2 1)) v1748 Finset.univ (View.stores_vmem_bits_univ h_S16 rfl) (.inl rfl))
      let v1762 : Vec F S16 .f32 ← Prog.lift (.load arg6 (Rect.unit (s := S4096) (k0_off26 k0_t2) S16.size (k0_off26_inb k0_t2)).toLoadRect (View.loadsAt_vmem h_S16))
      let v1766 : Vec F S16 .f32 ← Prog.lift (.load arg6 (Rect.unit (s := S4096) (k0_off27 k0_t2) S16.size (k0_off27_inb k0_t2)).toLoadRect (View.loadsAt_vmem h_S16))
      have cst_481 : F .f32 := Scalar.ofBits .f32 0x42800000#32
      have v1767 : FVec F S16 .f32 := broadcast S16 cst_481
      have v1768 : FVec F S16 .f32 := mulf v1762 v1767
      have cst_482 : F .f32 := Scalar.ofBits .f32 0x42800000#32
      have v1769 : FVec F S16 .f32 := broadcast S16 cst_482
      have v1770 : FVec F S16 .f32 := mulf v1766 v1769
      have v1771 : IVec S16 32 := fptosi 32 v1768
      have v1772 : IVec S16 32 := fptosi 32 v1770
      have v1773 : FVec F S16 .f32 := sitofp .f32 v1771
      have v1774 : FVec F S16 .f32 := subf v1768 v1773
      have v1775 : FVec F S16 .f32 := sitofp .f32 v1772
      have v1776 : FVec F S16 .f32 := subf v1770 v1775
      let c2_i32_483 : BitVec 32 := 2#32
      have v1777 : IVec S16 32 := broadcast S16 c2_i32_483
      have v1778 : IVec S16 32 := subi v1771 v1777
      have cst_484 : F .f32 := Scalar.ofBits .f32 0x3F000000#32
      have v1779 : FVec F S16 .f32 := broadcast S16 cst_484
      have v1780 : IVec S16 1 := cmpf .oge v1774 v1779
      let c1_i32_485 : BitVec 32 := 1#32
      let c0_i32_486 : BitVec 32 := 0#32
      have v1781 : IVec S16 32 := broadcast S16 c1_i32_485
      have v1782 : IVec S16 32 := broadcast S16 c0_i32_486
      have v1783 : IVec S16 32 := select v1780 v1781 v1782
      have v1784 : IVec S16 32 := addi v1778 v1783
      let c2_i32_487 : BitVec 32 := 2#32
      have v1785 : IVec S16 32 := broadcast S16 c2_i32_487
      have v1786 : IVec S16 32 := subi v1772 v1785
      have cst_488 : F .f32 := Scalar.ofBits .f32 0x3F000000#32
      have v1787 : FVec F S16 .f32 := broadcast S16 cst_488
      have v1788 : IVec S16 1 := cmpf .oge v1776 v1787
      let c1_i32_489 : BitVec 32 := 1#32
      let c0_i32_490 : BitVec 32 := 0#32
      have v1789 : IVec S16 32 := broadcast S16 c1_i32_489
      have v1790 : IVec S16 32 := broadcast S16 c0_i32_490
      have v1791 : IVec S16 32 := select v1788 v1789 v1790
      have v1792 : IVec S16 32 := addi v1786 v1791
      let c0_i32_491 : BitVec 32 := 0#32
      let c60_i32_492 : BitVec 32 := 60#32
      have v1793 : IVec S16 32 := broadcast S16 c0_i32_491
      have v1794 : IVec S16 32 := maxsi v1793 v1784
      have v1795 : IVec S16 32 := broadcast S16 c60_i32_492
      have v1796 : IVec S16 32 := minsi v1795 v1794
      let c0_i32_493 : BitVec 32 := 0#32
      let c60_i32_494 : BitVec 32 := 60#32
      have v1797 : IVec S16 32 := broadcast S16 c0_i32_493
      have v1798 : IVec S16 32 := maxsi v1797 v1792
      have v1799 : IVec S16 32 := broadcast S16 c60_i32_494
      have v1800 : IVec S16 32 := minsi v1799 v1798
      let c64_i32_495 : BitVec 32 := 64#32
      have v1801 : IVec S16 32 := broadcast S16 c64_i32_495
      have v1802 : IVec S16 32 := muli v1796 v1801
      have v1803 : IVec S16 32 := addi v1802 v1800
      let c5_i32_496 : BitVec 32 := 5#32
      have v1804 : IVec S16 32 := broadcast S16 c5_i32_496
      have v1805 : IVec S16 32 := muli v1803 v1804
      have k0_hw67 : k0_chk67 v1805 := (← Prog.lift (TpuEff.assume (k0_chk67 v1805) (k0_chk67.dec v1805))).down
      let c1_i32_497 : BitVec 32 := 1#32
      have v1806 : IVec S16 32 := broadcast S16 c1_i32_497
      have v1807 : IVec S16 32 := addi v1805 v1806
      have k0_hw61 : k0_chk61 v1807 := (← Prog.lift (TpuEff.assume (k0_chk61 v1807) (k0_chk61.dec v1807))).down
      let c2_i32_498 : BitVec 32 := 2#32
      have v1808 : IVec S16 32 := broadcast S16 c2_i32_498
      have v1809 : IVec S16 32 := addi v1805 v1808
      have k0_hw62 : k0_chk62 v1809 := (← Prog.lift (TpuEff.assume (k0_chk62 v1809) (k0_chk62.dec v1809))).down
      let c3_i32_499 : BitVec 32 := 3#32
      have v1810 : IVec S16 32 := broadcast S16 c3_i32_499
      have v1811 : IVec S16 32 := addi v1805 v1810
      have k0_hw65 : k0_chk65 v1811 := (← Prog.lift (TpuEff.assume (k0_chk65 v1811) (k0_chk65.dec v1811))).down
      let c4_i32_500 : BitVec 32 := 4#32
      have v1812 : IVec S16 32 := broadcast S16 c4_i32_500
      have v1813 : IVec S16 32 := addi v1805 v1812
      have k0_hw66 : k0_chk66 v1813 := (← Prog.lift (TpuEff.assume (k0_chk66 v1813) (k0_chk66.dec v1813))).down
      let c6_i32_502 : BitVec 32 := 6#32
      have v1816 : IVec S16 32 := broadcast S16 c6_i32_502
      have v1817 : IVec S16 32 := addi v1805 v1816
      have k0_hw63 : k0_chk63 v1817 := (← Prog.lift (TpuEff.assume (k0_chk63 v1817) (k0_chk63.dec v1817))).down
      let c7_i32_503 : BitVec 32 := 7#32
      have v1818 : IVec S16 32 := broadcast S16 c7_i32_503
      have v1819 : IVec S16 32 := addi v1805 v1818
      have k0_hw64 : k0_chk64 v1819 := (← Prog.lift (TpuEff.assume (k0_chk64 v1819) (k0_chk64.dec v1819))).down
      T v1762 v1766 v1805 v1807 v1809 v1811 v1813 v1817 v1819 k0_hw67 k0_hw61 k0_hw62 k0_hw65 k0_hw66 k0_hw63 k0_hw64) := rfl

set_option maxRecDepth 100000 in
theorem part40_eq (k0_t2 : Fin k0_t2_loop.trips) (v1762 : Vec F S16 .f32) (v1763 : BitVec 32) (c96_i32_480 : BitVec 32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part40 i arg2 harg2 arg3 harg3 arg4 harg4 arg5 harg5 arg6 harg6 arg7 harg7 v4_r0 v12_r1 v12_r2 k0_t2 v1762 v1763 c96_i32_480 >>= fun ⟨v1766, v1805, k0_hw67, c1_i32_497⟩ => do
      have v1806 : IVec S16 32 := broadcast S16 c1_i32_497
      have v1807 : IVec S16 32 := addi v1805 v1806
      have k0_hw61 : k0_chk61 v1807 := (← Prog.lift (TpuEff.assume (k0_chk61 v1807) (k0_chk61.dec v1807))).down
      let c2_i32_498 : BitVec 32 := 2#32
      have v1808 : IVec S16 32 := broadcast S16 c2_i32_498
      have v1809 : IVec S16 32 := addi v1805 v1808
      have k0_hw62 : k0_chk62 v1809 := (← Prog.lift (TpuEff.assume (k0_chk62 v1809) (k0_chk62.dec v1809))).down
      let c3_i32_499 : BitVec 32 := 3#32
      have v1810 : IVec S16 32 := broadcast S16 c3_i32_499
      have v1811 : IVec S16 32 := addi v1805 v1810
      have k0_hw65 : k0_chk65 v1811 := (← Prog.lift (TpuEff.assume (k0_chk65 v1811) (k0_chk65.dec v1811))).down
      let c4_i32_500 : BitVec 32 := 4#32
      have v1812 : IVec S16 32 := broadcast S16 c4_i32_500
      have v1813 : IVec S16 32 := addi v1805 v1812
      have k0_hw66 : k0_chk66 v1813 := (← Prog.lift (TpuEff.assume (k0_chk66 v1813) (k0_chk66.dec v1813))).down
      let c6_i32_502 : BitVec 32 := 6#32
      have v1816 : IVec S16 32 := broadcast S16 c6_i32_502
      have v1817 : IVec S16 32 := addi v1805 v1816
      have k0_hw63 : k0_chk63 v1817 := (← Prog.lift (TpuEff.assume (k0_chk63 v1817) (k0_chk63.dec v1817))).down
      let c7_i32_503 : BitVec 32 := 7#32
      have v1818 : IVec S16 32 := broadcast S16 c7_i32_503
      have v1819 : IVec S16 32 := addi v1805 v1818
      have k0_hw64 : k0_chk64 v1819 := (← Prog.lift (TpuEff.assume (k0_chk64 v1819) (k0_chk64.dec v1819))).down
      T v1762 v1766 v1805 v1807 v1809 v1811 v1813 v1817 v1819 k0_hw67 k0_hw61 k0_hw62 k0_hw65 k0_hw66 k0_hw63 k0_hw64) = (do
      let v1766 : Vec F S16 .f32 ← Prog.lift (.load arg6 (Rect.unit (s := S4096) (k0_off27 k0_t2) S16.size (k0_off27_inb k0_t2)).toLoadRect (View.loadsAt_vmem h_S16))
      have cst_481 : F .f32 := Scalar.ofBits .f32 0x42800000#32
      have v1767 : FVec F S16 .f32 := broadcast S16 cst_481
      have v1768 : FVec F S16 .f32 := mulf v1762 v1767
      have cst_482 : F .f32 := Scalar.ofBits .f32 0x42800000#32
      have v1769 : FVec F S16 .f32 := broadcast S16 cst_482
      have v1770 : FVec F S16 .f32 := mulf v1766 v1769
      have v1771 : IVec S16 32 := fptosi 32 v1768
      have v1772 : IVec S16 32 := fptosi 32 v1770
      have v1773 : FVec F S16 .f32 := sitofp .f32 v1771
      have v1774 : FVec F S16 .f32 := subf v1768 v1773
      have v1775 : FVec F S16 .f32 := sitofp .f32 v1772
      have v1776 : FVec F S16 .f32 := subf v1770 v1775
      let c2_i32_483 : BitVec 32 := 2#32
      have v1777 : IVec S16 32 := broadcast S16 c2_i32_483
      have v1778 : IVec S16 32 := subi v1771 v1777
      have cst_484 : F .f32 := Scalar.ofBits .f32 0x3F000000#32
      have v1779 : FVec F S16 .f32 := broadcast S16 cst_484
      have v1780 : IVec S16 1 := cmpf .oge v1774 v1779
      let c1_i32_485 : BitVec 32 := 1#32
      let c0_i32_486 : BitVec 32 := 0#32
      have v1781 : IVec S16 32 := broadcast S16 c1_i32_485
      have v1782 : IVec S16 32 := broadcast S16 c0_i32_486
      have v1783 : IVec S16 32 := select v1780 v1781 v1782
      have v1784 : IVec S16 32 := addi v1778 v1783
      let c2_i32_487 : BitVec 32 := 2#32
      have v1785 : IVec S16 32 := broadcast S16 c2_i32_487
      have v1786 : IVec S16 32 := subi v1772 v1785
      have cst_488 : F .f32 := Scalar.ofBits .f32 0x3F000000#32
      have v1787 : FVec F S16 .f32 := broadcast S16 cst_488
      have v1788 : IVec S16 1 := cmpf .oge v1776 v1787
      let c1_i32_489 : BitVec 32 := 1#32
      let c0_i32_490 : BitVec 32 := 0#32
      have v1789 : IVec S16 32 := broadcast S16 c1_i32_489
      have v1790 : IVec S16 32 := broadcast S16 c0_i32_490
      have v1791 : IVec S16 32 := select v1788 v1789 v1790
      have v1792 : IVec S16 32 := addi v1786 v1791
      let c0_i32_491 : BitVec 32 := 0#32
      let c60_i32_492 : BitVec 32 := 60#32
      have v1793 : IVec S16 32 := broadcast S16 c0_i32_491
      have v1794 : IVec S16 32 := maxsi v1793 v1784
      have v1795 : IVec S16 32 := broadcast S16 c60_i32_492
      have v1796 : IVec S16 32 := minsi v1795 v1794
      let c0_i32_493 : BitVec 32 := 0#32
      let c60_i32_494 : BitVec 32 := 60#32
      have v1797 : IVec S16 32 := broadcast S16 c0_i32_493
      have v1798 : IVec S16 32 := maxsi v1797 v1792
      have v1799 : IVec S16 32 := broadcast S16 c60_i32_494
      have v1800 : IVec S16 32 := minsi v1799 v1798
      let c64_i32_495 : BitVec 32 := 64#32
      have v1801 : IVec S16 32 := broadcast S16 c64_i32_495
      have v1802 : IVec S16 32 := muli v1796 v1801
      have v1803 : IVec S16 32 := addi v1802 v1800
      let c5_i32_496 : BitVec 32 := 5#32
      have v1804 : IVec S16 32 := broadcast S16 c5_i32_496
      have v1805 : IVec S16 32 := muli v1803 v1804
      have k0_hw67 : k0_chk67 v1805 := (← Prog.lift (TpuEff.assume (k0_chk67 v1805) (k0_chk67.dec v1805))).down
      let c1_i32_497 : BitVec 32 := 1#32
      have v1806 : IVec S16 32 := broadcast S16 c1_i32_497
      have v1807 : IVec S16 32 := addi v1805 v1806
      have k0_hw61 : k0_chk61 v1807 := (← Prog.lift (TpuEff.assume (k0_chk61 v1807) (k0_chk61.dec v1807))).down
      let c2_i32_498 : BitVec 32 := 2#32
      have v1808 : IVec S16 32 := broadcast S16 c2_i32_498
      have v1809 : IVec S16 32 := addi v1805 v1808
      have k0_hw62 : k0_chk62 v1809 := (← Prog.lift (TpuEff.assume (k0_chk62 v1809) (k0_chk62.dec v1809))).down
      let c3_i32_499 : BitVec 32 := 3#32
      have v1810 : IVec S16 32 := broadcast S16 c3_i32_499
      have v1811 : IVec S16 32 := addi v1805 v1810
      have k0_hw65 : k0_chk65 v1811 := (← Prog.lift (TpuEff.assume (k0_chk65 v1811) (k0_chk65.dec v1811))).down
      let c4_i32_500 : BitVec 32 := 4#32
      have v1812 : IVec S16 32 := broadcast S16 c4_i32_500
      have v1813 : IVec S16 32 := addi v1805 v1812
      have k0_hw66 : k0_chk66 v1813 := (← Prog.lift (TpuEff.assume (k0_chk66 v1813) (k0_chk66.dec v1813))).down
      let c6_i32_502 : BitVec 32 := 6#32
      have v1816 : IVec S16 32 := broadcast S16 c6_i32_502
      have v1817 : IVec S16 32 := addi v1805 v1816
      have k0_hw63 : k0_chk63 v1817 := (← Prog.lift (TpuEff.assume (k0_chk63 v1817) (k0_chk63.dec v1817))).down
      let c7_i32_503 : BitVec 32 := 7#32
      have v1818 : IVec S16 32 := broadcast S16 c7_i32_503
      have v1819 : IVec S16 32 := addi v1805 v1818
      have k0_hw64 : k0_chk64 v1819 := (← Prog.lift (TpuEff.assume (k0_chk64 v1819) (k0_chk64.dec v1819))).down
      T v1762 v1766 v1805 v1807 v1809 v1811 v1813 v1817 v1819 k0_hw67 k0_hw61 k0_hw62 k0_hw65 k0_hw66 k0_hw63 k0_hw64) := rfl

set_option maxRecDepth 100000 in
theorem part41_eq (v1762 : Vec F S16 .f32) (v1766 : Vec F S16 .f32) (v1805 : IVec S16 32) (k0_hw67 : k0_chk67 v1805) (c1_i32_497 : BitVec 32)
    (T : Best F → FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part41 i arg2 harg2 arg3 harg3 arg4 harg4 arg5 harg5 arg6 harg6 arg7 harg7 v4_r0 v12_r1 v12_r2 v1762 v1766 v1805 c1_i32_497 >>= fun ⟨v1807, k0_hw61, v1809, k0_hw62, v1811, k0_hw65, v1813, k0_hw66, v1817, k0_hw63, v1819, k0_hw64, v1834, v1844, v1845, c5_i32_511⟩ => do
      have v1846 : IVec S16 32 := broadcast S16 c5_i32_511
      have v1847 : IVec S16 32 := select v1844 v1846 v1834
      T (v1845, v1847) v1762 v1766 v1805 v1807 v1809 v1811 v1813 v1817 v1819 k0_hw67 k0_hw61 k0_hw62 k0_hw65 k0_hw66 k0_hw63 k0_hw64) = (do
      have v1806 : IVec S16 32 := broadcast S16 c1_i32_497
      have v1807 : IVec S16 32 := addi v1805 v1806
      have k0_hw61 : k0_chk61 v1807 := (← Prog.lift (TpuEff.assume (k0_chk61 v1807) (k0_chk61.dec v1807))).down
      let c2_i32_498 : BitVec 32 := 2#32
      have v1808 : IVec S16 32 := broadcast S16 c2_i32_498
      have v1809 : IVec S16 32 := addi v1805 v1808
      have k0_hw62 : k0_chk62 v1809 := (← Prog.lift (TpuEff.assume (k0_chk62 v1809) (k0_chk62.dec v1809))).down
      let c3_i32_499 : BitVec 32 := 3#32
      have v1810 : IVec S16 32 := broadcast S16 c3_i32_499
      have v1811 : IVec S16 32 := addi v1805 v1810
      have k0_hw65 : k0_chk65 v1811 := (← Prog.lift (TpuEff.assume (k0_chk65 v1811) (k0_chk65.dec v1811))).down
      let c4_i32_500 : BitVec 32 := 4#32
      have v1812 : IVec S16 32 := broadcast S16 c4_i32_500
      have v1813 : IVec S16 32 := addi v1805 v1812
      have k0_hw66 : k0_chk66 v1813 := (← Prog.lift (TpuEff.assume (k0_chk66 v1813) (k0_chk66.dec v1813))).down
      let c6_i32_502 : BitVec 32 := 6#32
      have v1816 : IVec S16 32 := broadcast S16 c6_i32_502
      have v1817 : IVec S16 32 := addi v1805 v1816
      have k0_hw63 : k0_chk63 v1817 := (← Prog.lift (TpuEff.assume (k0_chk63 v1817) (k0_chk63.dec v1817))).down
      let c7_i32_503 : BitVec 32 := 7#32
      have v1818 : IVec S16 32 := broadcast S16 c7_i32_503
      have v1819 : IVec S16 32 := addi v1805 v1818
      have k0_hw64 : k0_chk64 v1819 := (← Prog.lift (TpuEff.assume (k0_chk64 v1819) (k0_chk64.dec v1819))).down
      let s1 ← probe arg5 v1762 v1766 inb_S20488_S19508_0 inb_S20488_S19508_0 (k0_idx211_inb v1807 k0_hw61) (k0_idx212_inb v1809 k0_hw62) 0#32 start
      let s2 ← probe arg5 v1762 v1766 inb_S20488_S19508_0 inb_S20488_S19508_0 (k0_idx213_inb v1817 k0_hw63) (k0_idx214_inb v1819 k0_hw64) 5#32 s1
      T s2 v1762 v1766 v1805 v1807 v1809 v1811 v1813 v1817 v1819 k0_hw67 k0_hw61 k0_hw62 k0_hw65 k0_hw66 k0_hw63 k0_hw64) := rfl

set_option maxRecDepth 100000 in
theorem part42_eq (v1762 : Vec F S16 .f32) (v1766 : Vec F S16 .f32) (v1805 : IVec S16 32) (k0_hw67 : k0_chk67 v1805) (v1807 : IVec S16 32) (k0_hw61 : k0_chk61 v1807) (v1809 : IVec S16 32) (k0_hw62 : k0_chk62 v1809) (v1811 : IVec S16 32) (k0_hw65 : k0_chk65 v1811) (v1813 : IVec S16 32) (k0_hw66 : k0_chk66 v1813) (v1817 : IVec S16 32) (k0_hw63 : k0_chk63 v1817) (v1819 : IVec S16 32) (k0_hw64 : k0_chk64 v1819) (v1834 : IVec S16 32) (v1844 : IVec S16 1) (v1845 : FVec F S16 .f32) (c5_i32_511 : BitVec 32)
    (T : Best F → TileProg F i (BitVec 32)) :
    (k0_part42 i arg2 harg2 arg3 harg3 arg4 harg4 arg5 harg5 arg6 harg6 arg7 harg7 v4_r0 v12_r1 v12_r2 v1762 v1766 v1805 k0_hw67 v1807 k0_hw61 v1809 k0_hw62 v1811 k0_hw65 v1813 k0_hw66 v1817 k0_hw63 v1819 k0_hw64 v1834 v1844 v1845 c5_i32_511 >>= fun ⟨v1884, v1886, v1893, v1894⟩ => do
      have v1895 : FVec F S16 .f32 := addf v1893 v1894
      have v1896 : IVec S16 1 := cmpf .olt v1895 v1884
      have v1897 : FVec F S16 .f32 := select v1896 v1895 v1884
      let c325_i32_523 : BitVec 32 := 325#32
      have v1898 : IVec S16 32 := broadcast S16 c325_i32_523
      have v1899 : IVec S16 32 := select v1896 v1898 v1886
      T (v1897, v1899)) = (do
      have v1846 : IVec S16 32 := broadcast S16 c5_i32_511
      have v1847 : IVec S16 32 := select v1844 v1846 v1834
      let s1 ← probe arg5 v1762 v1766 inb_S20488_S19508_8 inb_S20488_S19508_8 (k0_idx215_inb v1811 k0_hw65) (k0_idx216_inb v1813 k0_hw66) 10#32 (v1845, v1847)
      let s2 ← probe arg5 v1762 v1766 inb_S20488_S19508_16 inb_S20488_S19508_16 (k0_idx217_inb v1805 k0_hw67) (k0_idx218_inb v1807 k0_hw61) 15#32 s1
      let s3 ← probe arg5 v1762 v1766 inb_S20488_S19508_320 inb_S20488_S19508_320 (k0_idx219_inb v1807 k0_hw61) (k0_idx220_inb v1809 k0_hw62) 320#32 s2
      let s4 ← probe arg5 v1762 v1766 inb_S20488_S19508_320 inb_S20488_S19508_320 (k0_idx221_inb v1817 k0_hw63) (k0_idx222_inb v1819 k0_hw64) 325#32 s3
      T s4) := rfl

set_option maxRecDepth 100000 in
theorem part43_eq (v1762 : Vec F S16 .f32) (v1766 : Vec F S16 .f32) (v1805 : IVec S16 32) (k0_hw67 : k0_chk67 v1805) (v1807 : IVec S16 32) (k0_hw61 : k0_chk61 v1807) (v1809 : IVec S16 32) (k0_hw62 : k0_chk62 v1809) (v1811 : IVec S16 32) (k0_hw65 : k0_chk65 v1811) (v1813 : IVec S16 32) (k0_hw66 : k0_chk66 v1813) (v1817 : IVec S16 32) (k0_hw63 : k0_chk63 v1817) (v1819 : IVec S16 32) (k0_hw64 : k0_chk64 v1819) (v1884 : FVec F S16 .f32) (v1886 : IVec S16 32) (v1893 : FVec F S16 .f32) (v1894 : FVec F S16 .f32)
    (T : Best F → TileProg F i (BitVec 32)) :
    (k0_part43 i arg2 harg2 arg3 harg3 arg4 harg4 arg5 harg5 arg6 harg6 arg7 harg7 v4_r0 v12_r1 v12_r2 v1762 v1766 v1805 k0_hw67 v1807 k0_hw61 v1809 k0_hw62 v1811 k0_hw65 v1813 k0_hw66 v1817 k0_hw63 v1819 k0_hw64 v1884 v1886 v1893 v1894 >>= fun ⟨v1936, v1938, v1940, v1942⟩ => do
      have v1943 : FVec F S16 .f32 := subf v1762 v1940
      have v1944 : FVec F S16 .f32 := subf v1766 v1942
      have v1945 : FVec F S16 .f32 := mulf v1943 v1943
      have v1946 : FVec F S16 .f32 := mulf v1944 v1944
      have v1947 : FVec F S16 .f32 := addf v1945 v1946
      have v1948 : IVec S16 1 := cmpf .olt v1947 v1936
      have v1949 : FVec F S16 .f32 := select v1948 v1947 v1936
      let c645_i32_535 : BitVec 32 := 645#32
      have v1950 : IVec S16 32 := broadcast S16 c645_i32_535
      have v1951 : IVec S16 32 := select v1948 v1950 v1938
      T (v1949, v1951)) = (do
      have v1895 : FVec F S16 .f32 := addf v1893 v1894
      have v1896 : IVec S16 1 := cmpf .olt v1895 v1884
      have v1897 : FVec F S16 .f32 := select v1896 v1895 v1884
      let c325_i32_523 : BitVec 32 := 325#32
      have v1898 : IVec S16 32 := broadcast S16 c325_i32_523
      have v1899 : IVec S16 32 := select v1896 v1898 v1886
      let s1 ← probe arg5 v1762 v1766 inb_S20488_S19508_328 inb_S20488_S19508_328 (k0_idx223_inb v1811 k0_hw65) (k0_idx224_inb v1813 k0_hw66) 330#32 (v1897, v1899)
      let s2 ← probe arg5 v1762 v1766 inb_S20488_S19508_336 inb_S20488_S19508_336 (k0_idx225_inb v1805 k0_hw67) (k0_idx226_inb v1807 k0_hw61) 335#32 s1
      let s3 ← probe arg5 v1762 v1766 inb_S20488_S19508_640 inb_S20488_S19508_640 (k0_idx227_inb v1807 k0_hw61) (k0_idx228_inb v1809 k0_hw62) 640#32 s2
      let s4 ← probe arg5 v1762 v1766 inb_S20488_S19508_640 inb_S20488_S19508_640 (k0_idx229_inb v1817 k0_hw63) (k0_idx230_inb v1819 k0_hw64) 645#32 s3
      T s4) := rfl

set_option maxRecDepth 100000 in
theorem part44_eq (v1762 : Vec F S16 .f32) (v1766 : Vec F S16 .f32) (v1805 : IVec S16 32) (k0_hw67 : k0_chk67 v1805) (v1807 : IVec S16 32) (k0_hw61 : k0_chk61 v1807) (v1809 : IVec S16 32) (k0_hw62 : k0_chk62 v1809) (v1811 : IVec S16 32) (k0_hw65 : k0_chk65 v1811) (v1813 : IVec S16 32) (k0_hw66 : k0_chk66 v1813) (v1817 : IVec S16 32) (k0_hw63 : k0_chk63 v1817) (v1819 : IVec S16 32) (k0_hw64 : k0_chk64 v1819) (v1936 : FVec F S16 .f32) (v1938 : IVec S16 32) (v1940 : Vec F S16 .f32) (v1942 : Vec F S16 .f32)
    (T : Best F → TileProg F i (BitVec 32)) :
    (k0_part44 i arg2 harg2 arg3 harg3 arg4 harg4 arg5 harg5 arg6 harg6 arg7 harg7 v4_r0 v12_r1 v12_r2 v1762 v1766 v1805 k0_hw67 v1807 k0_hw61 v1809 k0_hw62 v1811 k0_hw65 v1813 k0_hw66 v1936 v1938 v1940 v1942 >>= fun ⟨v1988, v1990⟩ => do
      let v1991 : Memref sig .scVector .vmem S19508 .f32 := arg5.slice (Rect.unit (s := S20488) ![960] S19508.size inb_S20488_S19508_960) (fun _ => rfl)
      let v1992 : Vec F S16 .f32 ← SparseCore.vectorLoadIdx v1991 ![v1817] (k0_idx237_inb v1817 k0_hw63) (View.loads_vmem h_S19508)
      let v1993 : Memref sig .scVector .vmem S19508 .f32 := arg5.slice (Rect.unit (s := S20488) ![960] S19508.size inb_S20488_S19508_960) (fun _ => rfl)
      let v1994 : Vec F S16 .f32 ← SparseCore.vectorLoadIdx v1993 ![v1819] (k0_idx238_inb v1819 k0_hw64) (View.loads_vmem h_S19508)
      have v1995 : FVec F S16 .f32 := subf v1762 v1992
      have v1996 : FVec F S16 .f32 := subf v1766 v1994
      have v1997 : FVec F S16 .f32 := mulf v1995 v1995
      have v1998 : FVec F S16 .f32 := mulf v1996 v1996
      have v1999 : FVec F S16 .f32 := addf v1997 v1998
      have v2000 : IVec S16 1 := cmpf .olt v1999 v1988
      have v2001 : FVec F S16 .f32 := select v2000 v1999 v1988
      let c965_i32_547 : BitVec 32 := 965#32
      have v2002 : IVec S16 32 := broadcast S16 c965_i32_547
      have v2003 : IVec S16 32 := select v2000 v2002 v1990
      T (v2001, v2003)) = (do
      have v1943 : FVec F S16 .f32 := subf v1762 v1940
      have v1944 : FVec F S16 .f32 := subf v1766 v1942
      have v1945 : FVec F S16 .f32 := mulf v1943 v1943
      have v1946 : FVec F S16 .f32 := mulf v1944 v1944
      have v1947 : FVec F S16 .f32 := addf v1945 v1946
      have v1948 : IVec S16 1 := cmpf .olt v1947 v1936
      have v1949 : FVec F S16 .f32 := select v1948 v1947 v1936
      let c645_i32_535 : BitVec 32 := 645#32
      have v1950 : IVec S16 32 := broadcast S16 c645_i32_535
      have v1951 : IVec S16 32 := select v1948 v1950 v1938
      let s1 ← probe arg5 v1762 v1766 inb_S20488_S19508_648 inb_S20488_S19508_648 (k0_idx231_inb v1811 k0_hw65) (k0_idx232_inb v1813 k0_hw66) 650#32 (v1949, v1951)
      let s2 ← probe arg5 v1762 v1766 inb_S20488_S19508_656 inb_S20488_S19508_656 (k0_idx233_inb v1805 k0_hw67) (k0_idx234_inb v1807 k0_hw61) 655#32 s1
      let s3 ← probe arg5 v1762 v1766 inb_S20488_S19508_960 inb_S20488_S19508_960 (k0_idx235_inb v1807 k0_hw61) (k0_idx236_inb v1809 k0_hw62) 960#32 s2
      let s4 ← probe arg5 v1762 v1766 inb_S20488_S19508_960 inb_S20488_S19508_960 (k0_idx237_inb v1817 k0_hw63) (k0_idx238_inb v1819 k0_hw64) 965#32 s3
      T s4) := rfl

set_option maxRecDepth 100000 in
theorem part45_eq (k0_t2 : Fin k0_t2_loop.trips) (v1762 : Vec F S16 .f32) (v1766 : Vec F S16 .f32) (v1805 : IVec S16 32) (k0_hw67 : k0_chk67 v1805) (v1807 : IVec S16 32) (k0_hw61 : k0_chk61 v1807) (v1811 : IVec S16 32) (k0_hw65 : k0_chk65 v1811) (v1813 : IVec S16 32) (k0_hw66 : k0_chk66 v1813) (v1817 : IVec S16 32) (k0_hw63 : k0_chk63 v1817) (v1819 : IVec S16 32) (k0_hw64 : k0_chk64 v1819) (v1988 : FVec F S16 .f32) (v1990 : IVec S16 32)
    (T : TileProg F i (BitVec 32)) :
    (k0_part45 i arg2 harg2 arg3 harg3 arg4 harg4 arg5 harg5 arg6 harg6 arg7 harg7 v4_r0 v12_r1 v12_r2 v1762 v1766 v1805 k0_hw67 v1807 k0_hw61 v1811 k0_hw65 v1813 k0_hw66 v1817 k0_hw63 v1819 k0_hw64 v1988 v1990 >>= fun ⟨v2033, v2036, v2038⟩ => do
      have k0_hw70 : k0_chk70 v2038 := (← Prog.lift (TpuEff.assume (k0_chk70 v2038) (k0_chk70.dec v2038))).down
      let v2039 : Vec F S16 .f32 ← SparseCore.vectorLoadIdx arg5 ![v2038] (k0_idx245_inb v2038 k0_hw70) (View.loads_vmem h_S20488)
      let v2042 : Vec F S16 .f32 ← Prog.lift (.load arg7 (Rect.unit (s := S8192) (k0_off28 k0_t2) S16.size (k0_off28_inb k0_t2)).toLoadRect (View.loadsAt_vmem h_S16))
      Prog.lift (.store arg7 (Rect.unit (s := S8192) (k0_off28 k0_t2) S16.size (k0_off28_inb k0_t2)) v2033 Finset.univ (View.stores_vmem_bits_univ h_S16 rfl) (.inl rfl))
      let v2046 : Vec F S16 .f32 ← Prog.lift (.load arg7 (Rect.unit (s := S8192) (k0_off29 k0_t2 128#32) S16.size (k0_off29_inb k0_t2 0)).toLoadRect (View.loadsAt_vmem h_S16))
      Prog.lift (.store arg7 (Rect.unit (s := S8192) (k0_off29 k0_t2 128#32) S16.size (k0_off29_inb k0_t2 0)) v2036 Finset.univ (View.stores_vmem_bits_univ h_S16 rfl) (.inl rfl))
      let v2050 : Vec F S16 .f32 ← Prog.lift (.load arg7 (Rect.unit (s := S8192) (k0_off29 k0_t2 256#32) S16.size (k0_off29_inb k0_t2 1)).toLoadRect (View.loadsAt_vmem h_S16))
      Prog.lift (.store arg7 (Rect.unit (s := S8192) (k0_off29 k0_t2 256#32) S16.size (k0_off29_inb k0_t2 1)) v2039 Finset.univ (View.stores_vmem_bits_univ h_S16 rfl) (.inl rfl))
      T) = (do
      let v1991 : Memref sig .scVector .vmem S19508 .f32 := arg5.slice (Rect.unit (s := S20488) ![960] S19508.size inb_S20488_S19508_960) (fun _ => rfl)
      let v1992 : Vec F S16 .f32 ← SparseCore.vectorLoadIdx v1991 ![v1817] (k0_idx237_inb v1817 k0_hw63) (View.loads_vmem h_S19508)
      let v1993 : Memref sig .scVector .vmem S19508 .f32 := arg5.slice (Rect.unit (s := S20488) ![960] S19508.size inb_S20488_S19508_960) (fun _ => rfl)
      let v1994 : Vec F S16 .f32 ← SparseCore.vectorLoadIdx v1993 ![v1819] (k0_idx238_inb v1819 k0_hw64) (View.loads_vmem h_S19508)
      have v1995 : FVec F S16 .f32 := subf v1762 v1992
      have v1996 : FVec F S16 .f32 := subf v1766 v1994
      have v1997 : FVec F S16 .f32 := mulf v1995 v1995
      have v1998 : FVec F S16 .f32 := mulf v1996 v1996
      have v1999 : FVec F S16 .f32 := addf v1997 v1998
      have v2000 : IVec S16 1 := cmpf .olt v1999 v1988
      have v2001 : FVec F S16 .f32 := select v2000 v1999 v1988
      let c965_i32_547 : BitVec 32 := 965#32
      have v2002 : IVec S16 32 := broadcast S16 c965_i32_547
      have v2003 : IVec S16 32 := select v2000 v2002 v1990
      let s1 ← probe arg5 v1762 v1766 inb_S20488_S19508_968 inb_S20488_S19508_968 (k0_idx239_inb v1811 k0_hw65) (k0_idx240_inb v1813 k0_hw66) 970#32 (v2001, v2003)
      let s2 ← probe arg5 v1762 v1766 inb_S20488_S19508_976 inb_S20488_S19508_976 (k0_idx241_inb v1805 k0_hw67) (k0_idx242_inb v1807 k0_hw61) 975#32 s1
      have v2029 : IVec S16 32 := s2.2
      have v2030 : IVec S16 32 := addi v1805 v2029
      let c3_i32_554 : BitVec 32 := 3#32
      have v2031 : IVec S16 32 := broadcast S16 c3_i32_554
      have v2032 : IVec S16 32 := addi v2030 v2031
      have k0_hw68 : k0_chk68 v2032 := (← Prog.lift (TpuEff.assume (k0_chk68 v2032) (k0_chk68.dec v2032))).down
      let v2033 : Vec F S16 .f32 ← SparseCore.vectorLoadIdx arg5 ![v2032] (k0_idx243_inb v2032 k0_hw68) (View.loads_vmem h_S20488)
      let c4_i32_555 : BitVec 32 := 4#32
      have v2034 : IVec S16 32 := broadcast S16 c4_i32_555
      have v2035 : IVec S16 32 := addi v2030 v2034
      have k0_hw69 : k0_chk69 v2035 := (← Prog.lift (TpuEff.assume (k0_chk69 v2035) (k0_chk69.dec v2035))).down
      let v2036 : Vec F S16 .f32 ← SparseCore.vectorLoadIdx arg5 ![v2035] (k0_idx244_inb v2035 k0_hw69) (View.loads_vmem h_S20488)
      let c5_i32_556 : BitVec 32 := 5#32
      have v2037 : IVec S16 32 := broadcast S16 c5_i32_556
      have v2038 : IVec S16 32 := addi v2030 v2037
      have k0_hw70 : k0_chk70 v2038 := (← Prog.lift (TpuEff.assume (k0_chk70 v2038) (k0_chk70.dec v2038))).down
      let v2039 : Vec F S16 .f32 ← SparseCore.vectorLoadIdx arg5 ![v2038] (k0_idx245_inb v2038 k0_hw70) (View.loads_vmem h_S20488)
      let v2042 : Vec F S16 .f32 ← Prog.lift (.load arg7 (Rect.unit (s := S8192) (k0_off28 k0_t2) S16.size (k0_off28_inb k0_t2)).toLoadRect (View.loadsAt_vmem h_S16))
      Prog.lift (.store arg7 (Rect.unit (s := S8192) (k0_off28 k0_t2) S16.size (k0_off28_inb k0_t2)) v2033 Finset.univ (View.stores_vmem_bits_univ h_S16 rfl) (.inl rfl))
      let v2046 : Vec F S16 .f32 ← Prog.lift (.load arg7 (Rect.unit (s := S8192) (k0_off29 k0_t2 128#32) S16.size (k0_off29_inb k0_t2 0)).toLoadRect (View.loadsAt_vmem h_S16))
      Prog.lift (.store arg7 (Rect.unit (s := S8192) (k0_off29 k0_t2 128#32) S16.size (k0_off29_inb k0_t2 0)) v2036 Finset.univ (View.stores_vmem_bits_univ h_S16 rfl) (.inl rfl))
      let v2050 : Vec F S16 .f32 ← Prog.lift (.load arg7 (Rect.unit (s := S8192) (k0_off29 k0_t2 256#32) S16.size (k0_off29_inb k0_t2 1)).toLoadRect (View.loadsAt_vmem h_S16))
      Prog.lift (.store arg7 (Rect.unit (s := S8192) (k0_off29 k0_t2 256#32) S16.size (k0_off29_inb k0_t2 1)) v2039 Finset.univ (View.stores_vmem_bits_univ h_S16 rfl) (.inl rfl))
      T) := rfl

set_option maxRecDepth 100000 in
theorem part46_eq (k0_t2 : Fin k0_t2_loop.trips) (v12 : BitVec 32) (v13 : BitVec 32) (v2033 : Vec F S16 .f32) (v2036 : Vec F S16 .f32) (v2038 : IVec S16 32)
    (T : FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part46 i arg2 harg2 arg3 harg3 arg4 harg4 arg5 harg5 arg6 harg6 arg7 harg7 v4_r0 v12_r1 v12_r2 k0_t2 v12 v13 v2033 v2036 v2038 >>= fun ⟨v2053, v2057, v2067, v2075, v2077, v2078⟩ => do
      have v2079 : IVec S16 1 := cmpf .oge v2067 v2078
      let c1_i32_572 : BitVec 32 := 1#32
      let c0_i32_573 : BitVec 32 := 0#32
      have v2080 : IVec S16 32 := broadcast S16 c1_i32_572
      have v2081 : IVec S16 32 := broadcast S16 c0_i32_573
      have v2082 : IVec S16 32 := select v2079 v2080 v2081
      have v2083 : IVec S16 32 := addi v2077 v2082
      let c0_i32_574 : BitVec 32 := 0#32
      let c60_i32_575 : BitVec 32 := 60#32
      have v2084 : IVec S16 32 := broadcast S16 c0_i32_574
      have v2085 : IVec S16 32 := maxsi v2084 v2075
      have v2086 : IVec S16 32 := broadcast S16 c60_i32_575
      have v2087 : IVec S16 32 := minsi v2086 v2085
      let c0_i32_576 : BitVec 32 := 0#32
      let c60_i32_577 : BitVec 32 := 60#32
      have v2088 : IVec S16 32 := broadcast S16 c0_i32_576
      have v2089 : IVec S16 32 := maxsi v2088 v2083
      have v2090 : IVec S16 32 := broadcast S16 c60_i32_577
      have v2091 : IVec S16 32 := minsi v2090 v2089
      let c64_i32_578 : BitVec 32 := 64#32
      have v2092 : IVec S16 32 := broadcast S16 c64_i32_578
      have v2093 : IVec S16 32 := muli v2087 v2092
      have v2094 : IVec S16 32 := addi v2093 v2091
      let c5_i32_579 : BitVec 32 := 5#32
      have v2095 : IVec S16 32 := broadcast S16 c5_i32_579
      have v2096 : IVec S16 32 := muli v2094 v2095
      have k0_hw77 : k0_chk77 v2096 := (← Prog.lift (TpuEff.assume (k0_chk77 v2096) (k0_chk77.dec v2096))).down
      let c1_i32_580 : BitVec 32 := 1#32
      have v2097 : IVec S16 32 := broadcast S16 c1_i32_580
      have v2098 : IVec S16 32 := addi v2096 v2097
      have k0_hw71 : k0_chk71 v2098 := (← Prog.lift (TpuEff.assume (k0_chk71 v2098) (k0_chk71.dec v2098))).down
      let c2_i32_581 : BitVec 32 := 2#32
      have v2099 : IVec S16 32 := broadcast S16 c2_i32_581
      have v2100 : IVec S16 32 := addi v2096 v2099
      have k0_hw72 : k0_chk72 v2100 := (← Prog.lift (TpuEff.assume (k0_chk72 v2100) (k0_chk72.dec v2100))).down
      let c3_i32_582 : BitVec 32 := 3#32
      have v2101 : IVec S16 32 := broadcast S16 c3_i32_582
      have v2102 : IVec S16 32 := addi v2096 v2101
      have k0_hw75 : k0_chk75 v2102 := (← Prog.lift (TpuEff.assume (k0_chk75 v2102) (k0_chk75.dec v2102))).down
      let c4_i32_583 : BitVec 32 := 4#32
      have v2103 : IVec S16 32 := broadcast S16 c4_i32_583
      have v2104 : IVec S16 32 := addi v2096 v2103
      have k0_hw76 : k0_chk76 v2104 := (← Prog.lift (TpuEff.assume (k0_chk76 v2104) (k0_chk76.dec v2104))).down
      let c6_i32_585 : BitVec 32 := 6#32
      have v2107 : IVec S16 32 := broadcast S16 c6_i32_585
      have v2108 : IVec S16 32 := addi v2096 v2107
      have k0_hw73 : k0_chk73 v2108 := (← Prog.lift (TpuEff.assume (k0_chk73 v2108) (k0_chk73.dec v2108))).down
      let c7_i32_586 : BitVec 32 := 7#32
      have v2109 : IVec S16 32 := broadcast S16 c7_i32_586
      have v2110 : IVec S16 32 := addi v2096 v2109
      have k0_hw74 : k0_chk74 v2110 := (← Prog.lift (TpuEff.assume (k0_chk74 v2110) (k0_chk74.dec v2110))).down
      T v2053 v2057 v2096 v2098 v2100 v2102 v2104 v2108 v2110 k0_hw77 k0_hw71 k0_hw72 k0_hw75 k0_hw76 k0_hw73 k0_hw74) = (do
      have k0_hw70 : k0_chk70 v2038 := (← Prog.lift (TpuEff.assume (k0_chk70 v2038) (k0_chk70.dec v2038))).down
      let v2039 : Vec F S16 .f32 ← SparseCore.vectorLoadIdx arg5 ![v2038] (k0_idx245_inb v2038 k0_hw70) (View.loads_vmem h_S20488)
      let v2042 : Vec F S16 .f32 ← Prog.lift (.load arg7 (Rect.unit (s := S8192) (k0_off28 k0_t2) S16.size (k0_off28_inb k0_t2)).toLoadRect (View.loadsAt_vmem h_S16))
      Prog.lift (.store arg7 (Rect.unit (s := S8192) (k0_off28 k0_t2) S16.size (k0_off28_inb k0_t2)) v2033 Finset.univ (View.stores_vmem_bits_univ h_S16 rfl) (.inl rfl))
      let v2046 : Vec F S16 .f32 ← Prog.lift (.load arg7 (Rect.unit (s := S8192) (k0_off29 k0_t2 128#32) S16.size (k0_off29_inb k0_t2 0)).toLoadRect (View.loadsAt_vmem h_S16))
      Prog.lift (.store arg7 (Rect.unit (s := S8192) (k0_off29 k0_t2 128#32) S16.size (k0_off29_inb k0_t2 0)) v2036 Finset.univ (View.stores_vmem_bits_univ h_S16 rfl) (.inl rfl))
      let v2050 : Vec F S16 .f32 ← Prog.lift (.load arg7 (Rect.unit (s := S8192) (k0_off29 k0_t2 256#32) S16.size (k0_off29_inb k0_t2 1)).toLoadRect (View.loadsAt_vmem h_S16))
      Prog.lift (.store arg7 (Rect.unit (s := S8192) (k0_off29 k0_t2 256#32) S16.size (k0_off29_inb k0_t2 1)) v2039 Finset.univ (View.stores_vmem_bits_univ h_S16 rfl) (.inl rfl))
      let v2053 : Vec F S16 .f32 ← Prog.lift (.load arg6 (Rect.unit (s := S4096) (k0_off30 k0_t2) S16.size (k0_off30_inb k0_t2)).toLoadRect (View.loadsAt_vmem h_S16))
      let v2057 : Vec F S16 .f32 ← Prog.lift (.load arg6 (Rect.unit (s := S4096) (k0_off31 k0_t2) S16.size (k0_off31_inb k0_t2)).toLoadRect (View.loadsAt_vmem h_S16))
      have cst_564 : F .f32 := Scalar.ofBits .f32 0x42800000#32
      have v2058 : FVec F S16 .f32 := broadcast S16 cst_564
      have v2059 : FVec F S16 .f32 := mulf v2053 v2058
      have cst_565 : F .f32 := Scalar.ofBits .f32 0x42800000#32
      have v2060 : FVec F S16 .f32 := broadcast S16 cst_565
      have v2061 : FVec F S16 .f32 := mulf v2057 v2060
      have v2062 : IVec S16 32 := fptosi 32 v2059
      have v2063 : IVec S16 32 := fptosi 32 v2061
      have v2064 : FVec F S16 .f32 := sitofp .f32 v2062
      have v2065 : FVec F S16 .f32 := subf v2059 v2064
      have v2066 : FVec F S16 .f32 := sitofp .f32 v2063
      have v2067 : FVec F S16 .f32 := subf v2061 v2066
      let c2_i32_566 : BitVec 32 := 2#32
      have v2068 : IVec S16 32 := broadcast S16 c2_i32_566
      have v2069 : IVec S16 32 := subi v2062 v2068
      have cst_567 : F .f32 := Scalar.ofBits .f32 0x3F000000#32
      have v2070 : FVec F S16 .f32 := broadcast S16 cst_567
      have v2071 : IVec S16 1 := cmpf .oge v2065 v2070
      let c1_i32_568 : BitVec 32 := 1#32
      let c0_i32_569 : BitVec 32 := 0#32
      have v2072 : IVec S16 32 := broadcast S16 c1_i32_568
      have v2073 : IVec S16 32 := broadcast S16 c0_i32_569
      have v2074 : IVec S16 32 := select v2071 v2072 v2073
      have v2075 : IVec S16 32 := addi v2069 v2074
      let c2_i32_570 : BitVec 32 := 2#32
      have v2076 : IVec S16 32 := broadcast S16 c2_i32_570
      have v2077 : IVec S16 32 := subi v2063 v2076
      have cst_571 : F .f32 := Scalar.ofBits .f32 0x3F000000#32
      have v2078 : FVec F S16 .f32 := broadcast S16 cst_571
      have v2079 : IVec S16 1 := cmpf .oge v2067 v2078
      let c1_i32_572 : BitVec 32 := 1#32
      let c0_i32_573 : BitVec 32 := 0#32
      have v2080 : IVec S16 32 := broadcast S16 c1_i32_572
      have v2081 : IVec S16 32 := broadcast S16 c0_i32_573
      have v2082 : IVec S16 32 := select v2079 v2080 v2081
      have v2083 : IVec S16 32 := addi v2077 v2082
      let c0_i32_574 : BitVec 32 := 0#32
      let c60_i32_575 : BitVec 32 := 60#32
      have v2084 : IVec S16 32 := broadcast S16 c0_i32_574
      have v2085 : IVec S16 32 := maxsi v2084 v2075
      have v2086 : IVec S16 32 := broadcast S16 c60_i32_575
      have v2087 : IVec S16 32 := minsi v2086 v2085
      let c0_i32_576 : BitVec 32 := 0#32
      let c60_i32_577 : BitVec 32 := 60#32
      have v2088 : IVec S16 32 := broadcast S16 c0_i32_576
      have v2089 : IVec S16 32 := maxsi v2088 v2083
      have v2090 : IVec S16 32 := broadcast S16 c60_i32_577
      have v2091 : IVec S16 32 := minsi v2090 v2089
      let c64_i32_578 : BitVec 32 := 64#32
      have v2092 : IVec S16 32 := broadcast S16 c64_i32_578
      have v2093 : IVec S16 32 := muli v2087 v2092
      have v2094 : IVec S16 32 := addi v2093 v2091
      let c5_i32_579 : BitVec 32 := 5#32
      have v2095 : IVec S16 32 := broadcast S16 c5_i32_579
      have v2096 : IVec S16 32 := muli v2094 v2095
      have k0_hw77 : k0_chk77 v2096 := (← Prog.lift (TpuEff.assume (k0_chk77 v2096) (k0_chk77.dec v2096))).down
      let c1_i32_580 : BitVec 32 := 1#32
      have v2097 : IVec S16 32 := broadcast S16 c1_i32_580
      have v2098 : IVec S16 32 := addi v2096 v2097
      have k0_hw71 : k0_chk71 v2098 := (← Prog.lift (TpuEff.assume (k0_chk71 v2098) (k0_chk71.dec v2098))).down
      let c2_i32_581 : BitVec 32 := 2#32
      have v2099 : IVec S16 32 := broadcast S16 c2_i32_581
      have v2100 : IVec S16 32 := addi v2096 v2099
      have k0_hw72 : k0_chk72 v2100 := (← Prog.lift (TpuEff.assume (k0_chk72 v2100) (k0_chk72.dec v2100))).down
      let c3_i32_582 : BitVec 32 := 3#32
      have v2101 : IVec S16 32 := broadcast S16 c3_i32_582
      have v2102 : IVec S16 32 := addi v2096 v2101
      have k0_hw75 : k0_chk75 v2102 := (← Prog.lift (TpuEff.assume (k0_chk75 v2102) (k0_chk75.dec v2102))).down
      let c4_i32_583 : BitVec 32 := 4#32
      have v2103 : IVec S16 32 := broadcast S16 c4_i32_583
      have v2104 : IVec S16 32 := addi v2096 v2103
      have k0_hw76 : k0_chk76 v2104 := (← Prog.lift (TpuEff.assume (k0_chk76 v2104) (k0_chk76.dec v2104))).down
      let c6_i32_585 : BitVec 32 := 6#32
      have v2107 : IVec S16 32 := broadcast S16 c6_i32_585
      have v2108 : IVec S16 32 := addi v2096 v2107
      have k0_hw73 : k0_chk73 v2108 := (← Prog.lift (TpuEff.assume (k0_chk73 v2108) (k0_chk73.dec v2108))).down
      let c7_i32_586 : BitVec 32 := 7#32
      have v2109 : IVec S16 32 := broadcast S16 c7_i32_586
      have v2110 : IVec S16 32 := addi v2096 v2109
      have k0_hw74 : k0_chk74 v2110 := (← Prog.lift (TpuEff.assume (k0_chk74 v2110) (k0_chk74.dec v2110))).down
      T v2053 v2057 v2096 v2098 v2100 v2102 v2104 v2108 v2110 k0_hw77 k0_hw71 k0_hw72 k0_hw75 k0_hw76 k0_hw73 k0_hw74) := rfl

set_option maxRecDepth 100000 in
theorem part47_eq (v2053 : Vec F S16 .f32) (v2057 : Vec F S16 .f32) (v2067 : FVec F S16 .f32) (v2075 : IVec S16 32) (v2077 : IVec S16 32) (v2078 : FVec F S16 .f32)
    (T : Best F → FVec F S16 .f32 → FVec F S16 .f32 → ∀ w0 w1 w2 w3 w4 w6 w7 : IVec S16 32, k0_chk7 w0 → k0_chk1 w1 → k0_chk2 w2 → k0_chk5 w3 → k0_chk6 w4 → k0_chk3 w6 → k0_chk4 w7 → TileProg F i (BitVec 32)) :
    (k0_part47 i arg2 harg2 arg3 harg3 arg4 harg4 arg5 harg5 arg6 harg6 arg7 harg7 v4_r0 v12_r1 v12_r2 v2067 v2075 v2077 v2078 >>= fun ⟨v2096, k0_hw77, v2098, k0_hw71, v2100, k0_hw72, v2102, k0_hw75, v2104, k0_hw76, v2108, k0_hw73, v2110, k0_hw74, v2111, v2112⟩ => do
      let v2113 : Memref sig .scVector .vmem S19508 .f32 := arg5.slice (Rect.unit (s := S20488) ![0] S19508.size inb_S20488_S19508_0) (fun _ => rfl)
      let v2114 : Vec F S16 .f32 ← SparseCore.vectorLoadIdx v2113 ![v2098] (k0_idx246_inb v2098 k0_hw71) (View.loads_vmem h_S19508)
      let v2115 : Memref sig .scVector .vmem S19508 .f32 := arg5.slice (Rect.unit (s := S20488) ![0] S19508.size inb_S20488_S19508_0) (fun _ => rfl)
      let v2116 : Vec F S16 .f32 ← SparseCore.vectorLoadIdx v2115 ![v2100] (k0_idx247_inb v2100 k0_hw72) (View.loads_vmem h_S19508)
      have v2117 : FVec F S16 .f32 := subf v2053 v2114
      have v2118 : FVec F S16 .f32 := subf v2057 v2116
      have v2119 : FVec F S16 .f32 := mulf v2117 v2117
      have v2120 : FVec F S16 .f32 := mulf v2118 v2118
      have v2121 : FVec F S16 .f32 := addf v2119 v2120
      have v2122 : IVec S16 1 := cmpf .olt v2121 v2111
      have v2123 : FVec F S16 .f32 := select v2122 v2121 v2111
      let c0_i32_591 : BitVec 32 := 0#32
      have v2124 : IVec S16 32 := broadcast S16 c0_i32_591
      have v2125 : IVec S16 32 := select v2122 v2124 v2112
      T (v2123, v2125) v2053 v2057 v2096 v2098 v2100 v2102 v2104 v2108 v2110 k0_hw77 k0_hw71 k0_hw72 k0_hw75 k0_hw76 k0_hw73 k0_hw74) = (do
      have v2079 : IVec S16 1 := cmpf .oge v2067 v2078
      let c1_i32_572 : BitVec 32 := 1#32
      let c0_i32_573 : BitVec 32 := 0#32
      have v2080 : IVec S16 32 := broadcast S16 c1_i32_572
      have v2081 : IVec S16 32 := broadcast S16 c0_i32_573
      have v2082 : IVec S16 32 := select v2079 v2080 v2081
      have v2083 : IVec S16 32 := addi v2077 v2082
      let c0_i32_574 : BitVec 32 := 0#32
      let c60_i32_575 : BitVec 32 := 60#32
      have v2084 : IVec S16 32 := broadcast S16 c0_i32_574
      have v2085 : IVec S16 32 := maxsi v2084 v2075
      have v2086 : IVec S16 32 := broadcast S16 c60_i32_575
      have v2087 : IVec S16 32 := minsi v2086 v2085
      let c0_i32_576 : BitVec 32 := 0#32
      let c60_i32_577 : BitVec 32 := 60#32
      have v2088 : IVec S16 32 := broadcast S16 c0_i32_576
      have v2089 : IVec S16 32 := maxsi v2088 v2083
      have v2090 : IVec S16 32 := broadcast S16 c60_i32_577
      have v2091 : IVec S16 32 := minsi v2090 v2089
      let c64_i32_578 : BitVec 32 := 64#32
      have v2092 : IVec S16 32 := broadcast S16 c64_i32_578
      have v2093 : IVec S16 32 := muli v2087 v2092
      have v2094 : IVec S16 32 := addi v2093 v2091
      let c5_i32_579 : BitVec 32 := 5#32
      have v2095 : IVec S16 32 := broadcast S16 c5_i32_579
      have v2096 : IVec S16 32 := muli v2094 v2095
      have k0_hw77 : k0_chk77 v2096 := (← Prog.lift (TpuEff.assume (k0_chk77 v2096) (k0_chk77.dec v2096))).down
      let c1_i32_580 : BitVec 32 := 1#32
      have v2097 : IVec S16 32 := broadcast S16 c1_i32_580
      have v2098 : IVec S16 32 := addi v2096 v2097
      have k0_hw71 : k0_chk71 v2098 := (← Prog.lift (TpuEff.assume (k0_chk71 v2098) (k0_chk71.dec v2098))).down
      let c2_i32_581 : BitVec 32 := 2#32
      have v2099 : IVec S16 32 := broadcast S16 c2_i32_581
      have v2100 : IVec S16 32 := addi v2096 v2099
      have k0_hw72 : k0_chk72 v2100 := (← Prog.lift (TpuEff.assume (k0_chk72 v2100) (k0_chk72.dec v2100))).down
      let c3_i32_582 : BitVec 32 := 3#32
      have v2101 : IVec S16 32 := broadcast S16 c3_i32_582
      have v2102 : IVec S16 32 := addi v2096 v2101
      have k0_hw75 : k0_chk75 v2102 := (← Prog.lift (TpuEff.assume (k0_chk75 v2102) (k0_chk75.dec v2102))).down
      let c4_i32_583 : BitVec 32 := 4#32
      have v2103 : IVec S16 32 := broadcast S16 c4_i32_583
      have v2104 : IVec S16 32 := addi v2096 v2103
      have k0_hw76 : k0_chk76 v2104 := (← Prog.lift (TpuEff.assume (k0_chk76 v2104) (k0_chk76.dec v2104))).down
      let c6_i32_585 : BitVec 32 := 6#32
      have v2107 : IVec S16 32 := broadcast S16 c6_i32_585
      have v2108 : IVec S16 32 := addi v2096 v2107
      have k0_hw73 : k0_chk73 v2108 := (← Prog.lift (TpuEff.assume (k0_chk73 v2108) (k0_chk73.dec v2108))).down
      let c7_i32_586 : BitVec 32 := 7#32
      have v2109 : IVec S16 32 := broadcast S16 c7_i32_586
      have v2110 : IVec S16 32 := addi v2096 v2109
      have k0_hw74 : k0_chk74 v2110 := (← Prog.lift (TpuEff.assume (k0_chk74 v2110) (k0_chk74.dec v2110))).down
      let s1 ← probe arg5 v2053 v2057 inb_S20488_S19508_0 inb_S20488_S19508_0 (k0_idx246_inb v2098 k0_hw71) (k0_idx247_inb v2100 k0_hw72) 0#32 start
      T s1 v2053 v2057 v2096 v2098 v2100 v2102 v2104 v2108 v2110 k0_hw77 k0_hw71 k0_hw72 k0_hw75 k0_hw76 k0_hw73 k0_hw74) := rfl

set_option maxRecDepth 100000 in
theorem part48_eq (v2053 : Vec F S16 .f32) (v2057 : Vec F S16 .f32) (v2096 : IVec S16 32) (k0_hw77 : k0_chk77 v2096) (v2098 : IVec S16 32) (k0_hw71 : k0_chk71 v2098) (v2100 : IVec S16 32) (k0_hw72 : k0_chk72 v2100) (v2102 : IVec S16 32) (k0_hw75 : k0_chk75 v2102) (v2104 : IVec S16 32) (k0_hw76 : k0_chk76 v2104) (v2108 : IVec S16 32) (k0_hw73 : k0_chk73 v2108) (v2110 : IVec S16 32) (k0_hw74 : k0_chk74 v2110) (v2111 : FVec F S16 .f32) (v2112 : IVec S16 32)
    (T : Best F → TileProg F i (BitVec 32)) :
    (k0_part48 i arg2 harg2 arg3 harg3 arg4 harg4 arg5 harg5 arg6 harg6 arg7 harg7 v4_r0 v12_r1 v12_r2 v2053 v2057 v2096 k0_hw77 v2098 k0_hw71 v2100 k0_hw72 v2102 k0_hw75 v2104 k0_hw76 v2108 k0_hw73 v2110 k0_hw74 v2111 v2112 >>= fun ⟨v2151, v2161, v2162, c15_i32_600⟩ => do
      have v2163 : IVec S16 32 := broadcast S16 c15_i32_600
      have v2164 : IVec S16 32 := select v2161 v2163 v2151
      T (v2162, v2164)) = (do
      let v2113 : Memref sig .scVector .vmem S19508 .f32 := arg5.slice (Rect.unit (s := S20488) ![0] S19508.size inb_S20488_S19508_0) (fun _ => rfl)
      let v2114 : Vec F S16 .f32 ← SparseCore.vectorLoadIdx v2113 ![v2098] (k0_idx246_inb v2098 k0_hw71) (View.loads_vmem h_S19508)
      let v2115 : Memref sig .scVector .vmem S19508 .f32 := arg5.slice (Rect.unit (s := S20488) ![0] S19508.size inb_S20488_S19508_0) (fun _ => rfl)
      let v2116 : Vec F S16 .f32 ← SparseCore.vectorLoadIdx v2115 ![v2100] (k0_idx247_inb v2100 k0_hw72) (View.loads_vmem h_S19508)
      have v2117 : FVec F S16 .f32 := subf v2053 v2114
      have v2118 : FVec F S16 .f32 := subf v2057 v2116
      have v2119 : FVec F S16 .f32 := mulf v2117 v2117
      have v2120 : FVec F S16 .f32 := mulf v2118 v2118
      have v2121 : FVec F S16 .f32 := addf v2119 v2120
      have v2122 : IVec S16 1 := cmpf .olt v2121 v2111
      have v2123 : FVec F S16 .f32 := select v2122 v2121 v2111
      let c0_i32_591 : BitVec 32 := 0#32
      have v2124 : IVec S16 32 := broadcast S16 c0_i32_591
      have v2125 : IVec S16 32 := select v2122 v2124 v2112
      let s1 ← probe arg5 v2053 v2057 inb_S20488_S19508_0 inb_S20488_S19508_0 (k0_idx248_inb v2108 k0_hw73) (k0_idx249_inb v2110 k0_hw74) 5#32 (v2123, v2125)
      let s2 ← probe arg5 v2053 v2057 inb_S20488_S19508_8 inb_S20488_S19508_8 (k0_idx250_inb v2102 k0_hw75) (k0_idx251_inb v2104 k0_hw76) 10#32 s1
      let s3 ← probe arg5 v2053 v2057 inb_S20488_S19508_16 inb_S20488_S19508_16 (k0_idx252_inb v2096 k0_hw77) (k0_idx253_inb v2098 k0_hw71) 15#32 s2
      T s3) := rfl

set_option maxRecDepth 100000 in
theorem part49_eq (v2053 : Vec F S16 .f32) (v2057 : Vec F S16 .f32) (v2096 : IVec S16 32) (k0_hw77 : k0_chk77 v2096) (v2098 : IVec S16 32) (k0_hw71 : k0_chk71 v2098) (v2100 : IVec S16 32) (k0_hw72 : k0_chk72 v2100) (v2102 : IVec S16 32) (k0_hw75 : k0_chk75 v2102) (v2104 : IVec S16 32) (k0_hw76 : k0_chk76 v2104) (v2108 : IVec S16 32) (k0_hw73 : k0_chk73 v2108) (v2110 : IVec S16 32) (k0_hw74 : k0_chk74 v2110) (v2151 : IVec S16 32) (v2161 : IVec S16 1) (v2162 : FVec F S16 .f32) (c15_i32_600 : BitVec 32)
    (T : Best F → TileProg F i (BitVec 32)) :
    (k0_part49 i arg2 harg2 arg3 harg3 arg4 harg4 arg5 harg5 arg6 harg6 arg7 harg7 v4_r0 v12_r1 v12_r2 v2053 v2057 v2096 k0_hw77 v2098 k0_hw71 v2100 k0_hw72 v2102 k0_hw75 v2104 k0_hw76 v2108 k0_hw73 v2110 k0_hw74 v2151 v2161 v2162 c15_i32_600 >>= fun ⟨v2201, v2203, v2210, v2211⟩ => do
      have v2212 : FVec F S16 .f32 := addf v2210 v2211
      have v2213 : IVec S16 1 := cmpf .olt v2212 v2201
      have v2214 : FVec F S16 .f32 := select v2213 v2212 v2201
      let c335_i32_612 : BitVec 32 := 335#32
      have v2215 : IVec S16 32 := broadcast S16 c335_i32_612
      have v2216 : IVec S16 32 := select v2213 v2215 v2203
      T (v2214, v2216)) = (do
      have v2163 : IVec S16 32 := broadcast S16 c15_i32_600
      have v2164 : IVec S16 32 := select v2161 v2163 v2151
      let s1 ← probe arg5 v2053 v2057 inb_S20488_S19508_320 inb_S20488_S19508_320 (k0_idx254_inb v2098 k0_hw71) (k0_idx255_inb v2100 k0_hw72) 320#32 (v2162, v2164)
      let s2 ← probe arg5 v2053 v2057 inb_S20488_S19508_320 inb_S20488_S19508_320 (k0_idx256_inb v2108 k0_hw73) (k0_idx257_inb v2110 k0_hw74) 325#32 s1
      let s3 ← probe arg5 v2053 v2057 inb_S20488_S19508_328 inb_S20488_S19508_328 (k0_idx258_inb v2102 k0_hw75) (k0_idx259_inb v2104 k0_hw76) 330#32 s2
      let s4 ← probe arg5 v2053 v2057 inb_S20488_S19508_336 inb_S20488_S19508_336 (k0_idx260_inb v2096 k0_hw77) (k0_idx261_inb v2098 k0_hw71) 335#32 s3
      T s4) := rfl

set_option maxRecDepth 100000 in
theorem part50_eq (v2053 : Vec F S16 .f32) (v2057 : Vec F S16 .f32) (v2096 : IVec S16 32) (k0_hw77 : k0_chk77 v2096) (v2098 : IVec S16 32) (k0_hw71 : k0_chk71 v2098) (v2100 : IVec S16 32) (k0_hw72 : k0_chk72 v2100) (v2102 : IVec S16 32) (k0_hw75 : k0_chk75 v2102) (v2104 : IVec S16 32) (k0_hw76 : k0_chk76 v2104) (v2108 : IVec S16 32) (k0_hw73 : k0_chk73 v2108) (v2110 : IVec S16 32) (k0_hw74 : k0_chk74 v2110) (v2201 : FVec F S16 .f32) (v2203 : IVec S16 32) (v2210 : FVec F S16 .f32) (v2211 : FVec F S16 .f32)
    (T : Best F → TileProg F i (BitVec 32)) :
    (k0_part50 i arg2 harg2 arg3 harg3 arg4 harg4 arg5 harg5 arg6 harg6 arg7 harg7 v4_r0 v12_r1 v12_r2 v2053 v2057 v2096 k0_hw77 v2098 k0_hw71 v2100 k0_hw72 v2102 k0_hw75 v2104 k0_hw76 v2108 k0_hw73 v2110 k0_hw74 v2201 v2203 v2210 v2211 >>= fun ⟨v2253, v2255, v2257, v2259⟩ => do
      have v2260 : FVec F S16 .f32 := subf v2053 v2257
      have v2261 : FVec F S16 .f32 := subf v2057 v2259
      have v2262 : FVec F S16 .f32 := mulf v2260 v2260
      have v2263 : FVec F S16 .f32 := mulf v2261 v2261
      have v2264 : FVec F S16 .f32 := addf v2262 v2263
      have v2265 : IVec S16 1 := cmpf .olt v2264 v2253
      have v2266 : FVec F S16 .f32 := select v2265 v2264 v2253
      let c655_i32_624 : BitVec 32 := 655#32
      have v2267 : IVec S16 32 := broadcast S16 c655_i32_624
      have v2268 : IVec S16 32 := select v2265 v2267 v2255
      T (v2266, v2268)) = (do
      have v2212 : FVec F S16 .f32 := addf v2210 v2211
      have v2213 : IVec S16 1 := cmpf .olt v2212 v2201
      have v2214 : FVec F S16 .f32 := select v2213 v2212 v2201
      let c335_i32_612 : BitVec 32 := 335#32
      have v2215 : IVec S16 32 := broadcast S16 c335_i32_612
      have v2216 : IVec S16 32 := select v2213 v2215 v2203
      let s1 ← probe arg5 v2053 v2057 inb_S20488_S19508_640 inb_S20488_S19508_640 (k0_idx262_inb v2098 k0_hw71) (k0_idx263_inb v2100 k0_hw72) 640#32 (v2214, v2216)
      let s2 ← probe arg5 v2053 v2057 inb_S20488_S19508_640 inb_S20488_S19508_640 (k0_idx264_inb v2108 k0_hw73) (k0_idx265_inb v2110 k0_hw74) 645#32 s1
      let s3 ← probe arg5 v2053 v2057 inb_S20488_S19508_648 inb_S20488_S19508_648 (k0_idx266_inb v2102 k0_hw75) (k0_idx267_inb v2104 k0_hw76) 650#32 s2
      let s4 ← probe arg5 v2053 v2057 inb_S20488_S19508_656 inb_S20488_S19508_656 (k0_idx268_inb v2096 k0_hw77) (k0_idx269_inb v2098 k0_hw71) 655#32 s3
      T s4) := rfl

set_option maxRecDepth 100000 in
theorem part51_eq (v2053 : Vec F S16 .f32) (v2057 : Vec F S16 .f32) (v2096 : IVec S16 32) (k0_hw77 : k0_chk77 v2096) (v2098 : IVec S16 32) (k0_hw71 : k0_chk71 v2098) (v2100 : IVec S16 32) (k0_hw72 : k0_chk72 v2100) (v2102 : IVec S16 32) (k0_hw75 : k0_chk75 v2102) (v2104 : IVec S16 32) (k0_hw76 : k0_chk76 v2104) (v2108 : IVec S16 32) (k0_hw73 : k0_chk73 v2108) (v2110 : IVec S16 32) (k0_hw74 : k0_chk74 v2110) (v2253 : FVec F S16 .f32) (v2255 : IVec S16 32) (v2257 : Vec F S16 .f32) (v2259 : Vec F S16 .f32)
    (T : Best F → TileProg F i (BitVec 32)) :
    (k0_part51 i arg2 harg2 arg3 harg3 arg4 harg4 arg5 harg5 arg6 harg6 arg7 harg7 v4_r0 v12_r1 v12_r2 v2053 v2057 v2098 k0_hw71 v2100 k0_hw72 v2102 k0_hw75 v2104 k0_hw76 v2108 k0_hw73 v2110 k0_hw74 v2253 v2255 v2257 v2259 >>= fun ⟨v2305, v2307⟩ => do
      let v2308 : Memref sig .scVector .vmem S19508 .f32 := arg5.slice (Rect.unit (s := S20488) ![976] S19508.size inb_S20488_S19508_976) (fun _ => rfl)
      let v2309 : Vec F S16 .f32 ← SparseCore.vectorLoadIdx v2308 ![v2096] (k0_idx276_inb v2096 k0_hw77) (View.loads_vmem h_S19508)
      let c976_i32_635 : BitVec 32 := 976#32
      let v2310 : Memref sig .scVector .vmem S19508 .f32 := arg5.slice (Rect.unit (s := S20488) ![976] S19508.size inb_S20488_S19508_976) (fun _ => rfl)
      let v2311 : Vec F S16 .f32 ← SparseCore.vectorLoadIdx v2310 ![v2098] (k0_idx277_inb v2098 k0_hw71) (View.loads_vmem h_S19508)
      have v2312 : FVec F S16 .f32 := subf v2053 v2309
      have v2313 : FVec F S16 .f32 := subf v2057 v2311
      have v2314 : FVec F S16 .f32 := mulf v2312 v2312
      have v2315 : FVec F S16 .f32 := mulf v2313 v2313
      have v2316 : FVec F S16 .f32 := addf v2314 v2315
      T (closer v2316 975#32 (v2305, v2307))) = (do
      have v2260 : FVec F S16 .f32 := subf v2053 v2257
      have v2261 : FVec F S16 .f32 := subf v2057 v2259
      have v2262 : FVec F S16 .f32 := mulf v2260 v2260
      have v2263 : FVec F S16 .f32 := mulf v2261 v2261
      have v2264 : FVec F S16 .f32 := addf v2262 v2263
      have v2265 : IVec S16 1 := cmpf .olt v2264 v2253
      have v2266 : FVec F S16 .f32 := select v2265 v2264 v2253
      let c655_i32_624 : BitVec 32 := 655#32
      have v2267 : IVec S16 32 := broadcast S16 c655_i32_624
      have v2268 : IVec S16 32 := select v2265 v2267 v2255
      let s1 ← probe arg5 v2053 v2057 inb_S20488_S19508_960 inb_S20488_S19508_960 (k0_idx270_inb v2098 k0_hw71) (k0_idx271_inb v2100 k0_hw72) 960#32 (v2266, v2268)
      let s2 ← probe arg5 v2053 v2057 inb_S20488_S19508_960 inb_S20488_S19508_960 (k0_idx272_inb v2108 k0_hw73) (k0_idx273_inb v2110 k0_hw74) 965#32 s1
      let s3 ← probe arg5 v2053 v2057 inb_S20488_S19508_968 inb_S20488_S19508_968 (k0_idx274_inb v2102 k0_hw75) (k0_idx275_inb v2104 k0_hw76) 970#32 s2
      let s4 ← probe arg5 v2053 v2057 inb_S20488_S19508_976 inb_S20488_S19508_976 (k0_idx276_inb v2096 k0_hw77) (k0_idx277_inb v2098 k0_hw71) 975#32 s3
      T s4) := rfl

end Cert.Proof

end
-- ==== Proof.Body.lean ====
module

public import proofs.«01_k».proof.Proof.Parts1
public import proofs.«01_k».proof.Proof.Parts2
public import proofs.«01_k».proof.Proof.Gen.KernelIdeal.Skeleton

/-! # A trip of the inner loop is eight steps

Put together, the parts say that the printed trip handles a block of 128 queries in eight steps of sixteen. -/

@[expose] public section

noncomputable section

namespace Cert.Proof

open Idealize.ShloMosaic Idealize.SL.Sem
open Cert.KernelIdeal Cert.KernelIdeal.Gen

variable {F : FTy → Type} [FloatOps F]

/-- If a part followed by `g` is `R`, and what follows the part is `g`, then the whole is `R`. -/
theorem piece {i : grid0.Coords} {α β γ : Type} {p : TileProg F i α} {f : α → TileProg F i β} {K : β → TileProg F i γ} {g : α → TileProg F i γ}
    {R : TileProg F i γ} (hp : p >>= g = R) (h : ∀ r, f r >>= K = g r) : (p >>= f) >>= K = R := by
  rw [bind_assoc, ← hp]; exact congrArg _ (funext h)

set_option maxRecDepth 100000 in
/-- The printed trip of the inner loop is eight steps. -/
theorem body_eq (i : grid0.Coords) (arg2 : Memref sig .scVector .hbm S524288 .f32) (harg2 : arg2.IsWhole) (arg3 : Memref sig .scVector .hbm S20481 .f32) (harg3 : arg3.IsWhole) (arg4 : Memref sig .scVector .hbm S1048576 .f32) (harg4 : arg4.IsWhole) (arg5 : Memref sig .scVector .vmem S20488 .f32) (harg5 : arg5.IsWhole) (arg6 : Memref sig .scVector .vmem S4096 .f32) (harg6 : arg6.IsWhole) (arg7 : Memref sig .scVector .vmem S8192 .f32) (harg7 : arg7.IsWhole) (v4_r0 : DmaSems sig S_) (v12_r1 : DmaSems sig S_) (v12_r2 : DmaSems sig S_)  (k : Fin k0_t2_loop.trips) (v : BitVec 32) :
    k0_t2_body (F := F) i arg2 harg2 arg3 harg3 arg4 harg4 arg5 harg5 arg6 harg6 arg7 harg7 v4_r0 v12_r1 v12_r2 k v = block arg5 arg6 arg7 k := by
  show (k0_part52 (F := F) i arg2 harg2 arg3 harg3 arg4 harg4 arg5 harg5 arg6 harg6 arg7 harg7 v4_r0 v12_r1 v12_r2 0#32 1#32 k >>= _) = _
  unfold k0_part52 block
  refine piece (part1_eq (F := F) i arg2 harg2 arg3 harg3 arg4 harg4 arg5 harg5 arg6 harg6 arg7 harg7 v4_r0 v12_r1 v12_r2 0#32 1#32 k  (fun qx qy _ _ _ _ _ _ _ h0 h1 h2 h3 h4 h6 h7 => tail0 arg5 arg7 (k0_off4_inb k) (k0_off5_inb k 0) (k0_off5_inb k 1) qx qy h0 h1 h2 h3 h4 h6 h7 (unit arg5 arg6 arg7 (k0_off6_inb k) (k0_off7_inb k) (k0_off8_inb k) (k0_off9_inb k 0) (k0_off9_inb k 1) <| unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨v12, v13, v16, v20, v46, v50, c60_i32_20, v51⟩
  refine piece (part2_eq (F := F) i arg2 harg2 arg3 harg3 arg4 harg4 arg5 harg5 arg6 harg6 arg7 harg7 v4_r0 v12_r1 v12_r2 v16 v20 v46 v50 c60_i32_20 v51 (fun s qx qy _ _ _ _ _ _ _ h0 h1 h2 h3 h4 h6 h7 => tail2 arg5 arg7 (k0_off4_inb k) (k0_off5_inb k 0) (k0_off5_inb k 1) qx qy h0 h1 h2 h3 h4 h6 h7 (unit arg5 arg6 arg7 (k0_off6_inb k) (k0_off7_inb k) (k0_off8_inb k) (k0_off9_inb k 0) (k0_off9_inb k 1) <| unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) s)) ?_
  rintro ⟨v59, k0_hw7, v61, k0_hw1, v63, k0_hw2, v65, k0_hw5, v67, k0_hw6, v71, k0_hw3, v73, k0_hw4, v86, v88⟩
  refine piece (part3_eq (F := F) i arg2 harg2 arg3 harg3 arg4 harg4 arg5 harg5 arg6 harg6 arg7 harg7 v4_r0 v12_r1 v12_r2 v16 v20 v59 k0_hw7 v61 k0_hw1 v63 k0_hw2 v65 k0_hw5 v67 k0_hw6 v71 k0_hw3 v73 k0_hw4 v86 v88 (tail5 arg5 arg7 (k0_off4_inb k) (k0_off5_inb k 0) (k0_off5_inb k 1) v16 v20 k0_hw7 k0_hw1 k0_hw2 k0_hw5 k0_hw6 k0_hw3 k0_hw4 (unit arg5 arg6 arg7 (k0_off6_inb k) (k0_off7_inb k) (k0_off8_inb k) (k0_off9_inb k 0) (k0_off9_inb k 1) <| unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v127, v137, v138, c320_i32_37⟩
  refine piece (part4_eq (F := F) i arg2 harg2 arg3 harg3 arg4 harg4 arg5 harg5 arg6 harg6 arg7 harg7 v4_r0 v12_r1 v12_r2 v16 v20 v59 k0_hw7 v61 k0_hw1 v63 k0_hw2 v65 k0_hw5 v67 k0_hw6 v71 k0_hw3 v73 k0_hw4 v127 v137 v138 c320_i32_37 (tail9 arg5 arg7 (k0_off4_inb k) (k0_off5_inb k 0) (k0_off5_inb k 1) v16 v20 k0_hw7 k0_hw1 k0_hw2 k0_hw5 k0_hw6 k0_hw3 k0_hw4 (unit arg5 arg6 arg7 (k0_off6_inb k) (k0_off7_inb k) (k0_off8_inb k) (k0_off9_inb k 0) (k0_off9_inb k 1) <| unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v177, v179, v186, v187⟩
  refine piece (part5_eq (F := F) i arg2 harg2 arg3 harg3 arg4 harg4 arg5 harg5 arg6 harg6 arg7 harg7 v4_r0 v12_r1 v12_r2 v16 v20 v59 k0_hw7 v61 k0_hw1 v63 k0_hw2 v65 k0_hw5 v67 k0_hw6 v71 k0_hw3 v73 k0_hw4 v177 v179 v186 v187 (tail13 arg5 arg7 (k0_off4_inb k) (k0_off5_inb k 0) (k0_off5_inb k 1) v16 v20 k0_hw7 k0_hw1 k0_hw2 k0_hw5 k0_hw6 k0_hw3 k0_hw4 (unit arg5 arg6 arg7 (k0_off6_inb k) (k0_off7_inb k) (k0_off8_inb k) (k0_off9_inb k 0) (k0_off9_inb k 1) <| unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v229, v231, v233, v235⟩
  refine piece (part6_eq (F := F) i arg2 harg2 arg3 harg3 arg4 harg4 arg5 harg5 arg6 harg6 arg7 harg7 v4_r0 v12_r1 v12_r2 k v16 v20 v59 k0_hw7 v61 k0_hw1 v65 k0_hw5 v67 k0_hw6 v71 k0_hw3 v73 k0_hw4 v229 v231 v233 v235 (unit arg5 arg6 arg7 (k0_off6_inb k) (k0_off7_inb k) (k0_off8_inb k) (k0_off9_inb k 0) (k0_off9_inb k 1) <| unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32)) ?_
  rintro ⟨v284, c3_i32_54⟩
  refine piece (part7_eq (F := F) i arg2 harg2 arg3 harg3 arg4 harg4 arg5 harg5 arg6 harg6 arg7 harg7 v4_r0 v12_r1 v12_r2 k v12 v13 v284 c3_i32_54 (fun qx qy _ _ _ _ _ _ _ h0 h1 h2 h3 h4 h6 h7 => tail0 arg5 arg7 (k0_off8_inb k) (k0_off9_inb k 0) (k0_off9_inb k 1) qx qy h0 h1 h2 h3 h4 h6 h7 (unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨v307, v311, v317, v319, v321, v323, v324⟩
  refine piece (part8_eq (F := F) i arg2 harg2 arg3 harg3 arg4 harg4 arg5 harg5 arg6 harg6 arg7 harg7 v4_r0 v12_r1 v12_r2 v307 v311 v317 v319 v321 v323 v324 (fun qx qy _ _ _ _ _ _ _ h0 h1 h2 h3 h4 h6 h7 => tail0 arg5 arg7 (k0_off8_inb k) (k0_off9_inb k 0) (k0_off9_inb k 1) qx qy h0 h1 h2 h3 h4 h6 h7 (unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨v350, k0_hw17, v352, k0_hw11, v354, k0_hw12, v356, k0_hw15, v358, k0_hw16, v361⟩
  refine piece (part9_eq (F := F) i arg2 harg2 arg3 harg3 arg4 harg4 arg5 harg5 arg6 harg6 arg7 harg7 v4_r0 v12_r1 v12_r2 v307 v311 v350 k0_hw17 v352 k0_hw11 v354 k0_hw12 v356 k0_hw15 v358 k0_hw16 v361 (fun s qx qy _ _ _ _ _ _ _ h0 h1 h2 h3 h4 h6 h7 => tail4 arg5 arg7 (k0_off8_inb k) (k0_off9_inb k 0) (k0_off9_inb k 1) qx qy h0 h1 h2 h3 h4 h6 h7 (unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) s)) ?_
  rintro ⟨v362, k0_hw13, v364, k0_hw14, v403, v405⟩
  refine piece (part10_eq (F := F) i arg2 harg2 arg3 harg3 arg4 harg4 arg5 harg5 arg6 harg6 arg7 harg7 v4_r0 v12_r1 v12_r2 v307 v311 v350 k0_hw17 v352 k0_hw11 v354 k0_hw12 v356 k0_hw15 v358 k0_hw16 v362 k0_hw13 v364 k0_hw14 v403 v405 (tail7 arg5 arg7 (k0_off8_inb k) (k0_off9_inb k 0) (k0_off9_inb k 1) v307 v311 k0_hw17 k0_hw11 k0_hw12 k0_hw15 k0_hw16 k0_hw13 k0_hw14 (unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v444, v454, v455, c330_i32_110⟩
  refine piece (part11_eq (F := F) i arg2 harg2 arg3 harg3 arg4 harg4 arg5 harg5 arg6 harg6 arg7 harg7 v4_r0 v12_r1 v12_r2 v307 v311 v350 k0_hw17 v352 k0_hw11 v354 k0_hw12 v356 k0_hw15 v358 k0_hw16 v362 k0_hw13 v364 k0_hw14 v444 v454 v455 c330_i32_110 (tail11 arg5 arg7 (k0_off8_inb k) (k0_off9_inb k 0) (k0_off9_inb k 1) v307 v311 k0_hw17 k0_hw11 k0_hw12 k0_hw15 k0_hw16 k0_hw13 k0_hw14 (unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v494, v496, v503, v504⟩
  refine piece (part12_eq (F := F) i arg2 harg2 arg3 harg3 arg4 harg4 arg5 harg5 arg6 harg6 arg7 harg7 v4_r0 v12_r1 v12_r2 v307 v311 v350 k0_hw17 v352 k0_hw11 v354 k0_hw12 v356 k0_hw15 v358 k0_hw16 v362 k0_hw13 v364 k0_hw14 v494 v496 v503 v504 (tail15 arg5 arg7 (k0_off8_inb k) (k0_off9_inb k 0) (k0_off9_inb k 1) v307 v311 k0_hw17 k0_hw11 k0_hw12 k0_hw15 k0_hw16 k0_hw13 k0_hw14 (unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v546, v548, v550, v552⟩
  refine piece (part13_eq (F := F) i arg2 harg2 arg3 harg3 arg4 harg4 arg5 harg5 arg6 harg6 arg7 harg7 v4_r0 v12_r1 v12_r2 k v13 v307 v311 v350 k0_hw17 v352 k0_hw11 v546 v548 v550 v552 (unit arg5 arg6 arg7 (k0_off10_inb k) (k0_off11_inb k) (k0_off12_inb k) (k0_off13_inb k 0) (k0_off13_inb k 1) <| unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32)) ?_
  rintro v584
  refine piece (part14_eq (F := F) i arg2 harg2 arg3 harg3 arg4 harg4 arg5 harg5 arg6 harg6 arg7 harg7 v4_r0 v12_r1 v12_r2 k v12 v584 (fun qx qy _ _ _ _ _ _ _ h0 h1 h2 h3 h4 h6 h7 => tail0 arg5 arg7 (k0_off12_inb k) (k0_off13_inb k 0) (k0_off13_inb k 1) qx qy h0 h1 h2 h3 h4 h6 h7 (unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨v598, v602, v632, v636, c64_i32_162⟩
  refine piece (part15_eq (F := F) i arg2 harg2 arg3 harg3 arg4 harg4 arg5 harg5 arg6 harg6 arg7 harg7 v4_r0 v12_r1 v12_r2 v598 v602 v632 v636 c64_i32_162 (fun s qx qy _ _ _ _ _ _ _ h0 h1 h2 h3 h4 h6 h7 => tail2 arg5 arg7 (k0_off12_inb k) (k0_off13_inb k 0) (k0_off13_inb k 1) qx qy h0 h1 h2 h3 h4 h6 h7 (unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) s)) ?_
  rintro ⟨v641, k0_hw27, v643, k0_hw21, v645, k0_hw22, v647, k0_hw25, v649, k0_hw26, v653, k0_hw23, v655, k0_hw24, v668, v670, v672, v674⟩
  refine piece (part16_eq (F := F) i arg2 harg2 arg3 harg3 arg4 harg4 arg5 harg5 arg6 harg6 arg7 harg7 v4_r0 v12_r1 v12_r2 v598 v602 v641 k0_hw27 v643 k0_hw21 v645 k0_hw22 v647 k0_hw25 v649 k0_hw26 v653 k0_hw23 v655 k0_hw24 v668 v670 v672 v674 (tail6 arg5 arg7 (k0_off12_inb k) (k0_off13_inb k 0) (k0_off13_inb k 1) v598 v602 k0_hw27 k0_hw21 k0_hw22 k0_hw25 k0_hw26 k0_hw23 k0_hw24 (unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v720, v722⟩
  refine piece (part17_eq (F := F) i arg2 harg2 arg3 harg3 arg4 harg4 arg5 harg5 arg6 harg6 arg7 harg7 v4_r0 v12_r1 v12_r2 v598 v602 v641 k0_hw27 v643 k0_hw21 v645 k0_hw22 v647 k0_hw25 v649 k0_hw26 v653 k0_hw23 v655 k0_hw24 v720 v722 (tail9 arg5 arg7 (k0_off12_inb k) (k0_off13_inb k 0) (k0_off13_inb k 1) v598 v602 k0_hw27 k0_hw21 k0_hw22 k0_hw25 k0_hw26 k0_hw23 k0_hw24 (unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v761, v771, v772, c640_i32_199⟩
  refine piece (part18_eq (F := F) i arg2 harg2 arg3 harg3 arg4 harg4 arg5 harg5 arg6 harg6 arg7 harg7 v4_r0 v12_r1 v12_r2 v598 v602 v641 k0_hw27 v643 k0_hw21 v645 k0_hw22 v647 k0_hw25 v649 k0_hw26 v653 k0_hw23 v655 k0_hw24 v761 v771 v772 c640_i32_199 (tail13 arg5 arg7 (k0_off12_inb k) (k0_off13_inb k 0) (k0_off13_inb k 1) v598 v602 k0_hw27 k0_hw21 k0_hw22 k0_hw25 k0_hw26 k0_hw23 k0_hw24 (unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v811, v813, v820, v821⟩
  refine piece (part19_eq (F := F) i arg2 harg2 arg3 harg3 arg4 harg4 arg5 harg5 arg6 harg6 arg7 harg7 v4_r0 v12_r1 v12_r2 k v598 v602 v641 k0_hw27 v643 k0_hw21 v647 k0_hw25 v649 k0_hw26 v653 k0_hw23 v655 k0_hw24 v811 v813 v820 v821 (unit arg5 arg6 arg7 (k0_off14_inb k) (k0_off15_inb k) (k0_off16_inb k) (k0_off17_inb k 0) (k0_off17_inb k 1) <| unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32)) ?_
  rintro ⟨v866, v869⟩
  refine piece (part20_eq (F := F) i arg2 harg2 arg3 harg3 arg4 harg4 arg5 harg5 arg6 harg6 arg7 harg7 v4_r0 v12_r1 v12_r2 k v12 v13 v866 v869 (fun qx qy _ _ _ _ _ _ _ h0 h1 h2 h3 h4 h6 h7 => tail0 arg5 arg7 (k0_off16_inb k) (k0_off17_inb k 0) (k0_off17_inb k 1) qx qy h0 h1 h2 h3 h4 h6 h7 (unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨v889, v893, v899, v903, v905, v907, c0_i32_236, v908⟩
  refine piece (part21_eq (F := F) i arg2 harg2 arg3 harg3 arg4 harg4 arg5 harg5 arg6 harg6 arg7 harg7 v4_r0 v12_r1 v12_r2 v889 v893 v899 v903 v905 v907 c0_i32_236 v908 (fun qx qy _ _ _ _ _ _ _ h0 h1 h2 h3 h4 h6 h7 => tail0 arg5 arg7 (k0_off16_inb k) (k0_off17_inb k 0) (k0_off17_inb k 1) qx qy h0 h1 h2 h3 h4 h6 h7 (unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨v932, k0_hw37, v934, k0_hw31, v936, k0_hw32, v938, k0_hw35, v940, k0_hw36, v944, k0_hw33, v945⟩
  refine piece (part22_eq (F := F) i arg2 harg2 arg3 harg3 arg4 harg4 arg5 harg5 arg6 harg6 arg7 harg7 v4_r0 v12_r1 v12_r2 v889 v893 v932 k0_hw37 v934 k0_hw31 v936 k0_hw32 v938 k0_hw35 v940 k0_hw36 v944 k0_hw33 v945 (fun s qx qy _ _ _ _ _ _ _ h0 h1 h2 h3 h4 h6 h7 => tail4 arg5 arg7 (k0_off16_inb k) (k0_off17_inb k 0) (k0_off17_inb k 1) qx qy h0 h1 h2 h3 h4 h6 h7 (unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) s)) ?_
  rintro ⟨v946, k0_hw34, v985, v987, v989, v991⟩
  refine piece (part23_eq (F := F) i arg2 harg2 arg3 harg3 arg4 harg4 arg5 harg5 arg6 harg6 arg7 harg7 v4_r0 v12_r1 v12_r2 v889 v893 v932 k0_hw37 v934 k0_hw31 v936 k0_hw32 v938 k0_hw35 v940 k0_hw36 v944 k0_hw33 v946 k0_hw34 v985 v987 v989 v991 (tail8 arg5 arg7 (k0_off16_inb k) (k0_off17_inb k 0) (k0_off17_inb k 1) v889 v893 k0_hw37 k0_hw31 k0_hw32 k0_hw35 k0_hw36 k0_hw33 k0_hw34 (unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1037, v1039⟩
  refine piece (part24_eq (F := F) i arg2 harg2 arg3 harg3 arg4 harg4 arg5 harg5 arg6 harg6 arg7 harg7 v4_r0 v12_r1 v12_r2 v889 v893 v932 k0_hw37 v934 k0_hw31 v936 k0_hw32 v938 k0_hw35 v940 k0_hw36 v944 k0_hw33 v946 k0_hw34 v1037 v1039 (tail11 arg5 arg7 (k0_off16_inb k) (k0_off17_inb k 0) (k0_off17_inb k 1) v889 v893 k0_hw37 k0_hw31 k0_hw32 k0_hw35 k0_hw36 k0_hw33 k0_hw34 (unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1078, v1088, v1089, c650_i32_288⟩
  refine piece (part25_eq (F := F) i arg2 harg2 arg3 harg3 arg4 harg4 arg5 harg5 arg6 harg6 arg7 harg7 v4_r0 v12_r1 v12_r2 v889 v893 v932 k0_hw37 v934 k0_hw31 v936 k0_hw32 v938 k0_hw35 v940 k0_hw36 v944 k0_hw33 v946 k0_hw34 v1078 v1088 v1089 c650_i32_288 (tail15 arg5 arg7 (k0_off16_inb k) (k0_off17_inb k 0) (k0_off17_inb k 1) v889 v893 k0_hw37 k0_hw31 k0_hw32 k0_hw35 k0_hw36 k0_hw33 k0_hw34 (unit arg5 arg6 arg7 (k0_off18_inb k) (k0_off19_inb k) (k0_off20_inb k) (k0_off21_inb k 0) (k0_off21_inb k 1) <| unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1128, v1130, v1137, v1138⟩
  refine piece (part26_eq (F := F) i arg2 harg2 arg3 harg3 arg4 harg4 arg5 harg5 arg6 harg6 arg7 harg7 v4_r0 v12_r1 v12_r2 k v12 v13 v889 v893 v932 k0_hw37 v934 k0_hw31 v1128 v1130 v1137 v1138 (fun qx qy _ _ _ _ _ _ _ h0 h1 h2 h3 h4 h6 h7 => tail0 arg5 arg7 (k0_off20_inb k) (k0_off21_inb k 0) (k0_off21_inb k 1) qx qy h0 h1 h2 h3 h4 h6 h7 (unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨⟩
  refine piece (part27_eq (F := F) i arg2 harg2 arg3 harg3 arg4 harg4 arg5 harg5 arg6 harg6 arg7 harg7 v4_r0 v12_r1 v12_r2 k v12 (fun qx qy _ _ _ _ _ _ _ h0 h1 h2 h3 h4 h6 h7 => tail0 arg5 arg7 (k0_off20_inb k) (k0_off21_inb k 0) (k0_off21_inb k 1) qx qy h0 h1 h2 h3 h4 h6 h7 (unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨v1180, v1184, v1221, c5_i32_330⟩
  refine piece (part28_eq (F := F) i arg2 harg2 arg3 harg3 arg4 harg4 arg5 harg5 arg6 harg6 arg7 harg7 v4_r0 v12_r1 v12_r2 v1180 v1184 v1221 c5_i32_330 (fun s qx qy _ _ _ _ _ _ _ h0 h1 h2 h3 h4 h6 h7 => tail2 arg5 arg7 (k0_off20_inb k) (k0_off21_inb k 0) (k0_off21_inb k 1) qx qy h0 h1 h2 h3 h4 h6 h7 (unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) s)) ?_
  rintro ⟨v1223, k0_hw47, v1225, k0_hw41, v1227, k0_hw42, v1229, k0_hw45, v1231, k0_hw46, v1235, k0_hw43, v1237, k0_hw44, v1250, v1252, v1259, v1260⟩
  refine piece (part29_eq (F := F) i arg2 harg2 arg3 harg3 arg4 harg4 arg5 harg5 arg6 harg6 arg7 harg7 v4_r0 v12_r1 v12_r2 v1180 v1184 v1223 k0_hw47 v1225 k0_hw41 v1227 k0_hw42 v1229 k0_hw45 v1231 k0_hw46 v1235 k0_hw43 v1237 k0_hw44 v1250 v1252 v1259 v1260 (tail6 arg5 arg7 (k0_off20_inb k) (k0_off21_inb k 0) (k0_off21_inb k 1) v1180 v1184 k0_hw47 k0_hw41 k0_hw42 k0_hw45 k0_hw46 k0_hw43 k0_hw44 (unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1302, v1304, v1306, v1308⟩
  refine piece (part30_eq (F := F) i arg2 harg2 arg3 harg3 arg4 harg4 arg5 harg5 arg6 harg6 arg7 harg7 v4_r0 v12_r1 v12_r2 v1180 v1184 v1223 k0_hw47 v1225 k0_hw41 v1227 k0_hw42 v1229 k0_hw45 v1231 k0_hw46 v1235 k0_hw43 v1237 k0_hw44 v1302 v1304 v1306 v1308 (tail10 arg5 arg7 (k0_off20_inb k) (k0_off21_inb k 0) (k0_off21_inb k 1) v1180 v1184 k0_hw47 k0_hw41 k0_hw42 k0_hw45 k0_hw46 k0_hw43 k0_hw44 (unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1354, v1356⟩
  refine piece (part31_eq (F := F) i arg2 harg2 arg3 harg3 arg4 harg4 arg5 harg5 arg6 harg6 arg7 harg7 v4_r0 v12_r1 v12_r2 v1180 v1184 v1223 k0_hw47 v1225 k0_hw41 v1227 k0_hw42 v1229 k0_hw45 v1231 k0_hw46 v1235 k0_hw43 v1237 k0_hw44 v1354 v1356 (tail13 arg5 arg7 (k0_off20_inb k) (k0_off21_inb k 0) (k0_off21_inb k 1) v1180 v1184 k0_hw47 k0_hw41 k0_hw42 k0_hw45 k0_hw46 k0_hw43 k0_hw44 (unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1395, v1405, v1406, c960_i32_378⟩
  refine piece (part32_eq (F := F) i arg2 harg2 arg3 harg3 arg4 harg4 arg5 harg5 arg6 harg6 arg7 harg7 v4_r0 v12_r1 v12_r2 k v1180 v1184 v1223 k0_hw47 v1225 k0_hw41 v1229 k0_hw45 v1231 k0_hw46 v1235 k0_hw43 v1237 k0_hw44 v1395 v1405 v1406 c960_i32_378 (unit arg5 arg6 arg7 (k0_off22_inb k) (k0_off23_inb k) (k0_off24_inb k) (k0_off25_inb k 0) (k0_off25_inb k 1) <| unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32)) ?_
  rintro ⟨v1448, v1451, v1453, k0_hw49⟩
  refine piece (part33_eq (F := F) i arg2 harg2 arg3 harg3 arg4 harg4 arg5 harg5 arg6 harg6 arg7 harg7 v4_r0 v12_r1 v12_r2 k v12 v13 v1448 v1451 v1453 k0_hw49 (fun qx qy _ _ _ _ _ _ _ h0 h1 h2 h3 h4 h6 h7 => tail0 arg5 arg7 (k0_off24_inb k) (k0_off25_inb k 0) (k0_off25_inb k 1) qx qy h0 h1 h2 h3 h4 h6 h7 (unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) start)) ?_
  rintro ⟨v1471, v1475, v1481, v1485, v1493, c2_i32_404⟩
  refine piece (part34_eq (F := F) i arg2 harg2 arg3 harg3 arg4 harg4 arg5 harg5 arg6 harg6 arg7 harg7 v4_r0 v12_r1 v12_r2 v1471 v1475 v1481 v1485 v1493 c2_i32_404 (fun s qx qy _ _ _ _ _ _ _ h0 h1 h2 h3 h4 h6 h7 => tail1 arg5 arg7 (k0_off24_inb k) (k0_off25_inb k 0) (k0_off25_inb k 1) qx qy h0 h1 h2 h3 h4 h6 h7 (unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32) s)) ?_
  rintro ⟨v1514, k0_hw57, v1516, k0_hw51, v1518, k0_hw52, v1520, k0_hw55, v1522, k0_hw56, v1526, k0_hw53, v1528, k0_hw54, v1529⟩
  refine piece (part35_eq (F := F) i arg2 harg2 arg3 harg3 arg4 harg4 arg5 harg5 arg6 harg6 arg7 harg7 v4_r0 v12_r1 v12_r2 v1471 v1475 v1514 k0_hw57 v1516 k0_hw51 v1518 k0_hw52 v1520 k0_hw55 v1522 k0_hw56 v1526 k0_hw53 v1528 k0_hw54 v1529 (tail4 arg5 arg7 (k0_off24_inb k) (k0_off25_inb k 0) (k0_off25_inb k 1) v1471 v1475 k0_hw57 k0_hw51 k0_hw52 k0_hw55 k0_hw56 k0_hw53 k0_hw54 (unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1567, v1569, v1576, v1577⟩
  refine piece (part36_eq (F := F) i arg2 harg2 arg3 harg3 arg4 harg4 arg5 harg5 arg6 harg6 arg7 harg7 v4_r0 v12_r1 v12_r2 v1471 v1475 v1514 k0_hw57 v1516 k0_hw51 v1518 k0_hw52 v1520 k0_hw55 v1522 k0_hw56 v1526 k0_hw53 v1528 k0_hw54 v1567 v1569 v1576 v1577 (tail8 arg5 arg7 (k0_off24_inb k) (k0_off25_inb k 0) (k0_off25_inb k 1) v1471 v1475 k0_hw57 k0_hw51 k0_hw52 k0_hw55 k0_hw56 k0_hw53 k0_hw54 (unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1619, v1621, v1623, v1625⟩
  refine piece (part37_eq (F := F) i arg2 harg2 arg3 harg3 arg4 harg4 arg5 harg5 arg6 harg6 arg7 harg7 v4_r0 v12_r1 v12_r2 v1471 v1475 v1514 k0_hw57 v1516 k0_hw51 v1518 k0_hw52 v1520 k0_hw55 v1522 k0_hw56 v1526 k0_hw53 v1528 k0_hw54 v1619 v1621 v1623 v1625 (tail12 arg5 arg7 (k0_off24_inb k) (k0_off25_inb k 0) (k0_off25_inb k 1) v1471 v1475 k0_hw57 k0_hw51 k0_hw52 k0_hw55 k0_hw56 k0_hw53 k0_hw54 (unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1671, v1673⟩
  refine piece (part38_eq (F := F) i arg2 harg2 arg3 harg3 arg4 harg4 arg5 harg5 arg6 harg6 arg7 harg7 v4_r0 v12_r1 v12_r2 v1471 v1475 v1514 k0_hw57 v1516 k0_hw51 v1518 k0_hw52 v1520 k0_hw55 v1522 k0_hw56 v1526 k0_hw53 v1528 k0_hw54 v1671 v1673 (tail15 arg5 arg7 (k0_off24_inb k) (k0_off25_inb k 0) (k0_off25_inb k 1) v1471 v1475 k0_hw57 k0_hw51 k0_hw52 k0_hw55 k0_hw56 k0_hw53 k0_hw54 (unit arg5 arg6 arg7 (k0_off26_inb k) (k0_off27_inb k) (k0_off28_inb k) (k0_off29_inb k 0) (k0_off29_inb k 1) <| unit arg5 arg6 arg7 (k0_off30_inb k) (k0_off31_inb k) (k0_off32_inb k) (k0_off33_inb k 0) (k0_off33_inb k 1) <| pure 0#32))) ?_
  rintro ⟨v1712, v1722, v1723, c970_i32_467⟩
  refine piece (part39_eq (F := F) i arg2 harg2 arg3 harg3 arg4 harg4 arg5 harg5 arg6 harg6 arg7 harg7 v4_r0 v12_r1 v12_r2 k v12 v13 v1471 v1475 v1514 k0_hw57 v1516 k0_hw51 v1712 v1722 v1723 c970_i32_467 (fun qx qy _ _ _ _ _ _ _ h0 h1 h2 h3 h4 h6 h7 => tail0 arg5 arg7 (k0_off28_inb k) (k0_off29_inb k 0) (k0_off29_inb k 1) qx qy h0 h1 h2 h3 h4 h6 h7 (unit arg5 arg6 arg7 (k0_off30_inb k) (k0_off31_inb k) (k0_off32_inb k) (k0_off33_inb k 0) (k0_off33_inb k 1) <| pure 0#32) start)) ?_
  rintro ⟨v1762, v1763, c96_i32_480⟩
  refine piece (part40_eq (F := F) i arg2 harg2 arg3 harg3 arg4 harg4 arg5 harg5 arg6 harg6 arg7 harg7 v4_r0 v12_r1 v12_r2 k v1762 v1763 c96_i32_480 (fun qx qy _ _ _ _ _ _ _ h0 h1 h2 h3 h4 h6 h7 => tail0 arg5 arg7 (k0_off28_inb k) (k0_off29_inb k 0) (k0_off29_inb k 1) qx qy h0 h1 h2 h3 h4 h6 h7 (unit arg5 arg6 arg7 (k0_off30_inb k) (k0_off31_inb k) (k0_off32_inb k) (k0_off33_inb k 0) (k0_off33_inb k 1) <| pure 0#32) start)) ?_
  rintro ⟨v1766, v1805, k0_hw67, c1_i32_497⟩
  refine piece (part41_eq (F := F) i arg2 harg2 arg3 harg3 arg4 harg4 arg5 harg5 arg6 harg6 arg7 harg7 v4_r0 v12_r1 v12_r2 v1762 v1766 v1805 k0_hw67 c1_i32_497 (fun s qx qy _ _ _ _ _ _ _ h0 h1 h2 h3 h4 h6 h7 => tail2 arg5 arg7 (k0_off28_inb k) (k0_off29_inb k 0) (k0_off29_inb k 1) qx qy h0 h1 h2 h3 h4 h6 h7 (unit arg5 arg6 arg7 (k0_off30_inb k) (k0_off31_inb k) (k0_off32_inb k) (k0_off33_inb k 0) (k0_off33_inb k 1) <| pure 0#32) s)) ?_
  rintro ⟨v1807, k0_hw61, v1809, k0_hw62, v1811, k0_hw65, v1813, k0_hw66, v1817, k0_hw63, v1819, k0_hw64, v1834, v1844, v1845, c5_i32_511⟩
  refine piece (part42_eq (F := F) i arg2 harg2 arg3 harg3 arg4 harg4 arg5 harg5 arg6 harg6 arg7 harg7 v4_r0 v12_r1 v12_r2 v1762 v1766 v1805 k0_hw67 v1807 k0_hw61 v1809 k0_hw62 v1811 k0_hw65 v1813 k0_hw66 v1817 k0_hw63 v1819 k0_hw64 v1834 v1844 v1845 c5_i32_511 (tail6 arg5 arg7 (k0_off28_inb k) (k0_off29_inb k 0) (k0_off29_inb k 1) v1762 v1766 k0_hw67 k0_hw61 k0_hw62 k0_hw65 k0_hw66 k0_hw63 k0_hw64 (unit arg5 arg6 arg7 (k0_off30_inb k) (k0_off31_inb k) (k0_off32_inb k) (k0_off33_inb k 0) (k0_off33_inb k 1) <| pure 0#32))) ?_
  rintro ⟨v1884, v1886, v1893, v1894⟩
  refine piece (part43_eq (F := F) i arg2 harg2 arg3 harg3 arg4 harg4 arg5 harg5 arg6 harg6 arg7 harg7 v4_r0 v12_r1 v12_r2 v1762 v1766 v1805 k0_hw67 v1807 k0_hw61 v1809 k0_hw62 v1811 k0_hw65 v1813 k0_hw66 v1817 k0_hw63 v1819 k0_hw64 v1884 v1886 v1893 v1894 (tail10 arg5 arg7 (k0_off28_inb k) (k0_off29_inb k 0) (k0_off29_inb k 1) v1762 v1766 k0_hw67 k0_hw61 k0_hw62 k0_hw65 k0_hw66 k0_hw63 k0_hw64 (unit arg5 arg6 arg7 (k0_off30_inb k) (k0_off31_inb k) (k0_off32_inb k) (k0_off33_inb k 0) (k0_off33_inb k 1) <| pure 0#32))) ?_
  rintro ⟨v1936, v1938, v1940, v1942⟩
  refine piece (part44_eq (F := F) i arg2 harg2 arg3 harg3 arg4 harg4 arg5 harg5 arg6 harg6 arg7 harg7 v4_r0 v12_r1 v12_r2 v1762 v1766 v1805 k0_hw67 v1807 k0_hw61 v1809 k0_hw62 v1811 k0_hw65 v1813 k0_hw66 v1817 k0_hw63 v1819 k0_hw64 v1936 v1938 v1940 v1942 (tail14 arg5 arg7 (k0_off28_inb k) (k0_off29_inb k 0) (k0_off29_inb k 1) v1762 v1766 k0_hw67 k0_hw61 k0_hw62 k0_hw65 k0_hw66 k0_hw63 k0_hw64 (unit arg5 arg6 arg7 (k0_off30_inb k) (k0_off31_inb k) (k0_off32_inb k) (k0_off33_inb k 0) (k0_off33_inb k 1) <| pure 0#32))) ?_
  rintro ⟨v1988, v1990⟩
  refine piece (part45_eq (F := F) i arg2 harg2 arg3 harg3 arg4 harg4 arg5 harg5 arg6 harg6 arg7 harg7 v4_r0 v12_r1 v12_r2 k v1762 v1766 v1805 k0_hw67 v1807 k0_hw61 v1811 k0_hw65 v1813 k0_hw66 v1817 k0_hw63 v1819 k0_hw64 v1988 v1990 (unit arg5 arg6 arg7 (k0_off30_inb k) (k0_off31_inb k) (k0_off32_inb k) (k0_off33_inb k 0) (k0_off33_inb k 1) <| pure 0#32)) ?_
  rintro ⟨v2033, v2036, v2038⟩
  refine piece (part46_eq (F := F) i arg2 harg2 arg3 harg3 arg4 harg4 arg5 harg5 arg6 harg6 arg7 harg7 v4_r0 v12_r1 v12_r2 k v12 v13 v2033 v2036 v2038 (fun qx qy _ _ _ _ _ _ _ h0 h1 h2 h3 h4 h6 h7 => tail0 arg5 arg7 (k0_off32_inb k) (k0_off33_inb k 0) (k0_off33_inb k 1) qx qy h0 h1 h2 h3 h4 h6 h7 (pure 0#32) start)) ?_
  rintro ⟨v2053, v2057, v2067, v2075, v2077, v2078⟩
  refine piece (part47_eq (F := F) i arg2 harg2 arg3 harg3 arg4 harg4 arg5 harg5 arg6 harg6 arg7 harg7 v4_r0 v12_r1 v12_r2 v2053 v2057 v2067 v2075 v2077 v2078 (fun s qx qy _ _ _ _ _ _ _ h0 h1 h2 h3 h4 h6 h7 => tail1 arg5 arg7 (k0_off32_inb k) (k0_off33_inb k 0) (k0_off33_inb k 1) qx qy h0 h1 h2 h3 h4 h6 h7 (pure 0#32) s)) ?_
  rintro ⟨v2096, k0_hw77, v2098, k0_hw71, v2100, k0_hw72, v2102, k0_hw75, v2104, k0_hw76, v2108, k0_hw73, v2110, k0_hw74, v2111, v2112⟩
  refine piece (part48_eq (F := F) i arg2 harg2 arg3 harg3 arg4 harg4 arg5 harg5 arg6 harg6 arg7 harg7 v4_r0 v12_r1 v12_r2 v2053 v2057 v2096 k0_hw77 v2098 k0_hw71 v2100 k0_hw72 v2102 k0_hw75 v2104 k0_hw76 v2108 k0_hw73 v2110 k0_hw74 v2111 v2112 (tail4 arg5 arg7 (k0_off32_inb k) (k0_off33_inb k 0) (k0_off33_inb k 1) v2053 v2057 k0_hw77 k0_hw71 k0_hw72 k0_hw75 k0_hw76 k0_hw73 k0_hw74 (pure 0#32))) ?_
  rintro ⟨v2151, v2161, v2162, c15_i32_600⟩
  refine piece (part49_eq (F := F) i arg2 harg2 arg3 harg3 arg4 harg4 arg5 harg5 arg6 harg6 arg7 harg7 v4_r0 v12_r1 v12_r2 v2053 v2057 v2096 k0_hw77 v2098 k0_hw71 v2100 k0_hw72 v2102 k0_hw75 v2104 k0_hw76 v2108 k0_hw73 v2110 k0_hw74 v2151 v2161 v2162 c15_i32_600 (tail8 arg5 arg7 (k0_off32_inb k) (k0_off33_inb k 0) (k0_off33_inb k 1) v2053 v2057 k0_hw77 k0_hw71 k0_hw72 k0_hw75 k0_hw76 k0_hw73 k0_hw74 (pure 0#32))) ?_
  rintro ⟨v2201, v2203, v2210, v2211⟩
  refine piece (part50_eq (F := F) i arg2 harg2 arg3 harg3 arg4 harg4 arg5 harg5 arg6 harg6 arg7 harg7 v4_r0 v12_r1 v12_r2 v2053 v2057 v2096 k0_hw77 v2098 k0_hw71 v2100 k0_hw72 v2102 k0_hw75 v2104 k0_hw76 v2108 k0_hw73 v2110 k0_hw74 v2201 v2203 v2210 v2211 (tail12 arg5 arg7 (k0_off32_inb k) (k0_off33_inb k 0) (k0_off33_inb k 1) v2053 v2057 k0_hw77 k0_hw71 k0_hw72 k0_hw75 k0_hw76 k0_hw73 k0_hw74 (pure 0#32))) ?_
  rintro ⟨v2253, v2255, v2257, v2259⟩
  refine piece (part51_eq (F := F) i arg2 harg2 arg3 harg3 arg4 harg4 arg5 harg5 arg6 harg6 arg7 harg7 v4_r0 v12_r1 v12_r2 v2053 v2057 v2096 k0_hw77 v2098 k0_hw71 v2100 k0_hw72 v2102 k0_hw75 v2104 k0_hw76 v2108 k0_hw73 v2110 k0_hw74 v2253 v2255 v2257 v2259 (tail16 arg5 arg7 (k0_off32_inb k) (k0_off33_inb k 0) (k0_off33_inb k 1) v2053 v2057 k0_hw77 k0_hw71 k0_hw72 k0_hw75 k0_hw76 k0_hw73 k0_hw74 (pure 0#32))) ?_
  rintro ⟨v2305, v2307⟩
  rfl

end Cert.Proof

end
-- ==== Proof.Tile.lean ====
module

public import proofs.«01_k».proof.Proof.Block
public import proofs.«01_k».proof.Proof.Body

/-! # The inner loop

One chunk of 2048 queries is sixteen blocks: after the loop the buffer holds the right answers of the whole chunk. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (i : grid0.Coords)

/-- The inner loop before its trip `n`. -/
def innerInv (tab xq : Nat → F .f32) (t : Buf (Elt F) ((tile d i).loc cc0_scratch0)) (x : Buf (Elt F) ((tile d i).loc cc0_scratch1))
    (n : Nat) (_ : BitVec 32) : sProp (MM F) :=
  iprop(tabPts d i t ∗ inPts d i x ∗ ∃ f, ⌜Done tab xq (8 * n) f⌝ ∗ outPts d i f)

/-- The inner loop: a chunk of 2048 queries. -/
theorem wp_inner (arg2 harg2 arg3 harg3 arg4 harg4) (v4_r0 v12_r1 v12_r2) {α : Type} {tab xq : Nat → F .f32} {t : Buf (Elt F) ((tile d i).loc cc0_scratch0)}
    (ht : Holds tab t) {x : Buf (Elt F) ((tile d i).loc cc0_scratch1)} (hx : ∀ y : S4096.Idx, x y = xq (y 0).val)
    (f : Buf (Elt F) ((tile d i).loc cc0_scratch2)) (k : BitVec 32 → TileProg F i α) (Q : α → sProp (MM F)) :
    iprop(tabPts d i t ∗ inPts d i x ∗ outPts d i f) ⊢
      iprop((∀ v, iprop(tabPts d i t ∗ inPts d i x ∗ ∃ f, ⌜Done tab xq 128 f⌝ ∗ outPts d i f) -∗ WP d i (k v) Q)
        -∗ WP d i (Scf.Loop.for k0_t2_loop k0_t2_ok 0#32 (k0_t2_body i arg2 harg2 arg3 harg3 arg4 harg4 tabM (Memref.isWhole_whole _)
          inM (Memref.isWhole_whole _) outM (Memref.isWhole_whole _) v4_r0 v12_r1 v12_r2) >>= k) Q) := by
  unfold WP
  iintro ⟨Ht, Hx, Hf⟩ Hk
  sl_for (innerInv d i tab xq t x) $$ [Ht Hx Hf]
  case region =>
    intro n v
    have hb := body_eq (F := F) i arg2 harg2 arg3 harg3 arg4 harg4 tabM (Memref.isWhole_whole _)
      inM (Memref.isWhole_whole _) outM (Memref.isWhole_whole _) v4_r0 v12_r1 v12_r2 n v
    refine BIBase.Entails.trans ?_ (Entails.of_eq (congrArg (fun e => WP d i e (innerInv d i tab xq t x (n.val + 1))) hb.symm))
    unfold innerInv
    iintro H
    iapply (wp_block d i n ht hx) $$ H
    iintro H
    iexact H
  · unfold innerInv
    isplitl [Ht]; · iexact Ht
    isplitl [Hx]; · iexact Hx
    iexists f
    isplitr
    · ipureintro
      intro y _ h
      exact absurd h (Nat.not_lt_zero _)
    · iexact Hf
  iintro %v HI
  have htrips : 8 * Scf.trips k0_t2_loop.lb k0_t2_loop.ub k0_t2_loop.st = 128 := by decide
  unfold innerInv
  rw [htrips]
  iapply Hk $$ HI

end Cert.Proof
-- ==== Proof.Chunk.lean ====
module

public import proofs.«01_k».proof.Proof.Tile

/-! # The outer loop

A subcore handles four chunks: it copies a chunk's queries in, searches, and copies the chunk's answers out. Afterwards
its four chunks of the answers are right. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

/-! The rearranged queries, the table and the answers, and a subcore's three buffers: its table, a chunk of queries, a
chunk of answers. -/

abbrev qW : Memref Cert.KernelIdeal.sig Kind.scVector Space.hbm Cert.KernelIdeal.S524288 EltTy.f32 := Memref.whole Cert.KernelIdeal.main_v2_scv
abbrev pW : Memref Cert.KernelIdeal.sig Kind.scVector Space.hbm Cert.KernelIdeal.S20481 EltTy.f32 := Memref.whole Cert.KernelIdeal.main_arg1_scv
abbrev oW : Memref Cert.KernelIdeal.sig Kind.scVector Space.hbm Cert.KernelIdeal.S1048576 EltTy.f32 := Memref.whole Cert.KernelIdeal.main_v3_scv
abbrev tM : Memref Cert.KernelIdeal.sig Kind.scVector Space.vmem Cert.KernelIdeal.S20488 EltTy.f32 := Memref.whole Cert.KernelIdeal.cc0_scratch0
abbrev iM : Memref Cert.KernelIdeal.sig Kind.scVector Space.vmem Cert.KernelIdeal.S4096 EltTy.f32 := Memref.whole Cert.KernelIdeal.cc0_scratch1
abbrev aM : Memref Cert.KernelIdeal.sig Kind.scVector Space.vmem Cert.KernelIdeal.S8192 EltTy.f32 := Memref.whole Cert.KernelIdeal.cc0_scratch2

variable {F : FTy → Type} [FloatOps F]

/-- The table, the rearranged queries, the answers, as locations of device `d`. -/
abbrev pLoc (d : Dev nD) : Loc nD τ sig := (SparseCore.T d).loc main_arg1
abbrev qLoc (d : Dev nD) : Loc nD τ sig := (SparseCore.T d).loc main_v2
abbrev oLoc (d : Dev nD) : Loc nD τ sig := (SparseCore.T d).loc main_v3

/-- What word `n` of the answers must be, unless it belongs to a block's unused fourth channel. -/
def answer (tab xq : Nat → F .f32) (n : Nat) : F .f32 :=
  pick tab (xq (n / 512 * 256 + n % 128)) (xq (n / 512 * 256 + n % 128 + 128)) (n % 512 / 128)

/-- Chunk `n` of the answers: 8192 words. -/
def chunkSet (n : Nat) : Finset S1048576.Idx := Finset.univ.filter fun x => (x 0).val / 8192 = n

/-- Chunk `n` of the answers `f` is right. -/
def Right (tab xq : Nat → F .f32) (n : Nat) (f : S1048576.Idx → F .f32) : Prop :=
  ∀ x : S1048576.Idx, (x 0).val / 8192 = n → (x 0).val % 512 / 128 < 3 → f x = answer tab xq (x 0).val

/-- The number of the subcore at grid coordinates `i` among the thirty-two. -/
def wid (i : grid0.Coords) : Nat := 2 * (i 1).val + (i 0).val

variable (d : Dev nD) (i : grid0.Coords)

/-- The words that the copy of a chunk's answers writes are the chunk. -/
theorem slice_set (k : Fin k0_t1_loop.trips) :
    ((oW).slice (Rect.unit (s := S1048576) (k0_off34 i k) S8192.size (k0_off34_inb i k)) (fun _ => rfl)).view.set = chunkSet (4 * wid i + k.val) := by
  ext x
  have e : k0_off34 i k = ![65536 * (i 1).val + 32768 * (i 0).val + 8192 * k.val] := k0_off34_eq i k
  have h : ((oW).slice (Rect.unit (s := S1048576) (k0_off34 i k) S8192.size (k0_off34_inb i k)) (fun _ => rfl)).view.set
      = (Rect.unit (s := S1048576) (k0_off34 i k) S8192.size (k0_off34_inb i k)).set := by
    simp only [Memref.view_slice, Memref.view_whole, View.set_slice_whole]
  rw [h, Rect.mem_set_unit]
  unfold chunkSet wid
  rw [Finset.mem_filter]
  constructor
  · intro hh
    have := hh 0
    rw [e] at this
    have h2 : 65536 * (i 1).val + 32768 * (i 0).val + 8192 * k.val ≤ (x 0).val ∧ (x 0).val < 65536 * (i 1).val + 32768 * (i 0).val + 8192 * k.val + 8192 := this
    exact ⟨Finset.mem_univ _, by omega⟩
  · rintro ⟨-, hh⟩ a
    fin_cases a
    rw [e]
    show 65536 * (i 1).val + 32768 * (i 0).val + 8192 * k.val ≤ (x 0).val ∧ (x 0).val < 65536 * (i 1).val + 32768 * (i 0).val + 8192 * k.val + 8192
    omega

/-- The subcore's chunk number `c`, once `n` chunks are done. -/
abbrev piece0 (tab xq : Nat → F .f32) (n : Nat) (c : Fin 4) : sProp (MM F) :=
  iprop(∃ f, ⌜c.val < n → Right tab xq (4 * wid i + c.val) f⌝ ∗ oLoc d ↦[chunkSet (4 * wid i + c.val)]{fullShare} f)

/-- The outer loop before its trip `n`. -/
def outerInv (tab xq : Nat → F .f32) (t : Buf (Elt F) ((tile d i).loc cc0_scratch0)) (q : PosShare TreeShare) (X : Buf (Elt F) (qLoc d))
    (O : CellTallies nD τ sig (HIx 1)) (W : Waits sig (HIx 1)) (n : Nat) (_ : BitVec 32) : sProp (MM F) :=
  iprop(Transfers.MayWaits (tile d i) (none : HIx 1) O
    ∗ ((qW).view.loc (tile d i) ↦{q} X)
    ∗ tabPts d i t
    ∗ (∃ x, (iM).view.loc (tile d i) ↦{fullShare} x)
    ∗ (∃ f, (aM).view.loc (tile d i) ↦{fullShare} f)
    ∗ semVal (tile d i, SemLoc.dma cc0_scoped1.sem) 0
    ∗ semVal (tile d i, SemLoc.dma cc0_scoped2.sem) 0
    ∗ (bigSep Finset.univ fun c : Fin 4 => piece0 d i tab xq n c)
    ∗ ∃ W', ⌜∀ p ∈ W', p ∈ W ∨ p.2 = none⌝ ∗ owes (tile d i) O W')

/-- The queries of chunk `n`. -/
def chunkQ (xq : Nat → F .f32) (n : Nat) (m : Nat) : F .f32 := xq (4096 * n + m)

omit [FloatOps F] in
/-- What the copy of a chunk's queries brings. -/
theorem fetched {xq : Nat → F .f32} {X : Buf (Elt F) (qLoc d)} (hX : ∀ y : S524288.Idx, X y = xq (y 0).val) (k : Fin k0_t1_loop.trips)
    (x0 : Buf (Elt F) ((iM).view.loc (tile d i))) (y : S4096.Idx) :
    (iM).view.write (Elt F) x0 (((qW).slice (Rect.unit (s := S524288) (k0_off1 i k) S4096.size (k0_off1_inb i k)) (fun _ => rfl)).view.read (Elt F) X) Finset.univ y
      = chunkQ xq (4 * wid i + k.val) (y 0).val := by
  rw [View.write_whole_univ]
  refine ((View.read_apply _ _).trans (cast_eq _ _)).trans ((hX _).trans (congrArg xq ?_))
  have e : k0_off1 i k = ![32768 * (i 1).val + 16384 * (i 0).val + 4096 * k.val] := k0_off1_eq i k
  show k0_off1 i k 0 + 1 * (y 0).val = _
  rw [e]
  show 32768 * (i 1).val + 16384 * (i 0).val + 4096 * k.val + 1 * (y 0).val = 4096 * (4 * (2 * (i 1).val + (i 0).val) + k.val) + (y 0).val
  omega

omit [FloatOps F] in
/-- A chunk's word by its number among all. -/
theorem chunkQ_eq (xq : Nat → F .f32) (n m l : Nat) (h : 4096 * n + m = l) : chunkQ xq n m = xq l := congrArg xq h

/-- The answers of a chunk, counted from its start. -/
theorem answer_chunk (tab xq : Nat → F .f32) (n Q : Nat) (h : n / 8192 = Q) :
    pick tab (chunkQ xq Q ((n - 8192 * Q) / 512 * 256 + (n - 8192 * Q) % 128)) (chunkQ xq Q ((n - 8192 * Q) / 512 * 256 + (n - 8192 * Q) % 128 + 128))
      ((n - 8192 * Q) % 512 / 128) = answer tab xq n := by
  unfold answer
  rw [chunkQ_eq xq Q _ (n / 512 * 256 + n % 128) (by omega), chunkQ_eq xq Q _ (n / 512 * 256 + n % 128 + 128) (by omega),
    show (n - 8192 * Q) % 512 / 128 = n % 512 / 128 by omega]

/-- What the copy of a chunk's answers leaves. -/
theorem landed {tab xq : Nat → F .f32} (k : Fin k0_t1_loop.trips) (f : S8192.Idx → F .f32)
    (hf : Done tab (chunkQ xq (4 * wid i + k.val)) 128 f) (g : Buf (Elt F) (oLoc d)) :
    Right tab xq (4 * wid i + k.val)
      (((oW).slice (Rect.unit (s := S1048576) (k0_off34 i k) S8192.size (k0_off34_inb i k)) (fun _ => rfl)).view.write (Elt F) g f Finset.univ) := by
  intro x hx hc
  have e : k0_off34 i k = ![65536 * (i 1).val + 32768 * (i 0).val + 8192 * k.val] := k0_off34_eq i k
  have hy : (x 0).val - 8192 * (4 * wid i + k.val) < 8192 := by omega
  let y : S8192.Idx := fun | 0 => ⟨(x 0).val - 8192 * (4 * wid i + k.val), hy⟩
  have hxy : ((oW).slice (Rect.unit (s := S1048576) (k0_off34 i k) S8192.size (k0_off34_inb i k)) (fun _ => rfl)).view.emb y = x := by
    funext a; apply Fin.ext
    fin_cases a
    show k0_off34 i k 0 + 1 * ((x 0).val - 8192 * (4 * wid i + k.val)) = (x 0).val
    rw [e]
    show 65536 * (i 1).val + 32768 * (i 0).val + 8192 * k.val + 1 * ((x 0).val - 8192 * (4 * wid i + k.val)) = (x 0).val
    unfold wid at *
    omega
  have hw := View.write_emb_of_mem (v := ((oW).slice (Rect.unit (s := S1048576) (k0_off34 i k) S8192.size (k0_off34_inb i k)) (fun _ => rfl)).view) (Val := Elt F) g f (M := Finset.univ) (x := y) (Finset.mem_univ _)
  rw [← hxy]
  refine hw.trans ((cast_eq _ _).trans ((hf y ?_ ?_).trans ?_))
  · show ((x 0).val - 8192 * (4 * wid i + k.val)) % 512 / 128 < 3
    omega
  · show ((x 0).val - 8192 * (4 * wid i + k.val)) / 512 * 8 + ((x 0).val - 8192 * (4 * wid i + k.val)) % 128 / 16 < 128
    omega
  · rw [hxy]; exact answer_chunk tab xq _ _ hx

omit [FloatOps F] in
/-- A chunk's answers, held as the copy's target, are held as a part of the whole. -/
theorem answers_back (k : Fin k0_t1_loop.trips) (g : Buf (Elt F) (oLoc d)) (f : S8192.Idx → F .f32) :
    (((oW).slice (Rect.unit (s := S1048576) (k0_off34 i k) S8192.size (k0_off34_inb i k)) (fun _ => rfl)).view.loc (tile d i)
      ↦[((oW).slice (Rect.unit (s := S1048576) (k0_off34 i k) S8192.size (k0_off34_inb i k)) (fun _ => rfl)).view.set]{fullShare}
        (((oW).slice (Rect.unit (s := S1048576) (k0_off34 i k) S8192.size (k0_off34_inb i k)) (fun _ => rfl)).view.writes (Elt F) g
          [⟨Rect.whole (Rect.unit (s := S1048576) (k0_off34 i k) S8192.size (k0_off34_inb i k)).shape, f⟩]) : sProp (MM F))
    = (oLoc d ↦[chunkSet (4 * wid i + k.val)]{fullShare}
        (((oW).slice (Rect.unit (s := S1048576) (k0_off34 i k) S8192.size (k0_off34_inb i k)) (fun _ => rfl)).view.write (Elt F) g f Finset.univ)) := by
  rw [slice_set]
  exact congrArg (fun z => (oLoc d ↦[chunkSet (4 * wid i + k.val)]{fullShare} z : sProp (MM F)))
    (View.write_univ_eq_writes_whole ((oW).slice (Rect.unit (s := S1048576) (k0_off34 i k) S8192.size (k0_off34_inb i k)) (fun _ => rfl)).view g [] f).symm

/-- One trip of the outer loop does one more chunk. -/
theorem wp_chunk (tab xq : Nat → F .f32) {t : Buf (Elt F) ((tile d i).loc cc0_scratch0)} (ht : Holds tab t) (q : PosShare TreeShare)
    {X : Buf (Elt F) (qLoc d)} (hX : ∀ y : S524288.Idx, X y = xq (y 0).val)
    (O : CellTallies nD τ sig (HIx 1)) (W : Waits sig (HIx 1)) (k : Fin k0_t1_loop.trips) (v : BitVec 32) :
    outerInv d i tab xq t q X O W k.val v ⊢
      wp frame (wpE (defs₀ (F := F)) 𝒱₀ (tile d i) none) Set.univ (k0_t1_body i qW (Memref.isWhole_whole _) pW (Memref.isWhole_whole _) oW (Memref.isWhole_whole _)
        tM (Memref.isWhole_whole _) iM (Memref.isWhole_whole _) aM (Memref.isWhole_whole _) cc0_scoped0 cc0_scoped1 cc0_scoped2 k v)
        (outerInv d i tab xq t q X O W (k.val + 1)) := by
  have hk : k.val < 4 := lt_of_lt_of_le k.isLt (by decide)
  unfold outerInv k0_t1_body
  iintro ⟨Hmw, Hq, Ht, ⟨%x0, Hx⟩, ⟨%f0, Hf⟩, Hs1, Hs2, Hp, %W', %hW', HO⟩
  ihave Hp := (Entails.of_eq (SparseCore.bigSep_erase' (Finset.mem_univ (⟨k.val, hk⟩ : Fin 4)))) $$ Hp
  icases Hp with ⟨⟨%g, -, Hg⟩, Hrest⟩
  ihave Hg := (Entails.of_eq (show (oLoc d ↦[chunkSet (4 * wid i + k.val)]{fullShare} g : sProp (MM F))
    = ((oW).slice (Rect.unit (s := S1048576) (k0_off34 i k) S8192.size (k0_off34_inb i k)) (fun _ => rfl)).view.loc (tile d i)
      ↦[((oW).slice (Rect.unit (s := S1048576) (k0_off34 i k) S8192.size (k0_off34_inb i k)) (fun _ => rfl)).view.set]{fullShare} g by rw [slice_set])) $$ Hg
  sl_exec (disch := exact View.amount_pos _ _ (show 0 < S4096.numel by decide))
  iapply (wp_inner d i qW (Memref.isWhole_whole _) pW (Memref.isWhole_whole _) oW (Memref.isWhole_whole _) cc0_scoped0 cc0_scoped1 cc0_scoped2 ht
    (fetched d i hX k x0) f0) $$ [Ht Hx Hf]
  · isplitl [Ht]; · iexact Ht
    isplitl [Hx]; · iexact Hx
    iexact Hf
  iintro %v1 ⟨Ht, Hx, %f1, %hf1, Hf⟩
  unfold WP
  ihave Hf := (Entails.of_eq (show (outPts d i f1 : sProp (MM F)) = ((aM).view.loc (tile d i) ↦{fullShare} f1) from rfl)) $$ Hf
  sl_exec (disch := exact View.amount_pos _ _ (show 0 < S8192.numel by decide))
  ihave Hg := (Entails.of_eq (answers_back d i k g _)) $$ Hg
  rw [wp_ret]; imodintro
  isplitl [Hmw]; · iexact Hmw
  isplitl [Hq]; · iexact Hq
  isplitl [Ht]; · iexact Ht
  isplitl [Hx]; · iexists _; iexact Hx
  isplitl [Hf]; · iexists _; iexact Hf
  isplitl [Hs1]; · iexact Hs1
  isplitl [Hs2]; · iexact Hs2
  isplitl [Hrest Hg]
  · iapply (Entails.of_eq (SparseCore.bigSep_erase' (Finset.mem_univ (⟨k.val, hk⟩ : Fin 4))).symm)
    isplitl [Hg]
    · iexists _; isplitr
      · ipureintro; exact fun _ => landed d i k f1 hf1 g
      · iexact Hg
    · iapply (Entails.of_eq (bigSep_congr (Φ := fun c : Fin 4 => piece0 d i tab xq k.val c) fun c hc => ?_)) $$ Hrest
      have hne : c.val ≠ k.val := fun e => (Finset.mem_erase.mp hc).1 (Fin.ext e)
      have : (c.val < k.val) = (c.val < k.val + 1) := propext ⟨fun h => by omega, fun h => by omega⟩
      unfold piece0
      rw [this]
  iexists (insert (SemLoc.dma cc0_scoped2.sem, (default : HIx 1)) (insert (SemLoc.dma cc0_scoped1.sem, (default : HIx 1)) W')); isplitr
  · ipureintro
    intro p hp
    rcases Finset.mem_insert.mp hp with rfl | hp
    · exact .inr rfl
    rcases Finset.mem_insert.mp hp with rfl | hp
    · exact .inr rfl
    · exact hW' p hp
  · iexact HO

end Cert.Proof
-- ==== Proof.Worker.lean ====
module

public import proofs.«01_k».proof.Proof.Chunk

/-! # A subcore's task

The task copies the table in and runs the outer loop; it leaves the table and the queries as they were, its semaphores
at zero and its chunks of the answers right. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (i : grid0.Coords)

/-- The three semaphores of a subcore's copies. -/
abbrev cell0 : GSem nD τ sig := (tile d i, .dma cc0_scoped0.sem)
abbrev cell1 : GSem nD τ sig := (tile d i, .dma cc0_scoped1.sem)
abbrev cell2 : GSem nD τ sig := (tile d i, .dma cc0_scoped2.sem)

omit [FloatOps F] in
/-- A subcore's semaphores, the three of the copies first. -/
theorem ownSems0_tile :
    (ownSems0 (tile d i) : sProp (MM F))
      = iprop(semVal (cell0 d i) 0 ∗ semVal (cell1 d i) 0 ∗ semVal (cell2 d i) 0
          ∗ bigSep ((((ownCells (tile d i)).erase (cell0 d i)).erase (cell1 d i)).erase (cell2 d i)) fun g => semVal g 0) := by
  unfold SparseCore.Cfg.ownSems0
  rw [SparseCore.bigSep_erase' ((mem_ownCells (g := cell0 d i)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d i)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d i)).mpr ⟨rfl, by show (SemLoc.dma cc0_scoped2.sem : SemLoc sig).isScoped .scVector = true; decide⟩⟩⟩)]

omit [FloatOps F] in
/-- A subcore's buffers, the three scratch buffers first. -/
theorem ownBufs_tile :
    (ownBufs (tile d i) : sProp (MM F))
      = iprop((∃ f, (tile d i).loc cc0_scratch0 ↦{fullShare} f) ∗ (∃ f, (tile d i).loc cc0_scratch1 ↦{fullShare} f)
          ∗ (∃ f, (tile d i).loc cc0_scratch2 ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV i) (jV i)) (b := (Proc.scVector (cV i) (jV i)).devRef cc0_scratch2) rfl⟩⟩)]

omit [FloatOps F] in
/-- What the copy of the table brings. -/
theorem table_fetched {tab : Nat → F .f32} {Y : Buf (Elt F) (pLoc d)} (hY : ∀ y : S20481.Idx, Y y = tab (y 0).val)
    (t0 : Buf (Elt F) ((tile d i).loc cc0_scratch0)) :
    Holds tab ((tM).view.writes (Elt F) t0 [⟨Rect.unit (s := S20488) ![0] S20481.size inb_S20488_S20481_0, (pW).view.read (Elt F) Y⟩]) := by
  intro x hx
  let y : S20481.Idx := fun | 0 => ⟨(x 0).val, hx⟩
  have hxy : ((tM).view.slice (Rect.unit (s := S20488) ![0] S20481.size inb_S20488_S20481_0)).emb y = x := by
    funext a; apply Fin.ext
    fin_cases a
    show 0 + 1 * (x 0).val = (x 0).val
    omega
  rw [View.writes_singleton]
  have hw := View.write_emb_of_mem (v := (tM).view.slice (Rect.unit (s := S20488) ![0] S20481.size inb_S20488_S20481_0)) (Val := Elt F) t0
    ((pW).view.read (Elt F) Y) (M := Finset.univ) (x := y) (Finset.mem_univ _)
  rw [hxy] at hw
  exact hw.trans ((cast_eq _ _).trans (((View.read_apply _ _).trans (cast_eq _ _)).trans (hY _)))

/-- A subcore's whole task. -/
theorem tile_body (hF : (K (F := F)).Facts) (tab xq : Nat → F .f32) (q : PosShare TreeShare) {Y : Buf (Elt F) (pLoc d)} (hY : ∀ y : S20481.Idx, Y y = tab (y 0).val)
    {X : Buf (Elt F) (qLoc d)} (hX : ∀ y : S524288.Idx, X y = xq (y 0).val)
    (O : CellTallies nD τ sig (HIx 1)) (W : Waits sig (HIx 1)) (hO : ∀ g, O g none = 0) :
    iprop(levAts (K (F := F)).L (K (F := F)).lev ∗ emp
        ∗ ((pLoc d ↦{q} Y) ∗ (qLoc d ↦{q} X) ∗ (bigSep Finset.univ fun c : Fin 4 => piece0 d i tab xq 0 c))
        ∗ scopedBufs (tile d i) ∗ scopedSems0 (tile d i) ∗ owes (tile d i) O W)
      ⊢ wp frame (wpE (defs₀ (F := F)) 𝒱₀ (tile d i) none) Set.univ
          (cc0__body i qW (Memref.isWhole_whole _) pW (Memref.isWhole_whole _) oW (Memref.isWhole_whole _)
            tM (Memref.isWhole_whole _) iM (Memref.isWhole_whole _) aM (Memref.isWhole_whole _) cc0_scoped0 cc0_scoped1 cc0_scoped2)
          fun _ => iprop(((pLoc d ↦{q} Y) ∗ (qLoc d ↦{q} X) ∗ (bigSep Finset.univ fun c : Fin 4 => piece0 d i tab xq 4 c))
            ∗ scopedBufs (tile d i) ∗ scopedSems0 (tile d i) ∗ ∃ W', ⌜∀ p ∈ W', p ∈ W ∨ p.2 = none⌝ ∗ owes (tile d i) O W') := by
  simp only [cc0__body_eq_skeleton]; unfold cc0__body_skel
  rw [(K (F := F)).scopedBufs_V hF d (cV i) (jV i), SparseCore.Cfg.scopedSems0_V (Val := Elt F) d (cV i) (jV i), ownSems0_tile, ownBufs_tile]
  iintro ⟨#Hlv, -, ⟨Hp, Hq, Hpc⟩, ⟨⟨%t0, Ht⟩, ⟨%x0, Hx⟩, ⟨%f0, Hf⟩, Hbufs⟩, ⟨Hs0, Hs1, Hs2, Hsems⟩, HO⟩
  ihave Hmw := ((K (F := F)).mayWaits_none (thr := tile d i) hO) $$ Hlv
  ihave Hp := (Entails.of_eq (show (pLoc d ↦{q} Y : sProp (MM F)) = ((pW).view.loc (tile d i) ↦{q} Y) from rfl)) $$ Hp
  ihave Ht := (Entails.of_eq (show ((tile d i).loc cc0_scratch0 ↦{fullShare} t0 : sProp (MM F)) = ((tM).view.loc (tile d i) ↦{fullShare} t0) from rfl)) $$ Ht
  sl_exec (disch := exact View.amount_pos _ _ (show 0 < S20481.numel by decide))
  sl_for (outerInv d i tab xq ((tM).view.writes (Elt F) t0 [⟨Rect.unit (s := S20488) ![0] S20481.size inb_S20488_S20481_0, (pW).view.read (Elt F) Y⟩])
    q X O (insert (SemLoc.dma cc0_scoped0.sem, (default : HIx 1)) W)) $$ [Hmw Ht Hq Hx Hf Hs1 Hs2 Hpc HO]
  case region =>
    intro n v
    exact wp_chunk d i tab xq (table_fetched d i hY t0) q hX O _ n v
  · unfold outerInv
    isplitl [Hmw]; · iexact Hmw
    isplitl [Hq]; · iexact Hq
    isplitl [Ht]; · iexact Ht
    isplitl [Hx]; · iexists _; iexact Hx
    isplitl [Hf]; · iexists _; iexact Hf
    isplitl [Hs1]; · iexact Hs1
    isplitl [Hs2]; · iexact Hs2
    isplitl [Hpc]; · iexact Hpc
    iexists _; isplitr
    · ipureintro; exact fun p hp => .inl hp
    · iexact HO
  iintro %v1
  have htrips : Scf.trips k0_t1_loop.lb k0_t1_loop.ub k0_t1_loop.st = 4 := by decide
  rw [htrips]
  unfold outerInv
  iintro ⟨-, Hq, Ht, ⟨%x1, Hx⟩, ⟨%f1, Hf⟩, Hs1, Hs2, Hpc, %W', %hW', HO⟩
  unfold tile_body.sl.prog.cont_1
  simp only [Prog.pure_eq_ret]
  rw [wp_ret]; imodintro
  isplitl [Hp Hq Hpc]
  · isplitl [Hp]; · iexact Hp
    isplitl [Hq]; · iexact Hq
    iexact Hpc
  isplitl [Ht Hx Hf Hbufs]
  · isplitl [Ht]; · iexists _; iexact Ht
    isplitl [Hx]; · iexists _; iexact Hx
    isplitl [Hf]; · iexists _; iexact Hf
    iexact Hbufs
  isplitl [Hs0 Hs1 Hs2 Hsems]
  · isplitl [Hs0]; · iexact Hs0
    isplitl [Hs1]; · iexact Hs1
    isplitl [Hs2]; · iexact Hs2
    iexact Hsems
  iexists W'; isplitr
  · ipureintro
    intro p hp
    rcases hW' p hp with h | h
    · rcases Finset.mem_insert.mp h with rfl | h
      · exact .inr rfl
      · exact .inl h
    · exact .inr h
  · iexact HO

end Cert.Proof
-- ==== Proof.Launch.lean ====
module

public import proofs.«01_k».proof.Proof.Worker
public import Idealize.ShloMosaic.Lib.SparseCore.Quiescent
public import Idealize.ShloMosaic.Lib.SparseCore.Ops
public import Idealize.ShloMosaic.Lib.StableHlo.Run
public import Idealize.ShloMosaic.Lib.Pipeline.Kit

/-! # The call

What the host hands to the 32 subcores and takes back: a share of the table and of the queries, and the four chunks of
the answers that are a subcore's own. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
variable (m : (ℓ : Loc nD τ sig) → Buf (Elt F) ℓ) (ρ : Dev nD → PrngReg)

/-! ## The arrays by the number of a word -/

abbrev x' : DevRef τ sig := Proc.devRef .tc (main_arg0 : Ref sig .tc)
abbrev p' : DevRef τ sig := Proc.devRef .tc (main_arg1 : Ref sig .tc)
abbrev a0' : DevRef τ sig := Proc.devRef .tc (main_v0 : Ref sig .tc)
abbrev a1' : DevRef τ sig := Proc.devRef .tc (main_v1 : Ref sig .tc)
abbrev q' : DevRef τ sig := Proc.devRef .tc (main_v2 : Ref sig .tc)
abbrev o' : DevRef τ sig := Proc.devRef .tc (main_v3 : Ref sig .tc)
abbrev b4' : DevRef τ sig := Proc.devRef .tc (main_v4 : Ref sig .tc)
abbrev b5' : DevRef τ sig := Proc.devRef .tc (main_v5 : Ref sig .tc)
abbrev b6' : DevRef τ sig := Proc.devRef .tc (main_v6 : Ref sig .tc)
abbrev r' : DevRef τ sig := Proc.devRef .tc (main_v7 : Ref sig .tc)

abbrev xLoc (d : Dev nD) : Loc nD τ sig := (SparseCore.T d).loc main_arg0
abbrev rLoc (d : Dev nD) : Loc nD τ sig := (SparseCore.T d).loc main_v7

abbrev opA : HloOp τ sig (Elt F) := StableHlo.reshape main_arg0 main_v0 (rfl : (.f32 : EltTy) = .f32) shapeCasts_S262144x2_S2048x128x2
abbrev opB : HloOp τ sig (Elt F) := StableHlo.unary main_v0 main_v1 ((transpose S2048x2x128 [0, 2, 1] · transposes_S2048x128x2_S2048x2x128_0_2_1) : (⟨S2048x128x2, .f32⟩ : BufTy).Contents (Elt F) → (⟨S2048x2x128, .f32⟩ : BufTy).Contents (Elt F))
abbrev opC : HloOp τ sig (Elt F) := StableHlo.reshape main_v1 main_v2 (rfl : (.f32 : EltTy) = .f32) shapeCasts_S2048x2x128_S524288
abbrev opE : HloOp τ sig (Elt F) := StableHlo.reshape main_v3 main_v4 (rfl : (.f32 : EltTy) = .f32) shapeCasts_S1048576_S2048x4x128
abbrev opF : HloOp τ sig (Elt F) := StableHlo.unary main_v4 main_v5 ((extractStridedSlice S2048x3x128 ![0, 0, 0] · slices_S2048x4x128_S2048x3x128_0_0_0) : (⟨S2048x4x128, .f32⟩ : BufTy).Contents (Elt F) → (⟨S2048x3x128, .f32⟩ : BufTy).Contents (Elt F))
abbrev opG : HloOp τ sig (Elt F) := StableHlo.unary main_v5 main_v6 ((transpose S2048x128x3 [0, 2, 1] · transposes_S2048x3x128_S2048x128x3_0_2_1) : (⟨S2048x3x128, .f32⟩ : BufTy).Contents (Elt F) → (⟨S2048x128x3, .f32⟩ : BufTy).Contents (Elt F))
abbrev opH : HloOp τ sig (Elt F) := StableHlo.reshape main_v6 main_v7 (rfl : (.f32 : EltTy) = .f32) shapeCasts_S2048x128x3_S262144x3

/-- The arrays' contents at the launch, before the call, after it, and at the end. -/
def V0 (d : Dev nD) : Valuation τ sig (Elt F) := fun b => m (d, b)
def V3 (d : Dev nD) : Valuation τ sig (Elt F) := (opC (F := F)).result ((opB (F := F)).result ((opA (F := F)).result (V0 m d)))
def V4 (d : Dev nD) (g : Buf (Elt F) (oLoc d)) : Valuation τ sig (Elt F) := Function.update (V3 m d) o' g
def V8 (d : Dev nD) (g : Buf (Elt F) (oLoc d)) : Valuation τ sig (Elt F) :=
  (opH (F := F)).result ((opG (F := F)).result ((opF (F := F)).result ((opE (F := F)).result (V4 m d g))))

/-- The rearranged queries. -/
def X (d : Dev nD) : Buf (Elt F) (qLoc d) := V3 m d q'

/-- The table and the rearranged queries by the number of a word. -/
def tabOf (d : Dev nD) (n : Nat) : F .f32 :=
  if h : n < 20481 then (m (pLoc d) : S20481.Idx → F .f32) (fun | 0 => ⟨n, h⟩) else FloatOps.ofBits .f32 0#32
def xqOf (d : Dev nD) (n : Nat) : F .f32 :=
  if h : n < 524288 then (X m d : S524288.Idx → F .f32) (fun | 0 => ⟨n, h⟩) else FloatOps.ofBits .f32 0#32

/-- The table's word at an index. -/
theorem tabOf_eq (d : Dev nD) (y : S20481.Idx) : (m (pLoc d) : S20481.Idx → F .f32) y = tabOf m d (y 0).val := by
  unfold tabOf
  rw [dif_pos (show (y 0).val < 20481 from (y 0).isLt)]
  congr 1; funext a; fin_cases a; rfl
/-- The rearranged queries' word at an index. -/
theorem xqOf_eq (d : Dev nD) (y : S524288.Idx) : (X m d : S524288.Idx → F .f32) y = xqOf m d (y 0).val := by
  unfold xqOf
  rw [dif_pos (show (y 0).val < 524288 from (y 0).isLt)]
  congr 1; funext a; fin_cases a; rfl

/-! ## What the call hands out and takes back -/

omit [FloatOps F] in
theorem nCore_zero : (K (F := F)).nCore 0 = 2 := rfl
omit [FloatOps F] in
theorem nSub_zero : (K (F := F)).nSub 0 = 16 := rfl

/-- Grid coordinates from a SparseCore's and a subcore's number. -/
def co (c : Fin 2) (j : Fin 16) : grid0.Coords := fun | 0 => c | 1 => j | ⟨_ + 2, h⟩ => absurd h (Nat.not_lt.2 (Nat.le_add_left _ _))

/-- A SparseCore's read share of an array, and a subcore's. -/
abbrev qC (c : Fin 2) : PosShare TreeShare := Transfers.shareTok fullShare 2 c
abbrev qS (c : Fin 2) (j : Fin 16) : PosShare TreeShare := Transfers.shareTok (qC c) 16 j

/-- A subcore's chunks of the answers, `n` of them done. -/
abbrev mine (d : Dev nD) (n : Nat) (c : Fin 2) (j : Fin 16) : sProp (MM F) :=
  bigSep Finset.univ fun k : Fin 4 => piece0 d (co c j) (tabOf m d) (xqOf m d) n k

/-- What a SparseCore, and what a subcore, holds with `n` chunks of each subcore done. -/
abbrev forCore (d : Dev nD) (n : Nat) (c : Fin 2) : sProp (MM F) :=
  iprop((pLoc d ↦{qC c} m (pLoc d)) ∗ (qLoc d ↦{qC c} X m d) ∗ bigSep Finset.univ fun j : Fin 16 => mine m d n c j)
abbrev forSub (d : Dev nD) (n : Nat) (c : Fin 2) (j : Fin 16) : sProp (MM F) :=
  iprop((pLoc d ↦{qS c j} m (pLoc d)) ∗ (qLoc d ↦{qS c j} X m d) ∗ mine m d n c j)

/-- What the call's handshakes carry: each SparseCore's, then each subcore's share, and the same back with right answers. -/
def P : (K (F := F)).Pay (nD := nD) (Val := Elt F) (Name := ℕ) (U := UU) where
  st := fun q d c => match q with | 0 => forCore m d 0 (Fin.cast nCore_zero c)
  dn := fun q d c => match q with | 0 => forCore m d 4 (Fin.cast nCore_zero c)
  go := fun q d c i => match q with | 0 => forSub m d 0 (Fin.cast nCore_zero c) (Fin.cast nSub_zero i)
  td := fun q d c i => match q with | 0 => forSub m d 4 (Fin.cast nCore_zero c) (Fin.cast nSub_zero i)
  x := fun _ _ => iprop(emp)

instance P_storable : (P (F := F) m).IsStorable where
  st q d c := by unfold P; match q with | 0 => infer_instance
  dn q d c := by unfold P; match q with | 0 => infer_instance
  go q d c i := by unfold P; match q with | 0 => infer_instance
  td q d c i := by unfold P; match q with | 0 => infer_instance

/-! ## The launch theorem's obligations -/

/-- A subcore's place in the grid. -/
def coordsV (c : Fin (grid0.bound 0)) (s : Fin (grid0.bound 1)) : grid0.Coords :=
  fun | 0 => c | 1 => s | ⟨_ + 2, h⟩ => absurd h (Nat.not_lt.2 (Nat.le_add_left _ _))

/-- A subcore's task is the printed one. -/
theorem defs₀_vector (c : Fin τ.nSC) (s : Fin τ.nSub) :
    defs₀ (F := F) (.scVector c s) 0 ()
      = SparseCore.onTile hcore0 hsub0 (fun c s => cc0__body (coordsV c s) qW (Memref.isWhole_whole _) pW (Memref.isWhole_whole _) oW (Memref.isWhole_whole _)
            tM (Memref.isWhole_whole _) iM (Memref.isWhole_whole _) aM (Memref.isWhole_whole _) cc0_scoped0 cc0_scoped1 cc0_scoped2) ⟨⟩ c s := rfl

omit [FloatOps F] in
/-- Weakening a task's end to what the call asks for. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A subcore's task, as the call asks for it. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (tabOf m d) (xqOf m d) (qS (Fin.cast nCore_zero c) (Fin.cast nSub_zero i)) (tabOf_eq m d) (xqOf_eq m d) O W hO).trans
    (wp_mono frame _ _ fun _ => obl_post)

omit [FloatOps F] in
/-- The tasks of a SparseCore are its sixteen subcores. -/
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

/-- A SparseCore's share splits among its sixteen subcores and comes back. -/
theorem vecSplit : (K (F := F)).VecSplit' (P m) 0 := by
  intro d c
  show forCore m d 0 (Fin.cast nCore_zero c) ⊢ |={Set.univ}=> iprop(
      (bigSep Finset.univ fun i : Fin ((K (F := F)).nSub 0) => forSub m d 0 (Fin.cast nCore_zero c) (Fin.cast nSub_zero i))
      ∗ ((bigSep Finset.univ fun i : Fin ((K (F := F)).nSub 0) => forSub m d 4 (Fin.cast nCore_zero c) (Fin.cast nSub_zero i))
          -∗ forCore m d 4 (Fin.cast nCore_zero c)))
  rw [bigSep_tasks (F := F) (fun i => forSub m d 0 (Fin.cast nCore_zero c) i), bigSep_tasks (F := F) (fun i => forSub m d 4 (Fin.cast nCore_zero c) i),
    bigSep_sep', bigSep_sep', bigSep_sep', bigSep_sep']
  iintro ⟨Hp, Hq, Ho⟩
  ihave Hp := (Transfers.pointsTo_toks_split _ 16) $$ Hp
  ihave Hq := (Transfers.pointsTo_toks_split _ 16) $$ Hq
  icases Hp with ⟨Hp0, Hp⟩
  icases Hq with ⟨Hq0, Hq⟩
  imodintro
  isplitl [Hp Hq Ho]
  · isplitl [Hp]; · iexact Hp
    isplitl [Hq]; · iexact Hq
    iexact Ho
  iintro ⟨Hp, Hq, Ho⟩
  isplitl [Hp0 Hp]
  · iapply (Transfers.pointsTo_toks_join _ 16); isplitl [Hp0] <;> iassumption
  isplitl [Hq0 Hq]
  · iapply (Transfers.pointsTo_toks_join _ 16); isplitl [Hq0] <;> iassumption
  iexact Ho

end Cert.Proof
-- ==== Proof.Run.lean ====
module

public import proofs.«01_k».proof.Proof.Launch

/-! # The kernel's run

The host rearranges the queries, makes the call and rearranges the answers. The run ends with the arguments unchanged,
every semaphore at zero, and a result that comes from right answers. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]
variable (m : (ℓ : Loc nD τ sig) → Buf (Elt F) ℓ) (ρ : Dev nD → PrngReg)

/-! ## The launch's ghost state: the handshakes' rounds -/

/-- The handshakes' rounds at the start. -/
def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

/-- They hand every thread what it starts with, which is nothing more. -/
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The answers in chunks -/

/-- The number of a subcore's chunk. -/
def chunkOf (t : Fin 2 × Fin 16 × Fin 4) : Nat := 4 * wid (co t.1 t.2.1) + t.2.2.val

/-- The number of a subcore's chunk. -/
theorem chunkOf_eq (c : Fin 2) (j : Fin 16) (k : Fin 4) : chunkOf (c, j, k) = 4 * (2 * j.val + c.val) + k.val := rfl

/-- Different chunks share no word. -/
theorem chunks_disjoint : ∀ t ∈ (Finset.univ : Finset (Fin 2 × Fin 16 × Fin 4)), ∀ t' ∈ (Finset.univ : Finset (Fin 2 × Fin 16 × Fin 4)), t ≠ t' →
    Disjoint (chunkSet (chunkOf t)) (chunkSet (chunkOf t')) := by
  rintro ⟨c, j, k⟩ - ⟨c', j', k'⟩ - h
  refine Finset.disjoint_left.mpr fun x h1 h2 => h ?_
  have e1 := (Finset.mem_filter.mp h1).2
  have e2 := (Finset.mem_filter.mp h2).2
  rw [chunkOf_eq] at e1 e2
  generalize (x 0).val = n at e1 e2
  have hc := c.isLt; have hc' := c'.isLt; have hk := k.isLt; have hk' := k'.isLt
  exact Prod.ext (Fin.ext (show c.val = c'.val by omega)) (Prod.ext (Fin.ext (show j.val = j'.val by omega)) (Fin.ext (show k.val = k'.val by omega)))

/-- The chunks are all the words. -/
theorem chunks_cover : (Finset.univ : Finset (Fin 2 × Fin 16 × Fin 4)).biUnion (fun t => chunkSet (chunkOf t)) = Finset.univ := by
  refine Finset.eq_univ_iff_forall.mpr fun x => Finset.mem_biUnion.mpr ?_
  have hx : (x 0).val < 1048576 := (x 0).isLt
  refine ⟨(⟨(x 0).val / 8192 / 4 % 2, by omega⟩, ⟨(x 0).val / 8192 / 8, by omega⟩, ⟨(x 0).val / 8192 % 4, by omega⟩), Finset.mem_univ _, Finset.mem_filter.mpr ⟨Finset.mem_univ _, ?_⟩⟩
  rw [chunkOf_eq]
  show (x 0).val / 8192 = 4 * (2 * ((x 0).val / 8192 / 8) + (x 0).val / 8192 / 4 % 2) + (x 0).val / 8192 % 4
  omega

/-- Over both SparseCores, their subcores and their chunks. -/
theorem over_all (Φ : Fin 2 × Fin 16 × Fin 4 → sProp (MM F)) :
    (bigSep Finset.univ fun c : Fin 2 => bigSep Finset.univ fun j : Fin 16 => bigSep Finset.univ fun k : Fin 4 => Φ (c, j, k)) = bigSep Finset.univ Φ := by
  rw [← Finset.univ_product_univ, SparseCore.bigSep_product]
  refine bigSep_congr fun c _ => ?_
  rw [← Finset.univ_product_univ, SparseCore.bigSep_product]

/-- Answers with every chunk right. -/
def AllRight (d : Dev nD) (g : Buf (Elt F) (oLoc d)) : Prop :=
  ∀ x : S1048576.Idx, (x 0).val % 512 / 128 < 3 → (g : S1048576.Idx → F .f32) x = answer (tabOf m d) (xqOf m d) (x 0).val

/-- All of the answers' array, dealt out to the subcores by chunks. -/
theorem deal (d : Dev nD) (f : Buf (Elt F) (oLoc d)) :
    (oLoc d ↦{fullShare} f : sProp (MM F)) ⊢ bigSep Finset.univ fun c : Fin 2 => bigSep Finset.univ fun j : Fin 16 => mine m d 0 c j := by
  rw [over_all (fun t => piece0 d (co t.1 t.2.1) (tabOf m d) (xqOf m d) 0 t.2.2),
    show (oLoc d ↦{fullShare} f : sProp (MM F)) = bigSep Finset.univ fun t : Fin 2 × Fin 16 × Fin 4 => oLoc d ↦[chunkSet (chunkOf t)]{fullShare} f by
      rw [← pointsTo_biUnion Finset.univ (ℓ := oLoc d) (fun t => chunkSet (chunkOf t)) chunks_disjoint, chunks_cover]]
  refine BI.bigSep_mono fun t _ => (show (oLoc d ↦[chunkSet (chunkOf t)]{fullShare} f : sProp (MM F)) ⊢ piece0 d (co t.1 t.2.1) (tabOf m d) (xqOf m d) 0 t.2.2 from ?_)
  iintro H
  iexists f; isplitr
  · ipureintro; exact fun h => absurd h (Nat.not_lt_zero _)
  · iexact H

/-- The chunks come back as one array, all of it right. -/
theorem gather (d : Dev nD) :
    (bigSep Finset.univ fun c : Fin 2 => bigSep Finset.univ fun j : Fin 16 => mine m d 4 c j) ⊢ (iprop(∃ g, ⌜AllRight m d g⌝ ∗ oLoc d ↦{fullShare} g) : sProp (MM F)) := by
  rw [over_all (fun t => piece0 d (co t.1 t.2.1) (tabOf m d) (xqOf m d) 4 t.2.2)]
  have h1 : (bigSep Finset.univ fun t : Fin 2 × Fin 16 × Fin 4 => piece0 d (co t.1 t.2.1) (tabOf m d) (xqOf m d) 4 t.2.2)
      ⊢ (bigSep Finset.univ fun t : Fin 2 × Fin 16 × Fin 4 =>
          iprop(∃ f : {f : S1048576.Idx → F .f32 // Right (tabOf m d) (xqOf m d) (chunkOf t) f}, oLoc d ↦[chunkSet (chunkOf t)]{fullShare} f.1) : sProp (MM F)) := by
    refine BI.bigSep_mono fun t _ => (show piece0 d (co t.1 t.2.1) (tabOf m d) (xqOf m d) 4 t.2.2
      ⊢ iprop(∃ f : {f : S1048576.Idx → F .f32 // Right (tabOf m d) (xqOf m d) (chunkOf t) f}, oLoc d ↦[chunkSet (chunkOf t)]{fullShare} f.1) from ?_)
    iintro ⟨%f, %hf, H⟩
    iexists ⟨f, hf t.2.2.isLt⟩
    iexact H
  haveI : ∀ t : Fin 2 × Fin 16 × Fin 4, Nonempty {f : S1048576.Idx → F .f32 // Right (tabOf m d) (xqOf m d) (chunkOf t) f} :=
    fun t => ⟨⟨fun x => answer (tabOf m d) (xqOf m d) (x 0).val, fun _ _ _ => rfl⟩⟩
  refine h1.trans ((bigSep_exists_pi Finset.univ (fun t (f : {f : S1048576.Idx → F .f32 // Right (tabOf m d) (xqOf m d) (chunkOf t) f}) =>
    (oLoc d ↦[chunkSet (chunkOf t)]{fullShare} f.1 : sProp (MM F)))).trans ?_)
  iintro ⟨%fs, H⟩
  ihave H' := (pointsTo_biUnion_join (ℓ := oLoc d) (q := fullShare) (Val := Elt F) Finset.univ (fun t : Fin 2 × Fin 16 × Fin 4 => chunkSet (chunkOf t)) (fun t => (fs t).1) (fs (0, 0, 0)).1 chunks_disjoint) $$ H
  icases H' with ⟨%g, %hg, Hg⟩
  rw [chunks_cover]
  iexists g; isplitr
  · ipureintro
    intro x hx
    obtain ⟨t, ht, hxt⟩ := Finset.mem_biUnion.mp (chunks_cover.symm ▸ Finset.mem_univ x)
    exact (hg t ht x hxt).trans ((fs t).2 x (Finset.mem_filter.mp hxt).2 hx)
  · iexact Hg

/-! ## The host's program -/

/-- The arrays of the host's program. -/
abbrev S10 : Finset (DevRef τ sig) := {x', p', q', o', r', a0', a1', b4', b5', b6'}

/-- The arrays the kernel and the claims do not touch. -/
abbrev restPts (d : Dev nD) (W : Valuation τ sig (Elt F)) : sProp (MM F) :=
  iprop(((SparseCore.T d).loc main_v0 ↦{fullShare} W a0') ∗ ((SparseCore.T d).loc main_v1 ↦{fullShare} W a1')
    ∗ ((SparseCore.T d).loc main_v4 ↦{fullShare} W b4') ∗ ((SparseCore.T d).loc main_v5 ↦{fullShare} W b5') ∗ (SparseCore.T d).loc main_v6 ↦{fullShare} W b6')

omit [FloatOps F] in
/-- The ten arrays held, one by one. -/
theorem held_S10 (d : Dev nD) (W : Valuation τ sig (Elt F)) :
    (held (T d) S10 W : sProp (MM F))
      = iprop((xLoc d ↦{fullShare} W x') ∗ (pLoc d ↦{fullShare} W p') ∗ (qLoc d ↦{fullShare} W q') ∗ (oLoc d ↦{fullShare} W o') ∗ (rLoc d ↦{fullShare} W r')
          ∗ restPts d W) := by
  unfold held S10
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

omit [FloatOps F] in
/-- The program's arrays are these ten. -/
theorem unscopedBufs_eq (d : Dev nD) (W : (b : Ref sig .tc) → Buf (Elt F) ((d.tc : Thread nD τ).loc b)) :
    (unscopedBufs d W : sProp (MM F))
      = iprop((xLoc d ↦{fullShare} W main_arg0) ∗ (pLoc d ↦{fullShare} W main_arg1) ∗ (qLoc d ↦{fullShare} W main_v2) ∗ (oLoc d ↦{fullShare} W main_v3) ∗ (rLoc d ↦{fullShare} W main_v7)
          ∗ ((SparseCore.T d).loc main_v0 ↦{fullShare} W main_v0) ∗ ((SparseCore.T d).loc main_v1 ↦{fullShare} W main_v1)
          ∗ ((SparseCore.T d).loc main_v4 ↦{fullShare} W main_v4) ∗ ((SparseCore.T d).loc main_v5 ↦{fullShare} W main_v5) ∗ (SparseCore.T d).loc main_v6 ↦{fullShare} W main_v6) := by
  unfold unscopedBufs
  rw [show (Finset.univ.filter fun b : Ref sig .tc => ¬ b.isScoped) = {main_arg0, main_arg1, main_v2, main_v3, main_v7, main_v0, main_v1, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- At the start they hold the memory's contents. -/
theorem unscoped_held (d : Dev nD) : (unscopedBufs d (fun b => m ((SparseCore.T d).loc b)) : sProp (MM F)) = held (T d) S10 (V0 m d) := by
  rw [unscopedBufs_eq, held_S10]; rfl

/-- The rearrangement leaves the queries. -/
theorem V3_x (d : Dev nD) : V3 m d x' = m (xLoc d) := by
  unfold V3
  rw [(opC (F := F)).result_of_not_mem _ (show x' ∉ ({q'} : Finset (DevRef τ sig)) by decide),
    (opB (F := F)).result_of_not_mem _ (show x' ∉ ({a1'} : Finset (DevRef τ sig)) by decide),
    (opA (F := F)).result_of_not_mem _ (show x' ∉ ({a0'} : Finset (DevRef τ sig)) by decide)]
  rfl
/-- The rearrangement leaves the table. -/
theorem V3_p (d : Dev nD) : V3 m d p' = m (pLoc d) := by
  unfold V3
  rw [(opC (F := F)).result_of_not_mem _ (show p' ∉ ({q'} : Finset (DevRef τ sig)) by decide),
    (opB (F := F)).result_of_not_mem _ (show p' ∉ ({a1'} : Finset (DevRef τ sig)) by decide),
    (opA (F := F)).result_of_not_mem _ (show p' ∉ ({a0'} : Finset (DevRef τ sig)) by decide)]
  rfl
/-- The answers after the call. -/
theorem V4_o (d : Dev nD) (g : Buf (Elt F) (oLoc d)) : V4 m d g o' = g := Function.update_self _ _ _
/-- The call leaves the other arrays. -/
theorem V4_ne (d : Dev nD) (g : Buf (Elt F) (oLoc d)) {b : DevRef τ sig} (h : b ≠ o') : V4 m d g b = V3 m d b := Function.update_of_ne h _ _
/-- At the end the queries are unchanged. -/
theorem V8_x (d : Dev nD) (g : Buf (Elt F) (oLoc d)) : V8 m d g x' = m (xLoc d) := by
  unfold V8
  rw [(opH (F := F)).result_of_not_mem _ (show x' ∉ ({r'} : Finset (DevRef τ sig)) by decide),
    (opG (F := F)).result_of_not_mem _ (show x' ∉ ({b6'} : Finset (DevRef τ sig)) by decide),
    (opF (F := F)).result_of_not_mem _ (show x' ∉ ({b5'} : Finset (DevRef τ sig)) by decide),
    (opE (F := F)).result_of_not_mem _ (show x' ∉ ({b4'} : Finset (DevRef τ sig)) by decide), V4_ne m d g (by decide), V3_x]
/-- At the end the table is unchanged. -/
theorem V8_p (d : Dev nD) (g : Buf (Elt F) (oLoc d)) : V8 m d g p' = m (pLoc d) := by
  unfold V8
  rw [(opH (F := F)).result_of_not_mem _ (show p' ∉ ({r'} : Finset (DevRef τ sig)) by decide),
    (opG (F := F)).result_of_not_mem _ (show p' ∉ ({b6'} : Finset (DevRef τ sig)) by decide),
    (opF (F := F)).result_of_not_mem _ (show p' ∉ ({b5'} : Finset (DevRef τ sig)) by decide),
    (opE (F := F)).result_of_not_mem _ (show p' ∉ ({b4'} : Finset (DevRef τ sig)) by decide), V4_ne m d g (by decide), V3_p]

/-- The arrays before the call, after it, and at the end. -/
theorem held_V3 (d : Dev nD) :
    (held (T d) S10 ((opC (F := F)).result ((opB (F := F)).result ((opA (F := F)).result (V0 m d)))) : sProp (MM F))
      = iprop((xLoc d ↦{fullShare} m (xLoc d)) ∗ (pLoc d ↦{fullShare} m (pLoc d)) ∗ (qLoc d ↦{fullShare} X m d) ∗ (oLoc d ↦{fullShare} V3 m d o') ∗ (rLoc d ↦{fullShare} V3 m d r')
          ∗ restPts d (V3 m d)) := by
  show held (SparseCore.T d) S10 (V3 m d) = _
  rw [held_S10, V3_x, V3_p]; rfl
/-- The arrays after the call. -/
theorem held_V4 (d : Dev nD) (g : Buf (Elt F) (oLoc d)) :
    (held (T d) S10 (V4 m d g) : sProp (MM F))
      = iprop((xLoc d ↦{fullShare} m (xLoc d)) ∗ (pLoc d ↦{fullShare} m (pLoc d)) ∗ (qLoc d ↦{fullShare} X m d) ∗ (oLoc d ↦{fullShare} g) ∗ (rLoc d ↦{fullShare} V3 m d r')
          ∗ restPts d (V3 m d)) := by
  rw [held_S10, V4_o, V4_ne m d g (b := x') (by decide), V4_ne m d g (b := p') (by decide), V4_ne m d g (b := q') (by decide), V4_ne m d g (b := r') (by decide), V3_x, V3_p]
  unfold restPts
  rw [V4_ne m d g (b := a0') (by decide), V4_ne m d g (b := a1') (by decide), V4_ne m d g (b := b4') (by decide), V4_ne m d g (b := b5') (by decide), V4_ne m d g (b := b6') (by decide)]
  rfl
/-- The arrays at the end. -/
theorem held_V8 (d : Dev nD) (g : Buf (Elt F) (oLoc d)) :
    (held (T d) S10 ((opH (F := F)).result ((opG (F := F)).result ((opF (F := F)).result ((opE (F := F)).result (V4 m d g))))) : sProp (MM F))
      = iprop((xLoc d ↦{fullShare} m (xLoc d)) ∗ (pLoc d ↦{fullShare} m (pLoc d)) ∗ (qLoc d ↦{fullShare} V8 m d g q') ∗ (oLoc d ↦{fullShare} V8 m d g o') ∗ (rLoc d ↦{fullShare} V8 m d g r')
          ∗ restPts d (V8 m d g)) := by
  show held (SparseCore.T d) S10 (V8 m d g) = _
  rw [held_S10, V8_x, V8_p]

/-- The two SparseCores' shares of the queries, the table and the answers. -/
theorem core_eq (d : Dev nD) (n : Nat) :
    (bigSep Finset.univ fun c : Fin 2 => forCore m d n c)
      = iprop((bigSep Finset.univ fun c : Fin 2 => (pLoc d ↦{qC c} m (pLoc d) : sProp (MM F))) ∗ (bigSep Finset.univ fun c : Fin 2 => (qLoc d ↦{qC c} X m d : sProp (MM F)))
          ∗ bigSep Finset.univ fun c : Fin 2 => bigSep Finset.univ fun j : Fin 16 => mine m d n c j) := by
  rw [bigSep_sep', bigSep_sep']

/-- What the call hands out. -/
theorem st0_eq (d : Dev nD) : (bigSep Finset.univ fun c : Fin ((K (F := F)).nCore 0) => (P m).st 0 d c) = bigSep Finset.univ fun c : Fin 2 => forCore m d 0 c :=
  bigSep_congr fun _ _ => rfl
/-- What the call takes back. -/
theorem dn0_eq (d : Dev nD) : (bigSep Finset.univ fun c : Fin ((K (F := F)).nCore 0) => (P m).dn 0 d c) = bigSep Finset.univ fun c : Fin 2 => forCore m d 4 c :=
  bigSep_congr fun _ _ => rfl

theorem hA : (opA (F := F)).bufs ⊆ S10 := show ({x', a0'} : Finset (DevRef τ sig)) ⊆ S10 by decide
theorem hB : (opB (F := F)).bufs ⊆ S10 := show ({a0', a1'} : Finset (DevRef τ sig)) ⊆ S10 by decide
theorem hC : (opC (F := F)).bufs ⊆ S10 := show ({a1', q'} : Finset (DevRef τ sig)) ⊆ S10 by decide
theorem hE : (opE (F := F)).bufs ⊆ S10 := show ({o', b4'} : Finset (DevRef τ sig)) ⊆ S10 by decide
theorem hF : (opF (F := F)).bufs ⊆ S10 := show ({b4', b5'} : Finset (DevRef τ sig)) ⊆ S10 by decide
theorem hG : (opG (F := F)).bufs ⊆ S10 := show ({b5', b6'} : Finset (DevRef τ sig)) ⊆ S10 by decide
theorem hH : (opH (F := F)).bufs ⊆ S10 := show ({b6', r'} : Finset (DevRef τ sig)) ⊆ S10 by decide

/-- What the host's program leaves: the arguments as they were, the result from answers that are right. -/
abbrev FIN (d : Dev nD) : sProp (MM F) :=
  iprop((xLoc d ↦{fullShare} m (xLoc d)) ∗ (pLoc d ↦{fullShare} m (pLoc d)) ∗ ∃ g, ⌜AllRight m d g⌝ ∗ rLoc d ↦{fullShare} V8 m d g r')

/-- The host's program, from the arrays' first contents to their last. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := S10) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := S10) hB (V := (opA (F := F)).result (V0 m d))) $$ [Hb Hheld]
  · isplitl [Hb] <;> iassumption
  iintro ⟨Hb, Hheld⟩
  rw [wp_ret]; imodintro
  iapply (wp_hlo_within 𝒱 (SparseCore.T d) none Set.univ (op := opC) (S := S10) hC (V := (opB (F := F)).result ((opA (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Hx, Hp, Hq, Ho, Hr, Hrest⟩
  ihave Hp := (Transfers.pointsTo_toks_split _ 2) $$ Hp
  ihave Hq := (Transfers.pointsTo_toks_split _ 2) $$ Hq
  icases Hp with ⟨Hp0, Hp⟩
  icases Hq with ⟨Hq0, Hq⟩
  ihave Ho := (deal m d _) $$ Ho
  iapply ((K (F := F)).wp_run (D (F := F)) 𝒱 (EH := EH) (P := P m) κ d 0) $$ [Hst Hx Hp0 Hp Hq0 Hq Ho Hb Hr Hrest Hts]
  isplitr; · iexact Hctx
  isplitl [Hst]; · iexact Hst
  isplitl [Hp Hq Ho]
  · rw [st0_eq, core_eq]
    isplitl [Hp]; · iexact Hp
    isplitl [Hq]; · iexact Hq
    iexact Ho
  iintro ⟨Hst, Hdn⟩
  ihave Hdn' := (Entails.of_eq ((dn0_eq m d).trans (core_eq m d 4))) $$ Hdn
  icases Hdn' with ⟨Hp, Hq, Ho⟩
  ihave Ho := (gather m d) $$ Ho
  icases Ho with ⟨%g, %hg, Ho⟩
  ihave Hp := (Transfers.pointsTo_toks_join _ 2) $$ [Hp0 Hp]
  · isplitl [Hp0] <;> iassumption
  ihave Hq := (Transfers.pointsTo_toks_join _ 2) $$ [Hq0 Hq]
  · isplitl [Hq0] <;> iassumption
  iapply (wp_hlo_within 𝒱 (SparseCore.T d) none Set.univ (op := opE) (S := S10) hE (V := V4 m d g)) $$ [Hb Hx Hp Hq Ho Hr Hrest]
  · isplitl [Hb]; · iexact Hb
    rw [held_V4]
    isplitl [Hx]; · iexact Hx
    isplitl [Hp]; · iexact Hp
    isplitl [Hq]; · iexact Hq
    isplitl [Ho]; · iexact Ho
    isplitl [Hr]; · iexact Hr
    iexact Hrest
  iintro ⟨Hb, Hheld⟩
  rw [wp_ret]; imodintro
  iapply (wp_hlo_within 𝒱 (SparseCore.T d) none Set.univ (op := opF) (S := S10) hF (V := (opE (F := F)).result (V4 m d g))) $$ [Hb Hheld]
  · isplitl [Hb] <;> iassumption
  iintro ⟨Hb, Hheld⟩
  rw [wp_ret]; imodintro
  iapply (wp_hlo_within 𝒱 (SparseCore.T d) none Set.univ (op := opG) (S := S10) hG (V := (opF (F := F)).result ((opE (F := F)).result (V4 m d g)))) $$ [Hb Hheld]
  · isplitl [Hb] <;> iassumption
  iintro ⟨Hb, Hheld⟩
  rw [wp_ret]; imodintro
  iapply (wp_hlo_within 𝒱 (SparseCore.T d) none Set.univ (op := opH) (S := S10) hH (V := (opG (F := F)).result ((opF (F := F)).result ((opE (F := F)).result (V4 m d g))))) $$ [Hb Hheld]
  · isplitl [Hb] <;> iassumption
  iintro ⟨Hb, Hheld⟩
  ihave Hh := (Entails.of_eq (held_V8 (F := F) m d g)) $$ Hheld
  icases Hh with ⟨Hx, Hp, -, -, Hr, -⟩
  rw [wp_ret]; imodintro; imodintro
  isplitl [Hst]; · iexact Hst
  isplitr [Hb Hts]
  · isplitl [Hx]; · iexact Hx
    isplitl [Hp]; · iexact Hp
    iexists g; isplitr
    · ipureintro; exact hg
    · iexact Hr
  isplitl [Hb] <;> iassumption

/-- What the claims read of a final state. -/
def fq (d : Dev nD) (s' : Phys nD τ sig (Elt F)) : Prop :=
  (s'.mem.mem (xLoc d) = m (xLoc d) ∧ s'.mem.mem (pLoc d) = m (pLoc d)) ∧ ∃ g, AllRight m d g ∧ s'.mem.mem (rLoc d) = V8 m d g r'

/-- What the last contents say of the final memory. -/
theorem hfin (d : Dev nD) (s' : Phys nD τ sig (Elt F)) : iprop(FIN m d ∗ SI s') ⊢ (⌜fq m d s'⌝ : sProp (MM F)) := by
  iintro ⟨⟨Hx, Hp, %g, %hg, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := rLoc d) (I := Finset.univ) (q := fullShare) (f := V8 m d g r')) $$ [HSI Hr]
  · isplitl [HSI] <;> iassumption
  icases H with %h3
  ipureintro
  exact ⟨⟨funext fun i => h1 i (Finset.mem_univ i), funext fun i => h2 i (Finset.mem_univ i)⟩, g, hg, funext fun i => h3 i (Finset.mem_univ i)⟩

/-! ## The run -/

/-- What the run ends with. -/
def QC : PUnit × MemSt nD τ sig (Elt F) → Prop := fun r =>
  (∀ d : Dev nD, (r.2.mem (xLoc d) = m (xLoc d) ∧ r.2.mem (pLoc d) = m (pLoc d)) ∧ ∃ g, AllRight m d g ∧ r.2.mem (rLoc d) = V8 m d g r') ∧ r.2.sem = fun _ => 0

/-- The kernel's program runs, leaves its arguments, and its result comes from answers that are right. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.RefRun.lean ====
module

public import Idealize.ShloMosaic.Lib.StableHlo.Run
public import Idealize.ShloMosaic.Lib.StableHlo.RunRead
public import proofs.«01_k».proof.Proof.Gen.ReferenceIdeal

/-! # The reference's run

The reference is a straight line of host operations: the sites' positions and colours cut out of the
table, every query's squared distance to every site, the first nearest site, its colour. This module
runs it: whatever the memory, it ends with the arguments unchanged and with `nearestColour` of the
arguments as its result. -/

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The result as a term -/

/-- The table without its first word, five words a site. -/
def siteTable (p : FVec F S20481 .f32) : FVec F S4096x5 .f32 :=
  shapeCast S4096x5 (extractStridedSlice S20480 ![1] p slices_S20481_S20480_1) shapeCasts_S20480_S4096x5
/-- The sites' positions. -/
def positions (p : FVec F S20481 .f32) : FVec F S4096x2 .f32 :=
  extractStridedSlice S4096x2 ![0, 0] (siteTable p) slices_S4096x5_S4096x2_0_0
/-- The sites' colours. -/
def colours (p : FVec F S20481 .f32) : FVec F S4096x3 .f32 :=
  extractStridedSlice S4096x3 ![0, 2] (siteTable p) slices_S4096x5_S4096x3_0_2
/-- Query minus site, in each of the two axes. -/
def gaps (x : FVec F S262144x2 .f32) (p : FVec F S20481 .f32) : FVec F S262144x4096x2 .f32 :=
  subf
    (broadcastInDim S262144x4096x2 ![0, 1, 2] bcast_S262144x1x2_S262144x4096x2_0_1_2 (broadcastInDim S262144x1x2 ![0, 2] bcast_S262144x2_S262144x1x2_0_2 x))
    (broadcastInDim S262144x4096x2 ![0, 1, 2] bcast_S1x4096x2_S262144x4096x2_0_1_2 (broadcastInDim S1x4096x2 ![1, 2] bcast_S4096x2_S1x4096x2_1_2 (positions p)))
/-- Every query's squared distance to every site. -/
def distances (x : FVec F S262144x2 .f32) (p : FVec F S20481 .f32) : FVec F S262144x4096 .f32 :=
  Host.reduceAdd (mulf (gaps x p) (gaps x p)) (constant S_ .f32 0x00000000#32) reducesTo_S262144x4096x2_S262144x4096_d2 h_S_
/-- The nearest site, from the distances. -/
def nearest (dd : FVec F S262144x4096 .f32) : IVec S262144 32 := fun j =>
  (Host.argReduce reducer_argmin_f32_i32 dd (iotaInDim S262144x4096 32 1) (constant S_ .f32 0x7F800000#32) (constantI S_ 32 0#32)
    reducesTo_S262144x4096_S262144_d1 h_S_ j).2
/-- The site numbers, a negative one counted from the table's end, as a column. -/
def rows (n : IVec S262144 32) : IVec S262144x1 32 :=
  broadcastInDim S262144x1 ![0] bcast_S262144_S262144x1_0
    (select (cmpi .slt n (broadcastInDim S262144 ![] bcast_S_S262144 (constantI S_ 32 0#32)))
      (addi n (broadcastInDim S262144 ![] bcast_S_S262144 (constantI S_ 32 4096#32))) n)
/-- Whether a row number is one of the table's. -/
def inside (r : IVec S262144x1 32) : IVec S262144 1 :=
  Host.reduce IntOp.andi
    (andi (cmpi .sge r (broadcastInDim S262144x1 ![] bcast_S_S262144x1 (constantI S_ 32 0#32)))
      (cmpi .sle r (broadcastInDim S262144x1 ![0, 1] bcast_S1x1_S262144x1_0_1 (broadcastInDim S1x1 ![1] bcast_S1_S1x1_1 (constantI S1 32 4095#32)))))
    (constantI S_ 1 1#1) reducesTo_S262144x1_S262144_d1 h_S_
/-- The colours' rows taken by number, not-a-number where there is no such row. -/
def take (c : FVec F S4096x3 .f32) (n : IVec S262144 32) : FVec F S262144x3 .f32 :=
  select (broadcastInDim S262144x3 ![0] bcast_S262144_S262144x3_0 (inside (rows n)))
    (Host.gather gather_S4096x3_S262144x1_S262144x3_1_0_n_n_0_1_13 c (rows n))
    (broadcastInDim S262144x3 ![] bcast_S_S262144x3 (constant S_ .f32 0x7FC00000#32))
/-- The reference's result: the nearest site's colour. -/
def nearestColour (x : FVec F S262144x2 .f32) (p : FVec F S20481 .f32) : FVec F S262144x3 .f32 :=
  take (colours p) (nearest (distances x p))

/-! ## The run -/

/-- The operations before the search. -/
abbrev ops1 : List (HloOp τ sig (Elt F)) :=
  [ unary main_arg1 main_v0 ((extractStridedSlice S20480 ![1] · slices_S20481_S20480_1) : (⟨S20481, .f32⟩ : BufTy).Contents (Elt F) → (⟨S20480, .f32⟩ : BufTy).Contents (Elt F)),
    reshape main_v0 main_v1 (rfl : (.f32 : EltTy) = .f32) shapeCasts_S20480_S4096x5,
    unary main_v1 main_v2 ((extractStridedSlice S4096x2 ![0, 0] · slices_S4096x5_S4096x2_0_0) : (⟨S4096x5, .f32⟩ : BufTy).Contents (Elt F) → (⟨S4096x2, .f32⟩ : BufTy).Contents (Elt F)),
    unary main_v1 main_v3 ((extractStridedSlice S4096x3 ![0, 2] · slices_S4096x5_S4096x3_0_2) : (⟨S4096x5, .f32⟩ : BufTy).Contents (Elt F) → (⟨S4096x3, .f32⟩ : BufTy).Contents (Elt F)),
    unary main_arg0 main_v4 (broadcastInDim S262144x1x2 ![0, 2] bcast_S262144x2_S262144x1x2_0_2 : (⟨S262144x2, .f32⟩ : BufTy).Contents (Elt F) → (⟨S262144x1x2, .f32⟩ : BufTy).Contents (Elt F)),
    unary main_v2 main_v5 (broadcastInDim S1x4096x2 ![1, 2] bcast_S4096x2_S1x4096x2_1_2 : (⟨S4096x2, .f32⟩ : BufTy).Contents (Elt F) → (⟨S1x4096x2, .f32⟩ : BufTy).Contents (Elt F)),
    unary main_v4 main_v6 (broadcastInDim S262144x4096x2 ![0, 1, 2] bcast_S262144x1x2_S262144x4096x2_0_1_2 : (⟨S262144x1x2, .f32⟩ : BufTy).Contents (Elt F) → (⟨S262144x4096x2, .f32⟩ : BufTy).Contents (Elt F)),
    unary main_v5 main_v7 (broadcastInDim S262144x4096x2 ![0, 1, 2] bcast_S1x4096x2_S262144x4096x2_0_1_2 : (⟨S1x4096x2, .f32⟩ : BufTy).Contents (Elt F) → (⟨S262144x4096x2, .f32⟩ : BufTy).Contents (Elt F)),
    binary main_v6 main_v7 main_v8 (subf : (⟨S262144x4096x2, .f32⟩ : BufTy).Contents (Elt F) → (⟨S262144x4096x2, .f32⟩ : BufTy).Contents (Elt F) → (⟨S262144x4096x2, .f32⟩ : BufTy).Contents (Elt F)),
    binary main_v8 main_v8 main_v9 (mulf : (⟨S262144x4096x2, .f32⟩ : BufTy).Contents (Elt F) → (⟨S262144x4096x2, .f32⟩ : BufTy).Contents (Elt F) → (⟨S262144x4096x2, .f32⟩ : BufTy).Contents (Elt F)),
    nullary main_cst (constant S_ .f32 0x00000000#32),
    binary main_v9 main_cst main_v10 ((fun x v => Host.reduceAdd x v reducesTo_S262144x4096x2_S262144x4096_d2 h_S_) : (⟨S262144x4096x2, .f32⟩ : BufTy).Contents (Elt F) → (⟨S_, .f32⟩ : BufTy).Contents (Elt F) → (⟨S262144x4096, .f32⟩ : BufTy).Contents (Elt F)) ]

/-- The search. -/
abbrev ops2 : List (HloOp τ sig (Elt F)) :=
  [ TRef.nullary main_call0.v0 (iotaInDim S262144x4096 32 1),
    TRef.nullary main_call0.cst (constant S_ .f32 0x7F800000#32),
    TRef.nullary main_call0.c (constantI S_ 32 0#32),
    TRef.quaternary (.of main_v10 : TRef sig ⟨S262144x4096, .f32⟩) main_call0.v0 main_call0.cst main_call0.c main_call0.v1_0 (fun x y u v j => (Host.argReduce reducer_argmin_f32_i32 x y u v reducesTo_S262144x4096_S262144_d1 h_S_ j).1),
    TRef.quaternary (.of main_v10 : TRef sig ⟨S262144x4096, .f32⟩) main_call0.v0 main_call0.cst main_call0.c main_call0.v1_1 (fun x y u v j => (Host.argReduce reducer_argmin_f32_i32 x y u v reducesTo_S262144x4096_S262144_d1 h_S_ j).2) ]

/-- The taking of the rows. -/
abbrev ops3 : List (HloOp τ sig (Elt F)) :=
  [ TRef.nullary main_call1.c (constantI S_ 32 0#32),
    TRef.unary main_call1.c main_call1.v0 (broadcastInDim S262144 ![] bcast_S_S262144),
    TRef.binary (.of main_v11 : TRef sig ⟨S262144, .i32⟩) main_call1.v0 main_call1.v1 (cmpi .slt),
    TRef.nullary main_call1.c_0 (constantI S_ 32 4096#32),
    TRef.unary main_call1.c_0 main_call1.v2 (broadcastInDim S262144 ![] bcast_S_S262144),
    TRef.binary (.of main_v11 : TRef sig ⟨S262144, .i32⟩) main_call1.v2 main_call1.v3 addi,
    TRef.ternary main_call1.v1 main_call1.v3 (.of main_v11 : TRef sig ⟨S262144, .i32⟩) main_call1.call0.v0 select,
    TRef.unary main_call1.call0.v0 main_call1.v5 (broadcastInDim S262144x1 ![0] bcast_S262144_S262144x1_0),
    TRef.nullary main_call1.c_1 (constantI S1 32 4095#32),
    TRef.nullary main_call1.c_2 (constantI S_ 32 0#32),
    TRef.unary main_call1.c_2 main_call1.v6 (broadcastInDim S262144x1 ![] bcast_S_S262144x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S262144x1 ![0, 1] bcast_S1x1_S262144x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S262144x1_S262144_d1 h_S_),
    TRef.binary (.of main_v3 : TRef sig ⟨S4096x3, .f32⟩) main_call1.v5 main_call1.v13 (fun x i => Host.gather gather_S4096x3_S262144x1_S262144x3_1_0_n_n_0_1_13 x i),
    TRef.unary main_call1.v12 main_call1.v14 (broadcastInDim S262144x3 ![0] bcast_S262144_S262144x3_0),
    TRef.nullary main_call1.cst (constant S_ .f32 0x7FC00000#32),
    TRef.unary main_call1.cst main_call1.v15 (broadcastInDim S262144x3 ![] bcast_S_S262144x3),
    TRef.ternary main_call1.v14 main_call1.v13 main_call1.v15 main_call1.v16 select ]

/-- The program is that straight line. -/
theorem main_eq (c : Dev nD) : main (F := F) c = seq (ops1 ++ ops2 ++ ops3) := rfl

/-- The operations touch only the program's arrays. -/
theorem ops_sub : (ops1 ++ ops2 ++ ops3 : List (HloOp τ sig (Elt F))).Forall fun op => op.bufs ⊆ tcRefs τ sig := by
  simp only [List.cons_append, List.nil_append, List.Forall]
  simp

/-- No array is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Running two lists of operations one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The distances. -/
theorem v10_eq (V : Valuation τ sig (Elt F)) :
    after ops1 V (main_v10 : DevRef τ sig) = distances (V (main_arg0 : DevRef τ sig)) (V (main_arg1 : DevRef τ sig)) := by
  after_reads_simp
  rfl
/-- The colours. -/
theorem v3_eq (V : Valuation τ sig (Elt F)) :
    after ops1 V (main_v3 : DevRef τ sig) = colours (V (main_arg1 : DevRef τ sig)) := by
  after_reads_simp
  rfl
/-- The search leaves the colours alone. -/
theorem v3_eq2 (V : Valuation τ sig (Elt F)) : after ops2 V (main_v3 : DevRef τ sig) = V (main_v3 : DevRef τ sig) := by
  after_reads_simp
/-- The nearest site's number. -/
theorem v11_eq (V : Valuation τ sig (Elt F)) :
    after ops2 V (main_v11 : DevRef τ sig) = nearest (V (main_v10 : DevRef τ sig)) := by
  after_reads_simp
  rfl
/-- The colour taken. -/
theorem v12_eq (V : Valuation τ sig (Elt F)) :
    after ops3 V (main_v12 : DevRef τ sig) = take (V (main_v3 : DevRef τ sig)) (V (main_v11 : DevRef τ sig)) := by
  after_reads_simp
  have e1 (v : (main_v11 : Ref sig .tc).ty.Contents (Elt F)) : (TRef.of main_v11 : TRef sig ⟨S262144, .i32⟩).ofBuf v = v := rfl
  have e2 (v : (main_v3 : Ref sig .tc).ty.Contents (Elt F)) : (TRef.of main_v3 : TRef sig ⟨S4096x3, .f32⟩).ofBuf v = v := rfl
  have e3 (v : (⟨S262144x3, .f32⟩ : BufTy).Contents (Elt F)) : (TRef.of main_v12 : TRef sig ⟨S262144x3, .f32⟩).toBuf v = v := rfl
  simp only [TRef.ofBuf_toBuf, e1, e2, e3]
  unfold take inside rows
  rfl
/-- The result. -/
theorem out_eq (V : Valuation τ sig (Elt F)) :
    after (ops1 ++ ops2 ++ ops3) V (main_v12 : DevRef τ sig) = nearestColour (V (main_arg0 : DevRef τ sig)) (V (main_arg1 : DevRef τ sig)) := by
  rw [after_append, after_append, v12_eq, v11_eq, v3_eq2, v3_eq, v10_eq]; rfl
/-- The queries are unchanged. -/
theorem arg0_eq (V : Valuation τ sig (Elt F)) : after (ops1 ++ ops2 ++ ops3) V (main_arg0 : DevRef τ sig) = V (main_arg0 : DevRef τ sig) := by
  after_reads_simp
/-- The table is unchanged. -/
theorem arg1_eq (V : Valuation τ sig (Elt F)) : after (ops1 ++ ops2 ++ ops3) V (main_arg1 : DevRef τ sig) = V (main_arg1 : DevRef τ sig) := by
  after_reads_simp

/-- The reference's run, over any float values. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v12) = nearestColour (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v12).trans (out_eq _), (h c main_arg0).trans (arg0_eq _), (h c main_arg1).trans (arg1_eq _)⟩)
    (run_seq scopedRefs_eq scopedSems_eq defs main (fun _ => ops1 ++ ops2 ++ ops3) main_eq (fun _ => ops_sub) m ρ)

end Cert.Proof.Ref
-- ==== Proof.Frames.lean ====
module

public import proofs.«01_k».proof.Defs
public import proofs.«01_k».proof.Proof.Gen.Kernel
public import proofs.«01_k».proof.Proof.Run
public import proofs.«01_k».proof.Proof.RefRun

/-! # The frames

The three programs run from every memory, leave their arguments as they were and every semaphore at zero.
The kernel and its idealization have one text, so one run, taken over any float values, serves both. -/

@[expose] public section

noncomputable section

namespace Cert.Proof

open Idealize.ShloMosaic Idealize.SL.Sem

/-- The kernel's frame. -/
theorem frame_kernel : Cert.quiescent_Kernel := fun m ρ _ =>
  (θ_run Cert.KernelIdeal.defs _ _).mono (fun _ h => ⟨fun c => (h.1 c).1, h.2⟩) (run_main (F := Bits) m ρ)

/-- The ideal kernel's frame. -/
theorem frame_ideal : Cert.quiescent_KernelIdeal := fun m ρ _ =>
  (θ_run Cert.KernelIdeal.defs _ _).mono (fun _ h => ⟨fun c => (h.1 c).1, h.2⟩) (run_main (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Ref.run_main (F := Ideal) m ρ)

end Cert.Proof
-- ==== Proof.KernelValue.lean ====
module

public import proofs.«01_k».proof.Proof.Run
public import Idealize.ShloMosaic.Lib.Pointwise

/-! # The kernel's result, entry by entry

Channel `ch` of query `q` is the word `q / 128 * 512 + ch * 128 + q % 128` of the answers, and the coordinates of query
`q` are the words `q / 128 * 256 + q % 128` and `q / 128 * 256 + q % 128 + 128` of the rearranged queries. -/

@[expose] public section

noncomputable section

namespace Cert.Proof

open Cert.KernelIdeal Cert.KernelIdeal.Gen
open Idealize.ShloMosaic
open Idealize.ShloMosaic.SparseCore (S V T)

variable {F : FTy → Type} [FloatOps F]

/-- The queries in blocks of 128, each block's first coordinates before its second ones. -/
def blocks (x : FVec F S262144x2 .f32) : FVec F S524288 .f32 :=
  shapeCast S524288 (transpose S2048x2x128 [0, 2, 1] (shapeCast S2048x128x2 x shapeCasts_S262144x2_S2048x128x2)
    transposes_S2048x128x2_S2048x2x128_0_2_1) shapeCasts_S2048x2x128_S524288

/-- The answers' first three channels, one row for each query. -/
def unblocks (g : FVec F S1048576 .f32) : FVec F S262144x3 .f32 :=
  shapeCast S262144x3 (transpose S2048x128x3 [0, 2, 1] (extractStridedSlice S2048x3x128 ![0, 0, 0]
    (shapeCast S2048x4x128 g shapeCasts_S1048576_S2048x4x128) slices_S2048x4x128_S2048x3x128_0_0_0)
    transposes_S2048x3x128_S2048x128x3_0_2_1) shapeCasts_S2048x128x3_S262144x3

/-- Where the rearranged queries keep coordinate `j` of query `q`. -/
theorem blocks_at (x : FVec F S262144x2 .f32) (q : Fin 262144) (j : Fin 2) :
    blocks x (ix1 ⟨q.val / 128 * 256 + q.val % 128 + 128 * j.val, by omega⟩) = x (ix2 q j) := by
  pointwise [blocks]

/-- The word of the answers that channel `ch` of query `q` comes from. -/
theorem unblocks_at (g : FVec F S1048576 .f32) (q : Fin 262144) (ch : Fin 3) :
    unblocks g (ix2 q ch) = g (ix1 ⟨q.val / 128 * 512 + ch.val * 128 + q.val % 128, by omega⟩) := by
  pointwise [unblocks]

variable (m : (ℓ : Loc nD τ sig) → Buf (Elt F) ℓ)

/-! What the host's operations write. -/

theorem opA_writes (V : Valuation τ sig (Elt F)) : (opA (F := F)).result V a0' = shapeCast S2048x128x2 (V x' : FVec F S262144x2 .f32) shapeCasts_S262144x2_S2048x128x2 :=
  StableHlo.reshape_result _ _ _ _ _ _ V
theorem opB_writes (V : Valuation τ sig (Elt F)) : (opB (F := F)).result V a1' = transpose S2048x2x128 [0, 2, 1] (V a0' : FVec F S2048x128x2 .f32) transposes_S2048x128x2_S2048x2x128_0_2_1 :=
  StableHlo.unary_result _ _ _ _ _ V
theorem opC_writes (V : Valuation τ sig (Elt F)) : (opC (F := F)).result V q' = shapeCast S524288 (V a1' : FVec F S2048x2x128 .f32) shapeCasts_S2048x2x128_S524288 :=
  StableHlo.reshape_result _ _ _ _ _ _ V
theorem opE_writes (V : Valuation τ sig (Elt F)) : (opE (F := F)).result V b4' = shapeCast S2048x4x128 (V o' : FVec F S1048576 .f32) shapeCasts_S1048576_S2048x4x128 :=
  StableHlo.reshape_result _ _ _ _ _ _ V
theorem opF_writes (V : Valuation τ sig (Elt F)) : (opF (F := F)).result V b5' = extractStridedSlice S2048x3x128 ![0, 0, 0] (V b4' : FVec F S2048x4x128 .f32) slices_S2048x4x128_S2048x3x128_0_0_0 :=
  StableHlo.unary_result _ _ _ _ _ V
theorem opG_writes (V : Valuation τ sig (Elt F)) : (opG (F := F)).result V b6' = transpose S2048x128x3 [0, 2, 1] (V b5' : FVec F S2048x3x128 .f32) transposes_S2048x3x128_S2048x128x3_0_2_1 :=
  StableHlo.unary_result _ _ _ _ _ V
theorem opH_writes (V : Valuation τ sig (Elt F)) : (opH (F := F)).result V r' = shapeCast S262144x3 (V b6' : FVec F S2048x128x3 .f32) shapeCasts_S2048x128x3_S262144x3 :=
  StableHlo.reshape_result _ _ _ _ _ _ V

/-- The rearranged queries are the queries in blocks. -/
theorem X_eq (d : Dev nD) : X m d = blocks (F := F) (m (xLoc d)) := by
  unfold X V3
  rw [opC_writes, opB_writes, opA_writes]
  rfl

/-- The result is the answers' rows. -/
theorem V8_eq (d : Dev nD) (g : Buf (Elt F) (oLoc d)) : V8 m d g r' = unblocks (F := F) g := by
  unfold V8
  rw [opH_writes, opG_writes, opF_writes, opE_writes, V4_o]
  rfl

/-- An entry of the kernel's result. -/
theorem V8_at (d : Dev nD) (g : Buf (Elt F) (oLoc d)) (hg : AllRight m d g) (q : Fin 262144) (ch : Fin 3) :
    (V8 m d g r' : FVec F S262144x3 .f32) (ix2 q ch)
      = pick (tabOf m d) ((m (xLoc d) : FVec F S262144x2 .f32) (ix2 q 0)) ((m (xLoc d) : FVec F S262144x2 .f32) (ix2 q 1)) ch.val := by
  rw [V8_eq, unblocks_at, hg _ (show (q.val / 128 * 512 + ch.val * 128 + q.val % 128) % 512 / 128 < 3 by omega)]
  show answer _ _ (q.val / 128 * 512 + ch.val * 128 + q.val % 128) = _
  unfold answer
  rw [show (q.val / 128 * 512 + ch.val * 128 + q.val % 128) / 512 * 256 + (q.val / 128 * 512 + ch.val * 128 + q.val % 128) % 128
      = q.val / 128 * 256 + q.val % 128 by omega,
    show (q.val / 128 * 512 + ch.val * 128 + q.val % 128) % 512 / 128 = ch.val by omega,
    ← blocks_at (m (xLoc d)) q 0, ← blocks_at (m (xLoc d)) q 1, ← X_eq, xqOf_eq, xqOf_eq]
  rfl

end Cert.Proof
-- ==== Proof.Window.lean ====
module

public import proofs.«01_k».proof.Proof.Unit
public import Idealize.ShloMosaic.PureOps.Ideal.Laws

/-! # The window around a query, in one axis

A query's coordinate `r` lies in `[0, 1]`, which 64 cells of equal width divide. The kernel searches four cells in
a row, the window. A site of a cell outside the window is at least one cell and a half away from the query; a site
of the query's own cell, which the window contains, is at most one cell away. -/

@[expose] public section

noncomputable section

namespace Cert.Proof

open Idealize.ShloMosaic Idealize.SL.Sem
open Cert.KernelIdeal Cert.KernelIdeal.Gen

/-- `s` lies in cell number `c`. -/
def InCell (c : ℕ) (s : ℝ) : Prop := (c : ℝ) ≤ 64 * s ∧ 64 * s ≤ c + 1

/-- The four cells from `A` on are a window for the query `r`. -/
structure Window (r : ℝ) (A : ℕ) : Prop where
  le : A ≤ 60
  far : ∀ c s, c < 64 → InCell c s → ¬ (A ≤ c ∧ c ≤ A + 3) → 9 / 4 ≤ (64 * r - 64 * s) ^ 2
  near : ∃ c, A ≤ c ∧ c ≤ A + 3 ∧ ∀ s, InCell c s → (64 * r - 64 * s) ^ 2 ≤ 1

/-- The clipping of the window's first cell, the query's cell being `f` and `h` telling whether the query lies in
the upper half of it. -/
theorem clip_eq : ∀ (f : Fin 65) (h : Bool),
    (Scalar.minsi 60#32 (Scalar.maxsi 0#32 (BitVec.ofNat 32 f.val - 2#32 + Scalar.select (BitVec.ofBool h) 1#32 0#32))).toNat
      = min 60 (f.val + h.toNat - 2) := by
  decide

/-- The window's corner from the coordinate's cell and the half of the cell it lies in. -/
theorem window_of_floor {r : ℝ} {f : ℕ} {h : Bool} (hf : (f : ℝ) ≤ 64 * r) (hf1 : 64 * r < f + 1) (h64 : f ≤ 64) (hr1 : 64 * r ≤ 64)
    (hh : h = decide ((1 : ℝ) / 2 ≤ 64 * r - f)) : Window r (min 60 (f + h.toNat - 2)) := by
  have hb : (h.toNat = 1 ∧ (1 : ℝ) / 2 ≤ 64 * r - f) ∨ (h.toNat = 0 ∧ 64 * r - f < (1 : ℝ) / 2) := by
    by_cases hc : (1 : ℝ) / 2 ≤ 64 * r - f
    · exact Or.inl ⟨by rw [hh, decide_eq_true hc]; rfl, hc⟩
    · right; rw [hh]; simp only [hc, decide_false, Bool.toNat_false, true_and]; exact not_le.mp hc
  refine ⟨Nat.min_le_left _ _, ?_, ?_⟩
  · rintro c s hc ⟨h1, h2⟩ hn
    have hlt : c + 1 ≤ min 60 (f + h.toNat - 2) ∨ min 60 (f + h.toNat - 2) + 4 ≤ c := by omega
    rcases hlt with hl | hl
    · have e : c + 3 ≤ f + h.toNat := by omega
      have e' : (c : ℝ) + 3 ≤ f + h.toNat := by exact_mod_cast e
      have : 3 / 2 ≤ 64 * r - 64 * s := by
        rcases hb with ⟨g, k⟩ | ⟨g, k⟩ <;> rw [g] at e' <;> push_cast at e' <;> linarith
      nlinarith
    · have e : f + h.toNat + 2 ≤ c := by omega
      have e' : (f : ℝ) + h.toNat + 2 ≤ c := by exact_mod_cast e
      have : 3 / 2 ≤ 64 * s - 64 * r := by
        rcases hb with ⟨g, k⟩ | ⟨g, k⟩ <;> rw [g] at e' <;> push_cast at e' <;> linarith
      nlinarith
  · have h01 : h.toNat ≤ 1 := Bool.toNat_le h
    refine ⟨min f 63, by omega, by omega, ?_⟩
    rintro s ⟨h1, h2⟩
    rcases Nat.lt_or_ge f 64 with hlt | hge
    · rw [Nat.min_eq_left (by omega)] at h1 h2
      rw [sq_le_one_iff_abs_le_one, abs_le]; constructor <;> linarith
    · have : f = 64 := by omega
      subst this
      norm_num at h1 h2 hf
      rw [sq_le_one_iff_abs_le_one, abs_le]; constructor <;> linarith

/-- One half. -/
theorem half_f32 : Ideal.ofBits .f32 0x3F000000#32 = ((1 / 2 : ℝ) : EReal) := by
  simp [Ideal.ofBits, Ideal.ieee, -EReal.coe_mul]; norm_num
/-- Sixty-four. -/
theorem sixtyFour_f32 : Ideal.ofBits .f32 0x42800000#32 = ((64 : ℝ) : EReal) := by
  simp [Ideal.ofBits, Ideal.ieee, -EReal.coe_mul]; norm_num
/-- One. -/
theorem one_f32 : Ideal.ofBits .f32 0x3F800000#32 = ((1 : ℝ) : EReal) := by
  simp [Ideal.ofBits, Ideal.ieee, -EReal.coe_mul]; norm_num
/-- Infinity. -/
theorem top_f32 : Ideal.ofBits .f32 0x7F800000#32 = ⊤ := by simp [Ideal.ofBits, Ideal.ieee]

/-- The kernel's first cell is a window for its query. -/
theorem corner_window {r : ℝ} (h0 : 0 ≤ r) (h1 : r ≤ 1) (q : FVec Ideal S16 .f32) (l : S16.Idx) (hq : q l = (r : EReal)) :
    Window r (corner q l).toNat := by
  have hf0 : 0 ≤ ⌊64 * r⌋ := Int.floor_nonneg.mpr (by linarith)
  obtain ⟨f, hf⟩ := Int.eq_ofNat_of_zero_le hf0
  have hle : (f : ℝ) ≤ 64 * r := by
    have := Int.floor_le (64 * r); rw [hf] at this; exact_mod_cast this
  have hlt : 64 * r < f + 1 := by
    have := Int.lt_floor_add_one (64 * r); rw [hf] at this; exact_mod_cast this
  have h64 : f ≤ 64 := by
    have : (f : ℝ) ≤ 64 := by linarith
    exact_mod_cast this
  have ht : Ideal.fptosi 32 ((r : EReal) * ((64 : ℝ) : EReal)) = BitVec.ofNat 32 f := by
    rw [← EReal.coe_mul, mul_comm, Ideal.fptosi, Ideal.toIntClamped_coe, if_pos (by linarith), hf]
    rw [show max (-((2 ^ (32 - 1) : ℕ) : ℤ)) (min (((2 ^ (32 - 1) : ℕ) : ℤ) - 1) (f : ℤ)) = (f : ℤ) by
      rw [min_eq_right (by norm_num; omega), max_eq_right (by norm_num)]]
    exact BitVec.ofInt_natCast _ _
  have hi : (BitVec.ofNat 32 f).toInt = (f : ℤ) := by
    rw [BitVec.toInt_eq_toNat_cond, BitVec.toNat_ofNat]; split <;> omega
  have hc : corner q l = Scalar.minsi 60#32 (Scalar.maxsi 0#32 (BitVec.ofNat 32 f - 2#32
      + Scalar.select (BitVec.ofBool (decide ((1 : ℝ) / 2 ≤ 64 * r - f))) 1#32 0#32)) := by
    have hs : Ideal.cmp .oge ((r : EReal) * ((64 : ℝ) : EReal) - (((BitVec.ofNat 32 f).toInt : ℝ) : EReal)) ((1 / 2 : ℝ) : EReal)
        = BitVec.ofBool (decide ((1 : ℝ) / 2 ≤ 64 * r - f)) := by
      rw [hi, ← EReal.coe_mul, ← EReal.coe_sub, mul_comm]
      show BitVec.ofBool (decide (((1 / 2 : ℝ) : EReal) ≤ ((64 * r - ((f : ℤ) : ℝ) : ℝ) : EReal))) = _
      exact congrArg BitVec.ofBool (decide_eq_decide.mpr (by rw [EReal.coe_le_coe_iff, Int.cast_natCast]))
    rw [← hs, ← ht, ← half_f32, ← sixtyFour_f32, ← hq]
    rfl
  rw [hc, clip_eq ⟨f, by omega⟩]
  exact window_of_floor hle hlt h64 (by linarith) rfl

end Cert.Proof
-- ==== Proof.Nearest.lean ====
module

public import proofs.«01_k».proof.Proof.Spec
public import proofs.«01_k».proof.Proof.Window

/-! # The kernel's search finds the nearest site

Site number `n` lies in cell `(n / 64, n % 64)` of the square's grid. The sixteen sites the kernel looks at are those
of four by four cells. Its search keeps the first one that is nearest among them. Every other site is farther away
than the site of the query's own cell, so that this is the first nearest of all 4096 sites. -/

@[expose] public section

noncomputable section

namespace Cert.Proof

open Idealize.ShloMosaic Idealize.SL.Sem
open Cert.KernelIdeal Cert.KernelIdeal.Gen

/-- The squared distance from `(x, y)` to site number `n`. -/
def gap (x y : ℝ) (sx sy : ℕ → ℝ) (n : ℕ) : ℝ := (x - sx n) * (x - sx n) + (y - sy n) * (y - sy n)

/-- Of the first `N` numbers, `k` is the first at which `D` is least. -/
def IsFirst (D : ℕ → ℝ) (N k : ℕ) : Prop := k < N ∧ ∀ n < N, D k ≤ D n ∧ (n < k → D k < D n)

/-- There is one first least entry. -/
theorem IsFirst.unique {D : ℕ → ℝ} {N k k' : ℕ} (h : IsFirst D N k) (h' : IsFirst D N k') : k = k' := by
  rcases lt_trichotomy k k' with e | e | e
  · have a := (h'.2 k h.1).2 e
    have b := (h.2 k' h'.1).1
    linarith
  · exact e
  · have a := (h.2 k' h'.1).2 e
    have b := (h'.2 k h.1).1
    linarith

/-- The site number of the window's cell number `m`, the window's first cell being `(A, B)`. -/
def siteAt (A B m : ℕ) : ℕ := 64 * (A + m / 4) + (B + m % 4)

/-- The window's first word as a number: five words for each site before the corner's. -/
theorem windowBase_toNat {F : FTy → Type} [FloatOps F] (qx qy : FVec F S16 .f32) (l : S16.Idx) :
    (windowBase qx qy l).toNat = (64 * (corner qx l).toNat + (corner qy l).toNat) * 5 := by
  have h1 := corner_le qx l
  have h2 := corner_le qy l
  show ((corner qx l * 64#32 + corner qy l) * 5#32).toNat = _
  rw [BitVec.toNat_mul, BitVec.toNat_add, BitVec.toNat_mul]
  show (((corner qx l).toNat * 64 % 4294967296 + (corner qy l).toNat) % 4294967296) * 5 % 4294967296 = _
  omega

/-- The search keeps the first nearest of the sites seen. -/
theorem search_first (tab : ℕ → Ideal .f32) (qx qy : FVec Ideal S16 .f32) (b : IVec S16 32) (l : S16.Idx) (d : ℕ → ℝ)
    (hd : ∀ m < 16, dist qx qy (fun l => tab ((b l).toNat + offs m + 1)) (fun l => tab ((b l).toNat + offs m + 2)) l = ((d m : ℝ) : EReal)) :
    ∀ j, j < 16 → ∃ m, (search tab qx qy b (j + 1)).1 l = ((d m : ℝ) : EReal) ∧
      (search tab qx qy b (j + 1)).2 l = BitVec.ofNat 32 (offs m) ∧ IsFirst d (j + 1) m
  | 0, _ => by
    refine ⟨0, ?_, ?_, by omega, ?_⟩
    · have h := hd 0 (by omega)
      show Scalar.select (Ideal.cmp .olt (dist qx qy _ _ l) (Ideal.ofBits .f32 0x7F800000#32)) (dist qx qy _ _ l) _ = _
      rw [h, top_f32]
      simp [Ideal.cmp, Scalar.select, EReal.coe_lt_top]
    · have h := hd 0 (by omega)
      show Scalar.select (Ideal.cmp .olt (dist qx qy _ _ l) (Ideal.ofBits .f32 0x7F800000#32)) _ _ = _
      rw [h, top_f32]
      simp [Ideal.cmp, Scalar.select, EReal.coe_lt_top, broadcast]
    · intro n hn
      have : n = 0 := by omega
      subst this
      exact ⟨le_rfl, fun h => by omega⟩
  | j + 1, hj => by
    obtain ⟨m, e1, e2, hm, hmin⟩ := search_first tab qx qy b l d hd j (by omega)
    have h := hd (j + 1) hj
    have s1 : (search tab qx qy b (j + 1 + 1)).1 l
        = Scalar.select (Ideal.cmp .olt ((d (j + 1) : ℝ) : EReal) ((d m : ℝ) : EReal)) ((d (j + 1) : ℝ) : EReal) ((d m : ℝ) : EReal) := by
      rw [← h, ← e1]; rfl
    have s2 : (search tab qx qy b (j + 1 + 1)).2 l
        = Scalar.select (Ideal.cmp .olt ((d (j + 1) : ℝ) : EReal) ((d m : ℝ) : EReal)) (BitVec.ofNat 32 (offs (j + 1))) (BitVec.ofNat 32 (offs m)) := by
      rw [← h, ← e1, ← e2]; rfl
    by_cases hlt : d (j + 1) < d m
    · refine ⟨j + 1, ?_, ?_, by omega, ?_⟩
      · rw [s1]; simp [Ideal.cmp, Scalar.select, hlt]
      · rw [s2]; simp [Ideal.cmp, Scalar.select, hlt]
      · intro n hn
        rcases Nat.lt_or_ge n (j + 1) with hn' | hn'
        · have := (hmin n hn').1
          exact ⟨by linarith, fun _ => by linarith⟩
        · have : n = j + 1 := by omega
          subst this
          exact ⟨le_rfl, fun h => by omega⟩
    · refine ⟨m, ?_, ?_, by omega, ?_⟩
      · rw [s1]; simp [Ideal.cmp, Scalar.select, hlt]
      · rw [s2]; simp [Ideal.cmp, Scalar.select, hlt]
      · intro n hn
        rcases Nat.lt_or_ge n (j + 1) with hn' | hn'
        · exact hmin n hn'
        · have : n = j + 1 := by omega
          subst this
          exact ⟨not_lt.mp hlt, fun h => by omega⟩

/-- The first nearest site of the window is the first nearest of all. -/
theorem window_first {x y : ℝ} {sx sy : ℕ → ℝ} {A B : ℕ} (hA : Window x A) (hB : Window y B)
    (hs : ∀ n < 4096, InCell (n / 64) (sx n) ∧ InCell (n % 64) (sy n)) {m : ℕ}
    (hm : IsFirst (fun i => gap x y sx sy (siteAt A B i)) 16 m) : IsFirst (gap x y sx sy) 4096 (siteAt A B m) := by
  have lA := hA.le
  have lB := hB.le
  have hm16 := hm.1
  have mem : ∀ n, A ≤ n / 64 → n / 64 ≤ A + 3 → B ≤ n % 64 → n % 64 ≤ B + 3 →
      4 * (n / 64 - A) + (n % 64 - B) < 16 ∧ siteAt A B (4 * (n / 64 - A) + (n % 64 - B)) = n := by
    intro n h1 h2 h3 h4
    constructor
    · omega
    · unfold siteAt
      have e1 : (4 * (n / 64 - A) + (n % 64 - B)) / 4 = n / 64 - A := by omega
      have e2 : (4 * (n / 64 - A) + (n % 64 - B)) % 4 = n % 64 - B := by omega
      rw [e1, e2]
      omega
  refine ⟨by unfold siteAt; omega, fun n hn => ?_⟩
  by_cases hin : (A ≤ n / 64 ∧ n / 64 ≤ A + 3) ∧ (B ≤ n % 64 ∧ n % 64 ≤ B + 3)
  · obtain ⟨⟨h1, h2⟩, h3, h4⟩ := hin
    obtain ⟨hlt, heq⟩ := mem n h1 h2 h3 h4
    have := hm.2 _ hlt
    simp only [heq] at this
    refine ⟨this.1, fun hnk => this.2 ?_⟩
    unfold siteAt at hnk
    omega
  · obtain ⟨c, c1, c2, hc⟩ := hA.near
    obtain ⟨e, e1, e2, he⟩ := hB.near
    have d1 : (64 * c + e) / 64 = c := by omega
    have d2 : (64 * c + e) % 64 = e := by omega
    obtain ⟨hlt, heq⟩ := mem (64 * c + e) (by omega) (by omega) (by omega) (by omega)
    have own := (hm.2 _ hlt).1
    simp only [heq] at own
    have s0 := hs (64 * c + e) (by omega)
    rw [d1, d2] at s0
    have n1 := hc _ s0.1
    have n2 := he _ s0.2
    have sn := hs n hn
    have key : gap x y sx sy (siteAt A B m) < gap x y sx sy n := by
      have far : 9 / 4 ≤ (64 * x - 64 * sx n) ^ 2 + (64 * y - 64 * sy n) ^ 2 := by
        by_cases ha : A ≤ n / 64 ∧ n / 64 ≤ A + 3
        · have := hB.far (n % 64) (sy n) (by omega) sn.2 (fun hb => hin ⟨ha, hb⟩)
          nlinarith [sq_nonneg (64 * x - 64 * sx n)]
        · have := hA.far (n / 64) (sx n) (by omega) sn.1 ha
          nlinarith [sq_nonneg (64 * y - 64 * sy n)]
      have q0 : 4096 * gap x y sx sy (64 * c + e) ≤ 2 := by
        have : 4096 * gap x y sx sy (64 * c + e) = (64 * x - 64 * sx (64 * c + e)) ^ 2 + (64 * y - 64 * sy (64 * c + e)) ^ 2 := by
          unfold gap; ring
        linarith
      have qn : 9 / 4 ≤ 4096 * gap x y sx sy n := by
        have : 4096 * gap x y sx sy n = (64 * x - 64 * sx n) ^ 2 + (64 * y - 64 * sy n) ^ 2 := by unfold gap; ring
        linarith
      linarith
    exact ⟨key.le, fun _ => key⟩

/-- The colour the kernel picks is the first nearest site's. -/
theorem pick_nearest {tab : ℕ → Ideal .f32} {x y : ℝ} {sx sy : ℕ → ℝ} (hx : 0 ≤ x ∧ x ≤ 1) (hy : 0 ≤ y ∧ y ≤ 1)
    (ht : ∀ n < 4096, tab (5 * n + 1) = ((sx n : ℝ) : EReal) ∧ tab (5 * n + 2) = ((sy n : ℝ) : EReal))
    (hs : ∀ n < 4096, InCell (n / 64) (sx n) ∧ InCell (n % 64) (sy n)) {k : ℕ} (hk : IsFirst (gap x y sx sy) 4096 k) (ch : ℕ) :
    pick tab (x : EReal) (y : EReal) ch = tab (5 * k + (3 + ch)) := by
  have hA := corner_window hx.1 hx.2 (fun _ => (x : EReal)) lane0 rfl
  have hB := corner_window hy.1 hy.2 (fun _ => (y : EReal)) lane0 rfl
  unfold pick colour
  have hb := windowBase_toNat (F := Ideal) (fun _ => (x : EReal)) (fun _ => (y : EReal)) lane0
  generalize (corner (F := Ideal) (fun _ => (x : EReal)) lane0).toNat = A at hA hb
  generalize (corner (F := Ideal) (fun _ => (y : EReal)) lane0).toNat = B at hB hb
  generalize (windowBase (F := Ideal) (fun _ => (x : EReal)) (fun _ => (y : EReal))) = b at hb ⊢
  have lA := hA.le
  have lB := hB.le
  have base : ∀ m, m < 16 → (b lane0).toNat + offs m = 5 * siteAt A B m := by
    intro m hm
    rw [hb]; unfold offs siteAt; omega
  have site_lt : ∀ m, m < 16 → siteAt A B m < 4096 := by intro m hm; unfold siteAt; omega
  obtain ⟨m, -, e2, hm⟩ := search_first tab (fun _ => (x : EReal)) (fun _ => (y : EReal)) b lane0
    (fun m => gap x y sx sy (siteAt A B m)) (fun m hm => by
      have h1 := (ht _ (site_lt m hm)).1
      have h2 := (ht _ (site_lt m hm)).2
      show ((x : EReal) - tab ((b lane0).toNat + offs m + 1)) * ((x : EReal) - tab ((b lane0).toNat + offs m + 1))
        + ((y : EReal) - tab ((b lane0).toNat + offs m + 2)) * ((y : EReal) - tab ((b lane0).toNat + offs m + 2)) = _
      rw [base m hm, h1, h2]
      unfold gap
      push_cast
      rfl) 15 (by omega)
  have hk' := hk.unique (window_first hA hB hs hm)
  have hm16 := hm.1
  have e3 : ((search tab (fun _ => (x : EReal)) (fun _ => (y : EReal)) b 16).2 lane0).toNat = offs m := by
    have h4 : m / 4 ≤ 3 := by omega
    have h5 : offs m ≤ 975 := by unfold offs; omega
    rw [e2, BitVec.toNat_ofNat]
    exact Nat.mod_eq_of_lt (by omega)
  show tab ((b lane0).toNat + ((search tab (fun _ => (x : EReal)) (fun _ => (y : EReal)) b 16).2 lane0).toNat + (3 + ch)) = _
  rw [e3, base m hm16, ← hk']

end Cert.Proof
-- ==== Proof.RefSearch.lean ====
module

public import proofs.«01_k».proof.Proof.RefRun
public import proofs.«01_k».proof.Proof.Nearest
public import Idealize.ShloMosaic.Lib.Pointwise

/-! # The reference's search finds the first nearest site

The reference's search is a fold of a step that keeps the lesser of two distances, and of two equal ones the one of the
lesser site number; from infinity on, it ends with the first nearest site. -/

@[expose] public section

noncomputable section

namespace Cert.Proof.Ref

open Cert.ReferenceIdeal Cert.ReferenceIdeal.Gen
open Idealize.ShloMosaic

/-- The search's step takes the second of two pairs that is strictly less in value. -/
theorem reducer_right {a b : Ideal .f32 × BitVec 32} (h : b.1 < a.1) : reducer_argmin_f32_i32 a b = b := by
  have h1 : ¬ a.1 < b.1 := not_lt.mpr h.le
  have h2 : a.1 ≠ b.1 := h.ne'
  unfold reducer_argmin_f32_i32
  simp [Ideal.cmpf_def, Ideal.cmp, IntOp.ori, IntOp.andi, Scalar.select, h1, h2]

/-- It keeps the first that is strictly less. -/
theorem reducer_left {a b : Ideal .f32 × BitVec 32} (h : a.1 < b.1) : reducer_argmin_f32_i32 a b = a := by
  have h2 : a.1 ≠ b.1 := h.ne
  unfold reducer_argmin_f32_i32
  simp [Ideal.cmpf_def, Ideal.cmp, IntOp.ori, IntOp.andi, Scalar.select, h, h2]

/-- Of two equal ones it takes the one of the lesser number. -/
theorem reducer_tie {v : Ideal .f32} {k n : ℕ} (hk : k < 2 ^ 31) (hn : n < 2 ^ 31) :
    reducer_argmin_f32_i32 (v, BitVec.ofNat 32 k) (v, BitVec.ofNat 32 n) = (v, BitVec.ofNat 32 (min k n)) := by
  have e : ∀ m : ℕ, m < 2 ^ 31 → (BitVec.ofNat 32 m).toInt = m := fun m hm => by
    rw [BitVec.toInt_eq_toNat_cond, BitVec.toNat_ofNat]; split <;> omega
  have hs : (BitVec.ofNat 32 k).slt (BitVec.ofNat 32 n) = decide (k < n) := by
    rw [BitVec.slt_eq_decide, e k hk, e n hn]; simp
  unfold reducer_argmin_f32_i32
  by_cases h : k < n
  · simp [Ideal.cmpf_def, Ideal.cmp, IntOp.ori, IntOp.andi, IntOp.cmpi, Scalar.select, hs, h, Nat.min_eq_left h.le]
  · simp [Ideal.cmpf_def, Ideal.cmp, IntOp.ori, IntOp.andi, IntOp.cmpi, Scalar.select, hs, h, Nat.min_eq_right (not_lt.mp h)]

/-- The search from a site on: it ends with the first nearest of that site and the list's. -/
theorem foldl_first (d : ℕ → ℝ) : ∀ (l : List ℕ) (k : ℕ), k < 2 ^ 31 → (∀ n ∈ l, n < 2 ^ 31) →
    ∃ r, (r = k ∨ r ∈ l) ∧ (l.map fun n => (((d n : ℝ) : EReal), BitVec.ofNat 32 n)).foldl (reducer_argmin_f32_i32 (F := Ideal))
        (((d k : ℝ) : EReal), BitVec.ofNat 32 k) = (((d r : ℝ) : EReal), BitVec.ofNat 32 r) ∧
      ∀ n, n = k ∨ n ∈ l → d r ≤ d n ∧ (n < r → d r < d n)
  | [], k, _, _ => ⟨k, Or.inl rfl, rfl, fun n hn => by
      rcases hn with rfl | hn
      · exact ⟨le_rfl, fun h => absurd h (lt_irrefl _)⟩
      · exact absurd hn (List.not_mem_nil)⟩
  | a :: l, k, hk, hl => by
    have ha : a < 2 ^ 31 := hl a List.mem_cons_self
    have hl' : ∀ n ∈ l, n < 2 ^ 31 := fun n hn => hl n (List.mem_cons_of_mem _ hn)
    -- the step's outcome is the better of the two
    obtain ⟨c, hc, hstep, hcb⟩ : ∃ c, (c = k ∨ c = a) ∧
        reducer_argmin_f32_i32 (F := Ideal) (((d k : ℝ) : EReal), BitVec.ofNat 32 k) (((d a : ℝ) : EReal), BitVec.ofNat 32 a)
          = (((d c : ℝ) : EReal), BitVec.ofNat 32 c) ∧
        (∀ n, n = k ∨ n = a → d c ≤ d n ∧ (n < c → d c < d n)) := by
      rcases lt_trichotomy (d k) (d a) with h | h | h
      · refine ⟨k, Or.inl rfl, reducer_left (EReal.coe_lt_coe_iff.mpr h), ?_⟩
        rintro n (rfl | rfl)
        · exact ⟨le_rfl, fun h => absurd h (lt_irrefl _)⟩
        · exact ⟨h.le, fun _ => h⟩
      · refine ⟨min k a, ?_, ?_, ?_⟩
        · rcases Nat.le_total k a with e | e
          · exact Or.inl (Nat.min_eq_left e)
          · exact Or.inr (Nat.min_eq_right e)
        · have hm : d (min k a) = d a := by
            rcases Nat.le_total k a with e | e
            · rw [Nat.min_eq_left e, h]
            · rw [Nat.min_eq_right e]
          rw [h, hm]
          exact reducer_tie hk ha
        · intro n hn
          have hm : d (min k a) = d a := by
            rcases Nat.le_total k a with e | e
            · rw [Nat.min_eq_left e, h]
            · rw [Nat.min_eq_right e]
          rcases hn with rfl | rfl
          · exact ⟨by rw [hm, h], fun hlt => by omega⟩
          · exact ⟨by rw [hm], fun hlt => by omega⟩
      · refine ⟨a, Or.inr rfl, reducer_right (EReal.coe_lt_coe_iff.mpr h), ?_⟩
        rintro n (rfl | rfl)
        · exact ⟨h.le, fun _ => h⟩
        · exact ⟨le_rfl, fun h => absurd h (lt_irrefl _)⟩
    have hc31 : c < 2 ^ 31 := by rcases hc with rfl | rfl <;> assumption
    obtain ⟨r, hr, hfold, hmin⟩ := foldl_first d l c hc31 hl'
    refine ⟨r, ?_, ?_, ?_⟩
    · rcases hr with rfl | hr
      · rcases hc with rfl | rfl
        · exact Or.inl rfl
        · exact Or.inr List.mem_cons_self
      · exact Or.inr (List.mem_cons_of_mem _ hr)
    · rw [List.map_cons, List.foldl_cons, hstep, hfold]
    · have hrc := hmin c (Or.inl rfl)
      have key : ∀ n, n = k ∨ n = a → d r ≤ d n ∧ (n < r → d r < d n) := by
        intro n hn
        have hcn := hcb n hn
        refine ⟨hrc.1.trans hcn.1, fun hlt => ?_⟩
        rcases Nat.lt_or_ge c r with e | e
        · exact lt_of_lt_of_le (hrc.2 e) hcn.1
        · exact lt_of_le_of_lt hrc.1 (hcn.2 (by omega))
      intro n hn
      rcases hn with rfl | hn
      · exact key _ (Or.inl rfl)
      · rcases List.mem_cons.mp hn with rfl | hn
        · exact key _ (Or.inr rfl)
        · exact hmin n (Or.inr hn)

/-- The search over a row of `K` distances finds the first least. -/
theorem argmin_first {N K : ℕ} (hK0 : 0 < K) (hK : K < 2 ^ 31) {u : Shape} (dd : FVec Ideal ⟨2, ![N, K]⟩ .f32)
    (h : (⟨2, ![N, K]⟩ : Shape).ReducesTo [1] ⟨1, ![N]⟩) (hu : 0 < u.numel) (y : IVec ⟨2, ![N, K]⟩ 32) (hy : ∀ k i, y (ix2 k i) = BitVec.ofNat 32 i.val)
    (ix : FVec Ideal u .f32) (iy : IVec u 32) (hix : ix (Shape.Idx.first hu) = (⊤ : EReal)) (q : Fin N) (d : ℕ → ℝ)
    (hd : ∀ k : Fin K, dd (ix2 q k) = ((d k.val : ℝ) : EReal)) :
    ∃ k, (Host.argReduce reducer_argmin_f32_i32 dd y ix iy h hu (ix1 q)).2 = BitVec.ofNat 32 k ∧
      IsFirst d K k := by
  have hfib : ∀ i : (⟨2, ![N, K]⟩ : Shape).Idx, h.drop i = ix1 q ↔ ∃ k : Fin K, ix2 q k = i := fun i => h.fiber_r2_a1 (ix1 q) i
  let L : List ℕ := ((List.finRange (⟨2, ![N, K]⟩ : Shape).numel).filter fun n => h.drop ((⟨2, ![N, K]⟩ : Shape).rowMajor.symm n) = ix1 q).map
    fun n => ((⟨2, ![N, K]⟩ : Shape).rowMajor.symm n 1).val
  have hL : ∀ n, n ∈ L ↔ n < K := by
    intro n
    constructor
    · intro hn
      obtain ⟨i, -, rfl⟩ := List.mem_map.mp hn
      exact ((⟨2, ![N, K]⟩ : Shape).rowMajor.symm i 1).isLt
    · intro hn
      refine List.mem_map.mpr ⟨(⟨2, ![N, K]⟩ : Shape).rowMajor (ix2 q ⟨n, hn⟩), List.mem_filter.mpr ⟨List.mem_finRange _, ?_⟩, ?_⟩
      · rw [Equiv.symm_apply_apply]
        exact decide_eq_true ((hfib _).mpr ⟨⟨n, hn⟩, rfl⟩)
      · rw [Equiv.symm_apply_apply]; rfl
  have hmap : Host.argReduceFiber dd y h (ix1 q) = L.map fun n => (((d n : ℝ) : EReal), BitVec.ofNat 32 n) := by
    unfold Host.argReduceFiber
    rw [List.map_map]
    refine List.map_congr_left fun n hn => ?_
    obtain ⟨k, hk⟩ := (hfib _).mp (of_decide_eq_true (List.mem_filter.mp hn).2)
    show (dd ((⟨2, ![N, K]⟩ : Shape).rowMajor.symm n), y ((⟨2, ![N, K]⟩ : Shape).rowMajor.symm n))
      = (((d ((⟨2, ![N, K]⟩ : Shape).rowMajor.symm n 1).val : ℝ) : EReal), BitVec.ofNat 32 ((⟨2, ![N, K]⟩ : Shape).rowMajor.symm n 1).val)
    rw [← hk, hd k, hy]
    rfl
  rw [Ideal.argReduce_eq_reduce2, Host.reduce2_eq_foldl_fiber, hmap, hix]
  cases hLe : L with
  | nil => exact absurd ((hL 0).mpr hK0) (by rw [hLe]; exact List.not_mem_nil)
  | cons a l =>
    rw [hLe] at hL
    obtain ⟨r, hr, hfold, hmin⟩ := foldl_first d l a (by have := (hL a).mp List.mem_cons_self; omega)
      (fun n hn => by have := (hL n).mp (List.mem_cons_of_mem _ hn); omega)
    refine ⟨r, ?_, (hL r).mp (List.mem_cons.mpr hr), fun n hn => hmin n (List.mem_cons.mp ((hL n).mpr hn))⟩
    rw [List.map_cons, List.foldl_cons, reducer_right (EReal.coe_lt_top (d a)), hfold]

/-- The numbers searched along are the sites' numbers. -/
theorem iota_at (k : Fin 262144) (i : Fin 4096) : iotaInDim S262144x4096 32 1 (ix2 k i) = BitVec.ofNat 32 i.val := rfl

/-- The search starts from infinity. -/
theorem top_first : (constant (F := Ideal) S_ .f32 0x7F800000#32) (Shape.Idx.first h_S_) = (⊤ : EReal) := top_f32

/-- The search's numbers, as a function. -/
theorem nearest_fun (dd : FVec Ideal S262144x4096 .f32) : nearest dd
    = fun j => (Host.argReduce reducer_argmin_f32_i32 dd (iotaInDim S262144x4096 32 1) (constant S_ .f32 0x7F800000#32) (constantI S_ 32 0#32)
      reducesTo_S262144x4096_S262144_d1 h_S_ j).2 := rfl

/-- The search from any distances, numbers and starting value that are as they should be. -/
theorem nearest_of (dd : FVec Ideal S262144x4096 .f32) (y : IVec S262144x4096 32)
    (hy : ∀ (k : Fin 262144) (i : Fin 4096), y (ix2 k i) = BitVec.ofNat 32 i.val) (u : FVec Ideal S_ .f32) (v : IVec S_ 32)
    (hu : u (Shape.Idx.first h_S_) = (⊤ : EReal)) (q : Fin 262144) (d : ℕ → ℝ)
    (hd : ∀ k : Fin 4096, dd (ix2 q k) = ((d k.val : ℝ) : EReal)) (h1 : 0 < 4096) (h2 : 4096 < 2 ^ 31) :
    ∃ k, (Host.argReduce reducer_argmin_f32_i32 dd y u v reducesTo_S262144x4096_S262144_d1 h_S_ (ix1 q)).2 = BitVec.ofNat 32 k ∧
      IsFirst d 4096 k :=
  argmin_first h1 h2 dd reducesTo_S262144x4096_S262144_d1 h_S_ y hy u v hu q d hd

/-- The search over a query's distances finds the first least. -/
theorem nearest_at (dd : FVec Ideal S262144x4096 .f32) (q : Fin 262144) (d : ℕ → ℝ)
    (hd : ∀ k : Fin 4096, dd (ix2 q k) = ((d k.val : ℝ) : EReal)) : ∃ k, nearest dd (ix1 q) = BitVec.ofNat 32 k ∧ IsFirst d 4096 k := by
  obtain ⟨k, e, hk⟩ := nearest_of dd _ iota_at _ _ top_first q d hd (by norm_num) (by norm_num)
  exact ⟨k, (congrFun (nearest_fun dd) (ix1 q)).trans e, hk⟩

end Cert.Proof.Ref
-- ==== Proof.RefValue.lean ====
module

public import proofs.«01_k».proof.Proof.RefSearch
public import Idealize.ShloMosaic.Lib.ReduceAll
public import Idealize.ShloMosaic.Lib.Routing.Ops

/-! # The reference's result is the first nearest site's colour

The reference's squared distances are those of the plane. The number of the first nearest site is in range, so that the
colour taken is that site's. -/

@[expose] public section

noncomputable section

namespace Cert.Proof.Ref

open Cert.ReferenceIdeal Cert.ReferenceIdeal.Gen
open Idealize.ShloMosaic

/-! ## The distances and the colours -/

/-- The squared distance from query `q` to site `n`, a real. -/
theorem distances_at (x : FVec Ideal S262144x2 .f32) (p : FVec Ideal S20481 .f32) (q : Fin 262144) (n : Fin 4096) {a b s t : ℝ}
    (ha : x (ix2 q 0) = ((a : ℝ) : EReal)) (hb : x (ix2 q 1) = ((b : ℝ) : EReal))
    (hs : p (ix1 ⟨5 * n.val + 1, by omega⟩) = ((s : ℝ) : EReal)) (ht : p (ix1 ⟨5 * n.val + 2, by omega⟩) = ((t : ℝ) : EReal)) :
    distances x p (ix2 q n) = (((a - s) * (a - s) + (b - t) * (b - t) : ℝ) : EReal) := by
  have h := show distances x p (ix2 q n)
      = ∑ k : Fin 2, (x (ix2 q k) - p (ix1 ⟨1 + (n.val * 5 + k.val), by omega⟩)) * (x (ix2 q k) - p (ix1 ⟨1 + (n.val * 5 + k.val), by omega⟩)) by
    pointwise [distances, gaps, positions, siteTable]
  have e1 : (⟨1 + (n.val * 5 + (0 : Fin 2).val), by have := n.isLt; show 1 + (n.val * 5 + 0) < 20481; omega⟩ : Fin 20481) = ⟨5 * n.val + 1, by omega⟩ :=
    Fin.ext (by show 1 + (n.val * 5 + 0) = 5 * n.val + 1; omega)
  have e2 : (⟨1 + (n.val * 5 + (1 : Fin 2).val), by have := n.isLt; show 1 + (n.val * 5 + 1) < 20481; omega⟩ : Fin 20481) = ⟨5 * n.val + 2, by omega⟩ :=
    Fin.ext (by show 1 + (n.val * 5 + 1) = 5 * n.val + 2; omega)
  rw [h, Fin.sum_univ_two, e1, e2, ha, hb, hs, ht]
  push_cast
  rfl

/-- Channel `c` of site `n` in the table. -/
theorem colours_at (p : FVec Ideal S20481 .f32) (n : Fin 4096) (c : Fin 3) :
    colours p (ix2 n c) = p (ix1 ⟨5 * n.val + (3 + c.val), by omega⟩) := by
  have h := show colours p (ix2 n c) = p (ix1 ⟨1 + (n.val * 5 + (2 + c.val)), by omega⟩) by
    pointwise [colours, siteTable]
  rw [h]
  exact congrArg (fun i => p (ix1 i)) (Fin.ext (by show 1 + (n.val * 5 + (2 + c.val)) = 5 * n.val + (3 + c.val); omega))

/-! ## The taking -/

/-- A site's number, which is not negative, is taken as it is. -/
theorem rows_at (n : IVec S262144 32) (q : Fin 262144) {k : ℕ} (hk : k < 4096) (hn : n (ix1 q) = BitVec.ofNat 32 k) (z : Fin 1) :
    rows n (ix2 q z) = BitVec.ofNat 32 k := by
  have h := show rows n (ix2 q z) = Scalar.select (IntOp.cmpi .slt (n (ix1 q)) 0#32) (IntOp.addi (n (ix1 q)) 4096#32) (n (ix1 q)) by
    pointwise [rows]
  have hs : (BitVec.ofNat 32 k).slt 0#32 = false := by
    rw [BitVec.slt_eq_decide, BitVec.toInt_eq_toNat_cond, BitVec.toNat_ofNat]
    simp only [decide_eq_false_iff_not, not_lt]
    show (0 : ℤ) ≤ _
    split <;> omega
  rw [h, hn]
  simp [IntOp.cmpi, Scalar.select, hs]

/-- The row taken is the one named, since every number names a site. -/
theorem take_at (c : FVec Ideal S4096x3 .f32) (n : IVec S262144 32) (hn : ∀ q, ∃ k, k < 4096 ∧ n (ix1 q) = BitVec.ofNat 32 k)
    (q : Fin 262144) (ch : Fin 3) {k : ℕ} (hk : k < 4096) (hq : n (ix1 q) = BitVec.ofNat 32 k) :
    take c n (ix2 q ch) = c (ix2 ⟨k, hk⟩ ch) := by
  have hin : ∀ j, inside (rows n) j = 1#1 := by
    intro j
    refine Host.reduce_andi_one _ _ _ _ j rfl fun i => ?_
    obtain ⟨a, z, rfl⟩ : ∃ a z, i = ix2 a z := ⟨i 0, i 1, eq_ix2 i⟩
    obtain ⟨k', hk', e'⟩ := hn a
    have hr := rows_at n a hk' e' z
    have hi : (BitVec.ofNat 32 k').toInt = (k' : ℤ) := by
      rw [BitVec.toInt_eq_toNat_cond, BitVec.toNat_ofNat]; split <;> omega
    have hlo : (0#32).sle (BitVec.ofNat 32 k') = true := by
      rw [BitVec.sle_eq_decide, hi]; simp
    have hhi : (BitVec.ofNat 32 k').sle 4095#32 = true := by
      rw [BitVec.sle_eq_decide, hi]
      refine decide_eq_true ?_
      show (k' : ℤ) ≤ 4095
      omega
    pointwise
    rw [hr]
    simp [IntOp.cmpi, hlo, hhi]
    rfl
  have h := show take c n (ix2 q ch) = Scalar.select (inside (rows n) (ix1 q))
      (Host.gather gather_S4096x3_S262144x1_S262144x3_1_0_n_n_0_1_13 c (rows n) (ix2 q ch)) (Ideal.ofBits .f32 0x7FC00000#32) by
    pointwise [take]
  rw [h, hin]
  exact Routing.gather_row gather_S4096x3_S262144x1_S262144x3_1_0_n_n_0_1_13 rfl rfl rfl rfl rfl c (rows n) q ch ⟨k, hk⟩
    (rows_at n q hk hq 0) (by norm_num)

/-! ## The whole -/

/-- The reference's result at query `q` and channel `ch`, the queries being `(a q, b q)` and the sites `(sx n, sy n)`. -/
theorem nearestColour_at (x : FVec Ideal S262144x2 .f32) (p : FVec Ideal S20481 .f32) (a b : Fin 262144 → ℝ) (sx sy : ℕ → ℝ)
    (hx : ∀ q, x (ix2 q 0) = ((a q : ℝ) : EReal) ∧ x (ix2 q 1) = ((b q : ℝ) : EReal))
    (hp : ∀ n : Fin 4096, p (ix1 ⟨5 * n.val + 1, by omega⟩) = ((sx n.val : ℝ) : EReal) ∧ p (ix1 ⟨5 * n.val + 2, by omega⟩) = ((sy n.val : ℝ) : EReal))
    (q : Fin 262144) (ch : Fin 3) :
    ∃ (k : ℕ) (hk : k < 4096), IsFirst (gap (a q) (b q) sx sy) 4096 k ∧
      nearestColour x p (ix2 q ch) = p (ix1 ⟨5 * k + (3 + ch.val), by omega⟩) := by
  have hfind : ∀ q, ∃ k, nearest (distances x p) (ix1 q) = BitVec.ofNat 32 k ∧ IsFirst (gap (a q) (b q) sx sy) 4096 k := fun q =>
    nearest_at (distances x p) q (gap (a q) (b q) sx sy) (fun n => distances_at x p q n (hx q).1 (hx q).2 (hp n).1 (hp n).2)
  obtain ⟨k, e, hk⟩ := hfind q
  refine ⟨k, hk.1, hk, ?_⟩
  unfold nearestColour
  rw [take_at (colours p) _ (fun q => by obtain ⟨k, e, hk⟩ := hfind q; exact ⟨k, hk.1, e⟩) q ch hk.1 e, colours_at]

end Cert.Proof.Ref
-- ==== Proof.Pre.lean ====
module

public import proofs.«01_k».proof.Proof.Gen.Pre_one_site_per_cell
public import proofs.«01_k».proof.Proof.Window
public import Idealize.ShloMosaic.Lib.Pointwise

/-! # What the precondition says

The queries are real and lie in the closed unit square, and the position of site number `n` is real and lies in the
closed cell `(n / 64, n % 64)` of the square's grid. -/

@[expose] public section

noncomputable section

namespace Cert.Proof.Pre

open Cert.Pre_one_site_per_cell Cert.Pre_one_site_per_cell.Gen
open Idealize.ShloMosaic

/-! ## The cells -/

/-- A word divided by 64, rounded down. -/
def quot (w : BitVec 32) : BitVec 32 :=
  Scalar.select
      (IntOp.andi
        (IntOp.cmpi .ne (if w = 0 then (0 : BitVec 32) else if w.msb = true then -1 else 1)
          (if (64#32) = 0 then (0 : BitVec 32) else if (64#32).msb = true then -1 else 1))
        (IntOp.cmpi .ne (IntOp.remsi .host w 64#32) 0#32))
      (IntOp.subi (IntOp.divsi .host w 64#32) 1#32) (IntOp.divsi .host w 64#32)

/-- The remainder. -/
def remd (w : BitVec 32) : BitVec 32 :=
  Scalar.select
    (IntOp.andi
      (IntOp.cmpi .ne
        (IntOp.cmpi .slt (IntOp.remsi .host w (Scalar.select (IntOp.cmpi .eq 64#32 0#32) 1#32 64#32)) 0#32)
        (IntOp.cmpi .slt (Scalar.select (IntOp.cmpi .eq 64#32 0#32) 1#32 64#32) 0#32))
      (IntOp.cmpi .ne (IntOp.remsi .host w (Scalar.select (IntOp.cmpi .eq 64#32 0#32) 1#32 64#32)) 0#32))
    (IntOp.addi (IntOp.remsi .host w (Scalar.select (IntOp.cmpi .eq 64#32 0#32) 1#32 64#32))
      (Scalar.select (IntOp.cmpi .eq 64#32 0#32) 1#32 64#32))
    (IntOp.remsi .host w (Scalar.select (IntOp.cmpi .eq 64#32 0#32) 1#32 64#32))

/-- Both at every site's number, by evaluation. -/
theorem quot_remd : ∀ a b : Fin 64, quot (BitVec.ofNat 32 (64 * a.val + b.val)) = BitVec.ofNat 32 a.val ∧
    remd (BitVec.ofNat 32 (64 * a.val + b.val)) = BitVec.ofNat 32 b.val := by
  decide +kernel

/-- The quotient of a site's number. -/
theorem quot_eq (n : ℕ) (hn : n < 4096) : quot (BitVec.ofNat 32 n) = BitVec.ofNat 32 (n / 64) := by
  have := (quot_remd ⟨n / 64, by omega⟩ ⟨n % 64, by omega⟩).1
  rwa [show 64 * (n / 64) + n % 64 = n by omega] at this

/-- The remainder of a site's number. -/
theorem remd_eq (n : ℕ) (hn : n < 4096) : remd (BitVec.ofNat 32 n) = BitVec.ofNat 32 (n % 64) := by
  have := (quot_remd ⟨n / 64, by omega⟩ ⟨n % 64, by omega⟩).2
  rwa [show 64 * (n / 64) + n % 64 = n by omega] at this

/-- The precondition's row of site `n`. -/
theorem floor_divide_at (n : Fin 4096) :
    fn_floor_divide (F := Ideal) (iotaInDim S4096 32 0) (constantI S_ 32 64#32) (ix1 n) = BitVec.ofNat 32 (n.val / 64) := by
  rw [← quot_eq n.val n.isLt]
  pointwise [fn_floor_divide, fn_where]
  rfl

/-- The precondition's column of site `n`. -/
theorem remainder_at (n : Fin 4096) :
    fn_remainder (F := Ideal) (iotaInDim S4096 32 0) (constantI S_ 32 64#32) (ix1 n) = BitVec.ofNat 32 (n.val % 64) := by
  rw [← remd_eq n.val n.isLt]
  pointwise [fn_remainder, fn_where_0]
  rfl

/-! ## Comparisons read back -/

/-- Two comparisons whose conjunction reads 1 both hold. -/
theorem and_true {P Q : Prop} [Decidable P] [Decidable Q]
    (h : IntOp.andi (BitVec.ofBool (decide P)) (BitVec.ofBool (decide Q)) = 1#1) : P ∧ Q := by
  by_cases hp : P <;> by_cases hq : Q <;> simp [hp, hq, IntOp.andi] at h ⊢

/-- An extended real between two reals is real. -/
theorem real_of_between {v : EReal} {a b : ℝ} (h1 : ((a : ℝ) : EReal) ≤ v) (h2 : v ≤ ((b : ℝ) : EReal)) : ∃ r : ℝ, v = (r : EReal) := by
  induction v using EReal.rec with
  | bot => exact absurd h1 (not_le.mpr (EReal.bot_lt_coe a))
  | top => exact absurd h2 (not_le.mpr (EReal.coe_lt_top b))
  | coe r => exact ⟨r, rfl⟩

/-- A cell's number as a real. -/
theorem sitofp_cell (c : ℕ) (hc : c < 64) : (FloatOps.sitofp (F := Ideal) .f32 (BitVec.ofNat 32 c) : EReal) = (((c : ℕ) : ℝ) : EReal) := by
  have hi : (BitVec.ofNat 32 c).toInt = (c : ℤ) := by
    rw [BitVec.toInt_eq_toNat_cond, BitVec.toNat_ofNat]; split <;> omega
  show ((((BitVec.ofNat 32 c).toInt : ℤ) : ℝ) : EReal) = _
  rw [hi, Int.cast_natCast]

/-- A number whose 64-fold lies between `c` and `c + 1` is real and lies in cell `c`. -/
theorem cell_real {v : EReal} {c : ℕ} (hc : c < 64)
    (h : FloatOps.sitofp (F := Ideal) .f32 (BitVec.ofNat 32 c) ≤ v * Ideal.ofBits .f32 0x42800000#32 ∧
      v * Ideal.ofBits .f32 0x42800000#32 ≤ FloatOps.sitofp (F := Ideal) .f32 (BitVec.ofNat 32 c) + (1 : EReal)) :
    ∃ s : ℝ, v = (s : EReal) ∧ InCell c s := by
  rw [sitofp_cell c hc, sixtyFour_f32, ← EReal.coe_one, ← EReal.coe_add] at h
  obtain ⟨h1, h2⟩ := h
  induction v using EReal.rec with
  | bot =>
    rw [EReal.bot_mul_coe_of_pos (by norm_num)] at h1
    exact absurd h1 (not_le.mpr (EReal.bot_lt_coe _))
  | top =>
    rw [EReal.top_mul_coe_of_pos (by norm_num)] at h2
    exact absurd h2 (not_le.mpr (EReal.coe_lt_top _))
  | coe s =>
    rw [← EReal.coe_mul, EReal.coe_le_coe_iff] at h1 h2
    exact ⟨s, rfl, by linarith, by linarith⟩

/-! ## The precondition read back -/

/-- Every coordinate of a query is real and lies between 0 and 1. -/
theorem queries (x : FVec Ideal S262144x2 .f32) (p : FVec Ideal S20481 .f32) (h : (fn (F := Ideal) x p).1 = fun _ => 1#1)
    (q : Fin 262144) (n : Fin 2) : ∃ r : ℝ, x (ix2 q n) = (r : EReal) ∧ 0 ≤ r ∧ r ≤ 1 := by
  have h' := congrFun h (ix2 q n)
  have e := show (fn (F := Ideal) x p).1 (ix2 q n)
      = IntOp.andi (BitVec.ofBool (decide (0 ≤ x (ix2 q n)))) (BitVec.ofBool (decide (x (ix2 q n) ≤ 1))) by
    pointwise [fn, fn_part1]
  rw [e] at h'
  obtain ⟨h0, h1⟩ := and_true h'
  rw [← EReal.coe_zero] at h0
  rw [← EReal.coe_one] at h1
  obtain ⟨r, hr⟩ := real_of_between h0 h1
  rw [hr, EReal.coe_le_coe_iff] at h0 h1
  exact ⟨r, hr, h0, h1⟩

/-- Site `n` is real and lies in the cell `(n / 64, n % 64)`. -/
theorem sites (x : FVec Ideal S262144x2 .f32) (p : FVec Ideal S20481 .f32) (h : (fn (F := Ideal) x p).2 = fun _ => 1#1) (n : Fin 4096) :
    (∃ s : ℝ, p (ix1 ⟨5 * n.val + 1, by omega⟩) = (s : EReal) ∧ InCell (n.val / 64) s) ∧
      ∃ t : ℝ, p (ix1 ⟨5 * n.val + 2, by omega⟩) = (t : EReal) ∧ InCell (n.val % 64) t := by
  constructor
  · have h' := congrFun h (ix2 n 0)
    have e := show (fn (F := Ideal) x p).2 (ix2 n 0) = IntOp.andi
        (BitVec.ofBool (decide (FloatOps.sitofp (F := Ideal) .f32 (fn_floor_divide (F := Ideal) (iotaInDim S4096 32 0) (constantI S_ 32 64#32) (ix1 n))
          ≤ p (ix1 ⟨1 + n.val * 5, by omega⟩) * Ideal.ofBits .f32 0x42800000#32)))
        (BitVec.ofBool (decide (p (ix1 ⟨1 + n.val * 5, by omega⟩) * Ideal.ofBits .f32 0x42800000#32
          ≤ FloatOps.sitofp (F := Ideal) .f32 (fn_floor_divide (F := Ideal) (iotaInDim S4096 32 0) (constantI S_ 32 64#32) (ix1 n)) + (1 : EReal)))) by
      pointwise [fn, fn_part1]
    have hi : (⟨1 + n.val * 5, by omega⟩ : Fin 20481) = ⟨5 * n.val + 1, by omega⟩ := Fin.ext (by show 1 + n.val * 5 = 5 * n.val + 1; omega)
    rw [e, floor_divide_at, hi] at h'
    exact cell_real (by omega) (and_true h')
  · have h' := congrFun h (ix2 n 1)
    have e := show (fn (F := Ideal) x p).2 (ix2 n 1) = IntOp.andi
        (BitVec.ofBool (decide (FloatOps.sitofp (F := Ideal) .f32 (fn_remainder (F := Ideal) (iotaInDim S4096 32 0) (constantI S_ 32 64#32) (ix1 n))
          ≤ p (ix1 ⟨1 + (n.val * 5 + 1), by omega⟩) * Ideal.ofBits .f32 0x42800000#32)))
        (BitVec.ofBool (decide (p (ix1 ⟨1 + (n.val * 5 + 1), by omega⟩) * Ideal.ofBits .f32 0x42800000#32
          ≤ FloatOps.sitofp (F := Ideal) .f32 (fn_remainder (F := Ideal) (iotaInDim S4096 32 0) (constantI S_ 32 64#32) (ix1 n)) + (1 : EReal)))) by
      pointwise [fn, fn_part1]
    have hi : (⟨1 + (n.val * 5 + 1), by omega⟩ : Fin 20481) = ⟨5 * n.val + 2, by omega⟩ := Fin.ext (by show 1 + (n.val * 5 + 1) = 5 * n.val + 2; omega)
    rw [e, remainder_at, hi] at h'
    exact cell_real (by omega) (and_true h')

end Cert.Proof.Pre
-- ==== Proof.Algebraic.lean ====
module

public import proofs.«01_k».proof.Proof.Frames
public import proofs.«01_k».proof.Proof.KernelValue
public import proofs.«01_k».proof.Proof.Nearest
public import proofs.«01_k».proof.Proof.RefValue
public import proofs.«01_k».proof.Proof.Pre

/-! # The kernel's result is the reference's

Over exact arithmetic, when every query lies in the unit square and every cell holds its site, the kernel's result is
the reference's: both hold the colour of the first nearest site. -/

@[expose] public section

noncomputable section

namespace Cert.Proof

open Cert.KernelIdeal Cert.KernelIdeal.Gen
open Idealize.ShloMosaic Idealize.SL.Sem

/-- The reference's answer at an entry, found by the kernel's search of one window of cells. -/
theorem search_eq (x : FVec Ideal S262144x2 .f32) (p : FVec Ideal S20481 .f32) (tab : ℕ → Ideal .f32)
    (ht : ∀ y : S20481.Idx, p y = tab (y 0).val)
    (h : (Cert.Pre_one_site_per_cell.fn (F := Ideal) x p).1 = fun _ => 1#1) (h' : (Cert.Pre_one_site_per_cell.fn (F := Ideal) x p).2 = fun _ => 1#1)
    (q : Fin 262144) (ch : Fin 3) :
    pick tab (x (ix2 q 0)) (x (ix2 q 1)) ch.val = Ref.nearestColour x p (ix2 q ch) := by
  choose a ha using fun q => Pre.queries x p h q 0
  choose b hb using fun q => Pre.queries x p h q 1
  choose s hs using fun n => (Pre.sites x p h' n).1
  choose t htt using fun n => (Pre.sites x p h' n).2
  let sx : ℕ → ℝ := fun n => if hn : n < 4096 then s ⟨n, hn⟩ else 0
  let sy : ℕ → ℝ := fun n => if hn : n < 4096 then t ⟨n, hn⟩ else 0
  have ex (n : ℕ) (hn : n < 4096) : sx n = s ⟨n, hn⟩ := dif_pos hn
  have ey (n : ℕ) (hn : n < 4096) : sy n = t ⟨n, hn⟩ := dif_pos hn
  obtain ⟨k, hk, first, e⟩ := Ref.nearestColour_at x p a b sx sy (fun q => ⟨(ha q).1, (hb q).1⟩)
    (fun n => ⟨by rw [ex n.val n.isLt]; exact (hs n).1, by rw [ey n.val n.isLt]; exact (htt n).1⟩) q ch
  rw [e, (ha q).1, (hb q).1,
    pick_nearest (tab := tab) (ha q).2 (hb q).2
      (fun n hn => ⟨by rw [ex n hn, ← (hs ⟨n, hn⟩).1, ht]; rfl, by rw [ey n hn, ← (htt ⟨n, hn⟩).1, ht]; rfl⟩)
      (fun n hn => ⟨by rw [ex n hn]; exact (hs ⟨n, hn⟩).2, by rw [ey n hn]; exact (htt ⟨n, hn⟩).2⟩) first ch.val, ht]
  rfl

/-- The kernel's result array, whatever right answers it comes from. -/
theorem result_eq (m : (ℓ : Loc nD τ sig) → Buf (Elt Ideal) ℓ) (hm : Cert.Pre_KernelIdeal_one_site_per_cell m) (d : Dev nD)
    (g : Buf (Elt Ideal) (oLoc d)) (hg : AllRight m d g) :
    V8 m d g r' = Ref.nearestColour (F := Ideal) (m (xLoc d)) (m (pLoc d)) := by
  refine funext fun (y : S262144x3.Idx) => ?_
  rw [eq_ix2 y]
  exact (V8_at m d g hg (y 0) (y 1)).trans
    (search_eq (m (xLoc d)) (m (pLoc d)) (tabOf m d) (tabOf_eq m d) (hm d).1 (hm d).2 (y 0) (y 1))

/-- From equal arguments that meet the precondition, kernel and reference both run and end with equal results. -/
theorem algebraic : Cert.algebraic_KernelIdeal_ReferenceIdeal_pre_one_site_per_cell := fun m g m' g' hm hargs =>
  ⟨fun c => Ref.nearestColour (F := Ideal) (m (xLoc c)) (m (pLoc c)),
    (θ_run Cert.KernelIdeal.defs _ _).mono
      (fun _ h c => by
        obtain ⟨⟨hx, hp⟩, a, ha, hr⟩ := h.1 c
        exact ⟨hr.trans (result_eq m hm c a ha), hx, hp⟩)
      (run_main (F := Ideal) m g),
    (θ_run Cert.ReferenceIdeal.defs _ _).mono
      (fun _ h c => ⟨(h c).1.trans (congrArg₂ (Ref.nearestColour (F := Ideal)) (hargs c).1 (hargs c).2), (h c).2⟩)
      (Ref.run_main (F := Ideal) m' g')⟩

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_one_site_per_cell
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_one_site_per_cell.Gen.facts,
    frame_kernel, frame_ideal, fun m g _ => frame_ideal m g trivial, frame_reference, fun m g _ => frame_reference m g trivial, trivial, algebraic⟩

end Cert.Proof

end
